-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InADx (m : (ℓ : Loc Cert.InADx.nD Cert.InADx.τ Cert.InADx.sig) → Buf (Elt Bits) ℓ) : Prop :=
  True

def Pre_InADxIdeal (m : (ℓ : Loc Cert.InADxIdeal.nD Cert.InADxIdeal.τ Cert.InADxIdeal.sig) → Buf (Elt Ideal) ℓ) : Prop :=
  True

def Pre_InADxRefIdeal (m : (ℓ : Loc Cert.InADxRefIdeal.nD Cert.InADxRefIdeal.τ Cert.InADxRefIdeal.sig) → Buf (Elt Ideal) ℓ) : Prop :=
  True

def Pre_InADw (m : (ℓ : Loc Cert.InADw.nD Cert.InADw.τ Cert.InADw.sig) → Buf (Elt Bits) ℓ) : Prop :=
  True

def Pre_InADwIdeal (m : (ℓ : Loc Cert.InADwIdeal.nD Cert.InADwIdeal.τ Cert.InADwIdeal.sig) → Buf (Elt Ideal) ℓ) : Prop :=
  True

def Pre_InADwRefIdeal (m : (ℓ : Loc Cert.InADwRefIdeal.nD Cert.InADwRefIdeal.τ Cert.InADwRefIdeal.sig) → Buf (Elt Ideal) ℓ) : Prop :=
  True

def Pre_InGDw (m : (ℓ : Loc Cert.InGDw.nD Cert.InGDw.τ Cert.InGDw.sig) → Buf (Elt Bits) ℓ) : Prop :=
  True

def Pre_InGDwIdeal (m : (ℓ : Loc Cert.InGDwIdeal.nD Cert.InGDwIdeal.τ Cert.InGDwIdeal.sig) → Buf (Elt Ideal) ℓ) : Prop :=
  True

def Pre_InGDwRefIdeal (m : (ℓ : Loc Cert.InGDwRefIdeal.nD Cert.InGDwRefIdeal.τ Cert.InGDwRefIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwRefIdeal (m : (ℓ : Loc Cert.ODwRefIdeal.nD Cert.ODwRefIdeal.τ Cert.ODwRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_BrDwRefIdeal (m : (ℓ : Loc Cert.BrDwRefIdeal.nD Cert.BrDwRefIdeal.τ Cert.BrDwRefIdeal.sig) → Buf (Elt Ideal) ℓ) : Prop :=
  True

def Pre_AttnDw (m : (ℓ : Loc Cert.AttnDw.nD Cert.AttnDw.τ Cert.AttnDw.sig) → Buf (Elt Bits) ℓ) : Prop :=
  True

def Pre_AttnDwIdeal (m : (ℓ : Loc Cert.AttnDwIdeal.nD Cert.AttnDwIdeal.τ Cert.AttnDwIdeal.sig) → Buf (Elt Ideal) ℓ) : Prop :=
  True

def Pre_AttnDwRefIdeal (m : (ℓ : Loc Cert.AttnDwRefIdeal.nD Cert.AttnDwRefIdeal.τ Cert.AttnDwRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_MemBrDx (m : (ℓ : Loc Cert.MemBrDx.nD Cert.MemBrDx.τ Cert.MemBrDx.sig) → Buf (Elt Bits) ℓ) : Prop :=
  True

def Pre_MemBrDxIdeal (m : (ℓ : Loc Cert.MemBrDxIdeal.nD Cert.MemBrDxIdeal.τ Cert.MemBrDxIdeal.sig) → Buf (Elt Ideal) ℓ) : Prop :=
  True

def Pre_MemBrDxRefIdeal (m : (ℓ : Loc Cert.MemBrDxRefIdeal.nD Cert.MemBrDxRefIdeal.τ Cert.MemBrDxRefIdeal.sig) → Buf (Elt Ideal) ℓ) : Prop :=
  True

def Pre_Br (m : (ℓ : Loc Cert.Br.nD Cert.Br.τ Cert.Br.sig) → Buf (Elt Bits) ℓ) : Prop :=
  True

def Pre_BrIdeal (m : (ℓ : Loc Cert.BrIdeal.nD Cert.BrIdeal.τ Cert.BrIdeal.sig) → Buf (Elt Ideal) ℓ) : Prop :=
  True

def Pre_BrRefIdeal (m : (ℓ : Loc Cert.BrRefIdeal.nD Cert.BrRefIdeal.τ Cert.BrRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_ODxRefIdeal (m : (ℓ : Loc Cert.ODxRefIdeal.nD Cert.ODxRefIdeal.τ Cert.ODxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InADx [hInADx : Cert.InADx.Facts] : Prop :=
  ∀ (m : (ℓ : Loc Cert.InADx.nD Cert.InADx.τ Cert.InADx.sig) → Buf (Elt Bits) ℓ) (g : Dev Cert.InADx.nD → PrngReg), Pre_InADx m →
    θ_run (Cert.InADx.defs (F := Bits)) (onTc (τ := Cert.InADx.τ) (Cert.InADx.main (F := Bits))) ⟨m, fun _ => 0, g⟩ (fun r => (∀ c : Dev Cert.InADx.nD,
      r.2.mem ((c.tc : Thread Cert.InADx.nD Cert.InADx.τ).loc Cert.InADx.main_arg0) = m ((c.tc : Thread Cert.InADx.nD Cert.InADx.τ).loc Cert.InADx.main_arg0)
      ∧ r.2.mem ((c.tc : Thread Cert.InADx.nD Cert.InADx.τ).loc Cert.InADx.main_arg1) = m ((c.tc : Thread Cert.InADx.nD Cert.InADx.τ).loc Cert.InADx.main_arg1))
      ∧ r.2.sem = fun _ => 0)

def quiescent_InADxIdeal [hInADxIdeal : Cert.InADxIdeal.Facts] : Prop :=
  ∀ (m : (ℓ : Loc Cert.InADxIdeal.nD Cert.InADxIdeal.τ Cert.InADxIdeal.sig) → Buf (Elt Ideal) ℓ) (g : Dev Cert.InADxIdeal.nD → PrngReg), Pre_InADxIdeal m →
    θ_run (Cert.InADxIdeal.defs (F := Ideal)) (onTc (τ := Cert.InADxIdeal.τ) (Cert.InADxIdeal.main (F := Ideal))) ⟨m, fun _ => 0, g⟩ (fun r => (∀ c : Dev Cert.InADxIdeal.nD,
      r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
      ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ r.2.sem = fun _ => 0)

def quiescent_InADxRefIdeal [hInADxRefIdeal : Cert.InADxRefIdeal.Facts] : Prop :=
  ∀ (m : (ℓ : Loc Cert.InADxRefIdeal.nD Cert.InADxRefIdeal.τ Cert.InADxRefIdeal.sig) → Buf (Elt Ideal) ℓ) (g : Dev Cert.InADxRefIdeal.nD → PrngReg), Pre_InADxRefIdeal m →
    θ_run (Cert.InADxRefIdeal.defs (F := Ideal)) (onTc (τ := Cert.InADxRefIdeal.τ) (Cert.InADxRefIdeal.main (F := Ideal))) ⟨m, fun _ => 0, g⟩ (fun r => (∀ c : Dev Cert.InADxRefIdeal.nD,
      r.2.mem ((c.tc : Thread Cert.InADxRefIdeal.nD Cert.InADxRefIdeal.τ).loc Cert.InADxRefIdeal.main_arg0) = m ((c.tc : Thread Cert.InADxRefIdeal.nD Cert.InADxRefIdeal.τ).loc Cert.InADxRefIdeal.main_arg0)
      ∧ r.2.mem ((c.tc : Thread Cert.InADxRefIdeal.nD Cert.InADxRefIdeal.τ).loc Cert.InADxRefIdeal.main_arg1) = m ((c.tc : Thread Cert.InADxRefIdeal.nD Cert.InADxRefIdeal.τ).loc Cert.InADxRefIdeal.main_arg1))
      ∧ r.2.sem = fun _ => 0)

def quiescent_InADw [hInADw : Cert.InADw.Facts] : Prop :=
  ∀ (m : (ℓ : Loc Cert.InADw.nD Cert.InADw.τ Cert.InADw.sig) → Buf (Elt Bits) ℓ) (g : Dev Cert.InADw.nD → PrngReg), Pre_InADw m →
    θ_run (Cert.InADw.defs (F := Bits)) (onTc (τ := Cert.InADw.τ) (Cert.InADw.main (F := Bits))) ⟨m, fun _ => 0, g⟩ (fun r => (∀ c : Dev Cert.InADw.nD,
      r.2.mem ((c.tc : Thread Cert.InADw.nD Cert.InADw.τ).loc Cert.InADw.main_arg0) = m ((c.tc : Thread Cert.InADw.nD Cert.InADw.τ).loc Cert.InADw.main_arg0)
      ∧ r.2.mem ((c.tc : Thread Cert.InADw.nD Cert.InADw.τ).loc Cert.InADw.main_arg1) = m ((c.tc : Thread Cert.InADw.nD Cert.InADw.τ).loc Cert.InADw.main_arg1))
      ∧ r.2.sem = fun _ => 0)

def quiescent_InADwIdeal [hInADwIdeal : Cert.InADwIdeal.Facts] : Prop :=
  ∀ (m : (ℓ : Loc Cert.InADwIdeal.nD Cert.InADwIdeal.τ Cert.InADwIdeal.sig) → Buf (Elt Ideal) ℓ) (g : Dev Cert.InADwIdeal.nD → PrngReg), Pre_InADwIdeal m →
    θ_run (Cert.InADwIdeal.defs (F := Ideal)) (onTc (τ := Cert.InADwIdeal.τ) (Cert.InADwIdeal.main (F := Ideal))) ⟨m, fun _ => 0, g⟩ (fun r => (∀ c : Dev Cert.InADwIdeal.nD,
      r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
      ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ r.2.sem = fun _ => 0)

def quiescent_InADwRefIdeal [hInADwRefIdeal : Cert.InADwRefIdeal.Facts] : Prop :=
  ∀ (m : (ℓ : Loc Cert.InADwRefIdeal.nD Cert.InADwRefIdeal.τ Cert.InADwRefIdeal.sig) → Buf (Elt Ideal) ℓ) (g : Dev Cert.InADwRefIdeal.nD → PrngReg), Pre_InADwRefIdeal m →
    θ_run (Cert.InADwRefIdeal.defs (F := Ideal)) (onTc (τ := Cert.InADwRefIdeal.τ) (Cert.InADwRefIdeal.main (F := Ideal))) ⟨m, fun _ => 0, g⟩ (fun r => (∀ c : Dev Cert.InADwRefIdeal.nD,
      r.2.mem ((c.tc : Thread Cert.InADwRefIdeal.nD Cert.InADwRefIdeal.τ).loc Cert.InADwRefIdeal.main_arg0) = m ((c.tc : Thread Cert.InADwRefIdeal.nD Cert.InADwRefIdeal.τ).loc Cert.InADwRefIdeal.main_arg0)
      ∧ r.2.mem ((c.tc : Thread Cert.InADwRefIdeal.nD Cert.InADwRefIdeal.τ).loc Cert.InADwRefIdeal.main_arg1) = m ((c.tc : Thread Cert.InADwRefIdeal.nD Cert.InADwRefIdeal.τ).loc Cert.InADwRefIdeal.main_arg1))
      ∧ r.2.sem = fun _ => 0)

def quiescent_InGDw [hInGDw : Cert.InGDw.Facts] : Prop :=
  ∀ (m : (ℓ : Loc Cert.InGDw.nD Cert.InGDw.τ Cert.InGDw.sig) → Buf (Elt Bits) ℓ) (g : Dev Cert.InGDw.nD → PrngReg), Pre_InGDw m →
    θ_run (Cert.InGDw.defs (F := Bits)) (onTc (τ := Cert.InGDw.τ) (Cert.InGDw.main (F := Bits))) ⟨m, fun _ => 0, g⟩ (fun r => (∀ c : Dev Cert.InGDw.nD,
      r.2.mem ((c.tc : Thread Cert.InGDw.nD Cert.InGDw.τ).loc Cert.InGDw.main_arg0) = m ((c.tc : Thread Cert.InGDw.nD Cert.InGDw.τ).loc Cert.InGDw.main_arg0)
      ∧ r.2.mem ((c.tc : Thread Cert.InGDw.nD Cert.InGDw.τ).loc Cert.InGDw.main_arg1) = m ((c.tc : Thread Cert.InGDw.nD Cert.InGDw.τ).loc Cert.InGDw.main_arg1))
      ∧ r.2.sem = fun _ => 0)

def quiescent_InGDwIdeal [hInGDwIdeal : Cert.InGDwIdeal.Facts] : Prop :=
  ∀ (m : (ℓ : Loc Cert.InGDwIdeal.nD Cert.InGDwIdeal.τ Cert.InGDwIdeal.sig) → Buf (Elt Ideal) ℓ) (g : Dev Cert.InGDwIdeal.nD → PrngReg), Pre_InGDwIdeal m →
    θ_run (Cert.InGDwIdeal.defs (F := Ideal)) (onTc (τ := Cert.InGDwIdeal.τ) (Cert.InGDwIdeal.main (F := Ideal))) ⟨m, fun _ => 0, g⟩ (fun r => (∀ c : Dev Cert.InGDwIdeal.nD,
      r.2.mem ((c.tc : Thread Cert.InGDwIdeal.nD Cert.InGDwIdeal.τ).loc Cert.InGDwIdeal.main_arg0) = m ((c.tc : Thread Cert.InGDwIdeal.nD Cert.InGDwIdeal.τ).loc Cert.InGDwIdeal.main_arg0)
      ∧ r.2.mem ((c.tc : Thread Cert.InGDwIdeal.nD Cert.InGDwIdeal.τ).loc Cert.InGDwIdeal.main_arg1) = m ((c.tc : Thread Cert.InGDwIdeal.nD Cert.InGDwIdeal.τ).loc Cert.InGDwIdeal.main_arg1))
      ∧ r.2.sem = fun _ => 0)

def quiescent_InGDwRefIdeal [hInGDwRefIdeal : Cert.InGDwRefIdeal.Facts] : Prop :=
  ∀ (m : (ℓ : Loc Cert.InGDwRefIdeal.nD Cert.InGDwRefIdeal.τ Cert.InGDwRefIdeal.sig) → Buf (Elt Ideal) ℓ) (g : Dev Cert.InGDwRefIdeal.nD → PrngReg), Pre_InGDwRefIdeal m →
    θ_run (Cert.InGDwRefIdeal.defs (F := Ideal)) (onTc (τ := Cert.InGDwRefIdeal.τ) (Cert.InGDwRefIdeal.main (F := Ideal))) ⟨m, fun _ => 0, g⟩ (fun r => (∀ c : Dev Cert.InGDwRefIdeal.nD,
      r.2.mem ((c.tc : Thread Cert.InGDwRefIdeal.nD Cert.InGDwRefIdeal.τ).loc Cert.InGDwRefIdeal.main_arg0) = m ((c.tc : Thread Cert.InGDwRefIdeal.nD Cert.InGDwRefIdeal.τ).loc Cert.InGDwRefIdeal.main_arg0)
      ∧ r.2.mem ((c.tc : Thread Cert.InGDwRefIdeal.nD Cert.InGDwRefIdeal.τ).loc Cert.InGDwRefIdeal.main_arg1) = m ((c.tc : Thread Cert.InGDwRefIdeal.nD Cert.InGDwRefIdeal.τ).loc Cert.InGDwRefIdeal.main_arg1))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ r.2.sem = fun _ => 0)

def quiescent_ODwRefIdeal [hODwRefIdeal : Cert.ODwRefIdeal.Facts] : Prop :=
  ∀ (m : (ℓ : Loc Cert.ODwRefIdeal.nD Cert.ODwRefIdeal.τ Cert.ODwRefIdeal.sig) → Buf (Elt Ideal) ℓ) (g : Dev Cert.ODwRefIdeal.nD → PrngReg), Pre_ODwRefIdeal m →
    θ_run (Cert.ODwRefIdeal.defs (F := Ideal)) (onTc (τ := Cert.ODwRefIdeal.τ) (Cert.ODwRefIdeal.main (F := Ideal))) ⟨m, fun _ => 0, g⟩ (fun r => (∀ c : Dev Cert.ODwRefIdeal.nD,
      r.2.mem ((c.tc : Thread Cert.ODwRefIdeal.nD Cert.ODwRefIdeal.τ).loc Cert.ODwRefIdeal.main_arg0) = m ((c.tc : Thread Cert.ODwRefIdeal.nD Cert.ODwRefIdeal.τ).loc Cert.ODwRefIdeal.main_arg0)
      ∧ r.2.mem ((c.tc : Thread Cert.ODwRefIdeal.nD Cert.ODwRefIdeal.τ).loc Cert.ODwRefIdeal.main_arg1) = m ((c.tc : Thread Cert.ODwRefIdeal.nD Cert.ODwRefIdeal.τ).loc Cert.ODwRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6)
      ∧ r.2.mem ((c.tc : Thread Cert.GradX.nD Cert.GradX.τ).loc Cert.GradX.main_arg7) = m ((c.tc : Thread Cert.GradX.nD Cert.GradX.τ).loc Cert.GradX.main_arg7))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
      ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5)
      ∧ r.2.mem ((c.tc : Thread Cert.GradXRefIdeal.nD Cert.GradXRefIdeal.τ).loc Cert.GradXRefIdeal.main_arg6) = m ((c.tc : Thread Cert.GradXRefIdeal.nD Cert.GradXRefIdeal.τ).loc Cert.GradXRefIdeal.main_arg6)
      ∧ r.2.mem ((c.tc : Thread Cert.GradXRefIdeal.nD Cert.GradXRefIdeal.τ).loc Cert.GradXRefIdeal.main_arg7) = m ((c.tc : Thread Cert.GradXRefIdeal.nD Cert.GradXRefIdeal.τ).loc Cert.GradXRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ r.2.sem = fun _ => 0)

def quiescent_BrDwRefIdeal [hBrDwRefIdeal : Cert.BrDwRefIdeal.Facts] : Prop :=
  ∀ (m : (ℓ : Loc Cert.BrDwRefIdeal.nD Cert.BrDwRefIdeal.τ Cert.BrDwRefIdeal.sig) → Buf (Elt Ideal) ℓ) (g : Dev Cert.BrDwRefIdeal.nD → PrngReg), Pre_BrDwRefIdeal m →
    θ_run (Cert.BrDwRefIdeal.defs (F := Ideal)) (onTc (τ := Cert.BrDwRefIdeal.τ) (Cert.BrDwRefIdeal.main (F := Ideal))) ⟨m, fun _ => 0, g⟩ (fun r => (∀ c : Dev Cert.BrDwRefIdeal.nD,
      r.2.mem ((c.tc : Thread Cert.BrDwRefIdeal.nD Cert.BrDwRefIdeal.τ).loc Cert.BrDwRefIdeal.main_arg0) = m ((c.tc : Thread Cert.BrDwRefIdeal.nD Cert.BrDwRefIdeal.τ).loc Cert.BrDwRefIdeal.main_arg0)
      ∧ r.2.mem ((c.tc : Thread Cert.BrDwRefIdeal.nD Cert.BrDwRefIdeal.τ).loc Cert.BrDwRefIdeal.main_arg1) = m ((c.tc : Thread Cert.BrDwRefIdeal.nD Cert.BrDwRefIdeal.τ).loc Cert.BrDwRefIdeal.main_arg1))
      ∧ r.2.sem = fun _ => 0)

def quiescent_AttnDw [hAttnDw : Cert.AttnDw.Facts] : Prop :=
  ∀ (m : (ℓ : Loc Cert.AttnDw.nD Cert.AttnDw.τ Cert.AttnDw.sig) → Buf (Elt Bits) ℓ) (g : Dev Cert.AttnDw.nD → PrngReg), Pre_AttnDw m →
    θ_run (Cert.AttnDw.defs (F := Bits)) (onTc (τ := Cert.AttnDw.τ) (Cert.AttnDw.main (F := Bits))) ⟨m, fun _ => 0, g⟩ (fun r => (∀ c : Dev Cert.AttnDw.nD,
      r.2.mem ((c.tc : Thread Cert.AttnDw.nD Cert.AttnDw.τ).loc Cert.AttnDw.main_arg0) = m ((c.tc : Thread Cert.AttnDw.nD Cert.AttnDw.τ).loc Cert.AttnDw.main_arg0)
      ∧ r.2.mem ((c.tc : Thread Cert.AttnDw.nD Cert.AttnDw.τ).loc Cert.AttnDw.main_arg1) = m ((c.tc : Thread Cert.AttnDw.nD Cert.AttnDw.τ).loc Cert.AttnDw.main_arg1))
      ∧ r.2.sem = fun _ => 0)

def quiescent_AttnDwIdeal [hAttnDwIdeal : Cert.AttnDwIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg), Pre_AttnDwIdeal m →
    θ_run (Cert.AttnDwIdeal.defs (F := Ideal)) (onTc (τ := Cert.AttnDwIdeal.τ) (Cert.AttnDwIdeal.main (F := Ideal))) ⟨m, fun _ => 0, g⟩ (fun r => (∀ c : Dev Cert.AttnDwIdeal.nD,
      r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
      ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ r.2.sem = fun _ => 0)

def quiescent_AttnDwRefIdeal [hAttnDwRefIdeal : Cert.AttnDwRefIdeal.Facts] : Prop :=
  ∀ (m : (ℓ : Loc Cert.AttnDwRefIdeal.nD Cert.AttnDwRefIdeal.τ Cert.AttnDwRefIdeal.sig) → Buf (Elt Ideal) ℓ) (g : Dev Cert.AttnDwRefIdeal.nD → PrngReg), Pre_AttnDwRefIdeal m →
    θ_run (Cert.AttnDwRefIdeal.defs (F := Ideal)) (onTc (τ := Cert.AttnDwRefIdeal.τ) (Cert.AttnDwRefIdeal.main (F := Ideal))) ⟨m, fun _ => 0, g⟩ (fun r => (∀ c : Dev Cert.AttnDwRefIdeal.nD,
      r.2.mem ((c.tc : Thread Cert.AttnDwRefIdeal.nD Cert.AttnDwRefIdeal.τ).loc Cert.AttnDwRefIdeal.main_arg0) = m ((c.tc : Thread Cert.AttnDwRefIdeal.nD Cert.AttnDwRefIdeal.τ).loc Cert.AttnDwRefIdeal.main_arg0)
      ∧ r.2.mem ((c.tc : Thread Cert.AttnDwRefIdeal.nD Cert.AttnDwRefIdeal.τ).loc Cert.AttnDwRefIdeal.main_arg1) = m ((c.tc : Thread Cert.AttnDwRefIdeal.nD Cert.AttnDwRefIdeal.τ).loc Cert.AttnDwRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_MemBrDx [hMemBrDx : Cert.MemBrDx.Facts] : Prop :=
  ∀ (m : (ℓ : Loc Cert.MemBrDx.nD Cert.MemBrDx.τ Cert.MemBrDx.sig) → Buf (Elt Bits) ℓ) (g : Dev Cert.MemBrDx.nD → PrngReg), Pre_MemBrDx m →
    θ_run (Cert.MemBrDx.defs (F := Bits)) (onTc (τ := Cert.MemBrDx.τ) (Cert.MemBrDx.main (F := Bits))) ⟨m, fun _ => 0, g⟩ (fun r => (∀ c : Dev Cert.MemBrDx.nD,
      r.2.mem ((c.tc : Thread Cert.MemBrDx.nD Cert.MemBrDx.τ).loc Cert.MemBrDx.main_arg0) = m ((c.tc : Thread Cert.MemBrDx.nD Cert.MemBrDx.τ).loc Cert.MemBrDx.main_arg0)
      ∧ r.2.mem ((c.tc : Thread Cert.MemBrDx.nD Cert.MemBrDx.τ).loc Cert.MemBrDx.main_arg1) = m ((c.tc : Thread Cert.MemBrDx.nD Cert.MemBrDx.τ).loc Cert.MemBrDx.main_arg1))
      ∧ r.2.sem = fun _ => 0)

def quiescent_MemBrDxIdeal [hMemBrDxIdeal : Cert.MemBrDxIdeal.Facts] : Prop :=
  ∀ (m : (ℓ : Loc Cert.MemBrDxIdeal.nD Cert.MemBrDxIdeal.τ Cert.MemBrDxIdeal.sig) → Buf (Elt Ideal) ℓ) (g : Dev Cert.MemBrDxIdeal.nD → PrngReg), Pre_MemBrDxIdeal m →
    θ_run (Cert.MemBrDxIdeal.defs (F := Ideal)) (onTc (τ := Cert.MemBrDxIdeal.τ) (Cert.MemBrDxIdeal.main (F := Ideal))) ⟨m, fun _ => 0, g⟩ (fun r => (∀ c : Dev Cert.MemBrDxIdeal.nD,
      r.2.mem ((c.tc : Thread Cert.MemBrDxIdeal.nD Cert.MemBrDxIdeal.τ).loc Cert.MemBrDxIdeal.main_arg0) = m ((c.tc : Thread Cert.MemBrDxIdeal.nD Cert.MemBrDxIdeal.τ).loc Cert.MemBrDxIdeal.main_arg0)
      ∧ r.2.mem ((c.tc : Thread Cert.MemBrDxIdeal.nD Cert.MemBrDxIdeal.τ).loc Cert.MemBrDxIdeal.main_arg1) = m ((c.tc : Thread Cert.MemBrDxIdeal.nD Cert.MemBrDxIdeal.τ).loc Cert.MemBrDxIdeal.main_arg1))
      ∧ r.2.sem = fun _ => 0)

def quiescent_MemBrDxRefIdeal [hMemBrDxRefIdeal : Cert.MemBrDxRefIdeal.Facts] : Prop :=
  ∀ (m : (ℓ : Loc Cert.MemBrDxRefIdeal.nD Cert.MemBrDxRefIdeal.τ Cert.MemBrDxRefIdeal.sig) → Buf (Elt Ideal) ℓ) (g : Dev Cert.MemBrDxRefIdeal.nD → PrngReg), Pre_MemBrDxRefIdeal m →
    θ_run (Cert.MemBrDxRefIdeal.defs (F := Ideal)) (onTc (τ := Cert.MemBrDxRefIdeal.τ) (Cert.MemBrDxRefIdeal.main (F := Ideal))) ⟨m, fun _ => 0, g⟩ (fun r => (∀ c : Dev Cert.MemBrDxRefIdeal.nD,
      r.2.mem ((c.tc : Thread Cert.MemBrDxRefIdeal.nD Cert.MemBrDxRefIdeal.τ).loc Cert.MemBrDxRefIdeal.main_arg0) = m ((c.tc : Thread Cert.MemBrDxRefIdeal.nD Cert.MemBrDxRefIdeal.τ).loc Cert.MemBrDxRefIdeal.main_arg0)
      ∧ r.2.mem ((c.tc : Thread Cert.MemBrDxRefIdeal.nD Cert.MemBrDxRefIdeal.τ).loc Cert.MemBrDxRefIdeal.main_arg1) = m ((c.tc : Thread Cert.MemBrDxRefIdeal.nD Cert.MemBrDxRefIdeal.τ).loc Cert.MemBrDxRefIdeal.main_arg1))
      ∧ r.2.sem = fun _ => 0)

def quiescent_Br [hBr : Cert.Br.Facts] : Prop :=
  ∀ (m : (ℓ : Loc Cert.Br.nD Cert.Br.τ Cert.Br.sig) → Buf (Elt Bits) ℓ) (g : Dev Cert.Br.nD → PrngReg), Pre_Br m →
    θ_run (Cert.Br.defs (F := Bits)) (onTc (τ := Cert.Br.τ) (Cert.Br.main (F := Bits))) ⟨m, fun _ => 0, g⟩ (fun r => (∀ c : Dev Cert.Br.nD,
      r.2.mem ((c.tc : Thread Cert.Br.nD Cert.Br.τ).loc Cert.Br.main_arg0) = m ((c.tc : Thread Cert.Br.nD Cert.Br.τ).loc Cert.Br.main_arg0)
      ∧ r.2.mem ((c.tc : Thread Cert.Br.nD Cert.Br.τ).loc Cert.Br.main_arg1) = m ((c.tc : Thread Cert.Br.nD Cert.Br.τ).loc Cert.Br.main_arg1))
      ∧ r.2.sem = fun _ => 0)

def quiescent_BrIdeal [hBrIdeal : Cert.BrIdeal.Facts] : Prop :=
  ∀ (m : (ℓ : Loc Cert.BrIdeal.nD Cert.BrIdeal.τ Cert.BrIdeal.sig) → Buf (Elt Ideal) ℓ) (g : Dev Cert.BrIdeal.nD → PrngReg), Pre_BrIdeal m →
    θ_run (Cert.BrIdeal.defs (F := Ideal)) (onTc (τ := Cert.BrIdeal.τ) (Cert.BrIdeal.main (F := Ideal))) ⟨m, fun _ => 0, g⟩ (fun r => (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ r.2.sem = fun _ => 0)

def quiescent_BrRefIdeal [hBrRefIdeal : Cert.BrRefIdeal.Facts] : Prop :=
  ∀ (m : (ℓ : Loc Cert.BrRefIdeal.nD Cert.BrRefIdeal.τ Cert.BrRefIdeal.sig) → Buf (Elt Ideal) ℓ) (g : Dev Cert.BrRefIdeal.nD → PrngReg), Pre_BrRefIdeal m →
    θ_run (Cert.BrRefIdeal.defs (F := Ideal)) (onTc (τ := Cert.BrRefIdeal.τ) (Cert.BrRefIdeal.main (F := Ideal))) ⟨m, fun _ => 0, g⟩ (fun r => (∀ c : Dev Cert.BrRefIdeal.nD,
      r.2.mem ((c.tc : Thread Cert.BrRefIdeal.nD Cert.BrRefIdeal.τ).loc Cert.BrRefIdeal.main_arg0) = m ((c.tc : Thread Cert.BrRefIdeal.nD Cert.BrRefIdeal.τ).loc Cert.BrRefIdeal.main_arg0)
      ∧ r.2.mem ((c.tc : Thread Cert.BrRefIdeal.nD Cert.BrRefIdeal.τ).loc Cert.BrRefIdeal.main_arg1) = m ((c.tc : Thread Cert.BrRefIdeal.nD Cert.BrRefIdeal.τ).loc Cert.BrRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2)
      ∧ r.2.mem ((c.tc : Thread Cert.GluDx.nD Cert.GluDx.τ).loc Cert.GluDx.main_arg3) = m ((c.tc : Thread Cert.GluDx.nD Cert.GluDx.τ).loc Cert.GluDx.main_arg3))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
      ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2)
      ∧ r.2.mem ((c.tc : Thread Cert.GluDxRefIdeal.nD Cert.GluDxRefIdeal.τ).loc Cert.GluDxRefIdeal.main_arg3) = m ((c.tc : Thread Cert.GluDxRefIdeal.nD Cert.GluDxRefIdeal.τ).loc Cert.GluDxRefIdeal.main_arg3))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1)
      ∧ r.2.mem ((c.tc : Thread Cert.ODx.nD Cert.ODx.τ).loc Cert.ODx.main_arg2) = m ((c.tc : Thread Cert.ODx.nD Cert.ODx.τ).loc Cert.ODx.main_arg2)
      ∧ r.2.mem ((c.tc : Thread Cert.ODx.nD Cert.ODx.τ).loc Cert.ODx.main_arg3) = m ((c.tc : Thread Cert.ODx.nD Cert.ODx.τ).loc Cert.ODx.main_arg3)
      ∧ r.2.mem ((c.tc : Thread Cert.ODx.nD Cert.ODx.τ).loc Cert.ODx.main_arg4) = m ((c.tc : Thread Cert.ODx.nD Cert.ODx.τ).loc Cert.ODx.main_arg4)
      ∧ r.2.mem ((c.tc : Thread Cert.ODx.nD Cert.ODx.τ).loc Cert.ODx.main_arg5) = m ((c.tc : Thread Cert.ODx.nD Cert.ODx.τ).loc Cert.ODx.main_arg5)
      ∧ r.2.mem ((c.tc : Thread Cert.ODx.nD Cert.ODx.τ).loc Cert.ODx.main_arg6) = m ((c.tc : Thread Cert.ODx.nD Cert.ODx.τ).loc Cert.ODx.main_arg6))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1)
      ∧ r.2.mem ((c.tc : Thread Cert.ODxIdeal.nD Cert.ODxIdeal.τ).loc Cert.ODxIdeal.main_arg2) = m ((c.tc : Thread Cert.ODxIdeal.nD Cert.ODxIdeal.τ).loc Cert.ODxIdeal.main_arg2)
      ∧ r.2.mem ((c.tc : Thread Cert.ODxIdeal.nD Cert.ODxIdeal.τ).loc Cert.ODxIdeal.main_arg3) = m ((c.tc : Thread Cert.ODxIdeal.nD Cert.ODxIdeal.τ).loc Cert.ODxIdeal.main_arg3)
      ∧ r.2.mem ((c.tc : Thread Cert.ODxIdeal.nD Cert.ODxIdeal.τ).loc Cert.ODxIdeal.main_arg4) = m ((c.tc : Thread Cert.ODxIdeal.nD Cert.ODxIdeal.τ).loc Cert.ODxIdeal.main_arg4)
      ∧ r.2.mem ((c.tc : Thread Cert.ODxIdeal.nD Cert.ODxIdeal.τ).loc Cert.ODxIdeal.main_arg5) = m ((c.tc : Thread Cert.ODxIdeal.nD Cert.ODxIdeal.τ).loc Cert.ODxIdeal.main_arg5)
      ∧ r.2.mem ((c.tc : Thread Cert.ODxIdeal.nD Cert.ODxIdeal.τ).loc Cert.ODxIdeal.main_arg6) = m ((c.tc : Thread Cert.ODxIdeal.nD Cert.ODxIdeal.τ).loc Cert.ODxIdeal.main_arg6))
      ∧ r.2.sem = fun _ => 0)

def quiescent_ODxRefIdeal [hODxRefIdeal : Cert.ODxRefIdeal.Facts] : Prop :=
  ∀ (m : (ℓ : Loc Cert.ODxRefIdeal.nD Cert.ODxRefIdeal.τ Cert.ODxRefIdeal.sig) → Buf (Elt Ideal) ℓ) (g : Dev Cert.ODxRefIdeal.nD → PrngReg), Pre_ODxRefIdeal m →
    θ_run (Cert.ODxRefIdeal.defs (F := Ideal)) (onTc (τ := Cert.ODxRefIdeal.τ) (Cert.ODxRefIdeal.main (F := Ideal))) ⟨m, fun _ => 0, g⟩ (fun r => (∀ c : Dev Cert.ODxRefIdeal.nD,
      r.2.mem ((c.tc : Thread Cert.ODxRefIdeal.nD Cert.ODxRefIdeal.τ).loc Cert.ODxRefIdeal.main_arg0) = m ((c.tc : Thread Cert.ODxRefIdeal.nD Cert.ODxRefIdeal.τ).loc Cert.ODxRefIdeal.main_arg0)
      ∧ r.2.mem ((c.tc : Thread Cert.ODxRefIdeal.nD Cert.ODxRefIdeal.τ).loc Cert.ODxRefIdeal.main_arg1) = m ((c.tc : Thread Cert.ODxRefIdeal.nD Cert.ODxRefIdeal.τ).loc Cert.ODxRefIdeal.main_arg1)
      ∧ r.2.mem ((c.tc : Thread Cert.ODxRefIdeal.nD Cert.ODxRefIdeal.τ).loc Cert.ODxRefIdeal.main_arg2) = m ((c.tc : Thread Cert.ODxRefIdeal.nD Cert.ODxRefIdeal.τ).loc Cert.ODxRefIdeal.main_arg2)
      ∧ r.2.mem ((c.tc : Thread Cert.ODxRefIdeal.nD Cert.ODxRefIdeal.τ).loc Cert.ODxRefIdeal.main_arg3) = m ((c.tc : Thread Cert.ODxRefIdeal.nD Cert.ODxRefIdeal.τ).loc Cert.ODxRefIdeal.main_arg3)
      ∧ r.2.mem ((c.tc : Thread Cert.ODxRefIdeal.nD Cert.ODxRefIdeal.τ).loc Cert.ODxRefIdeal.main_arg4) = m ((c.tc : Thread Cert.ODxRefIdeal.nD Cert.ODxRefIdeal.τ).loc Cert.ODxRefIdeal.main_arg4)
      ∧ r.2.mem ((c.tc : Thread Cert.ODxRefIdeal.nD Cert.ODxRefIdeal.τ).loc Cert.ODxRefIdeal.main_arg5) = m ((c.tc : Thread Cert.ODxRefIdeal.nD Cert.ODxRefIdeal.τ).loc Cert.ODxRefIdeal.main_arg5)
      ∧ r.2.mem ((c.tc : Thread Cert.ODxRefIdeal.nD Cert.ODxRefIdeal.τ).loc Cert.ODxRefIdeal.main_arg6) = m ((c.tc : Thread Cert.ODxRefIdeal.nD Cert.ODxRefIdeal.τ).loc Cert.ODxRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v13) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InADx_InADxIdeal : Prop :=
  True

def algebraic_InADxIdeal_InADxRefIdeal [hInADxIdeal : Cert.InADxIdeal.Facts] [hInADxRefIdeal : Cert.InADxRefIdeal.Facts] : Prop :=
  ∀ (m : (ℓ : Loc Cert.InADxIdeal.nD Cert.InADxIdeal.τ Cert.InADxIdeal.sig) → Buf (Elt Ideal) ℓ) (g : Dev Cert.InADxIdeal.nD → PrngReg)
    (m' : (ℓ : Loc Cert.InADxRefIdeal.nD Cert.InADxRefIdeal.τ Cert.InADxRefIdeal.sig) → Buf (Elt Ideal) ℓ) (g' : Dev Cert.InADxRefIdeal.nD → PrngReg), Pre_InADxIdeal m →
    (∀ c : Dev Cert.InADxIdeal.nD,
      m' ((c.tc : Thread Cert.InADxRefIdeal.nD Cert.InADxRefIdeal.τ).loc Cert.InADxRefIdeal.main_arg0) = m ((c.tc : Thread Cert.InADxIdeal.nD Cert.InADxIdeal.τ).loc Cert.InADxIdeal.main_arg0)
      ∧ m' ((c.tc : Thread Cert.InADxRefIdeal.nD Cert.InADxRefIdeal.τ).loc Cert.InADxRefIdeal.main_arg1) = m ((c.tc : Thread Cert.InADxIdeal.nD Cert.InADxIdeal.τ).loc Cert.InADxIdeal.main_arg1)) →
    ∃ (v0 : (c : Dev Cert.InADxIdeal.nD) → Buf (Elt Ideal) ((c.tc : Thread Cert.InADxIdeal.nD Cert.InADxIdeal.τ).loc Cert.InADxIdeal.main_v0)),
      θ_run (Cert.InADxIdeal.defs (F := Ideal)) (onTc (τ := Cert.InADxIdeal.τ) (Cert.InADxIdeal.main (F := Ideal))) ⟨m, fun _ => 0, g⟩ (fun r => ∀ c : Dev Cert.InADxIdeal.nD,
          r.2.mem ((c.tc : Thread Cert.InADxIdeal.nD Cert.InADxIdeal.τ).loc Cert.InADxIdeal.main_v0) = v0 c
          ∧ r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
          ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ θ_run (Cert.InADxRefIdeal.defs (F := Ideal)) (onTc (τ := Cert.InADxRefIdeal.τ) (Cert.InADxRefIdeal.main (F := Ideal))) ⟨m', fun _ => 0, g'⟩ (fun r => ∀ c : Dev Cert.InADxRefIdeal.nD,
          r.2.mem ((c.tc : Thread Cert.InADxRefIdeal.nD Cert.InADxRefIdeal.τ).loc Cert.InADxRefIdeal.main_v5) = v0 c
          ∧ r.2.mem ((c.tc : Thread Cert.InADxRefIdeal.nD Cert.InADxRefIdeal.τ).loc Cert.InADxRefIdeal.main_arg0) = m' ((c.tc : Thread Cert.InADxRefIdeal.nD Cert.InADxRefIdeal.τ).loc Cert.InADxRefIdeal.main_arg0)
          ∧ r.2.mem ((c.tc : Thread Cert.InADxRefIdeal.nD Cert.InADxRefIdeal.τ).loc Cert.InADxRefIdeal.main_arg1) = m' ((c.tc : Thread Cert.InADxRefIdeal.nD Cert.InADxRefIdeal.τ).loc Cert.InADxRefIdeal.main_arg1))

def preserves_InADw_InADwIdeal : Prop :=
  True

def algebraic_InADwIdeal_InADwRefIdeal [hInADwIdeal : Cert.InADwIdeal.Facts] [hInADwRefIdeal : Cert.InADwRefIdeal.Facts] : Prop :=
  ∀ (m : (ℓ : Loc Cert.InADwIdeal.nD Cert.InADwIdeal.τ Cert.InADwIdeal.sig) → Buf (Elt Ideal) ℓ) (g : Dev Cert.InADwIdeal.nD → PrngReg)
    (m' : (ℓ : Loc Cert.InADwRefIdeal.nD Cert.InADwRefIdeal.τ Cert.InADwRefIdeal.sig) → Buf (Elt Ideal) ℓ) (g' : Dev Cert.InADwRefIdeal.nD → PrngReg), Pre_InADwIdeal m →
    (∀ c : Dev Cert.InADwIdeal.nD,
      m' ((c.tc : Thread Cert.InADwRefIdeal.nD Cert.InADwRefIdeal.τ).loc Cert.InADwRefIdeal.main_arg0) = m ((c.tc : Thread Cert.InADwIdeal.nD Cert.InADwIdeal.τ).loc Cert.InADwIdeal.main_arg0)
      ∧ m' ((c.tc : Thread Cert.InADwRefIdeal.nD Cert.InADwRefIdeal.τ).loc Cert.InADwRefIdeal.main_arg1) = m ((c.tc : Thread Cert.InADwIdeal.nD Cert.InADwIdeal.τ).loc Cert.InADwIdeal.main_arg1)) →
    ∃ (v0 : (c : Dev Cert.InADwIdeal.nD) → Buf (Elt Ideal) ((c.tc : Thread Cert.InADwIdeal.nD Cert.InADwIdeal.τ).loc Cert.InADwIdeal.main_v0)),
      θ_run (Cert.InADwIdeal.defs (F := Ideal)) (onTc (τ := Cert.InADwIdeal.τ) (Cert.InADwIdeal.main (F := Ideal))) ⟨m, fun _ => 0, g⟩ (fun r => ∀ c : Dev Cert.InADwIdeal.nD,
          r.2.mem ((c.tc : Thread Cert.InADwIdeal.nD Cert.InADwIdeal.τ).loc Cert.InADwIdeal.main_v0) = v0 c
          ∧ r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
          ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ θ_run (Cert.InADwRefIdeal.defs (F := Ideal)) (onTc (τ := Cert.InADwRefIdeal.τ) (Cert.InADwRefIdeal.main (F := Ideal))) ⟨m', fun _ => 0, g'⟩ (fun r => ∀ c : Dev Cert.InADwRefIdeal.nD,
          r.2.mem ((c.tc : Thread Cert.InADwRefIdeal.nD Cert.InADwRefIdeal.τ).loc Cert.InADwRefIdeal.main_v7) = v0 c
          ∧ r.2.mem ((c.tc : Thread Cert.InADwRefIdeal.nD Cert.InADwRefIdeal.τ).loc Cert.InADwRefIdeal.main_arg0) = m' ((c.tc : Thread Cert.InADwRefIdeal.nD Cert.InADwRefIdeal.τ).loc Cert.InADwRefIdeal.main_arg0)
          ∧ r.2.mem ((c.tc : Thread Cert.InADwRefIdeal.nD Cert.InADwRefIdeal.τ).loc Cert.InADwRefIdeal.main_arg1) = m' ((c.tc : Thread Cert.InADwRefIdeal.nD Cert.InADwRefIdeal.τ).loc Cert.InADwRefIdeal.main_arg1))

def preserves_InGDw_InGDwIdeal : Prop :=
  True

def algebraic_InGDwIdeal_InGDwRefIdeal [hInGDwIdeal : Cert.InGDwIdeal.Facts] [hInGDwRefIdeal : Cert.InGDwRefIdeal.Facts] : Prop :=
  ∀ (m : (ℓ : Loc Cert.InGDwIdeal.nD Cert.InGDwIdeal.τ Cert.InGDwIdeal.sig) → Buf (Elt Ideal) ℓ) (g : Dev Cert.InGDwIdeal.nD → PrngReg)
    (m' : (ℓ : Loc Cert.InGDwRefIdeal.nD Cert.InGDwRefIdeal.τ Cert.InGDwRefIdeal.sig) → Buf (Elt Ideal) ℓ) (g' : Dev Cert.InGDwRefIdeal.nD → PrngReg), Pre_InGDwIdeal m →
    (∀ c : Dev Cert.InGDwIdeal.nD,
      m' ((c.tc : Thread Cert.InGDwRefIdeal.nD Cert.InGDwRefIdeal.τ).loc Cert.InGDwRefIdeal.main_arg0) = m ((c.tc : Thread Cert.InGDwIdeal.nD Cert.InGDwIdeal.τ).loc Cert.InGDwIdeal.main_arg0)
      ∧ m' ((c.tc : Thread Cert.InGDwRefIdeal.nD Cert.InGDwRefIdeal.τ).loc Cert.InGDwRefIdeal.main_arg1) = m ((c.tc : Thread Cert.InGDwIdeal.nD Cert.InGDwIdeal.τ).loc Cert.InGDwIdeal.main_arg1)) →
    ∃ (v0 : (c : Dev Cert.InGDwIdeal.nD) → Buf (Elt Ideal) ((c.tc : Thread Cert.InGDwIdeal.nD Cert.InGDwIdeal.τ).loc Cert.InGDwIdeal.main_v0)),
      θ_run (Cert.InGDwIdeal.defs (F := Ideal)) (onTc (τ := Cert.InGDwIdeal.τ) (Cert.InGDwIdeal.main (F := Ideal))) ⟨m, fun _ => 0, g⟩ (fun r => ∀ c : Dev Cert.InGDwIdeal.nD,
          r.2.mem ((c.tc : Thread Cert.InGDwIdeal.nD Cert.InGDwIdeal.τ).loc Cert.InGDwIdeal.main_v0) = v0 c
          ∧ r.2.mem ((c.tc : Thread Cert.InGDwIdeal.nD Cert.InGDwIdeal.τ).loc Cert.InGDwIdeal.main_arg0) = m ((c.tc : Thread Cert.InGDwIdeal.nD Cert.InGDwIdeal.τ).loc Cert.InGDwIdeal.main_arg0)
          ∧ r.2.mem ((c.tc : Thread Cert.InGDwIdeal.nD Cert.InGDwIdeal.τ).loc Cert.InGDwIdeal.main_arg1) = m ((c.tc : Thread Cert.InGDwIdeal.nD Cert.InGDwIdeal.τ).loc Cert.InGDwIdeal.main_arg1))
      ∧ θ_run (Cert.InGDwRefIdeal.defs (F := Ideal)) (onTc (τ := Cert.InGDwRefIdeal.τ) (Cert.InGDwRefIdeal.main (F := Ideal))) ⟨m', fun _ => 0, g'⟩ (fun r => ∀ c : Dev Cert.InGDwRefIdeal.nD,
          r.2.mem ((c.tc : Thread Cert.InGDwRefIdeal.nD Cert.InGDwRefIdeal.τ).loc Cert.InGDwRefIdeal.main_v7) = v0 c
          ∧ r.2.mem ((c.tc : Thread Cert.InGDwRefIdeal.nD Cert.InGDwRefIdeal.τ).loc Cert.InGDwRefIdeal.main_arg0) = m' ((c.tc : Thread Cert.InGDwRefIdeal.nD Cert.InGDwRefIdeal.τ).loc Cert.InGDwRefIdeal.main_arg0)
          ∧ r.2.mem ((c.tc : Thread Cert.InGDwRefIdeal.nD Cert.InGDwRefIdeal.τ).loc Cert.InGDwRefIdeal.main_arg1) = m' ((c.tc : Thread Cert.InGDwRefIdeal.nD Cert.InGDwRefIdeal.τ).loc Cert.InGDwRefIdeal.main_arg1))

def preserves_ODw_ODwIdeal : Prop :=
  True

def algebraic_ODwIdeal_ODwRefIdeal [hODwIdeal : Cert.ODwIdeal.Facts] [hODwRefIdeal : Cert.ODwRefIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwRefIdeal.nD Cert.ODwRefIdeal.τ Cert.ODwRefIdeal.sig) → Buf (Elt Ideal) ℓ) (g' : Dev Cert.ODwRefIdeal.nD → PrngReg), Pre_ODwIdeal m →
    (∀ c : Dev Cert.ODwIdeal.nD,
      m' ((c.tc : Thread Cert.ODwRefIdeal.nD Cert.ODwRefIdeal.τ).loc Cert.ODwRefIdeal.main_arg0) = m ((c.tc : Thread Cert.ODwIdeal.nD Cert.ODwIdeal.τ).loc Cert.ODwIdeal.main_arg0)
      ∧ m' ((c.tc : Thread Cert.ODwRefIdeal.nD Cert.ODwRefIdeal.τ).loc Cert.ODwRefIdeal.main_arg1) = m ((c.tc : Thread Cert.ODwIdeal.nD Cert.ODwIdeal.τ).loc Cert.ODwIdeal.main_arg1)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ θ_run (Cert.ODwRefIdeal.defs (F := Ideal)) (onTc (τ := Cert.ODwRefIdeal.τ) (Cert.ODwRefIdeal.main (F := Ideal))) ⟨m', fun _ => 0, g'⟩ (fun r => ∀ c : Dev Cert.ODwRefIdeal.nD,
          r.2.mem ((c.tc : Thread Cert.ODwRefIdeal.nD Cert.ODwRefIdeal.τ).loc Cert.ODwRefIdeal.main_v4) = v0 c
          ∧ r.2.mem ((c.tc : Thread Cert.ODwRefIdeal.nD Cert.ODwRefIdeal.τ).loc Cert.ODwRefIdeal.main_arg0) = m' ((c.tc : Thread Cert.ODwRefIdeal.nD Cert.ODwRefIdeal.τ).loc Cert.ODwRefIdeal.main_arg0)
          ∧ r.2.mem ((c.tc : Thread Cert.ODwRefIdeal.nD Cert.ODwRefIdeal.τ).loc Cert.ODwRefIdeal.main_arg1) = m' ((c.tc : Thread Cert.ODwRefIdeal.nD Cert.ODwRefIdeal.τ).loc Cert.ODwRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v6) = v0 c
          ∧ r.2.mem ((c.tc : Thread Cert.MlpUpRefIdeal.nD Cert.MlpUpRefIdeal.τ).loc Cert.MlpUpRefIdeal.main_v7) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v4) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v0)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v0) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v4) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v42) = v0 c
          ∧ r.2.mem ((c.tc : Thread Cert.UpDxRefIdeal.nD Cert.UpDxRefIdeal.τ).loc Cert.UpDxRefIdeal.main_v43) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)
      ∧ m' ((c.tc : Thread Cert.GradXRefIdeal.nD Cert.GradXRefIdeal.τ).loc Cert.GradXRefIdeal.main_arg6) = m ((c.tc : Thread Cert.GradXIdeal.nD Cert.GradXIdeal.τ).loc Cert.GradXIdeal.main_arg6)
      ∧ m' ((c.tc : Thread Cert.GradXRefIdeal.nD Cert.GradXRefIdeal.τ).loc Cert.GradXRefIdeal.main_arg7) = m ((c.tc : Thread Cert.GradXIdeal.nD Cert.GradXIdeal.τ).loc Cert.GradXIdeal.main_arg7)) →
    ∃ (v0 : (c : Dev Cert.GradXIdeal.nD) → Buf (Elt Ideal) ((c.tc : Thread Cert.GradXIdeal.nD Cert.GradXIdeal.τ).loc Cert.GradXIdeal.main_v3_0)) (v1 : (c : Dev Cert.GradXIdeal.nD) → Buf (Elt Ideal) ((c.tc : Thread Cert.GradXIdeal.nD Cert.GradXIdeal.τ).loc Cert.GradXIdeal.main_v3_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v3_0) = v0 c
          ∧ r.2.mem ((c.tc : Thread Cert.GradXIdeal.nD Cert.GradXIdeal.τ).loc Cert.GradXIdeal.main_v3_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
          ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v46) = v0 c
          ∧ r.2.mem ((c.tc : Thread Cert.GradXRefIdeal.nD Cert.GradXRefIdeal.τ).loc Cert.GradXRefIdeal.main_v47) = v1 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5)
          ∧ r.2.mem ((c.tc : Thread Cert.GradXRefIdeal.nD Cert.GradXRefIdeal.τ).loc Cert.GradXRefIdeal.main_arg6) = m' ((c.tc : Thread Cert.GradXRefIdeal.nD Cert.GradXRefIdeal.τ).loc Cert.GradXRefIdeal.main_arg6)
          ∧ r.2.mem ((c.tc : Thread Cert.GradXRefIdeal.nD Cert.GradXRefIdeal.τ).loc Cert.GradXRefIdeal.main_arg7) = m' ((c.tc : Thread Cert.GradXRefIdeal.nD Cert.GradXRefIdeal.τ).loc Cert.GradXRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v3) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v55) = v0 c
          ∧ r.2.mem ((c.tc : Thread Cert.DownRefIdeal.nD Cert.DownRefIdeal.τ).loc Cert.DownRefIdeal.main_v56) = v1 c
          ∧ r.2.mem ((c.tc : Thread Cert.DownRefIdeal.nD Cert.DownRefIdeal.τ).loc Cert.DownRefIdeal.main_v29) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_BrDw_BrDwIdeal : Prop :=
  True

def algebraic_BrDwIdeal_BrDwRefIdeal [hBrDwIdeal : Cert.BrDwIdeal.Facts] [hBrDwRefIdeal : Cert.BrDwRefIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.BrDwRefIdeal.nD Cert.BrDwRefIdeal.τ Cert.BrDwRefIdeal.sig) → Buf (Elt Ideal) ℓ) (g' : Dev Cert.BrDwRefIdeal.nD → PrngReg), Pre_BrDwIdeal m →
    (∀ c : Dev Cert.BrDwIdeal.nD,
      m' ((c.tc : Thread Cert.BrDwRefIdeal.nD Cert.BrDwRefIdeal.τ).loc Cert.BrDwRefIdeal.main_arg0) = m ((c.tc : Thread Cert.BrDwIdeal.nD Cert.BrDwIdeal.τ).loc Cert.BrDwIdeal.main_arg0)
      ∧ m' ((c.tc : Thread Cert.BrDwRefIdeal.nD Cert.BrDwRefIdeal.τ).loc Cert.BrDwRefIdeal.main_arg1) = m ((c.tc : Thread Cert.BrDwIdeal.nD Cert.BrDwIdeal.τ).loc Cert.BrDwIdeal.main_arg1)) →
    ∃ (v0 : (c : Dev Cert.BrDwIdeal.nD) → Buf (Elt Ideal) ((c.tc : Thread Cert.BrDwIdeal.nD Cert.BrDwIdeal.τ).loc Cert.BrDwIdeal.main_v0)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v0) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ θ_run (Cert.BrDwRefIdeal.defs (F := Ideal)) (onTc (τ := Cert.BrDwRefIdeal.τ) (Cert.BrDwRefIdeal.main (F := Ideal))) ⟨m', fun _ => 0, g'⟩ (fun r => ∀ c : Dev Cert.BrDwRefIdeal.nD,
          r.2.mem ((c.tc : Thread Cert.BrDwRefIdeal.nD Cert.BrDwRefIdeal.τ).loc Cert.BrDwRefIdeal.main_v7) = v0 c
          ∧ r.2.mem ((c.tc : Thread Cert.BrDwRefIdeal.nD Cert.BrDwRefIdeal.τ).loc Cert.BrDwRefIdeal.main_arg0) = m' ((c.tc : Thread Cert.BrDwRefIdeal.nD Cert.BrDwRefIdeal.τ).loc Cert.BrDwRefIdeal.main_arg0)
          ∧ r.2.mem ((c.tc : Thread Cert.BrDwRefIdeal.nD Cert.BrDwRefIdeal.τ).loc Cert.BrDwRefIdeal.main_arg1) = m' ((c.tc : Thread Cert.BrDwRefIdeal.nD Cert.BrDwRefIdeal.τ).loc Cert.BrDwRefIdeal.main_arg1))

def preserves_AttnDw_AttnDwIdeal : Prop :=
  True

def algebraic_AttnDwIdeal_AttnDwRefIdeal [hAttnDwIdeal : Cert.AttnDwIdeal.Facts] [hAttnDwRefIdeal : Cert.AttnDwRefIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg)
    (m' : (ℓ : Loc Cert.AttnDwRefIdeal.nD Cert.AttnDwRefIdeal.τ Cert.AttnDwRefIdeal.sig) → Buf (Elt Ideal) ℓ) (g' : Dev Cert.AttnDwRefIdeal.nD → PrngReg), Pre_AttnDwIdeal m →
    (∀ c : Dev Cert.AttnDwIdeal.nD,
      m' ((c.tc : Thread Cert.AttnDwRefIdeal.nD Cert.AttnDwRefIdeal.τ).loc Cert.AttnDwRefIdeal.main_arg0) = m ((c.tc : Thread Cert.AttnDwIdeal.nD Cert.AttnDwIdeal.τ).loc Cert.AttnDwIdeal.main_arg0)
      ∧ m' ((c.tc : Thread Cert.AttnDwRefIdeal.nD Cert.AttnDwRefIdeal.τ).loc Cert.AttnDwRefIdeal.main_arg1) = m ((c.tc : Thread Cert.AttnDwIdeal.nD Cert.AttnDwIdeal.τ).loc Cert.AttnDwIdeal.main_arg1)) →
    ∃ (v0 : (c : Dev Cert.AttnDwIdeal.nD) → Buf (Elt Ideal) ((c.tc : Thread Cert.AttnDwIdeal.nD Cert.AttnDwIdeal.τ).loc Cert.AttnDwIdeal.main_v0)),
      θ_run (Cert.AttnDwIdeal.defs (F := Ideal)) (onTc (τ := Cert.AttnDwIdeal.τ) (Cert.AttnDwIdeal.main (F := Ideal))) ⟨m, fun _ => 0, g⟩ (fun r => ∀ c : Dev Cert.AttnDwIdeal.nD,
          r.2.mem ((c.tc : Thread Cert.AttnDwIdeal.nD Cert.AttnDwIdeal.τ).loc Cert.AttnDwIdeal.main_v0) = v0 c
          ∧ r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
          ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1))
      ∧ θ_run (Cert.AttnDwRefIdeal.defs (F := Ideal)) (onTc (τ := Cert.AttnDwRefIdeal.τ) (Cert.AttnDwRefIdeal.main (F := Ideal))) ⟨m', fun _ => 0, g'⟩ (fun r => ∀ c : Dev Cert.AttnDwRefIdeal.nD,
          r.2.mem ((c.tc : Thread Cert.AttnDwRefIdeal.nD Cert.AttnDwRefIdeal.τ).loc Cert.AttnDwRefIdeal.main_v6) = v0 c
          ∧ r.2.mem ((c.tc : Thread Cert.AttnDwRefIdeal.nD Cert.AttnDwRefIdeal.τ).loc Cert.AttnDwRefIdeal.main_arg0) = m' ((c.tc : Thread Cert.AttnDwRefIdeal.nD Cert.AttnDwRefIdeal.τ).loc Cert.AttnDwRefIdeal.main_arg0)
          ∧ r.2.mem ((c.tc : Thread Cert.AttnDwRefIdeal.nD Cert.AttnDwRefIdeal.τ).loc Cert.AttnDwRefIdeal.main_arg1) = m' ((c.tc : Thread Cert.AttnDwRefIdeal.nD Cert.AttnDwRefIdeal.τ).loc Cert.AttnDwRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v5) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_MemBrDx_MemBrDxIdeal : Prop :=
  True

def algebraic_MemBrDxIdeal_MemBrDxRefIdeal [hMemBrDxIdeal : Cert.MemBrDxIdeal.Facts] [hMemBrDxRefIdeal : Cert.MemBrDxRefIdeal.Facts] : Prop :=
  ∀ (m : (ℓ : Loc Cert.MemBrDxIdeal.nD Cert.MemBrDxIdeal.τ Cert.MemBrDxIdeal.sig) → Buf (Elt Ideal) ℓ) (g : Dev Cert.MemBrDxIdeal.nD → PrngReg)
    (m' : (ℓ : Loc Cert.MemBrDxRefIdeal.nD Cert.MemBrDxRefIdeal.τ Cert.MemBrDxRefIdeal.sig) → Buf (Elt Ideal) ℓ) (g' : Dev Cert.MemBrDxRefIdeal.nD → PrngReg), Pre_MemBrDxIdeal m →
    (∀ c : Dev Cert.MemBrDxIdeal.nD,
      m' ((c.tc : Thread Cert.MemBrDxRefIdeal.nD Cert.MemBrDxRefIdeal.τ).loc Cert.MemBrDxRefIdeal.main_arg0) = m ((c.tc : Thread Cert.MemBrDxIdeal.nD Cert.MemBrDxIdeal.τ).loc Cert.MemBrDxIdeal.main_arg0)
      ∧ m' ((c.tc : Thread Cert.MemBrDxRefIdeal.nD Cert.MemBrDxRefIdeal.τ).loc Cert.MemBrDxRefIdeal.main_arg1) = m ((c.tc : Thread Cert.MemBrDxIdeal.nD Cert.MemBrDxIdeal.τ).loc Cert.MemBrDxIdeal.main_arg1)) →
    ∃ (v0 : (c : Dev Cert.MemBrDxIdeal.nD) → Buf (Elt Ideal) ((c.tc : Thread Cert.MemBrDxIdeal.nD Cert.MemBrDxIdeal.τ).loc Cert.MemBrDxIdeal.main_v0)),
      θ_run (Cert.MemBrDxIdeal.defs (F := Ideal)) (onTc (τ := Cert.MemBrDxIdeal.τ) (Cert.MemBrDxIdeal.main (F := Ideal))) ⟨m, fun _ => 0, g⟩ (fun r => ∀ c : Dev Cert.MemBrDxIdeal.nD,
          r.2.mem ((c.tc : Thread Cert.MemBrDxIdeal.nD Cert.MemBrDxIdeal.τ).loc Cert.MemBrDxIdeal.main_v0) = v0 c
          ∧ r.2.mem ((c.tc : Thread Cert.MemBrDxIdeal.nD Cert.MemBrDxIdeal.τ).loc Cert.MemBrDxIdeal.main_arg0) = m ((c.tc : Thread Cert.MemBrDxIdeal.nD Cert.MemBrDxIdeal.τ).loc Cert.MemBrDxIdeal.main_arg0)
          ∧ r.2.mem ((c.tc : Thread Cert.MemBrDxIdeal.nD Cert.MemBrDxIdeal.τ).loc Cert.MemBrDxIdeal.main_arg1) = m ((c.tc : Thread Cert.MemBrDxIdeal.nD Cert.MemBrDxIdeal.τ).loc Cert.MemBrDxIdeal.main_arg1))
      ∧ θ_run (Cert.MemBrDxRefIdeal.defs (F := Ideal)) (onTc (τ := Cert.MemBrDxRefIdeal.τ) (Cert.MemBrDxRefIdeal.main (F := Ideal))) ⟨m', fun _ => 0, g'⟩ (fun r => ∀ c : Dev Cert.MemBrDxRefIdeal.nD,
          r.2.mem ((c.tc : Thread Cert.MemBrDxRefIdeal.nD Cert.MemBrDxRefIdeal.τ).loc Cert.MemBrDxRefIdeal.main_v6) = v0 c
          ∧ r.2.mem ((c.tc : Thread Cert.MemBrDxRefIdeal.nD Cert.MemBrDxRefIdeal.τ).loc Cert.MemBrDxRefIdeal.main_arg0) = m' ((c.tc : Thread Cert.MemBrDxRefIdeal.nD Cert.MemBrDxRefIdeal.τ).loc Cert.MemBrDxRefIdeal.main_arg0)
          ∧ r.2.mem ((c.tc : Thread Cert.MemBrDxRefIdeal.nD Cert.MemBrDxRefIdeal.τ).loc Cert.MemBrDxRefIdeal.main_arg1) = m' ((c.tc : Thread Cert.MemBrDxRefIdeal.nD Cert.MemBrDxRefIdeal.τ).loc Cert.MemBrDxRefIdeal.main_arg1))

def preserves_Br_BrIdeal : Prop :=
  True

def algebraic_BrIdeal_BrRefIdeal [hBrIdeal : Cert.BrIdeal.Facts] [hBrRefIdeal : Cert.BrRefIdeal.Facts] : Prop :=
  ∀ (m : (ℓ : Loc Cert.BrIdeal.nD Cert.BrIdeal.τ Cert.BrIdeal.sig) → Buf (Elt Ideal) ℓ) (g : Dev Cert.BrIdeal.nD → PrngReg)
    (m' : (ℓ : Loc Cert.BrRefIdeal.nD Cert.BrRefIdeal.τ Cert.BrRefIdeal.sig) → Buf (Elt Ideal) ℓ) (g' : Dev Cert.BrRefIdeal.nD → PrngReg), Pre_BrIdeal m →
    (∀ c : Dev Cert.BrIdeal.nD,
      m' ((c.tc : Thread Cert.BrRefIdeal.nD Cert.BrRefIdeal.τ).loc Cert.BrRefIdeal.main_arg0) = m ((c.tc : Thread Cert.BrIdeal.nD Cert.BrIdeal.τ).loc Cert.BrIdeal.main_arg0)
      ∧ m' ((c.tc : Thread Cert.BrRefIdeal.nD Cert.BrRefIdeal.τ).loc Cert.BrRefIdeal.main_arg1) = m ((c.tc : Thread Cert.BrIdeal.nD Cert.BrIdeal.τ).loc Cert.BrIdeal.main_arg1)) →
    ∃ (v0 : (c : Dev Cert.BrIdeal.nD) → Buf (Elt Ideal) ((c.tc : Thread Cert.BrIdeal.nD Cert.BrIdeal.τ).loc Cert.BrIdeal.main_v0)),
      θ_run (Cert.BrIdeal.defs (F := Ideal)) (onTc (τ := Cert.BrIdeal.τ) (Cert.BrIdeal.main (F := Ideal))) ⟨m, fun _ => 0, g⟩ (fun r => ∀ c : Dev Cert.BrIdeal.nD,
          r.2.mem ((c.tc : Thread Cert.BrIdeal.nD Cert.BrIdeal.τ).loc Cert.BrIdeal.main_v0) = v0 c
          ∧ r.2.mem ((c.tc : Thread Cert.BrIdeal.nD Cert.BrIdeal.τ).loc Cert.BrIdeal.main_arg0) = m ((c.tc : Thread Cert.BrIdeal.nD Cert.BrIdeal.τ).loc Cert.BrIdeal.main_arg0)
          ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ θ_run (Cert.BrRefIdeal.defs (F := Ideal)) (onTc (τ := Cert.BrRefIdeal.τ) (Cert.BrRefIdeal.main (F := Ideal))) ⟨m', fun _ => 0, g'⟩ (fun r => ∀ c : Dev Cert.BrRefIdeal.nD,
          r.2.mem ((c.tc : Thread Cert.BrRefIdeal.nD Cert.BrRefIdeal.τ).loc Cert.BrRefIdeal.main_v4) = v0 c
          ∧ r.2.mem ((c.tc : Thread Cert.BrRefIdeal.nD Cert.BrRefIdeal.τ).loc Cert.BrRefIdeal.main_arg0) = m' ((c.tc : Thread Cert.BrRefIdeal.nD Cert.BrRefIdeal.τ).loc Cert.BrRefIdeal.main_arg0)
          ∧ r.2.mem ((c.tc : Thread Cert.BrRefIdeal.nD Cert.BrRefIdeal.τ).loc Cert.BrRefIdeal.main_arg1) = m' ((c.tc : Thread Cert.BrRefIdeal.nD Cert.BrRefIdeal.τ).loc Cert.BrRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v4) = v0 c
          ∧ r.2.mem ((c.tc : Thread Cert.GluRefIdeal.nD Cert.GluRefIdeal.τ).loc Cert.GluRefIdeal.main_v12) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)
      ∧ m' ((c.tc : Thread Cert.GluDxRefIdeal.nD Cert.GluDxRefIdeal.τ).loc Cert.GluDxRefIdeal.main_arg3) = m ((c.tc : Thread Cert.GluDxIdeal.nD Cert.GluDxIdeal.τ).loc Cert.GluDxIdeal.main_arg3)) →
    ∃ (v0 : (c : Dev Cert.GluDxIdeal.nD) → Buf (Elt Ideal) ((c.tc : Thread Cert.GluDxIdeal.nD Cert.GluDxIdeal.τ).loc Cert.GluDxIdeal.main_v0_0)) (v1 : (c : Dev Cert.GluDxIdeal.nD) → Buf (Elt Ideal) ((c.tc : Thread Cert.GluDxIdeal.nD Cert.GluDxIdeal.τ).loc Cert.GluDxIdeal.main_v0_1)) (v2 : (c : Dev Cert.GluDxIdeal.nD) → Buf (Elt Ideal) ((c.tc : Thread Cert.GluDxIdeal.nD Cert.GluDxIdeal.τ).loc Cert.GluDxIdeal.main_v0_2)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0_0) = v0 c
          ∧ r.2.mem ((c.tc : Thread Cert.GluDxIdeal.nD Cert.GluDxIdeal.τ).loc Cert.GluDxIdeal.main_v0_1) = v1 c
          ∧ r.2.mem ((c.tc : Thread Cert.GluDxIdeal.nD Cert.GluDxIdeal.τ).loc Cert.GluDxIdeal.main_v0_2) = v2 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
          ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v24) = v0 c
          ∧ r.2.mem ((c.tc : Thread Cert.GluDxRefIdeal.nD Cert.GluDxRefIdeal.τ).loc Cert.GluDxRefIdeal.main_v20) = v1 c
          ∧ r.2.mem ((c.tc : Thread Cert.GluDxRefIdeal.nD Cert.GluDxRefIdeal.τ).loc Cert.GluDxRefIdeal.main_v23) = v2 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2)
          ∧ r.2.mem ((c.tc : Thread Cert.GluDxRefIdeal.nD Cert.GluDxRefIdeal.τ).loc Cert.GluDxRefIdeal.main_arg3) = m' ((c.tc : Thread Cert.GluDxRefIdeal.nD Cert.GluDxRefIdeal.τ).loc Cert.GluDxRefIdeal.main_arg3))

def preserves_ODx_ODxIdeal : Prop :=
  True

def algebraic_ODxIdeal_ODxRefIdeal [hODxIdeal : Cert.ODxIdeal.Facts] [hODxRefIdeal : Cert.ODxRefIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.ODxRefIdeal.nD Cert.ODxRefIdeal.τ Cert.ODxRefIdeal.sig) → Buf (Elt Ideal) ℓ) (g' : Dev Cert.ODxRefIdeal.nD → PrngReg), Pre_ODxIdeal m →
    (∀ c : Dev Cert.ODxIdeal.nD,
      m' ((c.tc : Thread Cert.ODxRefIdeal.nD Cert.ODxRefIdeal.τ).loc Cert.ODxRefIdeal.main_arg0) = m ((c.tc : Thread Cert.ODxIdeal.nD Cert.ODxIdeal.τ).loc Cert.ODxIdeal.main_arg0)
      ∧ m' ((c.tc : Thread Cert.ODxRefIdeal.nD Cert.ODxRefIdeal.τ).loc Cert.ODxRefIdeal.main_arg1) = m ((c.tc : Thread Cert.ODxIdeal.nD Cert.ODxIdeal.τ).loc Cert.ODxIdeal.main_arg1)
      ∧ m' ((c.tc : Thread Cert.ODxRefIdeal.nD Cert.ODxRefIdeal.τ).loc Cert.ODxRefIdeal.main_arg2) = m ((c.tc : Thread Cert.ODxIdeal.nD Cert.ODxIdeal.τ).loc Cert.ODxIdeal.main_arg2)
      ∧ m' ((c.tc : Thread Cert.ODxRefIdeal.nD Cert.ODxRefIdeal.τ).loc Cert.ODxRefIdeal.main_arg3) = m ((c.tc : Thread Cert.ODxIdeal.nD Cert.ODxIdeal.τ).loc Cert.ODxIdeal.main_arg3)
      ∧ m' ((c.tc : Thread Cert.ODxRefIdeal.nD Cert.ODxRefIdeal.τ).loc Cert.ODxRefIdeal.main_arg4) = m ((c.tc : Thread Cert.ODxIdeal.nD Cert.ODxIdeal.τ).loc Cert.ODxIdeal.main_arg4)
      ∧ m' ((c.tc : Thread Cert.ODxRefIdeal.nD Cert.ODxRefIdeal.τ).loc Cert.ODxRefIdeal.main_arg5) = m ((c.tc : Thread Cert.ODxIdeal.nD Cert.ODxIdeal.τ).loc Cert.ODxIdeal.main_arg5)
      ∧ m' ((c.tc : Thread Cert.ODxRefIdeal.nD Cert.ODxRefIdeal.τ).loc Cert.ODxRefIdeal.main_arg6) = m ((c.tc : Thread Cert.ODxIdeal.nD Cert.ODxIdeal.τ).loc Cert.ODxIdeal.main_arg6)) →
    ∃ (v0 : (c : Dev Cert.ODxIdeal.nD) → Buf (Elt Ideal) ((c.tc : Thread Cert.ODxIdeal.nD Cert.ODxIdeal.τ).loc Cert.ODxIdeal.main_v3_0)) (v1 : (c : Dev Cert.ODxIdeal.nD) → Buf (Elt Ideal) ((c.tc : Thread Cert.ODxIdeal.nD Cert.ODxIdeal.τ).loc Cert.ODxIdeal.main_v3_1)) (v2 : (c : Dev Cert.ODxIdeal.nD) → Buf (Elt Ideal) ((c.tc : Thread Cert.ODxIdeal.nD Cert.ODxIdeal.τ).loc Cert.ODxIdeal.main_v3_2)) (v3 : (c : Dev Cert.ODxIdeal.nD) → Buf (Elt Ideal) ((c.tc : Thread Cert.ODxIdeal.nD Cert.ODxIdeal.τ).loc Cert.ODxIdeal.main_v3_3)) (v4 : (c : Dev Cert.ODxIdeal.nD) → Buf (Elt Ideal) ((c.tc : Thread Cert.ODxIdeal.nD Cert.ODxIdeal.τ).loc Cert.ODxIdeal.main_v3_4)) (v5 : (c : Dev Cert.ODxIdeal.nD) → Buf (Elt Ideal) ((c.tc : Thread Cert.ODxIdeal.nD Cert.ODxIdeal.τ).loc Cert.ODxIdeal.main_v3_5)) (v6 : (c : Dev Cert.ODxIdeal.nD) → Buf (Elt Ideal) ((c.tc : Thread Cert.ODxIdeal.nD Cert.ODxIdeal.τ).loc Cert.ODxIdeal.main_v3_6)) (v7 : (c : Dev Cert.ODxIdeal.nD) → Buf (Elt Ideal) ((c.tc : Thread Cert.ODxIdeal.nD Cert.ODxIdeal.τ).loc Cert.ODxIdeal.main_v3_7)) (v8 : (c : Dev Cert.ODxIdeal.nD) → Buf (Elt Ideal) ((c.tc : Thread Cert.ODxIdeal.nD Cert.ODxIdeal.τ).loc Cert.ODxIdeal.main_v3_8)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v3_0) = v0 c
          ∧ r.2.mem ((c.tc : Thread Cert.ODxIdeal.nD Cert.ODxIdeal.τ).loc Cert.ODxIdeal.main_v3_1) = v1 c
          ∧ r.2.mem ((c.tc : Thread Cert.ODxIdeal.nD Cert.ODxIdeal.τ).loc Cert.ODxIdeal.main_v3_2) = v2 c
          ∧ r.2.mem ((c.tc : Thread Cert.ODxIdeal.nD Cert.ODxIdeal.τ).loc Cert.ODxIdeal.main_v3_3) = v3 c
          ∧ r.2.mem ((c.tc : Thread Cert.ODxIdeal.nD Cert.ODxIdeal.τ).loc Cert.ODxIdeal.main_v3_4) = v4 c
          ∧ r.2.mem ((c.tc : Thread Cert.ODxIdeal.nD Cert.ODxIdeal.τ).loc Cert.ODxIdeal.main_v3_5) = v5 c
          ∧ r.2.mem ((c.tc : Thread Cert.ODxIdeal.nD Cert.ODxIdeal.τ).loc Cert.ODxIdeal.main_v3_6) = v6 c
          ∧ r.2.mem ((c.tc : Thread Cert.ODxIdeal.nD Cert.ODxIdeal.τ).loc Cert.ODxIdeal.main_v3_7) = v7 c
          ∧ r.2.mem ((c.tc : Thread Cert.ODxIdeal.nD Cert.ODxIdeal.τ).loc Cert.ODxIdeal.main_v3_8) = v8 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1)
          ∧ r.2.mem ((c.tc : Thread Cert.ODxIdeal.nD Cert.ODxIdeal.τ).loc Cert.ODxIdeal.main_arg2) = m ((c.tc : Thread Cert.ODxIdeal.nD Cert.ODxIdeal.τ).loc Cert.ODxIdeal.main_arg2)
          ∧ r.2.mem ((c.tc : Thread Cert.ODxIdeal.nD Cert.ODxIdeal.τ).loc Cert.ODxIdeal.main_arg3) = m ((c.tc : Thread Cert.ODxIdeal.nD Cert.ODxIdeal.τ).loc Cert.ODxIdeal.main_arg3)
          ∧ r.2.mem ((c.tc : Thread Cert.ODxIdeal.nD Cert.ODxIdeal.τ).loc Cert.ODxIdeal.main_arg4) = m ((c.tc : Thread Cert.ODxIdeal.nD Cert.ODxIdeal.τ).loc Cert.ODxIdeal.main_arg4)
          ∧ r.2.mem ((c.tc : Thread Cert.ODxIdeal.nD Cert.ODxIdeal.τ).loc Cert.ODxIdeal.main_arg5) = m ((c.tc : Thread Cert.ODxIdeal.nD Cert.ODxIdeal.τ).loc Cert.ODxIdeal.main_arg5)
          ∧ r.2.mem ((c.tc : Thread Cert.ODxIdeal.nD Cert.ODxIdeal.τ).loc Cert.ODxIdeal.main_arg6) = m ((c.tc : Thread Cert.ODxIdeal.nD Cert.ODxIdeal.τ).loc Cert.ODxIdeal.main_arg6))
      ∧ θ_run (Cert.ODxRefIdeal.defs (F := Ideal)) (onTc (τ := Cert.ODxRefIdeal.τ) (Cert.ODxRefIdeal.main (F := Ideal))) ⟨m', fun _ => 0, g'⟩ (fun r => ∀ c : Dev Cert.ODxRefIdeal.nD,
          r.2.mem ((c.tc : Thread Cert.ODxRefIdeal.nD Cert.ODxRefIdeal.τ).loc Cert.ODxRefIdeal.main_v66) = v0 c
          ∧ r.2.mem ((c.tc : Thread Cert.ODxRefIdeal.nD Cert.ODxRefIdeal.τ).loc Cert.ODxRefIdeal.main_v67) = v1 c
          ∧ r.2.mem ((c.tc : Thread Cert.ODxRefIdeal.nD Cert.ODxRefIdeal.τ).loc Cert.ODxRefIdeal.main_v68) = v2 c
          ∧ r.2.mem ((c.tc : Thread Cert.ODxRefIdeal.nD Cert.ODxRefIdeal.τ).loc Cert.ODxRefIdeal.main_v69) = v3 c
          ∧ r.2.mem ((c.tc : Thread Cert.ODxRefIdeal.nD Cert.ODxRefIdeal.τ).loc Cert.ODxRefIdeal.main_v70) = v4 c
          ∧ r.2.mem ((c.tc : Thread Cert.ODxRefIdeal.nD Cert.ODxRefIdeal.τ).loc Cert.ODxRefIdeal.main_v71) = v5 c
          ∧ r.2.mem ((c.tc : Thread Cert.ODxRefIdeal.nD Cert.ODxRefIdeal.τ).loc Cert.ODxRefIdeal.main_v65) = v6 c
          ∧ r.2.mem ((c.tc : Thread Cert.ODxRefIdeal.nD Cert.ODxRefIdeal.τ).loc Cert.ODxRefIdeal.main_v60) = v7 c
          ∧ r.2.mem ((c.tc : Thread Cert.ODxRefIdeal.nD Cert.ODxRefIdeal.τ).loc Cert.ODxRefIdeal.main_v55) = v8 c
          ∧ r.2.mem ((c.tc : Thread Cert.ODxRefIdeal.nD Cert.ODxRefIdeal.τ).loc Cert.ODxRefIdeal.main_arg0) = m' ((c.tc : Thread Cert.ODxRefIdeal.nD Cert.ODxRefIdeal.τ).loc Cert.ODxRefIdeal.main_arg0)
          ∧ r.2.mem ((c.tc : Thread Cert.ODxRefIdeal.nD Cert.ODxRefIdeal.τ).loc Cert.ODxRefIdeal.main_arg1) = m' ((c.tc : Thread Cert.ODxRefIdeal.nD Cert.ODxRefIdeal.τ).loc Cert.ODxRefIdeal.main_arg1)
          ∧ r.2.mem ((c.tc : Thread Cert.ODxRefIdeal.nD Cert.ODxRefIdeal.τ).loc Cert.ODxRefIdeal.main_arg2) = m' ((c.tc : Thread Cert.ODxRefIdeal.nD Cert.ODxRefIdeal.τ).loc Cert.ODxRefIdeal.main_arg2)
          ∧ r.2.mem ((c.tc : Thread Cert.ODxRefIdeal.nD Cert.ODxRefIdeal.τ).loc Cert.ODxRefIdeal.main_arg3) = m' ((c.tc : Thread Cert.ODxRefIdeal.nD Cert.ODxRefIdeal.τ).loc Cert.ODxRefIdeal.main_arg3)
          ∧ r.2.mem ((c.tc : Thread Cert.ODxRefIdeal.nD Cert.ODxRefIdeal.τ).loc Cert.ODxRefIdeal.main_arg4) = m' ((c.tc : Thread Cert.ODxRefIdeal.nD Cert.ODxRefIdeal.τ).loc Cert.ODxRefIdeal.main_arg4)
          ∧ r.2.mem ((c.tc : Thread Cert.ODxRefIdeal.nD Cert.ODxRefIdeal.τ).loc Cert.ODxRefIdeal.main_arg5) = m' ((c.tc : Thread Cert.ODxRefIdeal.nD Cert.ODxRefIdeal.τ).loc Cert.ODxRefIdeal.main_arg5)
          ∧ r.2.mem ((c.tc : Thread Cert.ODxRefIdeal.nD Cert.ODxRefIdeal.τ).loc Cert.ODxRefIdeal.main_arg6) = m' ((c.tc : Thread Cert.ODxRefIdeal.nD Cert.ODxRefIdeal.τ).loc Cert.ODxRefIdeal.main_arg6))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hInADx : Cert.InADx.Facts) (hInADxIdeal : Cert.InADxIdeal.Facts) (hInADxRefIdeal : Cert.InADxRefIdeal.Facts) (hInADw : Cert.InADw.Facts) (hInADwIdeal : Cert.InADwIdeal.Facts) (hInADwRefIdeal : Cert.InADwRefIdeal.Facts) (hInGDw : Cert.InGDw.Facts) (hInGDwIdeal : Cert.InGDwIdeal.Facts) (hInGDwRefIdeal : Cert.InGDwRefIdeal.Facts) (hODw : Cert.ODw.Facts) (hODwIdeal : Cert.ODwIdeal.Facts) (hODwRefIdeal : Cert.ODwRefIdeal.Facts) (hMlpUp : Cert.MlpUp.Facts) (hMlpUpIdeal : Cert.MlpUpIdeal.Facts) (hMlpUpRefIdeal : Cert.MlpUpRefIdeal.Facts) (hInA : Cert.InA.Facts) (hInAIdeal : Cert.InAIdeal.Facts) (hInARefIdeal : Cert.InARefIdeal.Facts) (hInG : Cert.InG.Facts) (hInGIdeal : Cert.InGIdeal.Facts) (hInGRefIdeal : Cert.InGRefIdeal.Facts) (hUpDx : Cert.UpDx.Facts) (hUpDxIdeal : Cert.UpDxIdeal.Facts) (hUpDxRefIdeal : Cert.UpDxRefIdeal.Facts) (hGradX : Cert.GradX.Facts) (hGradXIdeal : Cert.GradXIdeal.Facts) (hGradXRefIdeal : Cert.GradXRefIdeal.Facts) (hDown : Cert.Down.Facts) (hDownIdeal : Cert.DownIdeal.Facts) (hDownRefIdeal : Cert.DownRefIdeal.Facts) (hBrDw : Cert.BrDw.Facts) (hBrDwIdeal : Cert.BrDwIdeal.Facts) (hBrDwRefIdeal : Cert.BrDwRefIdeal.Facts) (hAttnDw : Cert.AttnDw.Facts) (hAttnDwIdeal : Cert.AttnDwIdeal.Facts) (hAttnDwRefIdeal : Cert.AttnDwRefIdeal.Facts) (hGluDw : Cert.GluDw.Facts) (hGluDwIdeal : Cert.GluDwIdeal.Facts) (hGluDwRefIdeal : Cert.GluDwRefIdeal.Facts) (hMemBrDx : Cert.MemBrDx.Facts) (hMemBrDxIdeal : Cert.MemBrDxIdeal.Facts) (hMemBrDxRefIdeal : Cert.MemBrDxRefIdeal.Facts) (hBr : Cert.Br.Facts) (hBrIdeal : Cert.BrIdeal.Facts) (hBrRefIdeal : Cert.BrRefIdeal.Facts) (hGlu : Cert.Glu.Facts) (hGluIdeal : Cert.GluIdeal.Facts) (hGluRefIdeal : Cert.GluRefIdeal.Facts) (hGluDx : Cert.GluDx.Facts) (hGluDxIdeal : Cert.GluDxIdeal.Facts) (hGluDxRefIdeal : Cert.GluDxRefIdeal.Facts) (hODx : Cert.ODx.Facts) (hODxIdeal : Cert.ODxIdeal.Facts) (hODxRefIdeal : Cert.ODxRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InADx (hInADx := hInADx)
    ∧ quiescent_InADxIdeal (hInADxIdeal := hInADxIdeal)
    ∧ quiescent_InADxRefIdeal (hInADxRefIdeal := hInADxRefIdeal)
    ∧ quiescent_InADw (hInADw := hInADw)
    ∧ quiescent_InADwIdeal (hInADwIdeal := hInADwIdeal)
    ∧ quiescent_InADwRefIdeal (hInADwRefIdeal := hInADwRefIdeal)
    ∧ quiescent_InGDw (hInGDw := hInGDw)
    ∧ quiescent_InGDwIdeal (hInGDwIdeal := hInGDwIdeal)
    ∧ quiescent_InGDwRefIdeal (hInGDwRefIdeal := hInGDwRefIdeal)
    ∧ quiescent_ODw (hODw := hODw)
    ∧ quiescent_ODwIdeal (hODwIdeal := hODwIdeal)
    ∧ quiescent_ODwRefIdeal (hODwRefIdeal := hODwRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_InA (hInA := hInA)
    ∧ quiescent_InAIdeal (hInAIdeal := hInAIdeal)
    ∧ quiescent_InARefIdeal (hInARefIdeal := hInARefIdeal)
    ∧ quiescent_InG (hInG := hInG)
    ∧ quiescent_InGIdeal (hInGIdeal := hInGIdeal)
    ∧ quiescent_InGRefIdeal (hInGRefIdeal := hInGRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_GradX (hGradX := hGradX)
    ∧ quiescent_GradXIdeal (hGradXIdeal := hGradXIdeal)
    ∧ quiescent_GradXRefIdeal (hGradXRefIdeal := hGradXRefIdeal)
    ∧ quiescent_Down (hDown := hDown)
    ∧ quiescent_DownIdeal (hDownIdeal := hDownIdeal)
    ∧ quiescent_DownRefIdeal (hDownRefIdeal := hDownRefIdeal)
    ∧ quiescent_BrDw (hBrDw := hBrDw)
    ∧ quiescent_BrDwIdeal (hBrDwIdeal := hBrDwIdeal)
    ∧ quiescent_BrDwRefIdeal (hBrDwRefIdeal := hBrDwRefIdeal)
    ∧ quiescent_AttnDw (hAttnDw := hAttnDw)
    ∧ quiescent_AttnDwIdeal (hAttnDwIdeal := hAttnDwIdeal)
    ∧ quiescent_AttnDwRefIdeal (hAttnDwRefIdeal := hAttnDwRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_MemBrDx (hMemBrDx := hMemBrDx)
    ∧ quiescent_MemBrDxIdeal (hMemBrDxIdeal := hMemBrDxIdeal)
    ∧ quiescent_MemBrDxRefIdeal (hMemBrDxRefIdeal := hMemBrDxRefIdeal)
    ∧ quiescent_Br (hBr := hBr)
    ∧ quiescent_BrIdeal (hBrIdeal := hBrIdeal)
    ∧ quiescent_BrRefIdeal (hBrRefIdeal := hBrRefIdeal)
    ∧ quiescent_Glu (hGlu := hGlu)
    ∧ quiescent_GluIdeal (hGluIdeal := hGluIdeal)
    ∧ quiescent_GluRefIdeal (hGluRefIdeal := hGluRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_ODx (hODx := hODx)
    ∧ quiescent_ODxIdeal (hODxIdeal := hODxIdeal)
    ∧ quiescent_ODxRefIdeal (hODxRefIdeal := hODxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_InADx_InADxIdeal
    ∧ algebraic_InADxIdeal_InADxRefIdeal (hInADxIdeal := hInADxIdeal) (hInADxRefIdeal := hInADxRefIdeal)
    ∧ preserves_InADw_InADwIdeal
    ∧ algebraic_InADwIdeal_InADwRefIdeal (hInADwIdeal := hInADwIdeal) (hInADwRefIdeal := hInADwRefIdeal)
    ∧ preserves_InGDw_InGDwIdeal
    ∧ algebraic_InGDwIdeal_InGDwRefIdeal (hInGDwIdeal := hInGDwIdeal) (hInGDwRefIdeal := hInGDwRefIdeal)
    ∧ preserves_ODw_ODwIdeal
    ∧ algebraic_ODwIdeal_ODwRefIdeal (hODwIdeal := hODwIdeal) (hODwRefIdeal := hODwRefIdeal)
    ∧ preserves_MlpUp_MlpUpIdeal
    ∧ algebraic_MlpUpIdeal_MlpUpRefIdeal (hMlpUpIdeal := hMlpUpIdeal) (hMlpUpRefIdeal := hMlpUpRefIdeal)
    ∧ preserves_InA_InAIdeal
    ∧ algebraic_InAIdeal_InARefIdeal (hInAIdeal := hInAIdeal) (hInARefIdeal := hInARefIdeal)
    ∧ preserves_InG_InGIdeal
    ∧ algebraic_InGIdeal_InGRefIdeal (hInGIdeal := hInGIdeal) (hInGRefIdeal := hInGRefIdeal)
    ∧ preserves_UpDx_UpDxIdeal
    ∧ algebraic_UpDxIdeal_UpDxRefIdeal (hUpDxIdeal := hUpDxIdeal) (hUpDxRefIdeal := hUpDxRefIdeal)
    ∧ preserves_GradX_GradXIdeal
    ∧ algebraic_GradXIdeal_GradXRefIdeal (hGradXIdeal := hGradXIdeal) (hGradXRefIdeal := hGradXRefIdeal)
    ∧ preserves_Down_DownIdeal
    ∧ algebraic_DownIdeal_DownRefIdeal (hDownIdeal := hDownIdeal) (hDownRefIdeal := hDownRefIdeal)
    ∧ preserves_BrDw_BrDwIdeal
    ∧ algebraic_BrDwIdeal_BrDwRefIdeal (hBrDwIdeal := hBrDwIdeal) (hBrDwRefIdeal := hBrDwRefIdeal)
    ∧ preserves_AttnDw_AttnDwIdeal
    ∧ algebraic_AttnDwIdeal_AttnDwRefIdeal (hAttnDwIdeal := hAttnDwIdeal) (hAttnDwRefIdeal := hAttnDwRefIdeal)
    ∧ preserves_GluDw_GluDwIdeal
    ∧ algebraic_GluDwIdeal_GluDwRefIdeal (hGluDwIdeal := hGluDwIdeal) (hGluDwRefIdeal := hGluDwRefIdeal)
    ∧ preserves_MemBrDx_MemBrDxIdeal
    ∧ algebraic_MemBrDxIdeal_MemBrDxRefIdeal (hMemBrDxIdeal := hMemBrDxIdeal) (hMemBrDxRefIdeal := hMemBrDxRefIdeal)
    ∧ preserves_Br_BrIdeal
    ∧ algebraic_BrIdeal_BrRefIdeal (hBrIdeal := hBrIdeal) (hBrRefIdeal := hBrRefIdeal)
    ∧ preserves_Glu_GluIdeal
    ∧ algebraic_GluIdeal_GluRefIdeal (hGluIdeal := hGluIdeal) (hGluRefIdeal := hGluRefIdeal)
    ∧ preserves_GluDx_GluDxIdeal
    ∧ algebraic_GluDxIdeal_GluDxRefIdeal (hGluDxIdeal := hGluDxIdeal) (hGluDxRefIdeal := hGluDxRefIdeal)
    ∧ preserves_ODx_ODxIdeal
    ∧ algebraic_ODxIdeal_ODxRefIdeal (hODxIdeal := hODxIdeal) (hODxRefIdeal := hODxRefIdeal)
-- ==== Pre_finite.lean ====
abbrev S8192x512 : Shape := ⟨2, ![8192, 512]⟩
abbrev S256x1024 : Shape := ⟨2, ![256, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x512 .bf16) (main_arg1 : FVec F S256x1024 .bf16) (main_arg2 : FVec F S8192x512 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S256x1024 .f32 := (extf .f32 · bitsLt_bf16_f32) main_arg1
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  main_v10
-- ==== Kernel.lean ====
abbrev S8192x512 : Shape := ⟨2, ![8192, 512]⟩
abbrev S256x1024 : Shape := ⟨2, ![256, 1024]⟩
abbrev S1024x512 : Shape := ⟨2, ![1024, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .hbm, ⟨3, _⟩ => ⟨S8192x512, .bf16⟩
  | .hbm, ⟨4, _⟩ => ⟨S256x1024, .f32⟩
  | .local _ .vmem, ⟨0, _⟩ => ⟨S1024x512, .bf16⟩
  | .local _ .vmem, ⟨1, _⟩ => ⟨S1024x512, .bf16⟩
  | .local _ .vmem, ⟨2, _⟩ => ⟨S256x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S256x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x512 : Shape := ⟨2, ![8192, 512]⟩
abbrev S256x1024 : Shape := ⟨2, ![256, 1024]⟩
abbrev S256x512 : Shape := ⟨2, ![256, 512]⟩
abbrev S1x256x4x128 : Shape := ⟨4, ![1, 256, 4, 128]⟩
abbrev S1x8192x4x128 : Shape := ⟨4, ![1, 8192, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x512 : Shape := ⟨3, ![1, 8192, 512]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩

abbrev nBuf : Space → Nat
  | .hbm => 90
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .hbm, ⟨3, _⟩ => ⟨S8192x512, .f32⟩
  | .hbm, ⟨4, _⟩ => ⟨S256x1024, .f32⟩
  | .hbm, ⟨5, _⟩ => ⟨S8192x512, .f32⟩
  | .hbm, ⟨6, _⟩ => ⟨S256x512, .f32⟩
  | .hbm, ⟨7, _⟩ => ⟨S256x512, .f32⟩
  | .hbm, ⟨8, _⟩ => ⟨S1x256x4x128, .f32⟩
  | .hbm, ⟨9, _⟩ => ⟨S1x256x4x128, .f32⟩
  | .hbm, ⟨10, _⟩ => ⟨S1x8192x4x128, .f32⟩
  | .hbm, ⟨11, _⟩ => ⟨S1x4x8192x256, .f32⟩
  | .hbm, ⟨12, _⟩ => ⟨S_, .f32⟩
  | .hbm, ⟨13, _⟩ => ⟨S1x4x8192x256, .f32⟩
  | .hbm, ⟨14, _⟩ => ⟨S1x4x8192x256, .f32⟩
  | .hbm, ⟨15, _⟩ => ⟨S_, .f32⟩
  | .hbm, ⟨16, _⟩ => ⟨S1x4x8192, .f32⟩
  | .hbm, ⟨17, _⟩ => ⟨S1x4x8192x1, .f32⟩
  | .hbm, ⟨18, _⟩ => ⟨S1x4x8192x256, .f32⟩
  | .hbm, ⟨19, _⟩ => ⟨S1x4x8192x256, .i1⟩
  | .hbm, ⟨20, _⟩ => ⟨S1x4x8192x256, .f32⟩
  | .hbm, ⟨21, _⟩ => ⟨S_, .f32⟩
  | .hbm, ⟨22, _⟩ => ⟨S1x4x8192, .f32⟩
  | .hbm, ⟨23, _⟩ => ⟨S_, .f32⟩
  | .hbm, ⟨24, _⟩ => ⟨S1x4x8192, .f32⟩
  | .hbm, ⟨25, _⟩ => ⟨S1x4x8192, .f32⟩
  | .hbm, ⟨26, _⟩ => ⟨S_, .f32⟩
  | .hbm, ⟨27, _⟩ => ⟨S1x4x8192, .f32⟩
  | .hbm, ⟨28, _⟩ => ⟨S1x4x8192, .i1⟩
  | .hbm, ⟨29, _⟩ => ⟨S_, .f32⟩
  | .hbm, ⟨30, _⟩ => ⟨S1x4x8192, .f32⟩
  | .hbm, ⟨31, _⟩ => ⟨S1x4x8192, .i1⟩
  | .hbm, ⟨32, _⟩ => ⟨S_, .f32⟩
  | .hbm, ⟨33, _⟩ => ⟨S1x4x8192, .f32⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S1x4x8192, .f32⟩
  | .hbm, ⟨39, _⟩ => ⟨S1x4x8192, .f32⟩
  | .hbm, ⟨40, _⟩ => ⟨S1x4x8192x1, .f32⟩
  | .hbm, ⟨41, _⟩ => ⟨S1x4x8192x256, .f32⟩
  | .hbm, ⟨42, _⟩ => ⟨S1x4x8192x256, .f32⟩
  | .hbm, ⟨43, _⟩ => ⟨S1x4x8192x256, .f32⟩
  | .hbm, ⟨44, _⟩ => ⟨S_, .f32⟩
  | .hbm, ⟨45, _⟩ => ⟨S1x4x8192, .f32⟩
  | .hbm, ⟨46, _⟩ => ⟨S1x4x8192x1, .f32⟩
  | .hbm, ⟨47, _⟩ => ⟨S1x4x8192x256, .f32⟩
  | .hbm, ⟨48, _⟩ => ⟨S1x4x8192x256, .f32⟩
  | .hbm, ⟨49, _⟩ => ⟨S1x4x8192x1, .f32⟩
  | .hbm, ⟨50, _⟩ => ⟨S_, .f32⟩
  | .hbm, ⟨51, _⟩ => ⟨S1x4x8192x1, .f32⟩
  | .hbm, ⟨52, _⟩ => ⟨S1x4x8192x1, .f32⟩
  | .hbm, ⟨53, _⟩ => ⟨S1x4x128x8192, .f32⟩
  | .hbm, ⟨54, _⟩ => ⟨S1x8192x4x128, .f32⟩
  | .hbm, ⟨55, _⟩ => ⟨S1x8192x512, .f32⟩
  | .hbm, ⟨56, _⟩ => ⟨S8192x512, .f32⟩
  | .hbm, ⟨57, _⟩ => ⟨S1x8192x512, .f32⟩
  | .hbm, ⟨58, _⟩ => ⟨S1x8192x4x128, .f32⟩
  | .hbm, ⟨59, _⟩ => ⟨S1x4x128x8192, .f32⟩
  | .hbm, ⟨60, _⟩ => ⟨S1x4x8192x256, .f32⟩
  | .hbm, ⟨61, _⟩ => ⟨S1x4x128x256, .f32⟩
  | .hbm, ⟨62, _⟩ => ⟨S1x256x4x128, .f32⟩
  | .hbm, ⟨63, _⟩ => ⟨S1x4x8192x256, .f32⟩
  | .hbm, ⟨64, _⟩ => ⟨S1x4x8192x256, .f32⟩
  | .hbm, ⟨65, _⟩ => ⟨S1x4x8192x256, .f32⟩
  | .hbm, ⟨66, _⟩ => ⟨S_, .f32⟩
  | .hbm, ⟨67, _⟩ => ⟨S1x4x8192, .f32⟩
  | .hbm, ⟨68, _⟩ => ⟨S1x4x8192x1, .f32⟩
  | .hbm, ⟨69, _⟩ => ⟨S1x4x8192x1, .f32⟩
  | .hbm, ⟨70, _⟩ => ⟨S1x4x8192x256, .f32⟩
  | .hbm, ⟨71, _⟩ => ⟨S1x4x8192x256, .f32⟩
  | .hbm, ⟨72, _⟩ => ⟨S_, .f32⟩
  | .hbm, ⟨73, _⟩ => ⟨S4x8192, .f32⟩
  | .hbm, ⟨74, _⟩ => ⟨S1x4x8192, .f32⟩
  | .hbm, ⟨75, _⟩ => ⟨S1x4x8192x256, .f32⟩
  | .hbm, ⟨76, _⟩ => ⟨S1x4x8192x256, .f32⟩
  | .hbm, ⟨77, _⟩ => ⟨S1x4x8192x256, .f32⟩
  | .hbm, ⟨78, _⟩ => ⟨S_, .f32⟩
  | .hbm, ⟨79, _⟩ => ⟨S1x4x8192x256, .f32⟩
  | .hbm, ⟨80, _⟩ => ⟨S1x4x8192x256, .f32⟩
  | .hbm, ⟨81, _⟩ => ⟨S1x4x256x128, .f32⟩
  | .hbm, ⟨82, _⟩ => ⟨S1x256x4x128, .f32⟩
  | .hbm, ⟨83, _⟩ => ⟨S1x4x8192x128, .f32⟩
  | .hbm, ⟨84, _⟩ => ⟨S1x8192x4x128, .f32⟩
  | .hbm, ⟨85, _⟩ => ⟨S8192x512, .f32⟩
  | .hbm, ⟨86, _⟩ => ⟨S256x512, .f32⟩
  | .hbm, ⟨87, _⟩ => ⟨S256x512, .f32⟩
  | .hbm, ⟨88, _⟩ => ⟨S256x1024, .f32⟩
  | .hbm, ⟨89, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== DownDx.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x4096, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S1024x4096, .f32⟩
  | .hbm, ⟨7, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S1024x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InADx.lean ====
abbrev S3328x1024 : Shape := ⟨2, ![3328, 1024]⟩
abbrev S8192x3328 : Shape := ⟨2, ![8192, 3328]⟩
abbrev S8192x1024 : Shape := ⟨2, ![8192, 1024]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3328x1024, .bf16⟩
  | .hbm, ⟨1, _⟩ => ⟨S8192x3328, .bf16⟩
  | .hbm, ⟨2, _⟩ => ⟨S8192x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3328x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADxRefIdeal.lean ====
abbrev S3328x1024 : Shape := ⟨2, ![3328, 1024]⟩
abbrev S8192x3328 : Shape := ⟨2, ![8192, 3328]⟩
abbrev S_ : Shape := ⟨0, ![]⟩
abbrev S8192x1024 : Shape := ⟨2, ![8192, 1024]⟩
abbrev S1024x3328 : Shape := ⟨2, ![1024, 3328]⟩

abbrev nBuf : Space → Nat
  | .hbm => 9
  | .vmem => 0
  | .smem => 0
  | _ => 0

abbrev bufTy : (tb : Table) → Fin (tcTables nBuf tb) → BufTy
  | .hbm, ⟨0, _⟩ => ⟨S3328x1024, .bf16⟩
  | .hbm, ⟨1, _⟩ => ⟨S8192x3328, .bf16⟩
  | .hbm, ⟨2, _⟩ => ⟨S3328x1024, .f32⟩
  | .hbm, ⟨3, _⟩ => ⟨S8192x3328, .f32⟩
  | .hbm, ⟨4, _⟩ => ⟨S_, .f32⟩
  | .hbm, ⟨5, _⟩ => ⟨S8192x1024, .f32⟩
  | .hbm, ⟨6, _⟩ => ⟨S1024x3328, .f32⟩
  | .hbm, ⟨7, _⟩ => ⟨S8192x3328, .f32⟩
  | .hbm, ⟨8, _⟩ => ⟨S8192x1024, .f32⟩
  | _, _ => ⟨S3328x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InADw.lean ====
abbrev S8192x1024 : Shape := ⟨2, ![8192, 1024]⟩
abbrev S8192x3328 : Shape := ⟨2, ![8192, 3328]⟩
abbrev S3328x1024 : Shape := ⟨2, ![3328, 1024]⟩
abbrev S2048x1664 : Shape := ⟨2, ![2048, 1664]⟩
abbrev S2048x1024 : Shape := ⟨2, ![2048, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S3328x1024, .f32⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADwRefIdeal.lean ====
abbrev S8192x1024 : Shape := ⟨2, ![8192, 1024]⟩
abbrev S8192x3328 : Shape := ⟨2, ![8192, 3328]⟩
abbrev S_ : Shape := ⟨0, ![]⟩
abbrev S3328x1024 : Shape := ⟨2, ![3328, 1024]⟩
abbrev S1024x3328 : Shape := ⟨2, ![1024, 3328]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S8192x1024, .f32⟩
  | .hbm, ⟨3, _⟩ => ⟨S8192x3328, .f32⟩
  | .hbm, ⟨4, _⟩ => ⟨S_, .f32⟩
  | .hbm, ⟨5, _⟩ => ⟨S3328x1024, .f32⟩
  | .hbm, ⟨6, _⟩ => ⟨S1024x3328, .f32⟩
  | .hbm, ⟨7, _⟩ => ⟨S8192x3328, .f32⟩
  | .hbm, ⟨8, _⟩ => ⟨S3328x1024, .f32⟩
  | .hbm, ⟨9, _⟩ => ⟨S1024x3328, .f32⟩
  | .hbm, ⟨10, _⟩ => ⟨S3328x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InGDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InGDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ODw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ODwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpUp.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x1024, .f32⟩
  | .hbm, ⟨3, _⟩ => ⟨S4096x1024, .f32⟩
  | .hbm, ⟨4, _⟩ => ⟨S1024x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InA.lean ====
abbrev S8192x1024 : Shape := ⟨2, ![8192, 1024]⟩
abbrev S3328x1024 : Shape := ⟨2, ![3328, 1024]⟩
abbrev S8192x3328 : Shape := ⟨2, ![8192, 3328]⟩
abbrev S1024x1024 : Shape := ⟨2, ![1024, 1024]⟩
abbrev S1664x1024 : Shape := ⟨2, ![1664, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3328x1024, .bf16⟩
  | .hbm, ⟨2, _⟩ => ⟨S8192x3328, .bf16⟩
  | .local _ .vmem, ⟨0, _⟩ => ⟨S1024x1024, .bf16⟩
  | .local _ .vmem, ⟨1, _⟩ => ⟨S1024x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1664, .bf16⟩
  | .local _ .vmem, ⟨5, _⟩ => ⟨S1024x1664, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S8192x1024 : Shape := ⟨2, ![8192, 1024]⟩
abbrev S3328x1024 : Shape := ⟨2, ![3328, 1024]⟩
abbrev S1024x3328 : Shape := ⟨2, ![1024, 3328]⟩
abbrev S8192x3328 : Shape := ⟨2, ![8192, 3328]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3328x1024, .bf16⟩
  | .hbm, ⟨2, _⟩ => ⟨S8192x1024, .f32⟩
  | .hbm, ⟨3, _⟩ => ⟨S3328x1024, .f32⟩
  | .hbm, ⟨4, _⟩ => ⟨S1024x3328, .f32⟩
  | .hbm, ⟨5, _⟩ => ⟨S8192x3328, .f32⟩
  | .hbm, ⟨6, _⟩ => ⟨S8192x3328, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InG.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGRefIdeal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S1024x3072, .f32⟩
  | .hbm, ⟨5, _⟩ => ⟨S8192x3072, .f32⟩
  | .hbm, ⟨6, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDx.lean ====
abbrev S8192x1024 : Shape := ⟨2, ![8192, 1024]⟩
abbrev S1x1024 : Shape := ⟨2, ![1, 1024]⟩
abbrev S4096x1024 : Shape := ⟨2, ![4096, 1024]⟩
abbrev S8192x4096 : Shape := ⟨2, ![8192, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S8192x4096, .bf16⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== UpDxRefIdeal.lean ====
abbrev S8192x1024 : Shape := ⟨2, ![8192, 1024]⟩
abbrev S1x1024 : Shape := ⟨2, ![1, 1024]⟩
abbrev S4096x1024 : Shape := ⟨2, ![4096, 1024]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4096x1024, .bf16⟩
  | .hbm, ⟨3, _⟩ => ⟨S8192x4096, .bf16⟩
  | .hbm, ⟨4, _⟩ => ⟨S8192x1024, .f32⟩
  | .hbm, ⟨5, _⟩ => ⟨S4096x1024, .f32⟩
  | .hbm, ⟨6, _⟩ => ⟨S8192x4096, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== GradX.lean ====
abbrev S8192x1024 : Shape := ⟨2, ![8192, 1024]⟩
abbrev S1x1024 : Shape := ⟨2, ![1, 1024]⟩
abbrev S3072x1024 : Shape := ⟨2, ![3072, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3072x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8192x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]
-- ==== GradXRefIdeal.lean ====
abbrev S8192x1024 : Shape := ⟨2, ![8192, 1024]⟩
abbrev S1x1024 : Shape := ⟨2, ![1, 1024]⟩
abbrev S3072x1024 : Shape := ⟨2, ![3072, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S8192x3072 : Shape := ⟨2, ![8192, 3072]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3072x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S3072x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1024x3072, .f32⟩
  | .hbm, ⟨34, _⟩ => ⟨S8192x3072, .f32⟩
  | .hbm, ⟨35, _⟩ => ⟨S8192x3072, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1, .f32⟩
  | .hbm, ⟨10, _⟩ => ⟨S1x1, .f32⟩
  | .hbm, ⟨11, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DownRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== BrDw.lean ====
abbrev S8192x512 : Shape := ⟨2, ![8192, 512]⟩
abbrev S8192x1024 : Shape := ⟨2, ![8192, 1024]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BrDwRefIdeal.lean ====
abbrev S8192x512 : Shape := ⟨2, ![8192, 512]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S1024x512, .f32⟩
  | .hbm, ⟨6, _⟩ => ⟨S512x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S1024x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnDw.lean ====
abbrev S8192x256 : Shape := ⟨2, ![8192, 256]⟩
abbrev S8192x1024 : Shape := ⟨2, ![8192, 1024]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnDwRefIdeal.lean ====
abbrev S8192x256 : Shape := ⟨2, ![8192, 256]⟩
abbrev S8192x1024 : Shape := ⟨2, ![8192, 1024]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x256, .f32⟩
  | .hbm, ⟨5, _⟩ => ⟨S256x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S1024x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S8192x512 : Shape := ⟨2, ![8192, 512]⟩
abbrev S512x512 : Shape := ⟨2, ![512, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S8192x512 : Shape := ⟨2, ![8192, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S512x512, .f32⟩
  | .hbm, ⟨6, _⟩ => ⟨S8192x512, .f32⟩
  | .hbm, ⟨7, _⟩ => ⟨S512x512, .f32⟩
  | .hbm, ⟨8, _⟩ => ⟨S512x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemBrDx.lean ====
abbrev S1024x512 : Shape := ⟨2, ![1024, 512]⟩
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S8192x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemBrDxRefIdeal.lean ====
abbrev S1024x512 : Shape := ⟨2, ![1024, 512]⟩
abbrev S8192x1024 : Shape := ⟨2, ![8192, 1024]⟩
abbrev S_ : Shape := ⟨0, ![]⟩
abbrev S8192x512 : Shape := ⟨2, ![8192, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S8192x1024, .bf16⟩
  | .hbm, ⟨2, _⟩ => ⟨S1024x512, .f32⟩
  | .hbm, ⟨3, _⟩ => ⟨S8192x1024, .f32⟩
  | .hbm, ⟨4, _⟩ => ⟨S_, .f32⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x512, .f32⟩
  | .hbm, ⟨9, _⟩ => ⟨S8192x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Br.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrRefIdeal.lean ====
abbrev S8192x512 : Shape := ⟨2, ![8192, 512]⟩
abbrev S1024x512 : Shape := ⟨2, ![1024, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x512, .f32⟩
  | .hbm, ⟨3, _⟩ => ⟨S1024x512, .f32⟩
  | .hbm, ⟨4, _⟩ => ⟨S512x1024, .f32⟩
  | .hbm, ⟨5, _⟩ => ⟨S8192x1024, .f32⟩
  | .hbm, ⟨6, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Glu.lean ====
abbrev S8192x512 : Shape := ⟨2, ![8192, 512]⟩
abbrev S512x512 : Shape := ⟨2, ![512, 512]⟩
abbrev S1x512 : Shape := ⟨2, ![1, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S1x512, .f32⟩
  | .hbm, ⟨3, _⟩ => ⟨S8192x512, .f32⟩
  | .hbm, ⟨4, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GluRefIdeal.lean ====
abbrev S8192x512 : Shape := ⟨2, ![8192, 512]⟩
abbrev S512x512 : Shape := ⟨2, ![512, 512]⟩
abbrev S1x512 : Shape := ⟨2, ![1, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S1x512, .f32⟩
  | .hbm, ⟨3, _⟩ => ⟨S8192x512, .f32⟩
  | .hbm, ⟨4, _⟩ => ⟨S512x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GluDx.lean ====
abbrev S8192x512 : Shape := ⟨2, ![8192, 512]⟩
abbrev S1024x512 : Shape := ⟨2, ![1024, 512]⟩
abbrev S8192x1024 : Shape := ⟨2, ![8192, 1024]⟩
abbrev S1x512 : Shape := ⟨2, ![1, 512]⟩
abbrev S1024x1024 : Shape := ⟨2, ![1024, 1024]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1024x512, .bf16⟩
  | .hbm, ⟨3, _⟩ => ⟨S8192x1024, .bf16⟩
  | .hbm, ⟨4, _⟩ => ⟨S8192x512, .bf16⟩
  | .hbm, ⟨5, _⟩ => ⟨S8192x512, .f32⟩
  | .hbm, ⟨6, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== GluDxRefIdeal.lean ====
abbrev S8192x512 : Shape := ⟨2, ![8192, 512]⟩
abbrev S1024x512 : Shape := ⟨2, ![1024, 512]⟩
abbrev S8192x1024 : Shape := ⟨2, ![8192, 1024]⟩
abbrev S_ : Shape := ⟨0, ![]⟩
abbrev S1x512 : Shape := ⟨2, ![1, 512]⟩
abbrev S512x1024 : Shape := ⟨2, ![512, 1024]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1024x512, .bf16⟩
  | .hbm, ⟨3, _⟩ => ⟨S8192x1024, .bf16⟩
  | .hbm, ⟨4, _⟩ => ⟨S8192x512, .f32⟩
  | .hbm, ⟨5, _⟩ => ⟨S1024x512, .f32⟩
  | .hbm, ⟨6, _⟩ => ⟨S8192x1024, .f32⟩
  | .hbm, ⟨7, _⟩ => ⟨S_, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S512x1024, .f32⟩
  | .hbm, ⟨25, _⟩ => ⟨S8192x1024, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S512, .f32⟩
  | .hbm, ⟨32, _⟩ => ⟨S1x512, .f32⟩
  | .hbm, ⟨33, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ODx.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 19
  | .vmem => 33
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x3072, .f32⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_v3_7 : Ref sig .tc := ⟨.hbm, 17, rfl⟩
abbrev main_v3_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, true, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, true, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, true, false]
-- ==== ODxRefIdeal.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x3072, .f32⟩
  | .hbm, ⟨5, _⟩ => ⟨S1024x1024, .bf16⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S8192x1024, .bf16⟩
  | .hbm, ⟨89, _⟩ => ⟨S8192x1024, .bf16⟩
  | .hbm, ⟨90, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Proof.MemPre.lean ====
/- What the precondition says of the arrays: no element of the queries or of the keys and values is infinite. -/
module

public import proofs.«01_k».proof.Pre_finite
public import Idealize.ShloMosaic.Lib.Pointwise
public import Idealize.ShloMosaic.Lib.ReduceAll

@[expose] public section

noncomputable section

namespace Cert.Mem

open Idealize.ShloMosaic

/-- The side conditions of the precondition's operations. -/
theorem preFacts : Cert.Pre_finite.Facts where
  bitsLt_bf16_f32 := by decide
  bcast_S_S8192x512 := by decide
  reducesTo_S8192x512_S_d0_1 := by decide
  h_S_ := by decide
  bcast_S_S256x1024 := by decide
  reducesTo_S256x1024_S_d0_1 := by decide

/-- The largest `f32` bit pattern that is not a nan is infinity. -/
theorem inf_top : (Ideal.ofBits .f32 0x7F800000#32 : EReal) = ⊤ := by
  unfold Ideal.ofBits Ideal.ieee
  simp only
  rw [if_pos (by decide), if_pos (by decide), if_neg (by decide)]

/-- An extended real whose absolute value is below infinity is real. -/
theorem real_of_abs (x : EReal) (h : Ideal.cmp .olt (max x (-x)) (Ideal.ofBits .f32 0x7F800000#32) = 1#1) :
    ∃ r : ℝ, x = (r : EReal) := by
  rw [inf_top] at h
  have h' : max x (-x) < ⊤ := by
    by_contra hc
    simp [Ideal.cmp, hc] at h
  induction x using EReal.rec with
  | bot => simp at h'
  | top => simp at h'
  | coe r => exact ⟨r, rfl⟩

open Cert.Pre_finite in
theorem finite_parts (X : FVec Ideal S8192x512 .bf16) (Y : FVec Ideal S256x1024 .bf16) (D : FVec Ideal S8192x512 .bf16)
    (h : @Cert.Pre_finite.fn preFacts Ideal _ X Y D = fun _ => 1#1) :
    (∀ i, ∃ r : ℝ, X i = (r : EReal)) ∧ ∀ i, ∃ r : ℝ, Y i = (r : EReal) := by
  have h0 := congrFun h (fun d => d.elim0)
  obtain ⟨h1, h2⟩ := IntOp.andi_eq_one.1 h0
  haveI : Subsingleton S_.Idx := ⟨fun a b => funext fun d => d.elim0⟩
  exact ⟨fun i => real_of_abs _ (Host.reduce_andi_all _ _ _ _ _ h1 i), fun i => real_of_abs _ (Host.reduce_andi_all _ _ _ _ _ h2 i)⟩

end Cert.Mem

end
-- ==== Proof.MemMath.lean ====
/- The gradient of a softmax row, in extended reals: the one form the kernel computes and the one the reference's derivative has. -/
module

public import Idealize.ShloMosaic.Lib.Pointwise
public import Idealize.ShloMosaic.PureOps.Ideal

@[expose] public section

noncomputable section

namespace Cert.Mem

open Idealize.ShloMosaic

/-- The score scale, `1/√128` as the programs carry it. -/
def scl : EReal := Ideal.ofBits FTy.f32 1035273459#32

/-- The value a row maximum starts from. -/
def low : EReal := Ideal.ofBits FTy.f32 4286578688#32

/-- A scaled score: the product of a query row and a key row, scaled. -/
def score (q k : Fin 128 → EReal) : EReal := (∑ e, q e * k e) * scl

/-- The shifted exponential of a row of scores. -/
def ex (s : Fin 256 → EReal) (x : Fin 256) : EReal := Ideal.exp (s x - Finset.fold max low s Finset.univ)

/-- The sum of the shifted exponentials of a row. -/
def tot (s : Fin 256 → EReal) : EReal := ∑ x, ex s x

/-- The softmax of a row. -/
def prob (s : Fin 256 → EReal) (x : Fin 256) : EReal := Ideal.div (ex s x) (tot s)

/-- The score gradient in the kernel's form: `p (dp - Σ dp p)`, scaled. -/
def dsK (s dp : Fin 256 → EReal) (x : Fin 256) : EReal := prob s x * (dp x - ∑ y, dp y * prob s y) * scl

/-- The score gradient in the form of the reference's derivative: `(dp / S + (- Σ dp (1 / S²) e)) e`, scaled. -/
def dsR (s dp : Fin 256 → EReal) (x : Fin 256) : EReal :=
  (Ideal.div (dp x) (tot s) + -(∑ y, dp y * Ideal.div 1 (tot s * tot s) * ex s y)) * ex s x * scl

/-- Column `e` of head `h`. -/
def hcol (h : Fin 4) (e : Fin 128) : Fin 512 := ⟨h.val * 128 + e.val, by omega⟩

/-- Column `e` of head `h` among the keys. -/
def kcol (h : Fin 4) (e : Fin 128) : Fin 1024 := ⟨h.val * 128 + e.val, by omega⟩

/-- Column `e` of head `h` among the values. -/
def vcol (h : Fin 4) (e : Fin 128) : Fin 1024 := ⟨512 + (h.val * 128 + e.val), by omega⟩

/-- The scores of query row `l` in head `h`. -/
def srow {L : ℕ} (X : (⟨2, ![L, 512]⟩ : Shape).Idx → EReal) (Y : (⟨2, ![256, 1024]⟩ : Shape).Idx → EReal) (h : Fin 4) (l : Fin L) (x : Fin 256) : EReal :=
  score (fun e => X (ix2 l (hcol h e))) (fun e => Y (ix2 x (kcol h e)))

/-- The gradient of the probabilities on row `l` of head `h`. -/
def dprow {L : ℕ} (D : (⟨2, ![L, 512]⟩ : Shape).Idx → EReal) (Y : (⟨2, ![256, 1024]⟩ : Shape).Idx → EReal) (h : Fin 4) (l : Fin L) (x : Fin 256) : EReal :=
  ∑ e : Fin 128, D (ix2 l (hcol h e)) * Y (ix2 x (vcol h e))

/-- One entry of the query gradient, in the kernel's form. -/
def dqE {L : ℕ} (X D : (⟨2, ![L, 512]⟩ : Shape).Idx → EReal) (Y : (⟨2, ![256, 1024]⟩ : Shape).Idx → EReal) (h : Fin 4) (l : Fin L) (e : Fin 128) : EReal :=
  ∑ x, dsK (srow X Y h l) (dprow D Y h l) x * Y (ix2 x (kcol h e))

/-- One entry of the key gradient: the sum over the rows at hand. -/
def dkE {L : ℕ} (X D : (⟨2, ![L, 512]⟩ : Shape).Idx → EReal) (Y : (⟨2, ![256, 1024]⟩ : Shape).Idx → EReal) (h : Fin 4) (x : Fin 256) (e : Fin 128) : EReal :=
  ∑ l, dsK (srow X Y h l) (dprow D Y h l) x * X (ix2 l (hcol h e))

/-- One entry of the value gradient: the sum over the rows at hand. -/
def dvE {L : ℕ} (X D : (⟨2, ![L, 512]⟩ : Shape).Idx → EReal) (Y : (⟨2, ![256, 1024]⟩ : Shape).Idx → EReal) (h : Fin 4) (x : Fin 256) (e : Fin 128) : EReal :=
  ∑ l, prob (srow X Y h l) x * D (ix2 l (hcol h e))

end Cert.Mem

end
-- ==== Proof.MemPay.lean ====
/- What the kernel's stores hold, read at an index of one head. -/
module

public import proofs.«01_k».proof.Proof.Gen.KernelIdeal.Value
public import proofs.«01_k».proof.Proof.MemMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Mem

open Idealize.ShloMosaic Idealize.ShloMosaic.TcCoe Idealize.SL.Sem
open Cert.KernelIdeal Cert.KernelIdeal.Gen Cert.Mem

section head

variable (q d : Vec Ideal S1024x128 .bf16) (k v : Vec Ideal S256x128 .bf16) (acc : Vec Ideal S256x128 .f32)

/-- The scores of row `r` against the head's keys. -/
def sB (r : Fin 1024) (x : Fin 256) : EReal := score (fun e => q (ix2 r e)) (fun e => k (ix2 x e))

/-- The gradient of the probabilities on row `r`. -/
def dpB (r : Fin 1024) (x : Fin 256) : EReal := ∑ e : Fin 128, d (ix2 r e) * v (ix2 x e)

theorem prob_at (r : Fin 1024) (x : Fin 256) : k0_pay7 (F := Ideal) q k (ix2 r x) = prob (sB q k r) x := by
  pointwise [k0_pay7, prob, ex, tot, sB, score, scl, low]

theorem ds_at (r : Fin 1024) (x : Fin 256) : k0_pay8 (F := Ideal) q k v d (ix2 r x) = dsK (sB q k r) (dpB d v r) x := by
  have hp := prob_at q k
  revert hp
  generalize hP : k0_pay7 (F := Ideal) q k = P
  intro hp
  pointwise [k0_pay8, dsK, dpB, scl, hP]
  simp only [hp]

theorem dq_at (r : Fin 1024) (e : Fin 128) :
    k0_pay9 (F := Ideal) q k v d (ix2 r e) = ∑ x, dsK (sB q k r) (dpB d v r) x * k (ix2 x e) := by
  have hg := ds_at q d k v
  revert hg
  generalize hG : k0_pay8 (F := Ideal) q k v d = G
  intro hg
  pointwise [k0_pay9, hG]
  simp only [hg]

theorem dk_at (x : Fin 256) (e : Fin 128) :
    k0_pay12 (F := Ideal) q (k0_pay10 acc) (k0_pay11 q k v d) (ix2 x e) = acc (ix2 x e) + ∑ r, dsK (sB q k r) (dpB d v r) x * q (ix2 r e) := by
  have hg := ds_at q d k v
  revert hg
  generalize hG : k0_pay8 (F := Ideal) q k v d = G
  intro hg
  pointwise [k0_pay12, k0_pay10, k0_pay11, hG]
  simp only [hg]

theorem dv_at (x : Fin 256) (e : Fin 128) :
    k0_pay13 (F := Ideal) d (k0_pay7 q k) acc (ix2 x e) = acc (ix2 x e) + ∑ r, prob (sB q k r) x * d (ix2 r e) := by
  have hp := prob_at q k
  revert hp
  generalize hP : k0_pay7 (F := Ideal) q k = P
  intro hp
  pointwise [k0_pay13]
  simp only [hp]

/-! The other heads' stores are the same terms. -/

theorem dq_1 : k0_pay17 (F := Ideal) k (k0_pay16 q k v d) = k0_pay9 q k v d := rfl
theorem dq_2 : k0_pay22 (F := Ideal) k v d (k0_pay20 q k) (constant S1024x256 .f32 0x00000000#32) = k0_pay9 q k v d := rfl
theorem dq_3 : k0_pay3 (F := Ideal) k v d (k0_pay25 q k) = k0_pay9 q k v d := rfl
theorem dk_1 : k0_pay18 (F := Ideal) q (k0_pay15 q k v d) acc = k0_pay12 q (k0_pay10 acc) (k0_pay11 q k v d) := rfl
theorem dk_2 : k0_pay23 (F := Ideal) q v d (k0_pay20 q k) (constant S1024x256 .f32 0x00000000#32) acc = k0_pay12 q (k0_pay10 acc) (k0_pay11 q k v d) := rfl
theorem dk_3 : k0_pay4 (F := Ideal) q v d (k0_pay25 q k) acc = k0_pay12 q (k0_pay10 acc) (k0_pay11 q k v d) := rfl
theorem dv_1 : k0_pay19 (F := Ideal) d (k0_pay14 q k) acc = k0_pay13 d (k0_pay7 q k) acc := rfl
theorem dv_2 : k0_pay24 (F := Ideal) d (k0_pay20 q k) acc = k0_pay13 d (k0_pay7 q k) acc := rfl
theorem dv_3 : k0_pay5 (F := Ideal) d (k0_pay25 q k) acc = k0_pay13 d (k0_pay7 q k) acc := rfl

end head

end Cert.KernelIdeal.Mem

end
-- ==== Proof.MemBlk.lean ====
/- What one grid point leaves in the two output blocks, as functions of the blocks it reads. -/
module

public import proofs.«01_k».proof.Proof.MemPay

@[expose] public section

set_option maxRecDepth 16384

noncomputable section

namespace Cert.KernelIdeal.Mem

open Idealize.ShloMosaic Idealize.ShloMosaic.TcCoe Idealize.SL.Sem
open Cert.KernelIdeal Cert.KernelIdeal.Gen Cert.Mem

/-- The block of query gradients a point stores. -/
def G3 (X D : Vec Ideal S1024x512 .bf16) (Y : Vec Ideal S256x1024 .bf16) : Vec Ideal S1024x512 .bf16 := fun y =>
  dqE X D Y ⟨(y 1).val / 128, by have : (y 1).val < 512 := (y 1).isLt; omega⟩ ⟨(y 0).val, (y 0).isLt⟩ ⟨(y 1).val % 128, by omega⟩

/-- The block of key and value gradients a point adds. -/
def G4 (X D : Vec Ideal S1024x512 .bf16) (Y : Vec Ideal S256x1024 .bf16) : Vec Ideal S256x1024 .f32 := fun y =>
  if (y 1).val < 512 then dkE X D Y ⟨(y 1).val % 512 / 128, by omega⟩ ⟨(y 0).val, (y 0).isLt⟩ ⟨(y 1).val % 128, by omega⟩
  else dvE X D Y ⟨(y 1).val % 512 / 128, by omega⟩ ⟨(y 0).val, (y 0).isLt⟩ ⟨(y 1).val % 128, by omega⟩

theorem G3_at (X D : Vec Ideal S1024x512 .bf16) (Y : Vec Ideal S256x1024 .bf16) (h : Fin 4) (r : Fin 1024) (e : Fin 128) :
    G3 X D Y (ix2 r (hcol h e)) = dqE X D Y h r e := by
  have h1 : ((hcol h e).val) / 128 = h.val := by simp only [hcol]; omega
  have h2 : ((hcol h e).val) % 128 = e.val := by simp only [hcol]; omega
  exact congrArg₂ (fun a b => dqE X D Y a r b) (Fin.ext h1) (Fin.ext h2)

theorem G4_key (X D : Vec Ideal S1024x512 .bf16) (Y : Vec Ideal S256x1024 .bf16) (h : Fin 4) (x : Fin 256) (e : Fin 128) :
    G4 X D Y (ix2 x (kcol h e)) = dkE X D Y h x e := by
  have h0 : (kcol h e).val < 512 := by simp only [kcol]; omega
  have h1 : ((kcol h e).val) % 512 / 128 = h.val := by simp only [kcol]; omega
  have h2 : ((kcol h e).val) % 128 = e.val := by simp only [kcol]; omega
  exact (if_pos h0).trans (congrArg₂ (fun a b => dkE X D Y a x b) (Fin.ext h1) (Fin.ext h2))

theorem G4_val (X D : Vec Ideal S1024x512 .bf16) (Y : Vec Ideal S256x1024 .bf16) (h : Fin 4) (x : Fin 256) (e : Fin 128) :
    G4 X D Y (ix2 x (vcol h e)) = dvE X D Y h x e := by
  have h0 : ¬ (vcol h e).val < 512 := by simp only [vcol]; omega
  have h1 : ((vcol h e).val) % 512 / 128 = h.val := by simp only [vcol]; omega
  have h2 : ((vcol h e).val) % 128 = e.val := by simp only [vcol]; omega
  exact (if_neg h0).trans (congrArg₂ (fun a b => dvE X D Y a x b) (Fin.ext h1) (Fin.ext h2))

/-- A row of an array read through the rectangle of one head's columns. -/
theorem ld_rows {L : ℕ} (X : Vec Ideal ⟨2, ![L, 512]⟩ .bf16) (h : Fin 4) {o : ℕ} (ho : o = h.val * 128) (inb) (r : Fin L) (e : Fin 128) :
    View.ld X (Rect.unit (s := ⟨2, ![L, 512]⟩) ![0, o] ![L, 128] inb) (ix2 r e) = X (ix2 r (hcol h e)) := by
  subst ho
  refine View.ld_unit_apply_of X _ _ inb _ _ fun a => ?_
  match a with
  | ⟨0, _⟩ => exact (Nat.zero_add r.val).symm
  | ⟨1, _⟩ => rfl

/-- The keys' and the values' columns, and the two halves of their gradient, read through the rectangle of one head's columns. -/
theorem ld_wide {e' : EltTy} (Y : Vec Ideal S256x1024 e') (f : Fin 128 → Fin 1024) {o : ℕ} (ho : ∀ e : Fin 128, (f e).val = o + e.val) (inb) (x : Fin 256) (e : Fin 128) :
    View.ld Y (Rect.unit (s := S256x1024) ![0, o] ![256, 128] inb) (ix2 x e) = Y (ix2 x (f e)) := by
  refine View.ld_unit_apply_of Y _ _ inb _ _ fun a => ?_
  match a with
  | ⟨0, _⟩ => exact (Nat.zero_add x.val).symm
  | ⟨1, _⟩ => exact ho e

section pieces

variable (X D : Vec Ideal S1024x512 .bf16) (Y : Vec Ideal S256x1024 .bf16) (h : Fin 4) {o o' : ℕ} (ho : o = h.val * 128) (ho' : o' = 512 + h.val * 128)
  (iX iD : ∀ a, (![0, o] : Fin 2 → ℕ) a + (![1024, 128] : Fin 2 → ℕ) a ≤ S1024x512.size a)
  (iY : ∀ a, (![0, o] : Fin 2 → ℕ) a + (![256, 128] : Fin 2 → ℕ) a ≤ S256x1024.size a)
  (iY' : ∀ a, (![0, o'] : Fin 2 → ℕ) a + (![256, 128] : Fin 2 → ℕ) a ≤ S256x1024.size a)

include ho

theorem sB_eq (r : Fin 1024) :
    sB (View.ld X (Rect.unit (s := S1024x512) ![0, o] ![1024, 128] iX)) (View.ld Y (Rect.unit (s := S256x1024) ![0, o] ![256, 128] iY)) r = srow X Y h r := by
  funext x
  simp only [sB, srow, ld_rows X h ho, ld_wide Y (kcol h) (o := o) (fun e => by subst ho; rfl)]

include ho'

theorem dpB_eq (r : Fin 1024) :
    dpB (View.ld D (Rect.unit (s := S1024x512) ![0, o] ![1024, 128] iD)) (View.ld Y (Rect.unit (s := S256x1024) ![0, o'] ![256, 128] iY')) r = dprow D Y h r := by
  funext x
  simp only [dpB, dprow, ld_rows D h ho, ld_wide Y (vcol h) (o := o') (fun e => by subst ho'; simp only [vcol]; omega)]

theorem piece3 (z : S1024x128.Idx) :
    k0_pay9 (F := Ideal) (View.ld X (Rect.unit (s := S1024x512) ![0, o] ![1024, 128] iX)) (View.ld Y (Rect.unit (s := S256x1024) ![0, o] ![256, 128] iY))
        (View.ld Y (Rect.unit (s := S256x1024) ![0, o'] ![256, 128] iY')) (View.ld D (Rect.unit (s := S1024x512) ![0, o] ![1024, 128] iD)) z =
      View.ld (G3 X D Y) (Rect.unit (s := S1024x512) ![0, o] ![1024, 128] iX) z := by
  idx_vars z
  rw [dq_at, sB_eq X Y h ho, dpB_eq D Y h ho ho', ld_rows _ h ho, G3_at, dqE]
  simp only [ld_wide Y (kcol h) (o := o) (fun e => by subst ho; rfl)]

variable (A : Vec Ideal S256x1024 .f32)

theorem piece4_key (z : S256x128.Idx) :
    k0_pay12 (F := Ideal) (View.ld X (Rect.unit (s := S1024x512) ![0, o] ![1024, 128] iX)) (k0_pay10 (View.ld A (Rect.unit (s := S256x1024) ![0, o] ![256, 128] iY)))
        (k0_pay11 (View.ld X (Rect.unit (s := S1024x512) ![0, o] ![1024, 128] iX)) (View.ld Y (Rect.unit (s := S256x1024) ![0, o] ![256, 128] iY))
        (View.ld Y (Rect.unit (s := S256x1024) ![0, o'] ![256, 128] iY')) (View.ld D (Rect.unit (s := S1024x512) ![0, o] ![1024, 128] iD))) z =
      View.ld (fun y => A y + G4 X D Y y) (Rect.unit (s := S256x1024) ![0, o] ![256, 128] iY) z := by
  have hk : ∀ e : Fin 128, (kcol h e).val = o + e.val := fun e => by subst ho; rfl
  idx_vars z
  rw [dk_at, ld_wide A (kcol h) hk, ld_wide (e' := .f32) (fun y => A y + G4 X D Y y) (kcol h) hk]
  rw [G4_key, dkE]
  simp only [sB_eq X Y h ho, dpB_eq D Y h ho ho', ld_rows X h ho]

theorem piece4_val (z : S256x128.Idx) :
    k0_pay13 (F := Ideal) (View.ld D (Rect.unit (s := S1024x512) ![0, o] ![1024, 128] iD))
        (k0_pay7 (View.ld X (Rect.unit (s := S1024x512) ![0, o] ![1024, 128] iX)) (View.ld Y (Rect.unit (s := S256x1024) ![0, o] ![256, 128] iY)))
        (View.ld A (Rect.unit (s := S256x1024) ![0, o'] ![256, 128] iY')) z =
      View.ld (fun y => A y + G4 X D Y y) (Rect.unit (s := S256x1024) ![0, o'] ![256, 128] iY') z := by
  have hk : ∀ e : Fin 128, (vcol h e).val = o' + e.val := fun e => by subst ho'; simp only [vcol]; omega
  idx_vars z
  rw [dv_at, ld_wide A (vcol h) hk, ld_wide (e' := .f32) (fun y => A y + G4 X D Y y) (vcol h) hk]
  rw [G4_val, dvE]
  simp only [sB_eq X Y h ho, ld_rows D h ho]

end pieces

variable (c : Dev nD) (i : grid0.Coords) (a1 : Memref sig .tc .vmem S1024x512 .bf16) (h1 : a1.IsWhole) (a2 : Memref sig .tc .vmem S256x1024 .bf16) (h2 : a2.IsWhole) (a3 : Memref sig .tc .vmem S1024x512 .bf16) (h3 : a3.IsWhole) (a4 : Memref sig .tc .vmem S1024x512 .bf16) (h4 : a4.IsWhole) (a5 : Memref sig .tc .vmem S256x1024 .f32) (h5 : a5.IsWhole)
    (x0 : Vec Ideal S1024x512 .bf16) (x1 : Vec Ideal S256x1024 .bf16) (x2 : Vec Ideal S1024x512 .bf16) (x4 : Vec Ideal S256x1024 .f32)

theorem out3_B (hc : ¬cond0_0 i) : out0_B_3 c i a1 h1 a2 h2 a3 h3 a4 h4 a5 h5 hc x0 x1 x2 x4 = G3 x0 x2 x1 := by
  funext y
  frame_out
  rw [dq_1, dq_2, dq_3]
  refine (congrArg (View.canon · y) (List.append_nil _).symm).trans (View.canon_append_of_piecesOf (G3 x0 x2 x1) [] _ ?_ y ?_)
  · exact ⟨piece3 x0 x2 x1 3 rfl rfl _ _ _ _, piece3 x0 x2 x1 2 rfl rfl _ _ _ _, piece3 x0 x2 x1 1 rfl rfl _ _ _ _,
      piece3 x0 x2 x1 0 rfl rfl _ _ _ _, trivial⟩
  · exact View.cover_of_tiledL (s := S1024x512) _ ![1024, 128] (by sl_kernel_rfl) y

theorem out3_A (hc : cond0_0 i) : out0_A_3 c i a1 h1 a2 h2 a3 h3 a4 h4 a5 h5 hc x0 x1 x2 = G3 x0 x2 x1 := by
  funext y
  frame_out
  rw [dq_1, dq_2, dq_3]
  refine (congrArg (View.canon · y) (List.append_nil _).symm).trans (View.canon_append_of_piecesOf (G3 x0 x2 x1) [] _ ?_ y ?_)
  · exact ⟨piece3 x0 x2 x1 3 rfl rfl _ _ _ _, piece3 x0 x2 x1 2 rfl rfl _ _ _ _, piece3 x0 x2 x1 1 rfl rfl _ _ _ _,
      piece3 x0 x2 x1 0 rfl rfl _ _ _ _, trivial⟩
  · exact View.cover_of_tiledL (s := S1024x512) _ ![1024, 128] (by sl_kernel_rfl) y

theorem out4_B (hc : ¬cond0_0 i) : out0_B_4 c i a1 h1 a2 h2 a3 h3 a4 h4 a5 h5 hc x0 x1 x2 x4 = fun y => x4 y + G4 x0 x2 x1 y := by
  funext y
  frame_out
  rw [dk_1, dk_2, dk_3, dv_1, dv_2, dv_3]
  refine (congrArg (View.canon · y) (List.append_nil _).symm).trans (View.canon_append_of_piecesOf (fun y => x4 y + G4 x0 x2 x1 y) [] _ ?_ y ?_)
  · exact ⟨piece4_val x0 x2 x1 3 rfl rfl _ _ _ _ x4, piece4_key x0 x2 x1 3 rfl rfl _ _ _ _ x4, piece4_val x0 x2 x1 2 rfl rfl _ _ _ _ x4, piece4_key x0 x2 x1 2 rfl rfl _ _ _ _ x4,
      piece4_val x0 x2 x1 1 rfl rfl _ _ _ _ x4, piece4_key x0 x2 x1 1 rfl rfl _ _ _ _ x4, piece4_val x0 x2 x1 0 rfl rfl _ _ _ _ x4, piece4_key x0 x2 x1 0 rfl rfl _ _ _ _ x4, trivial⟩
  · exact View.cover_of_tiledL (s := S256x1024) _ ![256, 128] (by sl_kernel_rfl) y

theorem out4_A (hc : cond0_0 i) : out0_A_4 c i a1 h1 a2 h2 a3 h3 a4 h4 a5 h5 hc x0 x1 x2 = fun y => k0_pay6 (F := Ideal) y + G4 x0 x2 x1 y := by
  funext y
  frame_open
  simp (disch := decide) only [↓ View.readCov_skip, ↓ View.readCov_cons_toLoadRect, ↓ View.readCov_fill]
  frame_out
  rw [dk_1, dk_2, dk_3, dv_1, dv_2, dv_3]
  change View.canon ([_, _, _, _, _, _, _, _] ++ [_]) y = _
  refine View.canon_append_of_piecesOf (Val := Elt Ideal) (e := .f32) (fun y => k0_pay6 (F := Ideal) y + G4 x0 x2 x1 y) _ _ ?_ y ?_
  · exact ⟨piece4_val x0 x2 x1 3 rfl rfl _ _ _ _ (k0_pay6 (F := Ideal)), piece4_key x0 x2 x1 3 rfl rfl _ _ _ _ (k0_pay6 (F := Ideal)), piece4_val x0 x2 x1 2 rfl rfl _ _ _ _ (k0_pay6 (F := Ideal)), piece4_key x0 x2 x1 2 rfl rfl _ _ _ _ (k0_pay6 (F := Ideal)),
      piece4_val x0 x2 x1 1 rfl rfl _ _ _ _ (k0_pay6 (F := Ideal)), piece4_key x0 x2 x1 1 rfl rfl _ _ _ _ (k0_pay6 (F := Ideal)), piece4_val x0 x2 x1 0 rfl rfl _ _ _ _ (k0_pay6 (F := Ideal)), piece4_key x0 x2 x1 0 rfl rfl _ _ _ _ (k0_pay6 (F := Ideal)), trivial⟩
  · exact View.cover_of_tiledL (s := S256x1024) _ ![256, 128] (by sl_kernel_rfl) y

end Cert.KernelIdeal.Mem

end
-- ==== Proof.MemRef.lean ====
/- The reference's two results read at an index, through its intermediate arrays. -/
module

public import proofs.«01_k».proof.Proof.Gen.ReferenceIdeal.Run
public import proofs.«01_k».proof.Proof.MemMath
public import Idealize.ShloMosaic.Lib.Pointwise
public import Idealize.ShloMosaic.Lib.Pipeline.ValueKit

@[expose] public section

set_option maxRecDepth 16384

noncomputable section

namespace Cert.ReferenceIdeal.Mem

open Idealize.ShloMosaic Idealize.ShloMosaic.TcCoe Idealize.SL.Sem
open Cert.ReferenceIdeal Cert.ReferenceIdeal.Gen Cert.Mem

/-- The scaled scores. -/
def SC (X : FVec Ideal S8192x512 .bf16) (Y : FVec Ideal S256x1024 .bf16) : FVec Ideal S1x4x8192x256 .f32 :=
  mulf (Host.dotGeneral dot_S1x8192x4x128_S1x256x4x128_S1x4x8192x256_3_3_1_1_02_02 none (shapeCast _ (extf .f32 X bitsLt_bf16_f32) shapeCasts_S8192x512_S1x8192x4x128) (shapeCast _ (extractStridedSlice S256x512 ![0, 0] (extf .f32 Y bitsLt_bf16_f32) slices_S256x1024_S256x512_0_0) shapeCasts_S256x512_S1x256x4x128)) (broadcastInDim S1x4x8192x256 ![] bcast_S_S1x4x8192x256 (constant S_ .f32 0x3DB504F3#32))

/-- The row maxima. -/
def MX (A : FVec Ideal S1x4x8192x256 .f32) : FVec Ideal S1x4x8192 .f32 :=
  Host.reduce FloatOps.maximumf A (constant S_ .f32 0xFF800000#32) reducesTo_S1x4x8192x256_S1x4x8192_d3 h_S_

/-- The exponentials of an array of scores, shifted by row values that are first bounded below. -/
def EX (A : FVec Ideal S1x4x8192x256 .f32) (M : FVec Ideal S1x4x8192 .f32) : FVec Ideal S1x4x8192x256 .f32 :=
  Host.exp (subf A (broadcastInDim S1x4x8192x256 ![0, 1, 2, 3] bcast_S1x4x8192x1_S1x4x8192x256_0_1_2_3 (broadcastInDim S1x4x8192x1 ![0, 1, 2] bcast_S1x4x8192_S1x4x8192x1_0_1_2 (maximumf (broadcastInDim S1x4x8192 ![] bcast_S_S1x4x8192 (constant S_ .f32 0xFF800000#32)) M))))

/-- The row sums. -/
def SU (E : FVec Ideal S1x4x8192x256 .f32) : FVec Ideal S1x4x8192 .f32 :=
  Host.reduceAdd E (constant S_ .f32 0x00000000#32) reducesTo_S1x4x8192x256_S1x4x8192_d3 h_S_

/-- The gradient of the probabilities. -/
def DP (D : FVec Ideal S8192x512 .bf16) (Y : FVec Ideal S256x1024 .bf16) : FVec Ideal S1x4x8192x256 .f32 :=
  Host.dotGeneral dot_S1x4x128x8192_S1x256x4x128_S1x4x8192x256_2_3_3_1_01_02 none (transpose S1x4x128x8192 [0, 2, 3, 1] (shapeCast _ (broadcastInDim S1x8192x512 ![1, 2] bcast_S8192x512_S1x8192x512_1_2 (extf .f32 D bitsLt_bf16_f32)) shapeCasts_S1x8192x512_S1x8192x4x128) transposes_S1x8192x4x128_S1x4x128x8192_0_2_3_1) (shapeCast _ (extractStridedSlice S256x512 ![0, 512] (extf .f32 Y bitsLt_bf16_f32) slices_S256x1024_S256x512_0_512) shapeCasts_S256x512_S1x256x4x128)

/-- The negated row sums of the part of the gradient that comes through the row sums. -/
def NG (E : FVec Ideal S1x4x8192x256 .f32) (S : FVec Ideal S1x4x8192 .f32) (P : FVec Ideal S1x4x8192x256 .f32) : FVec Ideal S1x4x8192x1 .f32 :=
  Host.negf (shapeCast _ (Host.reduceAdd (mulf (mulf P (broadcastInDim S1x4x8192x256 ![0, 1, 2, 3] bcast_S1x4x8192x1_S1x4x8192x256_0_1_2_3 (Host.divf (broadcastInDim S1x4x8192x1 ![] bcast_S_S1x4x8192x1 (constant S_ .f32 0x3F800000#32)) (mulf (broadcastInDim S1x4x8192x1 ![0, 1, 2] bcast_S1x4x8192_S1x4x8192x1_0_1_2 S) (broadcastInDim S1x4x8192x1 ![0, 1, 2] bcast_S1x4x8192_S1x4x8192x1_0_1_2 S))))) E) (constant S_ .f32 0x00000000#32) reducesTo_S1x4x8192x256_S1x4x8192_d3 h_S_) shapeCasts_S1x4x8192_S1x4x8192x1)

/-- A column summed over its two axes of extent one. -/
def RS (N : FVec Ideal S1x4x8192x1 .f32) : FVec Ideal S4x8192 .f32 :=
  Host.reduceAdd N (constant S_ .f32 0x00000000#32) reducesTo_S1x4x8192x1_S4x8192_d0_3 h_S_

/-- The gradient of the scaled scores, from the exponentials, the row sums and the probabilities' gradient. -/
def DS (E : FVec Ideal S1x4x8192x256 .f32) (S : FVec Ideal S1x4x8192 .f32) (P : FVec Ideal S1x4x8192x256 .f32) : FVec Ideal S1x4x8192x256 .f32 :=
  mulf (mulf (addf (Host.divf P (broadcastInDim S1x4x8192x256 ![0, 1, 2, 3] bcast_S1x4x8192x1_S1x4x8192x256_0_1_2_3 (broadcastInDim S1x4x8192x1 ![0, 1, 2] bcast_S1x4x8192_S1x4x8192x1_0_1_2 S))) (broadcastInDim S1x4x8192x256 ![0, 1, 2] bcast_S1x4x8192_S1x4x8192x256_0_1_2 (broadcastInDim S1x4x8192 ![1, 2] bcast_S4x8192_S1x4x8192_1_2 (RS (NG E S P))))) E) (broadcastInDim S1x4x8192x256 ![] bcast_S_S1x4x8192x256 (constant S_ .f32 0x3DB504F3#32))

/-- The probabilities. -/
def PR (E : FVec Ideal S1x4x8192x256 .f32) (S : FVec Ideal S1x4x8192 .f32) : FVec Ideal S1x4x8192x256 .f32 :=
  Host.divf E (broadcastInDim S1x4x8192x256 ![0, 1, 2, 3] bcast_S1x4x8192x1_S1x4x8192x256_0_1_2_3 (broadcastInDim S1x4x8192x1 ![0, 1, 2] bcast_S1x4x8192_S1x4x8192x1_0_1_2 S))

/-- The query gradient, from the scores' gradient. -/
def DQ (G : FVec Ideal S1x4x8192x256 .f32) (Y : FVec Ideal S256x1024 .bf16) : FVec Ideal S8192x512 .bf16 :=
  truncf .bf16 (shapeCast _ (transpose S1x8192x4x128 [0, 2, 1, 3] (Host.dotGeneral dot_S1x4x8192x256_S1x256x4x128_S1x4x8192x128_3_1_2_3_01_02 none G (shapeCast _ (extractStridedSlice S256x512 ![0, 0] (extf .f32 Y bitsLt_bf16_f32) slices_S256x1024_S256x512_0_0) shapeCasts_S256x512_S1x256x4x128)) transposes_S1x4x8192x128_S1x8192x4x128_0_2_1_3) shapeCasts_S1x8192x4x128_S8192x512) bitsLt_bf16_f32

/-- The key gradient, from the scores' gradient. -/
def DK (G : FVec Ideal S1x4x8192x256 .f32) (X : FVec Ideal S8192x512 .bf16) : FVec Ideal S256x512 .f32 :=
  shapeCast _ (transpose S1x256x4x128 [0, 2, 1, 3] (Host.dotGeneral dot_S1x4x8192x256_S1x8192x4x128_S1x4x256x128_2_1_3_3_01_02 none G (shapeCast _ (extf .f32 X bitsLt_bf16_f32) shapeCasts_S8192x512_S1x8192x4x128)) transposes_S1x4x256x128_S1x256x4x128_0_2_1_3) shapeCasts_S1x256x4x128_S256x512

/-- The value gradient, from the probabilities. -/
def DV (P : FVec Ideal S1x4x8192x256 .f32) (D : FVec Ideal S8192x512 .bf16) : FVec Ideal S256x512 .f32 :=
  shapeCast _ (transpose S1x256x4x128 [0, 3, 1, 2] (Host.dotGeneral dot_S1x4x128x8192_S1x4x8192x256_S1x4x128x256_3_2_2_3_01_01 none (transpose S1x4x128x8192 [0, 2, 3, 1] (shapeCast _ (broadcastInDim S1x8192x512 ![1, 2] bcast_S8192x512_S1x8192x512_1_2 (extf .f32 D bitsLt_bf16_f32)) shapeCasts_S1x8192x512_S1x8192x4x128) transposes_S1x8192x4x128_S1x4x128x8192_0_2_3_1) P) transposes_S1x4x128x256_S1x256x4x128_0_3_1_2) shapeCasts_S1x256x4x128_S256x512

/-- The key and the value gradient side by side. -/
def KV (A B : FVec Ideal S256x512 .f32) : FVec Ideal S256x1024 .f32 :=
  concatenate S256x1024 1 [⟨S256x512, A⟩, ⟨S256x512, B⟩] concatenates_S256x512_S256x512_S256x1024_d1

variable (X D : FVec Ideal S8192x512 .bf16) (Y : FVec Ideal S256x1024 .bf16)

theorem SC_at (h : Fin 4) (l : Fin 8192) (x : Fin 256) : SC X Y (ix4 0 h l x) = srow X Y h l x := by
  pointwise [SC, srow, score, scl, hcol, kcol]

theorem low_le (s : Fin 256 → EReal) : low ≤ Finset.fold max low s Finset.univ :=
  (Finset.le_fold_max low).mpr (Or.inl le_rfl)

theorem MX_at (A : FVec Ideal S1x4x8192x256 .f32) (h : Fin 4) (l : Fin 8192) :
    MX A (ix3 0 h l) = Finset.fold max low (fun x : Fin 256 => A (ix4 0 h l x)) Finset.univ := by
  pointwise [MX, low]

theorem EX_at (A : FVec Ideal S1x4x8192x256 .f32) (M : FVec Ideal S1x4x8192 .f32) (h : Fin 4) (l : Fin 8192) (x : Fin 256) :
    EX A M (ix4 0 h l x) = Ideal.exp (A (ix4 0 h l x) - max low (M (ix3 0 h l))) := by
  pointwise [EX, low]

theorem EX_MX_at (A : FVec Ideal S1x4x8192x256 .f32) (h : Fin 4) (l : Fin 8192) (x : Fin 256) :
    EX A (MX A) (ix4 0 h l x) = ex (fun x => A (ix4 0 h l x)) x := by
  rw [EX_at, MX_at, max_eq_right (low_le _), ex]

theorem SU_at (E : FVec Ideal S1x4x8192x256 .f32) (h : Fin 4) (l : Fin 8192) : SU E (ix3 0 h l) = ∑ x : Fin 256, E (ix4 0 h l x) := by
  pointwise [SU]

theorem DP_at (h : Fin 4) (l : Fin 8192) (x : Fin 256) : DP D Y (ix4 0 h l x) = dprow D Y h l x := by
  pointwise [DP, dprow, hcol, vcol]

theorem NG_at (E : FVec Ideal S1x4x8192x256 .f32) (S : FVec Ideal S1x4x8192 .f32) (P : FVec Ideal S1x4x8192x256 .f32) (h : Fin 4) (l : Fin 8192) :
    NG E S P (ix4 0 h l 0) = -(∑ y : Fin 256, P (ix4 0 h l y) * Ideal.div 1 (S (ix3 0 h l) * S (ix3 0 h l)) * E (ix4 0 h l y)) := by
  pointwise [NG]

theorem drop_eq (h : Fin 4) (l : Fin 8192) (i : S1x4x8192x1.Idx) :
    reducesTo_S1x4x8192x1_S4x8192_d0_3.drop i = ix2 h l ↔ i = ix4 0 h l 0 := by
  constructor
  · intro e
    funext a
    apply Fin.ext
    match a with
    | ⟨0, _⟩ => exact Nat.lt_one_iff.mp (i 0).isLt
    | ⟨1, _⟩ => exact congrArg Fin.val (congrFun e 0)
    | ⟨2, _⟩ => exact congrArg Fin.val (congrFun e 1)
    | ⟨3, _⟩ => exact Nat.lt_one_iff.mp (i 3).isLt
  · rintro rfl
    funext b
    apply Fin.ext
    match b with
    | ⟨0, _⟩ => rfl
    | ⟨1, _⟩ => rfl

theorem sum_drop (N : S1x4x8192x1.Idx → EReal) (b : EReal) (h : Fin 4) (l : Fin 8192) :
    Ideal.hostReduceAdd reducesTo_S1x4x8192x1_S4x8192_d0_3 N b (ix2 h l) = b + N (ix4 0 h l 0) := by
  unfold Ideal.hostReduceAdd
  rw [Finset.filter_congr (fun i _ => drop_eq h l i), Finset.filter_eq' _ (ix4 0 h l 0), if_pos (Finset.mem_univ _),
    Finset.sum_singleton]

theorem RS_at (N : FVec Ideal S1x4x8192x1 .f32) (h : Fin 4) (l : Fin 8192) : RS N (ix2 h l) = N (ix4 0 h l 0) := by
  pointwise [RS]
  rw [sum_drop, zero_add]

theorem DS_at (E : FVec Ideal S1x4x8192x256 .f32) (S : FVec Ideal S1x4x8192 .f32) (P : FVec Ideal S1x4x8192x256 .f32) (h : Fin 4) (l : Fin 8192) (x : Fin 256) :
    DS E S P (ix4 0 h l x) = (Ideal.div (P (ix4 0 h l x)) (S (ix3 0 h l)) + RS (NG E S P) (ix2 h l)) * E (ix4 0 h l x) * scl := by
  pointwise [DS, scl]

theorem PR_at (E : FVec Ideal S1x4x8192x256 .f32) (S : FVec Ideal S1x4x8192 .f32) (h : Fin 4) (l : Fin 8192) (x : Fin 256) :
    PR E S (ix4 0 h l x) = Ideal.div (E (ix4 0 h l x)) (S (ix3 0 h l)) := by
  pointwise [PR]

theorem DQ_at (G : FVec Ideal S1x4x8192x256 .f32) (h : Fin 4) (l : Fin 8192) (e : Fin 128) :
    DQ G Y (ix2 l (hcol h e)) = ∑ x : Fin 256, G (ix4 0 h l x) * Y (ix2 x (kcol h e)) := by
  pointwise [DQ, hcol, kcol]

theorem DK_at (G : FVec Ideal S1x4x8192x256 .f32) (h : Fin 4) (x : Fin 256) (e : Fin 128) :
    DK G X (ix2 x (hcol h e)) = ∑ l : Fin 8192, G (ix4 0 h l x) * X (ix2 l (hcol h e)) := by
  pointwise [DK, hcol]

theorem DV_at (P : FVec Ideal S1x4x8192x256 .f32) (h : Fin 4) (x : Fin 256) (e : Fin 128) :
    DV P D (ix2 x (hcol h e)) = ∑ l : Fin 8192, D (ix2 l (hcol h e)) * P (ix4 0 h l x) := by
  pointwise [DV, hcol]

theorem KV_k (A B : FVec Ideal S256x512 .f32) (h : Fin 4) (x : Fin 256) (e : Fin 128) : KV A B (ix2 x (kcol h e)) = A (ix2 x (hcol h e)) := by
  pointwise [KV, hcol, kcol]
  rw [dif_pos (by omega)]

theorem KV_v (A B : FVec Ideal S256x512 .f32) (h : Fin 4) (x : Fin 256) (e : Fin 128) : KV A B (ix2 x (vcol h e)) = B (ix2 x (hcol h e)) := by
  pointwise [KV, hcol, vcol]

/-- The scores' gradient on row `l` of head `h`, as the reference's derivative has it. -/
theorem DS_row (h : Fin 4) (l : Fin 8192) (x : Fin 256) :
    DS (EX (SC X Y) (MX (SC X Y))) (SU (EX (SC X Y) (MX (SC X Y)))) (DP D Y) (ix4 0 h l x) = dsR (srow X Y h l) (dprow D Y h l) x := by
  rw [DS_at, RS_at, NG_at]
  simp only [SU_at, EX_MX_at, SC_at, DP_at]
  rfl

/-- The probabilities on row `l` of head `h`. -/
theorem PR_row (h : Fin 4) (l : Fin 8192) (x : Fin 256) :
    PR (EX (SC X Y) (MX (SC X Y))) (SU (EX (SC X Y) (MX (SC X Y)))) (ix4 0 h l x) = prob (srow X Y h l) x := by
  rw [PR_at]
  simp only [SU_at, EX_MX_at, SC_at]
  rfl

/-- The query gradient of the whole call. -/
def dqV : FVec Ideal S8192x512 .bf16 := DQ (DS (EX (SC X Y) (MX (SC X Y))) (SU (EX (SC X Y) (MX (SC X Y)))) (DP D Y)) Y

/-- The key and value gradient of the whole call. -/
def dkvV : FVec Ideal S256x1024 .f32 :=
  KV (DK (DS (EX (SC X Y) (MX (SC X Y))) (SU (EX (SC X Y) (MX (SC X Y)))) (DP D Y)) X)
    (DV (PR (EX (SC X Y) (MX (SC X Y))) (SU (EX (SC X Y) (MX (SC X Y))))) D)

/-- The query gradient at column `e` of head `h`. -/
theorem dqV_at (h : Fin 4) (l : Fin 8192) (e : Fin 128) :
    dqV X D Y (ix2 l (hcol h e)) = ∑ x : Fin 256, dsR (srow X Y h l) (dprow D Y h l) x * Y (ix2 x (kcol h e)) := by
  rw [dqV, DQ_at]
  exact Finset.sum_congr rfl fun x _ => by rw [DS_row]

/-- The key gradient at column `e` of head `h`. -/
theorem dkvV_key (h : Fin 4) (x : Fin 256) (e : Fin 128) :
    dkvV X D Y (ix2 x (kcol h e)) = ∑ l : Fin 8192, dsR (srow X Y h l) (dprow D Y h l) x * X (ix2 l (hcol h e)) := by
  rw [dkvV, KV_k, DK_at]
  exact Finset.sum_congr rfl fun x _ => by rw [DS_row]

/-- The value gradient at column `e` of head `h`. -/
theorem dkvV_val (h : Fin 4) (x : Fin 256) (e : Fin 128) :
    dkvV X D Y (ix2 x (vcol h e)) = ∑ l : Fin 8192, D (ix2 l (hcol h e)) * prob (srow X Y h l) x := by
  rw [dkvV, KV_v, DV_at]
  exact Finset.sum_congr rfl fun x _ => by rw [PR_row]

variable (m : (ℓ : Loc nD τ sig) → Buf (Elt Ideal) ℓ) (c : Dev nD)

theorem out0_eq : Value.res_out0 m c =
    dqV (m ((c.tc : Thread nD τ).loc main_arg0)) (m ((c.tc : Thread nD τ).loc main_arg2)) (m ((c.tc : Thread nD τ).loc main_arg1)) := rfl

theorem out1_eq : Value.res_out1 m c =
    dkvV (m ((c.tc : Thread nD τ).loc main_arg0)) (m ((c.tc : Thread nD τ).loc main_arg2)) (m ((c.tc : Thread nD τ).loc main_arg1)) := rfl

end Cert.ReferenceIdeal.Mem

end
-- ==== Proof.MemSoft.lean ====
/- The two forms of the gradient of a softmax row are equal when the scores are finite, whatever the incoming gradient. -/
module

public import proofs.«01_k».proof.Proof.MemMath

@[expose] public section

noncomputable section

namespace Cert.Mem

open Idealize.ShloMosaic

theorem scl_real : ∃ r : ℝ, scl = (r : EReal) := by
  unfold scl Ideal.ofBits Ideal.ieee
  simp only
  rw [if_neg (by decide), if_neg (by decide)]
  exact ⟨_, rfl⟩

theorem low_bot : low = ⊥ := by
  unfold low Ideal.ofBits Ideal.ieee
  simp only
  rw [if_pos (by decide), if_pos (by decide), if_pos (by decide)]

/-- A nonnegative real factor comes out of a sum, whatever the summands. -/
theorem sum_mul_real {ι : Type*} (S : Finset ι) (z : ι → EReal) (c : ℝ) (hc : 0 ≤ c) : ∑ y ∈ S, z y * (c : EReal) = (∑ y ∈ S, z y) * (c : EReal) := by
  classical
  induction S using Finset.induction_on with
  | empty => simp
  | insert a S ha ih =>
    rw [Finset.sum_insert ha, Finset.sum_insert ha, ih,
      EReal.right_distrib_of_nonneg_of_ne_top (EReal.coe_nonneg.mpr hc) (EReal.coe_ne_top c)]

/-- The maximum of a row of reals is real. -/
theorem max_real (f : Fin 256 → ℝ) : ∃ M : ℝ, Finset.fold max low (fun x => (f x : EReal)) Finset.univ = (M : EReal) := by
  have hlt : Finset.fold max low (fun x => (f x : EReal)) Finset.univ < ⊤ :=
    (Finset.fold_max_lt _).mpr ⟨by rw [low_bot]; exact bot_lt_top, fun x _ => EReal.coe_lt_top _⟩
  have hgt : ⊥ < Finset.fold max low (fun x => (f x : EReal)) Finset.univ :=
    (Finset.lt_fold_max _).mpr (Or.inr ⟨0, Finset.mem_univ _, EReal.bot_lt_coe _⟩)
  exact ⟨_, (EReal.coe_toReal hlt.ne hgt.ne').symm⟩

/-- The shifted exponentials of a row of reals are positive reals. -/
theorem ex_real (f : Fin 256 → ℝ) : ∃ a : Fin 256 → ℝ, (∀ x, 0 < a x) ∧ ex (fun x => (f x : EReal)) = fun x => (a x : EReal) := by
  obtain ⟨M, hM⟩ := max_real f
  refine ⟨fun x => Real.exp (f x - M), fun x => Real.exp_pos _, funext fun x => ?_⟩
  rw [ex, hM, ← EReal.coe_sub, Ideal.exp_coe]

theorem sum_coe (a : Fin 256 → ℝ) : ∑ x, (a x : EReal) = ((∑ x, a x : ℝ) : EReal) := by
  classical
  induction (Finset.univ : Finset (Fin 256)) using Finset.induction_on with
  | empty => simp
  | insert i S hi ih => rw [Finset.sum_insert hi, Finset.sum_insert hi, ih, EReal.coe_add]

/-- The two forms of the score gradient agree on a row of finite scores. -/
theorem dsR_eq_dsK (s dp : Fin 256 → EReal) (hs : ∃ f : Fin 256 → ℝ, s = fun x => (f x : EReal)) : dsR s dp = dsK s dp := by
  obtain ⟨f, rfl⟩ := hs
  obtain ⟨a, ha, he⟩ := ex_real f
  have hA : 0 < ∑ x, a x := Finset.sum_pos (fun x _ => ha x) ⟨0, Finset.mem_univ _⟩
  have ht : tot (fun x => (f x : EReal)) = ((∑ x, a x : ℝ) : EReal) := by rw [tot, he, sum_coe]
  funext x
  simp only [dsR, dsK, prob, he, ht]
  generalize (∑ x, a x) = A at hA ⊢
  rw [← EReal.coe_mul]
  simp only [Ideal.div_coe hA.ne', Ideal.div_coe (mul_pos hA hA).ne']
  have hsum : ∑ y, dp y * (1 * ((1 / (A * A) : ℝ) : EReal)) * (a y : EReal) = (∑ y, dp y * ((a y : EReal) * ((1 / A : ℝ) : EReal))) * ((1 / A : ℝ) : EReal) := by
    rw [← sum_mul_real _ _ _ (by positivity)]
    refine Finset.sum_congr rfl fun y _ => ?_
    have hr : 1 / (A * A) * a y = a y * (1 / A) * (1 / A) := by field_simp
    have hc : ((1 / (A * A) : ℝ) : EReal) * (a y : EReal) = (a y : EReal) * ((1 / A : ℝ) : EReal) * ((1 / A : ℝ) : EReal) := by
      rw [← EReal.coe_mul, ← EReal.coe_mul, ← EReal.coe_mul, hr]
    rw [one_mul, mul_assoc, hc, ← mul_assoc]
  rw [hsum]
  generalize (∑ y, dp y * ((a y : EReal) * ((1 / A : ℝ) : EReal))) = T
  rw [← EReal.neg_mul, ← EReal.right_distrib_of_nonneg_of_ne_top (EReal.coe_nonneg.mpr (by positivity)) (EReal.coe_ne_top _), ← sub_eq_add_neg]
  ac_rfl

/-- The scores of finite rows are finite. -/
theorem score_real (q k : Fin 128 → EReal) (hq : ∀ e, ∃ r : ℝ, q e = (r : EReal)) (hk : ∀ e, ∃ r : ℝ, k e = (r : EReal)) :
    ∃ r : ℝ, score q k = (r : EReal) := by
  choose fq hfq using hq
  choose fk hfk using hk
  obtain ⟨c, hc⟩ := scl_real
  have hsum : ∀ S : Finset (Fin 128), ∃ r : ℝ, ∑ e ∈ S, q e * k e = (r : EReal) := by
    classical
    intro S
    induction S using Finset.induction_on with
    | empty => exact ⟨0, by simp⟩
    | insert i S hi ih =>
      obtain ⟨r, hr⟩ := ih
      exact ⟨fq i * fk i + r, by rw [Finset.sum_insert hi, hr, hfq, hfk, EReal.coe_add, EReal.coe_mul]⟩
  obtain ⟨r, hr⟩ := hsum Finset.univ
  exact ⟨r * c, by rw [score, hr, hc, EReal.coe_mul]⟩

/-- On a row of finite queries against finite keys the reference's form of the score gradient is the kernel's. -/
theorem dsR_row {L : ℕ} (X : (⟨2, ![L, 512]⟩ : Shape).Idx → EReal) (Y : (⟨2, ![256, 1024]⟩ : Shape).Idx → EReal)
    (hX : ∀ i, ∃ r : ℝ, X i = (r : EReal)) (hY : ∀ i, ∃ r : ℝ, Y i = (r : EReal)) (h : Fin 4) (l : Fin L) (dp : Fin 256 → EReal) :
    dsR (srow X Y h l) dp = dsK (srow X Y h l) dp := by
  have hs : ∀ x, ∃ r : ℝ, srow X Y h l x = (r : EReal) := fun x => score_real _ _ (fun _ => hX _) (fun _ => hY _)
  choose f hf using hs
  exact dsR_eq_dsK _ _ ⟨f, funext hf⟩

end Cert.Mem

end
-- ==== Proof.MemVal.lean ====
/- The kernel's two result arrays after the whole grid. -/
module

public import proofs.«01_k».proof.Proof.MemBlk
public import proofs.«01_k».proof.Proof.MemRef
public import proofs.«01_k».proof.Proof.MemSoft
public import Idealize.ShloMosaic.Lib.Claim

@[expose] public section

set_option maxRecDepth 16384

noncomputable section

namespace Cert.KernelIdeal.Mem

open Idealize.ShloMosaic Idealize.ShloMosaic.TcCoe Idealize.SL.Sem
open Cert.KernelIdeal Cert.KernelIdeal.Gen Cert.Mem

/-- Where each window's block lies. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

variable (m : (ℓ : Loc nD τ sig) → Buf (Elt Ideal) ℓ) (c : Dev nD)

/-- The queries, the output's gradient, and the keys and values. -/
def aX : Vec Ideal S8192x512 .bf16 := m ((c.tc : Thread nD τ).loc main_arg0)
def aY : Vec Ideal S256x1024 .bf16 := m ((c.tc : Thread nD τ).loc main_arg1)
def aD : Vec Ideal S8192x512 .bf16 := m ((c.tc : Thread nD τ).loc main_arg2)

/-- Row `r` of block `t`. -/
def grow (t : Fin cfg0.N) (r : Fin 1024) : Fin 8192 := ⟨t.val * 1024 + r.val, by have : t.val < 8 := t.isLt; omega⟩

theorem blkX (t : Fin cfg0.N) (r : Fin 1024) (j : Fin 512) : iblk m c 0 t (ix2 r j) = aX m c (ix2 (grow t r) j) := by
  blk_ext [iblk, V, aX, grow, idx t]
theorem blkD (t : Fin cfg0.N) (r : Fin 1024) (j : Fin 512) : iblk m c 2 t (ix2 r j) = aD m c (ix2 (grow t r) j) := by
  blk_ext [iblk, V, aD, grow, idx t]
theorem blkY (t : Fin cfg0.N) (x : Fin 256) (j : Fin 1024) : iblk m c 1 t (ix2 x j) = aY m c (ix2 x j) := by
  blk_ext [iblk, V, aY, idx t]

/-- A column of a head-wise array belongs to one head. -/
theorem hcol_cover (j : Fin 512) : ∃ h e, j = hcol h e :=
  ⟨⟨j.val / 128, by omega⟩, ⟨j.val % 128, by omega⟩, Fin.ext (by simp only [hcol]; omega)⟩

/-- A column of the key and value array belongs to one head's keys or to one head's values. -/
theorem wide_cover (j : Fin 1024) : (∃ h e, j = kcol h e) ∨ ∃ h e, j = vcol h e := by
  by_cases hj : j.val < 512
  · exact Or.inl ⟨⟨j.val / 128, by omega⟩, ⟨j.val % 128, by omega⟩, Fin.ext (by simp only [kcol]; omega)⟩
  · exact Or.inr ⟨⟨(j.val - 512) / 128, by omega⟩, ⟨(j.val - 512) % 128, by omega⟩, Fin.ext (by simp only [vcol]; omega)⟩

/-- What a point leaves in the query gradient's block. -/
theorem outs3 (t : Fin cfg0.N) : (outsAt0 m c t.val t.isLt).1 = G3 (iblk m c 0 t) (iblk m c 2 t) (iblk m c 1 t) := by
  by_cases h : t.val % 8 = 0
  · rw [outsAt0_A m c t h]
    dsimp only
    rw [out3_A]
  · rw [outsAt0_B m c t h]
    dsimp only
    rw [out3_B]

/-- The first point leaves its own term in the key and value gradient's buffer. -/
theorem outs4_A (t : Fin cfg0.N) (h : t.val % 8 = 0) (j : S256x1024.Idx) :
    (outsAt0 m c t.val t.isLt).2 j = 0 + G4 (iblk m c 0 t) (iblk m c 2 t) (iblk m c 1 t) j := by
  rw [outsAt0_A m c t h]
  dsimp only
  rw [out4_A]
  congr 1
  pointwise [k0_pay6]

/-- Every later point adds its term to what the point before left. -/
theorem outs4_B (t : Fin cfg0.N) (h : ¬t.val % 8 = 0) (j : S256x1024.Idx) :
    (outsAt0 m c t.val t.isLt).2 j = (outsAt0 m c (t.val - 1) (Nat.lt_of_le_of_lt (Nat.sub_le _ _) t.isLt)).2 j
      + G4 (iblk m c 0 t) (iblk m c 2 t) (iblk m c 1 t) j := by
  rw [outsAt0_B m c t h]
  dsimp only
  rw [out4_B]

theorem srow_blk (t : Fin cfg0.N) (h : Fin 4) (r : Fin 1024) :
    srow (L := 1024) (iblk m c 0 t) (iblk m c 1 t) h r = srow (L := 8192) (aX m c) (aY m c) h (grow t r) := by
  funext x
  simp only [srow, blkX, blkY]

theorem dprow_blk (t : Fin cfg0.N) (h : Fin 4) (r : Fin 1024) :
    dprow (L := 1024) (iblk m c 2 t) (iblk m c 1 t) h r = dprow (L := 8192) (aD m c) (aY m c) h (grow t r) := by
  funext x
  simp only [dprow, blkD, blkY]

theorem dqE_blk (t : Fin cfg0.N) (h : Fin 4) (r : Fin 1024) (e : Fin 128) :
    dqE (L := 1024) (iblk m c 0 t) (iblk m c 2 t) (iblk m c 1 t) h r e = dqE (L := 8192) (aX m c) (aD m c) (aY m c) h (grow t r) e := by
  simp only [dqE, srow_blk, dprow_blk, blkY]

/-- The points' terms of a key gradient add up to the sum over all rows. -/
theorem dkE_sum (h : Fin 4) (x : Fin 256) (e : Fin 128) :
    ∑ t : Fin cfg0.N, dkE (L := 1024) (iblk m c 0 t) (iblk m c 2 t) (iblk m c 1 t) h x e = dkE (L := 8192) (aX m c) (aD m c) (aY m c) h x e := by
  simp only [dkE, srow_blk, dprow_blk, blkX]
  exact Fin.sum_mul_add_fin (L := 8192) cfg0.N 1024
    (fun l => dsK (srow (L := 8192) (aX m c) (aY m c) h l) (dprow (L := 8192) (aD m c) (aY m c) h l) x * aX m c (ix2 l (hcol h e))) (by decide)

/-- The points' terms of a value gradient add up to the sum over all rows. -/
theorem dvE_sum (h : Fin 4) (x : Fin 256) (e : Fin 128) :
    ∑ t : Fin cfg0.N, dvE (L := 1024) (iblk m c 0 t) (iblk m c 2 t) (iblk m c 1 t) h x e = dvE (L := 8192) (aX m c) (aD m c) (aY m c) h x e := by
  simp only [dvE, srow_blk, blkD]
  exact Fin.sum_mul_add_fin (L := 8192) cfg0.N 1024
    (fun l => prob (srow (L := 8192) (aX m c) (aY m c) h l) x * aD m c (ix2 l (hcol h e))) (by decide)

theorem ref4_val (h : Fin 4) (x : Fin 256) (e : Fin 128) :
    dvE (L := 8192) (aX m c) (aD m c) (aY m c) h x e = Cert.ReferenceIdeal.Mem.dkvV (aX m c) (aD m c) (aY m c) (ix2 x (vcol h e)) := by
  refine Eq.trans ?_ (Cert.ReferenceIdeal.Mem.dkvV_val _ _ _ h x e).symm
  rw [dvE]
  exact Finset.sum_congr rfl fun l _ => mul_comm _ _

variable (hX : ∀ i, ∃ r : ℝ, aX m c i = (r : EReal)) (hY : ∀ i, ∃ r : ℝ, aY m c i = (r : EReal))
include hX hY

theorem ref3 (h : Fin 4) (l : Fin 8192) (e : Fin 128) :
    dqE (L := 8192) (aX m c) (aD m c) (aY m c) h l e = Cert.ReferenceIdeal.Mem.dqV (aX m c) (aD m c) (aY m c) (ix2 l (hcol h e)) := by
  refine Eq.trans ?_ (Cert.ReferenceIdeal.Mem.dqV_at _ _ _ h l e).symm
  rw [dqE]
  exact Finset.sum_congr rfl fun x _ => by rw [dsR_row _ _ hX hY]

theorem ref4_key (h : Fin 4) (x : Fin 256) (e : Fin 128) :
    dkE (L := 8192) (aX m c) (aD m c) (aY m c) h x e = Cert.ReferenceIdeal.Mem.dkvV (aX m c) (aD m c) (aY m c) (ix2 x (kcol h e)) := by
  refine Eq.trans ?_ (Cert.ReferenceIdeal.Mem.dkvV_key _ _ _ h x e).symm
  rw [dkE]
  exact Finset.sum_congr rfl fun l _ => by rw [dsR_row _ _ hX hY]

/-- The query gradient the kernel leaves is the reference's. -/
theorem final3 : (dats m 0 c).arrAt 3 cfg0.N = Cert.ReferenceIdeal.Mem.dqV (aX m c) (aD m c) (aY m c) := by
  refine (dats m 0 c).arrAt_eq_of_covers 3 _ (by decide +kernel) fun t hf y => ?_
  blk_simp
  rw [after0_3, outs3]
  idx_vars y
  obtain ⟨h, e, rfl⟩ := hcol_cover y1
  have hi : ((View.whole main_v0_0).slice (win0_3.rect t)).emb (ix2 y0 (hcol h e)) = ix2 (grow t y0) (hcol h e) := by
    blk_ext [grow, idx t]
  refine Eq.trans ?_ (congrArg (Cert.ReferenceIdeal.Mem.dqV (aX m c) (aD m c) (aY m c)) hi.symm)
  rw [G3_at, dqE_blk]
  exact ref3 m c hX hY h (grow t y0) e

/-- The key and value gradient the kernel leaves is the reference's. -/
theorem final4 : (dats m 0 c).arrAt 4 cfg0.N = Cert.ReferenceIdeal.Mem.dkvV (aX m c) (aD m c) (aY m c) := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => 0)
    (fun t j => G4 (iblk m c 0 t) (iblk m c 2 t) (iblk m c 1 t) j)
    (outs4_A m c) (outs4_B m c) (le_of_eq N_0) t0_7 rfl j, zero_add]
  idx_vars j
  rcases wide_cover j1 with ⟨h, e, rfl⟩ | ⟨h, e, rfl⟩
  · simp only [G4_key]
    rw [dkE_sum]
    exact ref4_key m c hX hY h j0 e
  · simp only [G4_val]
    rw [dvE_sum]
    exact ref4_val m c h j0 e

end Cert.KernelIdeal.Mem

end
-- ==== Proof.MmMath.lean ====
/- Products of matrices as sums of products, and sums of values taken apart in blocks. -/
module

public import Idealize.ShloMosaic.Lib.Pointwise
public import Idealize.ShloMosaic.Lib.Pipeline.ValueKit
public import Idealize.ShloMosaic.Lib.Pipeline.ReadBack

@[expose] public section

noncomputable section

namespace Cert.Mm

open Idealize.ShloMosaic

/-- Entry `(p, q)` of the product of the transpose of `A` with `B`. -/
def tn {K M N : ℕ} (A : Shape.Idx ⟨2, ![K, M]⟩ → EReal) (B : Shape.Idx ⟨2, ![K, N]⟩ → EReal) (p : Fin M) (q : Fin N) : EReal :=
  ∑ l : Fin K, A (ix2 l p) * B (ix2 l q)

/-- Entry `(p, q)` of the product of `A` with the transpose of `B`. -/
def nt {M K N : ℕ} (A : Shape.Idx ⟨2, ![M, K]⟩ → EReal) (B : Shape.Idx ⟨2, ![N, K]⟩ → EReal) (p : Fin M) (q : Fin N) : EReal :=
  ∑ l : Fin K, A (ix2 p l) * B (ix2 q l)

/-- Entry `(p, q)` of the product of `A` with `B`. -/
def nn {M K N : ℕ} (A : Shape.Idx ⟨2, ![M, K]⟩ → EReal) (B : Shape.Idx ⟨2, ![K, N]⟩ → EReal) (p : Fin M) (q : Fin N) : EReal :=
  ∑ l : Fin K, A (ix2 p l) * B (ix2 l q)

/-- A block accumulated over the runs of `J` points that the contracted axis is cut into holds, at the end of a run, an entry of
the whole product of the first form. -/
theorem acc_tn {N : ℕ} (J n : ℕ) [NeZero J] {L M K x y : ℕ} (hL : L = J * n)
    (f : (u : ℕ) → u < N → Shape.Idx ⟨2, ![x, y]⟩ → EReal) (a : Fin N → Shape.Idx ⟨2, ![n, x]⟩ → EReal) (b : Fin N → Shape.Idx ⟨2, ![n, y]⟩ → EReal)
    (h0 : ∀ t : Fin N, t.val % J = 0 → ∀ j, f t.val t.isLt j = 0 + tn (a t) (b t) (j 0) (j 1))
    (hs : ∀ t : Fin N, ¬t.val % J = 0 → ∀ j,
      f t.val t.isLt j = f (t.val - 1) (Nat.lt_of_le_of_lt (Nat.sub_le _ _) t.isLt) j + tn (a t) (b t) (j 0) (j 1))
    (A : Shape.Idx ⟨2, ![L, M]⟩ → EReal) (B : Shape.Idx ⟨2, ![L, K]⟩ → EReal) (t : Fin N) (ht : t.val % J = J - 1)
    (p : Fin x) (q : Fin y) (P : Fin M) (Q : Fin K)
    (ha : ∀ (s : Fin J) (u : Fin N), u.val % J = s.val → u.val / J = t.val / J → ∀ (l : Fin n) (h : s.val * n + l.val < L),
      a u (ix2 l p) = A (ix2 ⟨s.val * n + l.val, h⟩ P))
    (hb : ∀ (s : Fin J) (u : Fin N), u.val % J = s.val → u.val / J = t.val / J → ∀ (l : Fin n) (h : s.val * n + l.val < L),
      b u (ix2 l q) = B (ix2 ⟨s.val * n + l.val, h⟩ Q)) :
    f t.val t.isLt (ix2 p q) = tn A B P Q := by
  have hd : ∀ s : Fin J, (J * (t.val / J) + s.val) % J = s.val ∧ (J * (t.val / J) + s.val) / J = t.val / J := fun s =>
    ⟨(Nat.mul_add_mod _ _ _).trans (Nat.mod_eq_of_lt s.isLt),
      (Nat.mul_add_div (NeZero.pos J) _ _).trans (by rw [Nat.div_eq_of_lt s.isLt, Nat.add_zero])⟩
  rw [Pipeline.eq_sum_fin_of_reset_step_apply_of_flush f J (fun _ => 0) (fun t j => tn (a t) (b t) (j 0) (j 1)) h0 hs t ht, zero_add]
  exact Fin.sum_mul_add_congr (fun s l h => by rw [ix2_0, ix2_1, ha s _ (hd s).1 (hd s).2 l h, hb s _ (hd s).1 (hd s).2 l h]) hL

/-- The same for a product of the third form. -/
theorem acc_nn {N : ℕ} (J n : ℕ) [NeZero J] {L M K x y : ℕ} (hL : L = J * n)
    (f : (u : ℕ) → u < N → Shape.Idx ⟨2, ![x, y]⟩ → EReal) (a : Fin N → Shape.Idx ⟨2, ![x, n]⟩ → EReal) (b : Fin N → Shape.Idx ⟨2, ![n, y]⟩ → EReal)
    (h0 : ∀ t : Fin N, t.val % J = 0 → ∀ j, f t.val t.isLt j = 0 + nn (a t) (b t) (j 0) (j 1))
    (hs : ∀ t : Fin N, ¬t.val % J = 0 → ∀ j,
      f t.val t.isLt j = f (t.val - 1) (Nat.lt_of_le_of_lt (Nat.sub_le _ _) t.isLt) j + nn (a t) (b t) (j 0) (j 1))
    (A : Shape.Idx ⟨2, ![M, L]⟩ → EReal) (B : Shape.Idx ⟨2, ![L, K]⟩ → EReal) (t : Fin N) (ht : t.val % J = J - 1)
    (p : Fin x) (q : Fin y) (P : Fin M) (Q : Fin K)
    (ha : ∀ (s : Fin J) (u : Fin N), u.val % J = s.val → u.val / J = t.val / J → ∀ (l : Fin n) (h : s.val * n + l.val < L),
      a u (ix2 p l) = A (ix2 P ⟨s.val * n + l.val, h⟩))
    (hb : ∀ (s : Fin J) (u : Fin N), u.val % J = s.val → u.val / J = t.val / J → ∀ (l : Fin n) (h : s.val * n + l.val < L),
      b u (ix2 l q) = B (ix2 ⟨s.val * n + l.val, h⟩ Q)) :
    f t.val t.isLt (ix2 p q) = nn A B P Q := by
  have hd : ∀ s : Fin J, (J * (t.val / J) + s.val) % J = s.val ∧ (J * (t.val / J) + s.val) / J = t.val / J := fun s =>
    ⟨(Nat.mul_add_mod _ _ _).trans (Nat.mod_eq_of_lt s.isLt),
      (Nat.mul_add_div (NeZero.pos J) _ _).trans (by rw [Nat.div_eq_of_lt s.isLt, Nat.add_zero])⟩
  rw [Pipeline.eq_sum_fin_of_reset_step_apply_of_flush f J (fun _ => 0) (fun t j => nn (a t) (b t) (j 0) (j 1)) h0 hs t ht, zero_add]
  exact Fin.sum_mul_add_congr (fun s l h => by rw [ix2_0, ix2_1, ha s _ (hd s).1 (hd s).2 l h, hb s _ (hd s).1 (hd s).2 l h]) hL

end Cert.Mm

end
-- ==== Proof.DownDx.lean ====
/- The gradient through the down projection and the squared rectifier before it: the kernel's result is the reference's. -/
module

public import proofs.«01_k».proof.Proof.Gen.DownDxIdeal.Value
public import proofs.«01_k».proof.Proof.Gen.DownDxRefIdeal.Run
public import proofs.«01_k».proof.Proof.MmMath

@[expose] public section

set_option maxRecDepth 16384

noncomputable section

namespace Cert.DownDxIdeal.Mm

open Idealize.ShloMosaic Idealize.ShloMosaic.TcCoe Idealize.SL.Sem
open Cert.DownDxIdeal Cert.DownDxIdeal.Gen Cert.Mm

/-- What the kernel makes of an entry of the product and of the value before the rectifier. -/
def g2 (x z : EReal) : EReal := x * Ideal.ofBits .f32 0x40000000#32 * max z 0

theorem k0_pay1_at (a : Vec Ideal S1024x1024 .f32) (b : Vec Ideal S1024x1024 .bf16) (r : Vec Ideal S1024x1024 .bf16) (j : S1024x1024.Idx) :
    k0_pay1 (F := Ideal) a b r j = nt a b (j 0) (j 1) * Ideal.ofBits .f32 0x40000000#32 * r j := by
  idx_vars j
  pointwise [k0_pay1, nt]

theorem out_3 (a : Vec Ideal S1024x1024 .f32) (b : Vec Ideal S1024x1024 .bf16) (r : Vec Ideal S1024x1024 .bf16) : out0_3 a b r = k0_pay1 (F := Ideal) a b r := by
  funext y
  frame_out

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

/-- The values before the rectifier, the weights stored with one row for each hidden column, and the gradient of the result. -/
def aZ : Vec Ideal S8192x4096 .f32 := m ((c.tc : Thread nD τ).loc main_arg0)
def aB : Vec Ideal S4096x1024 .bf16 := m ((c.tc : Thread nD τ).loc main_arg1)
def aA : Vec Ideal S8192x1024 .f32 := m ((c.tc : Thread nD τ).loc main_arg2)

theorem blk_nt (t : Fin cfg0.N) (p q : Fin 1024) (hp : t.val / 4 * 1024 + p.val < 8192) (hq : t.val % 4 * 1024 + q.val < 4096) :
    nt (iblk m c 0 t) (iblk m c 1 t) p q = nt (aA m c) (aB m c) ⟨t.val / 4 * 1024 + p.val, hp⟩ ⟨t.val % 4 * 1024 + q.val, hq⟩ := by
  refine Finset.sum_congr rfl fun l _ => congrArg₂ (· * ·) ?_ ?_
  · blk_ext [iblk, V, aA, idx t]
  · blk_ext [iblk, V, aB, idx t]

/-- The rectified values the host prepares, read through a block. -/
theorem blk_r (t : Fin cfg0.N) (p q : Fin 1024) (hp : t.val / 4 * 1024 + p.val < 8192) (hq : t.val % 4 * 1024 + q.val < 4096) :
    (iblk m c 2 t (ix2 p q) : EReal) = max (aZ m c (ix2 ⟨t.val / 4 * 1024 + p.val, hp⟩ ⟨t.val % 4 * 1024 + q.val, hq⟩)) 0 := by
  blk_simp [iblk, idx t]
  entry_read
  pointwise [aZ]
  refine congrArg (fun i : S8192x4096.Idx => (max (aZ m c i) 0 : EReal)) ?_
  blk_ext [idx t]

/-- The kernel's result in the arguments. -/
def refV (Z : Vec Ideal S8192x4096 .f32) (B : Vec Ideal S4096x1024 .bf16) (A : Vec Ideal S8192x1024 .f32) : Vec Ideal S8192x4096 .bf16 :=
  fun j => g2 (nt A B (j 0) (j 1)) (Z j)

theorem final : (dats m 0 c).arrAt 3 cfg0.N = refV (aZ m c) (aB m c) (aA m c) := by
  refine (dats m 0 c).arrAt_eq_of_covers 3 _ (by decide +kernel) fun t hf y => ?_
  have hN : t.val < 32 := lt_of_lt_of_eq t.isLt N_0
  blk_simp
  rw [after0_3]
  idx_vars y
  have hp : t.val / 4 * 1024 + y0.val < 8192 := by omega
  have hq : t.val % 4 * 1024 + y1.val < 4096 := by omega
  have hi : ((View.whole main_v3).slice (win0_3.rect t)).emb (ix2 y0 y1) = ix2 ⟨t.val / 4 * 1024 + y0.val, hp⟩ ⟨t.val % 4 * 1024 + y1.val, hq⟩ := by
    blk_ext [idx t]
  refine Eq.trans ?_ (congrArg (refV (aZ m c) (aB m c) (aA m c)) hi.symm)
  refine (congrFun (out_3 (iblk m c 0 t) (iblk m c 1 t) (iblk m c 2 t)) (ix2 y0 y1)).trans ?_
  refine (k0_pay1_at (iblk m c 0 t) (iblk m c 1 t) (iblk m c 2 t) (ix2 y0 y1)).trans ?_
  exact congrArg₂ (fun x z : EReal => x * Ideal.ofBits .f32 0x40000000#32 * z) (blk_nt m c t y0 y1 hp hq) (blk_r m c t y0 y1 hp hq)

/-- The derivative of the squared rectifier at `z` times the gradient: the reference selects it where `z` is positive. -/
theorem g2_select (x z : EReal) : (if 0 < z then x * (Ideal.ofBits .f32 0x40000000#32 * max z 0) else 0) = g2 x z := by
  unfold g2
  split
  · exact (mul_assoc _ _ _).symm
  · next h => rw [max_eq_right (not_lt.mp h), mul_zero]

end Cert.DownDxIdeal.Mm

namespace Cert.DownDxRefIdeal.Mm

open Idealize.ShloMosaic Idealize.ShloMosaic.TcCoe Idealize.SL.Sem
open Cert.DownDxRefIdeal Cert.DownDxRefIdeal.Gen Cert.Mm

/-- The reference's operations, read at an index. -/
theorem ref_at (Z : FVec Ideal S8192x4096 .f32) (B : FVec Ideal S4096x1024 .bf16) (A : FVec Ideal S8192x1024 .f32) :
    truncf .bf16 (select (cmpf .ogt Z (broadcastInDim S8192x4096 ![] bcast_S_S8192x4096 (constant S_ .f32 0x00000000#32)))
      (mulf (Host.dotGeneral dot_S8192x1024_S4096x1024_S8192x4096_1_1_0_0_n_n none A (extf .f32 B bitsLt_bf16_f32))
        (mulf (broadcastInDim S8192x4096 ![] bcast_S_S8192x4096 (constant S_ .f32 0x40000000#32)) (maximumf Z (broadcastInDim S8192x4096 ![] bcast_S_S8192x4096 (constant S_ .f32 0x00000000#32)))))
      (broadcastInDim S8192x4096 ![] bcast_S_S8192x4096 (constant S_ .f32 0x00000000#32))) bitsLt_bf16_f32 =
      Cert.DownDxIdeal.Mm.refV Z B A := by
  funext j
  refine Eq.trans ?_ (Cert.DownDxIdeal.Mm.g2_select (nt A B (j 0) (j 1)) (Z j))
  idx_vars j
  pointwise [nt]

end Cert.DownDxRefIdeal.Mm

end
-- ==== Proof.DownDw.lean ====
/- The gradient of the down projection's weights: the kernel's result is the reference's. -/
module

public import proofs.«01_k».proof.Proof.Gen.DownDwIdeal.Value
public import proofs.«01_k».proof.Proof.Gen.DownDwRefIdeal.Run
public import proofs.«01_k».proof.Proof.MmMath

@[expose] public section

set_option maxRecDepth 16384

noncomputable section

namespace Cert.DownDwIdeal.Mm

open Idealize.ShloMosaic Idealize.ShloMosaic.TcCoe Idealize.SL.Sem
open Cert.DownDwIdeal Cert.DownDwIdeal.Gen Cert.Mm

theorem zero_at (j : S1024x1024.Idx) : k0_pay1 (F := Ideal) j = 0 := by
  pointwise [k0_pay1]

theorem step_at (s : Vec Ideal S1024x1024 .f32) (a : Vec Ideal S2048x1024 .bf16) (b : Vec Ideal S2048x1024 .f32) (j : S1024x1024.Idx) :
    k0_pay2 (F := Ideal) s a b j = s j + tn a b (j 0) (j 1) := by
  idx_vars j
  pointwise [k0_pay2, tn]

section point

variable (c : Dev nD) (i : grid0.Coords) (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x0 : Vec Ideal S2048x1024 .bf16) (x1 : Vec Ideal S2048x1024 .f32) (s : Vec Ideal S1024x1024 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S1024x1024.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The two factors: the contracted axis is the first of each. -/
def aA : Vec Ideal S8192x4096 .bf16 := m ((c.tc : Thread nD τ).loc main_arg0)
def aB : Vec Ideal S8192x1024 .f32 := m ((c.tc : Thread nD τ).loc main_arg1)

/-- Point `u` of the run `i` reads rows of the `s`-th part of the contracted axis. -/
theorem blkA (u : Fin cfg0.N) (s i : ℕ) (hs : u.val % 4 = s) (hi : u.val / 4 = i) (l : Fin 2048) (p : Fin 1024) (h : s * 2048 + l.val < 8192) (hp : i * 1024 + p.val < 4096) :
    iblk m c 0 u (ix2 l p) = aA m c (ix2 ⟨s * 2048 + l.val, h⟩ ⟨i * 1024 + p.val, hp⟩) := by
  subst hs hi
  blk_ext [iblk, V, aA, idx u]

theorem blkB (u : Fin cfg0.N) (s : ℕ) (hs : u.val % 4 = s) (l : Fin 2048) (q : Fin 1024) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x4096 .bf16) (B : Vec Ideal S8192x1024 .f32) : Vec Ideal S4096x1024 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  have hN : t.val < 16 := lt_of_lt_of_eq t.isLt N_0
  blk_simp
  rw [after0_2, out_last m c t ht]
  idx_vars y
  have hp : t.val / 4 * 1024 + y0.val < 4096 := by omega
  have hi : ((View.whole main_v0).slice (win0_2.rect t)).emb (ix2 y0 y1) = ix2 ⟨t.val / 4 * 1024 + y0.val, hp⟩ y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 ⟨t.val / 4 * 1024 + y0.val, hp⟩ y1
    (fun s u hs hu l h => blkA m c u s.val _ hs hu l y0 h hp) (fun s u hs _ l h => blkB m c u s.val hs l y1 h)

end Cert.DownDwIdeal.Mm

namespace Cert.DownDwRefIdeal.Mm

open Idealize.ShloMosaic Idealize.ShloMosaic.TcCoe Idealize.SL.Sem
open Cert.DownDwRefIdeal Cert.DownDwRefIdeal.Gen Cert.Mm

/-- The reference's operations, read at an index. -/
theorem ref_at (A : FVec Ideal S8192x4096 .bf16) (B : FVec Ideal S8192x1024 .f32) :
    transpose S4096x1024 [1, 0] (Host.dotGeneral dot_S8192x1024_S8192x4096_S1024x4096_0_0_1_1_n_n none B (extf .f32 A bitsLt_bf16_f32)) transposes_S1024x4096_S4096x1024_1_0 =
      Cert.DownDwIdeal.Mm.refV A B := by
  funext j
  idx_vars j
  pointwise [Cert.DownDwIdeal.Mm.refV, tn]
  exact Finset.sum_congr rfl fun l _ => mul_comm _ _

end Cert.DownDwRefIdeal.Mm

end
-- ==== Proof.UpDw.lean ====
/- The gradient of the up projection's weights: the kernel's result is the reference's. -/
module

public import proofs.«01_k».proof.Proof.Gen.UpDwIdeal.Value
public import proofs.«01_k».proof.Proof.Gen.UpDwRefIdeal.Run
public import proofs.«01_k».proof.Proof.MmMath

@[expose] public section

set_option maxRecDepth 16384

noncomputable section

namespace Cert.UpDwIdeal.Mm

open Idealize.ShloMosaic Idealize.ShloMosaic.TcCoe Idealize.SL.Sem
open Cert.UpDwIdeal Cert.UpDwIdeal.Gen Cert.Mm

theorem zero_at (j : S1024x1024.Idx) : k0_pay1 (F := Ideal) j = 0 := by
  pointwise [k0_pay1]

theorem step_at (s : Vec Ideal S1024x1024 .f32) (a : Vec Ideal S2048x1024 .bf16) (b : Vec Ideal S2048x1024 .bf16) (j : S1024x1024.Idx) :
    k0_pay2 (F := Ideal) s a b j = s j + tn a b (j 0) (j 1) := by
  idx_vars j
  pointwise [k0_pay2, tn]

section point

variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 : Vec Ideal S2048x1024 .bf16) (x1 : Vec Ideal S2048x1024 .bf16) (s : Vec Ideal S1024x1024 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S1024x1024.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The two factors: the contracted axis is the first of each. -/
def aA : Vec Ideal S8192x4096 .bf16 := m ((c.tc : Thread nD τ).loc main_arg0)
def aB : Vec Ideal S8192x1024 .bf16 := m ((c.tc : Thread nD τ).loc main_arg1)

/-- Point `u` of the run `i` reads rows of the `s`-th part of the contracted axis. -/
theorem blkA (u : Fin cfg0.N) (s i : ℕ) (hs : u.val % 4 = s) (hi : u.val / 4 = i) (l : Fin 2048) (p : Fin 1024) (h : s * 2048 + l.val < 8192) (hp : i * 1024 + p.val < 4096) :
    iblk m c 0 u (ix2 l p) = aA m c (ix2 ⟨s * 2048 + l.val, h⟩ ⟨i * 1024 + p.val, hp⟩) := by
  subst hs hi
  blk_ext [iblk, V, aA, idx u]

theorem blkB (u : Fin cfg0.N) (s : ℕ) (hs : u.val % 4 = s) (l : Fin 2048) (q : Fin 1024) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x4096 .bf16) (B : Vec Ideal S8192x1024 .bf16) : Vec Ideal S4096x1024 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  have hN : t.val < 16 := lt_of_lt_of_eq t.isLt N_0
  blk_simp
  rw [after0_2, out_last m c t ht]
  idx_vars y
  have hp : t.val / 4 * 1024 + y0.val < 4096 := by omega
  have hi : ((View.whole main_v0).slice (win0_2.rect t)).emb (ix2 y0 y1) = ix2 ⟨t.val / 4 * 1024 + y0.val, hp⟩ y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 ⟨t.val / 4 * 1024 + y0.val, hp⟩ y1
    (fun s u hs hu l h => blkA m c u s.val _ hs hu l y0 h hp) (fun s u hs _ l h => blkB m c u s.val hs l y1 h)

end Cert.UpDwIdeal.Mm

namespace Cert.UpDwRefIdeal.Mm

open Idealize.ShloMosaic Idealize.ShloMosaic.TcCoe Idealize.SL.Sem
open Cert.UpDwRefIdeal Cert.UpDwRefIdeal.Gen Cert.Mm

/-- The reference's operations, read at an index. -/
theorem ref_at (A : FVec Ideal S8192x4096 .bf16) (B : FVec Ideal S8192x1024 .bf16) :
    transpose S4096x1024 [1, 0] (transpose S1024x4096 [1, 0] (Host.dotGeneral dot_S8192x4096_S8192x1024_S4096x1024_0_0_1_1_n_n none (extf .f32 A bitsLt_bf16_f32) (extf .f32 B bitsLt_bf16_f32)) transposes_S4096x1024_S1024x4096_1_0) transposes_S1024x4096_S4096x1024_1_0 =
      Cert.UpDwIdeal.Mm.refV A B := by
  funext j
  idx_vars j
  pointwise [Cert.UpDwIdeal.Mm.refV, tn]

end Cert.UpDwRefIdeal.Mm

end
-- ==== Proof.InADx.lean ====
/- The gradient of the normalised input through the branches' columns of the input projection: the kernel's result is the reference's. -/
module

public import proofs.«01_k».proof.Proof.Gen.InADxIdeal.Value
public import proofs.«01_k».proof.Proof.Gen.InADxRefIdeal.Run
public import proofs.«01_k».proof.Proof.MmMath

@[expose] public section

set_option maxRecDepth 16384

noncomputable section

namespace Cert.InADxIdeal.Mm

open Idealize.ShloMosaic Idealize.ShloMosaic.TcCoe Idealize.SL.Sem
open Cert.InADxIdeal Cert.InADxIdeal.Gen Cert.Mm

theorem zero_at (j : S1024x1024.Idx) : k0_pay1 (F := Ideal) j = 0 := by
  pointwise [k0_pay1]

theorem step_at (s : Vec Ideal S1024x1024 .f32) (a : Vec Ideal S1024x1664 .bf16) (b : Vec Ideal S1664x1024 .bf16) (j : S1024x1024.Idx) :
    k0_pay2 (F := Ideal) s a b j = s j + nn a b (j 0) (j 1) := by
  idx_vars j
  pointwise [k0_pay2, nn]

section point

variable (c : Dev nD) (i : grid0.Coords) (a3 : Memref sig .tc .vmem S1024x1664 .bf16) (h3 : a3.IsWhole) (a4 : Memref sig .tc .vmem S1664x1024 .bf16) (h4 : a4.IsWhole)
  (a5 : Memref sig .tc .vmem S1024x1024 .f32) (h5 : a5.IsWhole) (a6 : Memref sig .tc .vmem S1024x1024 .f32) (h6 : a6.IsWhole)
  (x0 : Vec Ideal S1024x1664 .bf16) (x1 : Vec Ideal S1664x1024 .bf16) (s : Vec Ideal S1024x1024 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : cond0_1 i) : sout0_B_0 c i a3 h3 a4 h4 a5 h5 a6 h6 hc hd x0 x1 s = k0_pay2 (F := Ideal) s x0 x1 := by
  funext y
  frame_out

theorem out_B (hc : ¬cond0_0 i) (hd : cond0_1 i) : out0_B_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 2 = 0) (j : S1024x1024.Idx) :
    (outsAt0 m c t.val t.isLt).2 j = 0 + nn (iblk m c 0 t) (iblk m c 1 t) (j 0) (j 1) := by
  rw [outsAt0_A m c t h (by omega)]
  dsimp only
  rw [scr_A, step_at, zero_at]

theorem scr_step (t : Fin cfg0.N) (h : ¬t.val % 2 = 0) (j : S1024x1024.Idx) :
    (outsAt0 m c t.val t.isLt).2 j
      = (outsAt0 m c (t.val - 1) (Nat.lt_of_le_of_lt (Nat.sub_le _ _) t.isLt)).2 j + nn (iblk m c 0 t) (iblk m c 1 t) (j 0) (j 1) := by
  rw [outsAt0_B m c t h (by omega)]
  dsimp only
  rw [scr_B, step_at]

/-- The point that writes a block back leaves there what it leaves in the scratch. -/
theorem out_last (t : Fin cfg0.N) (h : t.val % 2 = 1) : (outsAt0 m c t.val t.isLt).1 = (outsAt0 m c t.val t.isLt).2 := by
  rw [outsAt0_B m c t (by omega) h]
  dsimp only
  rw [out_B, scr_B]

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The columns' gradient and the weights, stored with one row for each column. -/
def aA : Vec Ideal S8192x3328 .bf16 := m ((c.tc : Thread nD τ).loc main_arg1)
def aB : Vec Ideal S3328x1024 .bf16 := m ((c.tc : Thread nD τ).loc main_arg0)

theorem blkA (u : Fin cfg0.N) (s i : ℕ) (hs : u.val % 2 = s) (hi : u.val / 2 = i) (l : Fin 1664) (p : Fin 1024) (h : s * 1664 + l.val < 3328) (hp : i * 1024 + p.val < 8192) :
    iblk m c 0 u (ix2 p l) = aA m c (ix2 ⟨i * 1024 + p.val, hp⟩ ⟨s * 1664 + l.val, h⟩) := by
  subst hs hi
  blk_ext [iblk, V, aA, idx u]

theorem blkB (u : Fin cfg0.N) (s : ℕ) (hs : u.val % 2 = s) (l : Fin 1664) (q : Fin 1024) (h : s * 1664 + l.val < 3328) :
    iblk m c 1 u (ix2 l q) = aB m c (ix2 ⟨s * 1664 + l.val, h⟩ q) := by
  subst hs
  blk_ext [iblk, V, aB, idx u]

/-- The reference's result. -/
def refV (A : Vec Ideal S8192x3328 .bf16) (B : Vec Ideal S3328x1024 .bf16) : Vec Ideal S8192x1024 .f32 :=
  fun j => nn A B (j 0) (j 1)

theorem final : (dats m 0 c).arrAt 2 cfg0.N = refV (aA m c) (aB m c) := by
  refine (dats m 0 c).arrAt_eq_of_covers 2 _ (by decide +kernel) fun t hf y => ?_
  have ht : t.val % 2 = 1 := (flush0_2 t).mp hf
  have hN : t.val < 16 := lt_of_lt_of_eq t.isLt N_0
  blk_simp
  rw [after0_2, out_last m c t ht]
  idx_vars y
  have hp : t.val / 2 * 1024 + y0.val < 8192 := by omega
  have hi : ((View.whole main_v0).slice (win0_2.rect t)).emb (ix2 y0 y1) = ix2 ⟨t.val / 2 * 1024 + y0.val, hp⟩ y1 := by
    blk_ext [idx t]
  refine Eq.trans ?_ (congrArg (refV (aA m c) (aB m c)) hi.symm)
  exact acc_nn 2 1664 (by decide) (fun n h => (outsAt0 m c n h).2) (fun t => iblk m c 0 t) (fun t => iblk m c 1 t) (scr_first m c) (scr_step m c)
    (aA m c) (aB m c) t ht y0 y1 ⟨t.val / 2 * 1024 + y0.val, hp⟩ y1
    (fun s u hs hu l h => blkA m c u s.val _ hs hu l y0 h hp) (fun s u hs _ l h => blkB m c u s.val hs l y1 h)

end Cert.InADxIdeal.Mm

namespace Cert.InADxRefIdeal.Mm

open Idealize.ShloMosaic Idealize.ShloMosaic.TcCoe Idealize.SL.Sem
open Cert.InADxRefIdeal Cert.InADxRefIdeal.Gen Cert.Mm

/-- The reference's operations, read at an index. -/
theorem ref_at (A : FVec Ideal S8192x3328 .bf16) (B : FVec Ideal S3328x1024 .bf16) :
    Host.dotGeneral dot_S8192x3328_S1024x3328_S8192x1024_1_1_0_0_n_n none (extf .f32 A bitsLt_bf16_f32) (transpose S1024x3328 [1, 0] (extf .f32 B bitsLt_bf16_f32) transposes_S3328x1024_S1024x3328_1_0) =
      Cert.InADxIdeal.Mm.refV A B := by
  funext j
  idx_vars j
  pointwise [Cert.InADxIdeal.Mm.refV, nn]

end Cert.InADxRefIdeal.Mm

end
-- ==== Proof.InADw.lean ====
/- The gradient of the branches' columns of the input projection: the kernel's result is the reference's. -/
module

public import proofs.«01_k».proof.Proof.Gen.InADwIdeal.Value
public import proofs.«01_k».proof.Proof.Gen.InADwRefIdeal.Run
public import proofs.«01_k».proof.Proof.MmMath

@[expose] public section

set_option maxRecDepth 16384

noncomputable section

namespace Cert.InADwIdeal.Mm

open Idealize.ShloMosaic Idealize.ShloMosaic.TcCoe Idealize.SL.Sem
open Cert.InADwIdeal Cert.InADwIdeal.Gen Cert.Mm

theorem zero_at (j : S1664x1024.Idx) : k0_pay1 (F := Ideal) j = 0 := by
  pointwise [k0_pay1]

theorem step_at (s : Vec Ideal S1664x1024 .f32) (a : Vec Ideal S2048x1664 .bf16) (b : Vec Ideal S2048x1024 .bf16) (j : S1664x1024.Idx) :
    k0_pay2 (F := Ideal) s a b j = s j + tn a b (j 0) (j 1) := by
  idx_vars j
  pointwise [k0_pay2, tn]

section point

variable (c : Dev nD) (i : grid0.Coords) (a3 : Memref sig .tc .vmem S2048x1664 .bf16) (h3 : a3.IsWhole) (a4 : Memref sig .tc .vmem S2048x1024 .bf16) (h4 : a4.IsWhole)
  (a5 : Memref sig .tc .vmem S1664x1024 .f32) (h5 : a5.IsWhole) (a6 : Memref sig .tc .vmem S1664x1024 .f32) (h6 : a6.IsWhole)
  (x0 : Vec Ideal S2048x1664 .bf16) (x1 : Vec Ideal S2048x1024 .bf16) (s : Vec Ideal S1664x1024 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S1664x1024.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S1664x1024.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The two factors: the contracted axis is the first of each. -/
def aA : Vec Ideal S8192x3328 .bf16 := m ((c.tc : Thread nD τ).loc main_arg1)
def aB : Vec Ideal S8192x1024 .bf16 := m ((c.tc : Thread nD τ).loc main_arg0)

/-- Point `u` of the run `i` reads rows of the `s`-th part of the contracted axis. -/
theorem blkA (u : Fin cfg0.N) (s i : ℕ) (hs : u.val % 4 = s) (hi : u.val / 4 = i) (l : Fin 2048) (p : Fin 1664) (h : s * 2048 + l.val < 8192) (hp : i * 1664 + p.val < 3328) :
    iblk m c 0 u (ix2 l p) = aA m c (ix2 ⟨s * 2048 + l.val, h⟩ ⟨i * 1664 + p.val, hp⟩) := by
  subst hs hi
  blk_ext [iblk, V, aA, idx u]

theorem blkB (u : Fin cfg0.N) (s : ℕ) (hs : u.val % 4 = s) (l : Fin 2048) (q : Fin 1024) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x3328 .bf16) (B : Vec Ideal S8192x1024 .bf16) : Vec Ideal S3328x1024 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  have hN : t.val < 8 := lt_of_lt_of_eq t.isLt N_0
  blk_simp
  rw [after0_2, out_last m c t ht]
  idx_vars y
  have hp : t.val / 4 * 1664 + y0.val < 3328 := by omega
  have hi : ((View.whole main_v0).slice (win0_2.rect t)).emb (ix2 y0 y1) = ix2 ⟨t.val / 4 * 1664 + y0.val, hp⟩ y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 ⟨t.val / 4 * 1664 + y0.val, hp⟩ y1
    (fun s u hs hu l h => blkA m c u s.val _ hs hu l y0 h hp) (fun s u hs _ l h => blkB m c u s.val hs l y1 h)

end Cert.InADwIdeal.Mm

namespace Cert.InADwRefIdeal.Mm

open Idealize.ShloMosaic Idealize.ShloMosaic.TcCoe Idealize.SL.Sem
open Cert.InADwRefIdeal Cert.InADwRefIdeal.Gen Cert.Mm

/-- The reference's operations, read at an index. -/
theorem ref_at (A : FVec Ideal S8192x3328 .bf16) (B : FVec Ideal S8192x1024 .bf16) :
    transpose S3328x1024 [1, 0] (transpose S1024x3328 [1, 0] (Host.dotGeneral dot_S8192x3328_S8192x1024_S3328x1024_0_0_1_1_n_n none (extf .f32 A bitsLt_bf16_f32) (extf .f32 B bitsLt_bf16_f32)) transposes_S3328x1024_S1024x3328_1_0) transposes_S1024x3328_S3328x1024_1_0 =
      Cert.InADwIdeal.Mm.refV A B := by
  funext j
  idx_vars j
  pointwise [Cert.InADwIdeal.Mm.refV, tn]

end Cert.InADwRefIdeal.Mm

end
-- ==== Proof.InGDw.lean ====
/- The gradient of one gate's columns of the input projection: the kernel's result is the reference's. -/
module

public import proofs.«01_k».proof.Proof.Gen.InGDwIdeal.Value
public import proofs.«01_k».proof.Proof.Gen.InGDwRefIdeal.Run
public import proofs.«01_k».proof.Proof.MmMath

@[expose] public section

set_option maxRecDepth 16384

noncomputable section

namespace Cert.InGDwIdeal.Mm

open Idealize.ShloMosaic Idealize.ShloMosaic.TcCoe Idealize.SL.Sem
open Cert.InGDwIdeal Cert.InGDwIdeal.Gen Cert.Mm

theorem zero_at (j : S1024x1024.Idx) : k0_pay1 (F := Ideal) j = 0 := by
  pointwise [k0_pay1]

theorem step_at (s : Vec Ideal S1024x1024 .f32) (a : Vec Ideal S2048x1024 .bf16) (b : Vec Ideal S2048x1024 .bf16) (j : S1024x1024.Idx) :
    k0_pay2 (F := Ideal) s a b j = s j + tn a b (j 0) (j 1) := by
  idx_vars j
  pointwise [k0_pay2, tn]

section point

variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x0 : Vec Ideal S2048x1024 .bf16) (x1 : Vec Ideal S2048x1024 .bf16) (s : Vec Ideal S1024x1024 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S1024x1024.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, 0] ∧ win0_1.index t = ![t.val % 4, 0] ∧ win0_2.index t = ![0, 0] :=
  (by decide +kernel : ∀ t : Fin grid0.N, _)

/-- The two factors: the contracted axis is the first of each. -/
def aA : Vec Ideal S8192x1024 .bf16 := m ((c.tc : Thread nD τ).loc main_arg1)
def aB : Vec Ideal S8192x1024 .bf16 := m ((c.tc : Thread nD τ).loc main_arg0)

/-- A point reads rows of the `s`-th part of the contracted axis. -/
theorem blkA (u : Fin cfg0.N) (s : ℕ) (hs : u.val % 4 = s) (l : Fin 2048) (p : Fin 1024) (h : s * 2048 + l.val < 8192) :
    iblk m c 0 u (ix2 l p) = aA m c (ix2 ⟨s * 2048 + l.val, h⟩ p) := by
  subst hs
  blk_ext [iblk, V, aA, idx u]

theorem blkB (u : Fin cfg0.N) (s : ℕ) (hs : u.val % 4 = s) (l : Fin 2048) (q : Fin 1024) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x1024 .bf16) (B : Vec Ideal S8192x1024 .bf16) : Vec Ideal S1024x1024 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  blk_simp
  rw [after0_2, out_last m c t ht]
  idx_vars y
  have hi : ((View.whole main_v0).slice (win0_2.rect t)).emb (ix2 y0 y1) = ix2 y0 y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 y0 y1
    (fun s u hs _ l h => blkA m c u s.val hs l y0 h) (fun s u hs _ l h => blkB m c u s.val hs l y1 h)

end Cert.InGDwIdeal.Mm

namespace Cert.InGDwRefIdeal.Mm

open Idealize.ShloMosaic Idealize.ShloMosaic.TcCoe Idealize.SL.Sem
open Cert.InGDwRefIdeal Cert.InGDwRefIdeal.Gen Cert.Mm

/-- The reference's operations, read at an index. -/
theorem ref_at (A : FVec Ideal S8192x1024 .bf16) (B : FVec Ideal S8192x1024 .bf16) :
    transpose S1024x1024 [1, 0] (transpose S1024x1024 [1, 0] (Host.dotGeneral dot_S8192x1024_S8192x1024_S1024x1024_0_0_1_1_n_n none (extf .f32 A bitsLt_bf16_f32) (extf .f32 B bitsLt_bf16_f32)) transposes_S1024x1024_S1024x1024_1_0) transposes_S1024x1024_S1024x1024_1_0 =
      Cert.InGDwIdeal.Mm.refV A B := by
  funext j
  idx_vars j
  pointwise [Cert.InGDwIdeal.Mm.refV, tn]

end Cert.InGDwRefIdeal.Mm

end
-- ==== Proof.ODw.lean ====
/- The gradient of the output projection's weights: the kernel's result is the reference's. -/
module

public import proofs.«01_k».proof.Proof.Gen.ODwIdeal.Value
public import proofs.«01_k».proof.Proof.Gen.ODwRefIdeal.Run
public import proofs.«01_k».proof.Proof.MmMath

@[expose] public section

set_option maxRecDepth 16384

noncomputable section

namespace Cert.ODwIdeal.Mm

open Idealize.ShloMosaic Idealize.ShloMosaic.TcCoe Idealize.SL.Sem
open Cert.ODwIdeal Cert.ODwIdeal.Gen Cert.Mm

theorem zero_at (j : S1024x1024.Idx) : k0_pay1 (F := Ideal) j = 0 := by
  pointwise [k0_pay1]

theorem step_at (s : Vec Ideal S1024x1024 .f32) (a : Vec Ideal S2048x1024 .bf16) (b : Vec Ideal S2048x1024 .f32) (j : S1024x1024.Idx) :
    k0_pay2 (F := Ideal) s a b j = s j + tn a b (j 0) (j 1) := by
  idx_vars j
  pointwise [k0_pay2, tn]

section point

variable (c : Dev nD) (i : grid0.Coords) (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x0 : Vec Ideal S2048x1024 .bf16) (x1 : Vec Ideal S2048x1024 .f32) (s : Vec Ideal S1024x1024 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S1024x1024.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, 0] ∧ win0_1.index t = ![t.val % 4, 0] ∧ win0_2.index t = ![0, 0] :=
  (by decide +kernel : ∀ t : Fin grid0.N, _)

/-- The two factors: the contracted axis is the first of each. -/
def aA : Vec Ideal S8192x1024 .bf16 := m ((c.tc : Thread nD τ).loc main_arg0)
def aB : Vec Ideal S8192x1024 .f32 := m ((c.tc : Thread nD τ).loc main_arg1)

/-- A point reads rows of the `s`-th part of the contracted axis. -/
theorem blkA (u : Fin cfg0.N) (s : ℕ) (hs : u.val % 4 = s) (l : Fin 2048) (p : Fin 1024) (h : s * 2048 + l.val < 8192) :
    iblk m c 0 u (ix2 l p) = aA m c (ix2 ⟨s * 2048 + l.val, h⟩ p) := by
  subst hs
  blk_ext [iblk, V, aA, idx u]

theorem blkB (u : Fin cfg0.N) (s : ℕ) (hs : u.val % 4 = s) (l : Fin 2048) (q : Fin 1024) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x1024 .bf16) (B : Vec Ideal S8192x1024 .f32) : Vec Ideal S1024x1024 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  blk_simp
  rw [after0_2, out_last m c t ht]
  idx_vars y
  have hi : ((View.whole main_v0).slice (win0_2.rect t)).emb (ix2 y0 y1) = ix2 y0 y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 y0 y1
    (fun s u hs _ l h => blkA m c u s.val hs l y0 h) (fun s u hs _ l h => blkB m c u s.val hs l y1 h)

end Cert.ODwIdeal.Mm

namespace Cert.ODwRefIdeal.Mm

open Idealize.ShloMosaic Idealize.ShloMosaic.TcCoe Idealize.SL.Sem
open Cert.ODwRefIdeal Cert.ODwRefIdeal.Gen Cert.Mm

/-- The reference's operations, read at an index. -/
theorem ref_at (A : FVec Ideal S8192x1024 .bf16) (B : FVec Ideal S8192x1024 .f32) :
    transpose S1024x1024 [1, 0] (Host.dotGeneral dot_S8192x1024_S8192x1024_S1024x1024_0_0_1_1_n_n none B (extf .f32 A bitsLt_bf16_f32)) transposes_S1024x1024_S1024x1024_1_0 =
      Cert.ODwIdeal.Mm.refV A B := by
  funext j
  idx_vars j
  pointwise [Cert.ODwIdeal.Mm.refV, tn]
  exact Finset.sum_congr rfl fun l _ => mul_comm _ _

end Cert.ODwRefIdeal.Mm

end
-- ==== Proof.MlpUp.lean ====
/- The up projection with its squared rectifier: the kernel's result is the reference's. -/
module

public import proofs.«01_k».proof.Proof.Gen.MlpUpIdeal.Value
public import proofs.«01_k».proof.Proof.Gen.MlpUpRefIdeal.Run
public import proofs.«01_k».proof.Proof.MmMath

@[expose] public section

set_option maxRecDepth 16384

noncomputable section

namespace Cert.MlpUpIdeal.Mm

open Idealize.ShloMosaic Idealize.ShloMosaic.TcCoe Idealize.SL.Sem
open Cert.MlpUpIdeal Cert.MlpUpIdeal.Gen Cert.Mm

/-- The rectifier and its square, at a number. -/
def relu (x : EReal) : EReal := max x 0
def sq (x : EReal) : EReal := relu x * relu x

theorem k0_pay1_at (a b : Vec Ideal S1024x1024 .bf16) (j : S1024x1024.Idx) : k0_pay1 (F := Ideal) a b j = relu (nt a b (j 0) (j 1)) := by
  idx_vars j
  pointwise [k0_pay1, nt, relu]

theorem k0_pay2_at (a b : Vec Ideal S1024x1024 .bf16) (j : S1024x1024.Idx) : k0_pay2 (F := Ideal) a b j = sq (nt a b (j 0) (j 1)) :=
  congrArg (fun x : EReal => x * x) (k0_pay1_at a b j)

theorem k0_pay3_at (a b : Vec Ideal S1024x1024 .bf16) (j : S1024x1024.Idx) : k0_pay3 (F := Ideal) a b j = relu (nt a b (j 0) (j 1)) :=
  k0_pay1_at a b j

theorem out_2 (a b : Vec Ideal S1024x1024 .bf16) : out0_2 a b = k0_pay2 (F := Ideal) a b := by
  funext y
  frame_out

theorem out_3 (a b : Vec Ideal S1024x1024 .bf16) : out0_3 a b = k0_pay3 (F := Ideal) a b := by
  funext y
  frame_out

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- The activations and the weights, stored with one row for each column of the product. -/
def aA : Vec Ideal S8192x1024 .bf16 := m ((c.tc : Thread nD τ).loc main_arg0)
def aB : Vec Ideal S4096x1024 .bf16 := m ((c.tc : Thread nD τ).loc main_arg1)

/-- A block's entry of the product is the product's own. -/
theorem blk_nt (t : Fin cfg0.N) (p : Fin 1024) (q : Fin 1024) (hp : t.val / 4 * 1024 + p.val < 8192) (hq : t.val % 4 * 1024 + q.val < 4096) :
    nt (iblk m c 0 t) (iblk m c 1 t) p q = nt (aA m c) (aB m c) ⟨t.val / 4 * 1024 + p.val, hp⟩ ⟨t.val % 4 * 1024 + q.val, hq⟩ := by
  refine Finset.sum_congr rfl fun l _ => congrArg₂ (· * ·) ?_ ?_
  · blk_ext [iblk, V, aA, idx t]
  · blk_ext [iblk, V, aB, idx t]

/-- The reference's two results: the square, and the rectifier itself. -/
def refSq (A : Vec Ideal S8192x1024 .bf16) (B : Vec Ideal S4096x1024 .bf16) : Vec Ideal S8192x4096 .bf16 :=
  fun j => sq (nt A B (j 0) (j 1))
def refR (A : Vec Ideal S8192x1024 .bf16) (B : Vec Ideal S4096x1024 .bf16) : Vec Ideal S8192x4096 .bf16 :=
  fun j => relu (nt A B (j 0) (j 1))

theorem final_sq : (dats m 0 c).arrAt 2 cfg0.N = refSq (aA m c) (aB m c) := by
  refine (dats m 0 c).arrAt_eq_of_covers 2 _ (by decide +kernel) fun t hf y => ?_
  have hN : t.val < 32 := lt_of_lt_of_eq t.isLt N_0
  blk_simp
  rw [after0_2]
  idx_vars y
  have hp : t.val / 4 * 1024 + y0.val < 8192 := by omega
  have hq : t.val % 4 * 1024 + y1.val < 4096 := by omega
  have hi : ((View.whole main_v0_0).slice (win0_2.rect t)).emb (ix2 y0 y1) = ix2 ⟨t.val / 4 * 1024 + y0.val, hp⟩ ⟨t.val % 4 * 1024 + y1.val, hq⟩ := by
    blk_ext [idx t]
  refine Eq.trans ?_ (congrArg (refSq (aA m c) (aB m c)) hi.symm)
  refine (congrFun (out_2 (iblk m c 0 t) (iblk m c 1 t)) (ix2 y0 y1)).trans ?_
  refine (k0_pay2_at (iblk m c 0 t) (iblk m c 1 t) (ix2 y0 y1)).trans ?_
  exact congrArg sq (blk_nt m c t y0 y1 hp hq)

theorem final_r : (dats m 0 c).arrAt 3 cfg0.N = refR (aA m c) (aB m c) := by
  refine (dats m 0 c).arrAt_eq_of_covers 3 _ (by decide +kernel) fun t hf y => ?_
  have hN : t.val < 32 := lt_of_lt_of_eq t.isLt N_0
  blk_simp
  rw [after0_3]
  idx_vars y
  have hp : t.val / 4 * 1024 + y0.val < 8192 := by omega
  have hq : t.val % 4 * 1024 + y1.val < 4096 := by omega
  have hi : ((View.whole main_v0_1).slice (win0_3.rect t)).emb (ix2 y0 y1) = ix2 ⟨t.val / 4 * 1024 + y0.val, hp⟩ ⟨t.val % 4 * 1024 + y1.val, hq⟩ := by
    blk_ext [idx t]
  refine Eq.trans ?_ (congrArg (refR (aA m c) (aB m c)) hi.symm)
  refine (congrFun (out_3 (iblk m c 0 t) (iblk m c 1 t)) (ix2 y0 y1)).trans ?_
  refine (k0_pay3_at (iblk m c 0 t) (iblk m c 1 t) (ix2 y0 y1)).trans ?_
  exact congrArg relu (blk_nt m c t y0 y1 hp hq)

end Cert.MlpUpIdeal.Mm

namespace Cert.MlpUpRefIdeal.Mm

open Idealize.ShloMosaic Idealize.ShloMosaic.TcCoe Idealize.SL.Sem
open Cert.MlpUpRefIdeal Cert.MlpUpRefIdeal.Gen Cert.Mm

/-- The reference's operations, read at an index. -/
theorem relu_at (A : FVec Ideal S8192x1024 .bf16) (B : FVec Ideal S4096x1024 .bf16) :
    truncf .bf16 (maximumf (Host.dotGeneral dot_S8192x1024_S1024x4096_S8192x4096_1_0_0_1_n_n none (extf .f32 A bitsLt_bf16_f32) (transpose S1024x4096 [1, 0] (extf .f32 B bitsLt_bf16_f32) transposes_S4096x1024_S1024x4096_1_0)) (broadcastInDim S8192x4096 ![] bcast_S_S8192x4096 (constant S_ .f32 0x00000000#32))) bitsLt_bf16_f32 =
      Cert.MlpUpIdeal.Mm.refR A B := by
  funext j
  idx_vars j
  pointwise [Cert.MlpUpIdeal.Mm.refR, Cert.MlpUpIdeal.Mm.relu, nt]

theorem sq_at (A : FVec Ideal S8192x1024 .bf16) (B : FVec Ideal S4096x1024 .bf16) :
    truncf .bf16 (mulf (maximumf (Host.dotGeneral dot_S8192x1024_S1024x4096_S8192x4096_1_0_0_1_n_n none (extf .f32 A bitsLt_bf16_f32) (transpose S1024x4096 [1, 0] (extf .f32 B bitsLt_bf16_f32) transposes_S4096x1024_S1024x4096_1_0)) (broadcastInDim S8192x4096 ![] bcast_S_S8192x4096 (constant S_ .f32 0x00000000#32))) (maximumf (Host.dotGeneral dot_S8192x1024_S1024x4096_S8192x4096_1_0_0_1_n_n none (extf .f32 A bitsLt_bf16_f32) (transpose S1024x4096 [1, 0] (extf .f32 B bitsLt_bf16_f32) transposes_S4096x1024_S1024x4096_1_0)) (broadcastInDim S8192x4096 ![] bcast_S_S8192x4096 (constant S_ .f32 0x00000000#32)))) bitsLt_bf16_f32 =
      Cert.MlpUpIdeal.Mm.refSq A B :=
  funext fun j => congrArg (fun x : EReal => x * x) (congrFun (relu_at A B) j)

end Cert.MlpUpRefIdeal.Mm

end
-- ==== Proof.InA.lean ====
/- The branches' columns of the input projection: the kernel's result is the reference's. -/
module

public import proofs.«01_k».proof.Proof.Gen.InAIdeal.Value
public import proofs.«01_k».proof.Proof.Gen.InARefIdeal.Run
public import proofs.«01_k».proof.Proof.MmMath

@[expose] public section

set_option maxRecDepth 16384

noncomputable section

namespace Cert.InAIdeal.Mm

open Idealize.ShloMosaic Idealize.ShloMosaic.TcCoe Idealize.SL.Sem
open Cert.InAIdeal Cert.InAIdeal.Gen Cert.Mm

theorem k0_pay1_at (a : Vec Ideal S1024x1024 .bf16) (b : Vec Ideal S1664x1024 .bf16) (j : S1024x1664.Idx) :
    k0_pay1 (F := Ideal) a b j = nt a b (j 0) (j 1) := by
  idx_vars j
  pointwise [k0_pay1, nt]

theorem out_2 (a : Vec Ideal S1024x1024 .bf16) (b : Vec Ideal S1664x1024 .bf16) : out0_2 a b = k0_pay1 (F := Ideal) a b := by
  funext y
  frame_out

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The activations and the weights, stored with one row for each column of the product. -/
def aA : Vec Ideal S8192x1024 .bf16 := m ((c.tc : Thread nD τ).loc main_arg0)
def aB : Vec Ideal S3328x1024 .bf16 := m ((c.tc : Thread nD τ).loc main_arg1)

/-- A block's entry of the product is the product's own. -/
theorem blk_nt (t : Fin cfg0.N) (p : Fin 1024) (q : Fin 1664) (hp : t.val / 2 * 1024 + p.val < 8192) (hq : t.val % 2 * 1664 + q.val < 3328) :
    nt (iblk m c 0 t) (iblk m c 1 t) p q = nt (aA m c) (aB m c) ⟨t.val / 2 * 1024 + p.val, hp⟩ ⟨t.val % 2 * 1664 + q.val, hq⟩ := by
  refine Finset.sum_congr rfl fun l _ => congrArg₂ (· * ·) ?_ ?_
  · blk_ext [iblk, V, aA, idx t]
  · blk_ext [iblk, V, aB, idx t]

/-- The reference's result. -/
def refV (A : Vec Ideal S8192x1024 .bf16) (B : Vec Ideal S3328x1024 .bf16) : Vec Ideal S8192x3328 .bf16 :=
  fun j => nt A B (j 0) (j 1)

theorem final : (dats m 0 c).arrAt 2 cfg0.N = refV (aA m c) (aB m c) := by
  refine (dats m 0 c).arrAt_eq_of_covers 2 _ (by decide +kernel) fun t hf y => ?_
  have hN : t.val < 16 := lt_of_lt_of_eq t.isLt N_0
  blk_simp
  rw [after0_2]
  idx_vars y
  have hp : t.val / 2 * 1024 + y0.val < 8192 := by omega
  have hq : t.val % 2 * 1664 + y1.val < 3328 := by omega
  have hi : ((View.whole main_v0).slice (win0_2.rect t)).emb (ix2 y0 y1) = ix2 ⟨t.val / 2 * 1024 + y0.val, hp⟩ ⟨t.val % 2 * 1664 + y1.val, hq⟩ := by
    blk_ext [idx t]
  refine Eq.trans ?_ (congrArg (refV (aA m c) (aB m c)) hi.symm)
  refine (congrFun (out_2 (iblk m c 0 t) (iblk m c 1 t)) (ix2 y0 y1)).trans ?_
  refine (k0_pay1_at (iblk m c 0 t) (iblk m c 1 t) (ix2 y0 y1)).trans ?_
  exact blk_nt m c t y0 y1 hp hq

end Cert.InAIdeal.Mm

namespace Cert.InARefIdeal.Mm

open Idealize.ShloMosaic Idealize.ShloMosaic.TcCoe Idealize.SL.Sem
open Cert.InARefIdeal Cert.InARefIdeal.Gen Cert.Mm

/-- The reference's operations, read at an index. -/
theorem ref_at (A : FVec Ideal S8192x1024 .bf16) (B : FVec Ideal S3328x1024 .bf16) :
    truncf .bf16 (Host.dotGeneral dot_S8192x1024_S1024x3328_S8192x3328_1_0_0_1_n_n none (extf .f32 A bitsLt_bf16_f32) (transpose S1024x3328 [1, 0] (extf .f32 B bitsLt_bf16_f32) transposes_S3328x1024_S1024x3328_1_0)) bitsLt_bf16_f32 =
      Cert.InAIdeal.Mm.refV A B := by
  funext j
  idx_vars j
  pointwise [Cert.InAIdeal.Mm.refV, nt]

end Cert.InARefIdeal.Mm

end
-- ==== Proof.InG.lean ====
/- The gates' columns of the input projection: the kernel's result is the reference's. -/
module

public import proofs.«01_k».proof.Proof.Gen.InGIdeal.Value
public import proofs.«01_k».proof.Proof.Gen.InGRefIdeal.Run
public import proofs.«01_k».proof.Proof.MmMath

@[expose] public section

set_option maxRecDepth 16384

noncomputable section

namespace Cert.InGIdeal.Mm

open Idealize.ShloMosaic Idealize.ShloMosaic.TcCoe Idealize.SL.Sem
open Cert.InGIdeal Cert.InGIdeal.Gen Cert.Mm

theorem k0_pay1_at (a : Vec Ideal S1024x1024 .bf16) (b : Vec Ideal S1024x1024 .bf16) (j : S1024x1024.Idx) :
    k0_pay1 (F := Ideal) a b j = nt a b (j 0) (j 1) := by
  idx_vars j
  pointwise [k0_pay1, nt]

theorem out_2 (a : Vec Ideal S1024x1024 .bf16) (b : Vec Ideal S1024x1024 .bf16) : out0_2 a b = k0_pay1 (F := Ideal) a b := by
  funext y
  frame_out

variable (m : (ℓ : Loc nD τ sig) → Buf (Elt Ideal) ℓ) (c : Dev nD)

theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

/-- The activations and the weights, stored with one row for each column of the product. -/
def aA : Vec Ideal S8192x1024 .bf16 := m ((c.tc : Thread nD τ).loc main_arg0)
def aB : Vec Ideal S3072x1024 .bf16 := m ((c.tc : Thread nD τ).loc main_arg1)

/-- A block's entry of the product is the product's own. -/
theorem blk_nt (t : Fin cfg0.N) (p : Fin 1024) (q : Fin 1024) (hp : t.val / 3 * 1024 + p.val < 8192) (hq : t.val % 3 * 1024 + q.val < 3072) :
    nt (iblk m c 0 t) (iblk m c 1 t) p q = nt (aA m c) (aB m c) ⟨t.val / 3 * 1024 + p.val, hp⟩ ⟨t.val % 3 * 1024 + q.val, hq⟩ := by
  refine Finset.sum_congr rfl fun l _ => congrArg₂ (· * ·) ?_ ?_
  · blk_ext [iblk, V, aA, idx t]
  · blk_ext [iblk, V, aB, idx t]

/-- The reference's result. -/
def refV (A : Vec Ideal S8192x1024 .bf16) (B : Vec Ideal S3072x1024 .bf16) : Vec Ideal S8192x3072 .bf16 :=
  fun j => nt A B (j 0) (j 1)

theorem final : (dats m 0 c).arrAt 2 cfg0.N = refV (aA m c) (aB m c) := by
  refine (dats m 0 c).arrAt_eq_of_covers 2 _ (by decide +kernel) fun t hf y => ?_
  have hN : t.val < 24 := lt_of_lt_of_eq t.isLt N_0
  blk_simp
  rw [after0_2]
  idx_vars y
  have hp : t.val / 3 * 1024 + y0.val < 8192 := by omega
  have hq : t.val % 3 * 1024 + y1.val < 3072 := by omega
  have hi : ((View.whole main_v0).slice (win0_2.rect t)).emb (ix2 y0 y1) = ix2 ⟨t.val / 3 * 1024 + y0.val, hp⟩ ⟨t.val % 3 * 1024 + y1.val, hq⟩ := by
    blk_ext [idx t]
  refine Eq.trans ?_ (congrArg (refV (aA m c) (aB m c)) hi.symm)
  refine (congrFun (out_2 (iblk m c 0 t) (iblk m c 1 t)) (ix2 y0 y1)).trans ?_
  refine (k0_pay1_at (iblk m c 0 t) (iblk m c 1 t) (ix2 y0 y1)).trans ?_
  exact blk_nt m c t y0 y1 hp hq

end Cert.InGIdeal.Mm

namespace Cert.InGRefIdeal.Mm

open Idealize.ShloMosaic Idealize.ShloMosaic.TcCoe Idealize.SL.Sem
open Cert.InGRefIdeal Cert.InGRefIdeal.Gen Cert.Mm

/-- The reference's operations, read at an index. -/
theorem ref_at (A : FVec Ideal S8192x1024 .bf16) (B : FVec Ideal S3072x1024 .bf16) :
    truncf .bf16 (Host.dotGeneral dot_S8192x1024_S1024x3072_S8192x3072_1_0_0_1_n_n none (extf .f32 A bitsLt_bf16_f32) (transpose S1024x3072 [1, 0] (extf .f32 B bitsLt_bf16_f32) transposes_S3072x1024_S1024x3072_1_0)) bitsLt_bf16_f32 =
      Cert.InGIdeal.Mm.refV A B := by
  funext j
  idx_vars j
  pointwise [Cert.InGIdeal.Mm.refV, nt]

end Cert.InGRefIdeal.Mm

end
-- ==== Proof.RowSum.lean ====
/- What the products that also sum their rows share: the first point's flag and a block of nothing in particular. -/
module

public import Idealize.ShloMosaic.Lib.Pipeline.ValueKit
public import Idealize.ShloMosaic.Lib.Pipeline.FrameBody
public import Idealize.ShloMosaic.Lib.Tactic
public import Idealize.ShloMosaic.Lib.VecWindow
public import Idealize.ShloMosaic.Lib.WordCmp

@[expose] public section

noncomputable section

namespace Cert.Rows

open Idealize.ShloMosaic

variable {F : FTy → Type} [FloatOps F]

/-- A load of a whole buffer that holds `x` reads `x`. -/
theorem load_whole {sig : RefSig} {κ : Kind} {sp : Space} {s : Shape} {e : EltTy} (a : Memref sig κ sp s e) (h : a.IsWhole) (x : Vec F s e) {off : Fin s.rank → ℕ}
    (inb : ∀ k, off k + s.size k ≤ s.size k) : View.readAt (Elt F) a.view (Rect.unit off s.size inb).toLoadRect (h.unread x) = x :=
  (View.readAt_full _ _ inb).trans (h.read_unread x)

/-- A block of zeros, where the contents do not matter. -/
def blank (s : Shape) : Vec F s .f32 := fun _ => Scalar.ofBits .f32 0x00000000#32

theorem first_flag (n N : ℕ) (hN : N < 2 ^ 32) (h : n < N) : Scalar.cmpi .eq (BitVec.ofNat 32 n) 0#32 = if n = 0 then 1#1 else 0#1 := by
  have h2 : n < 2 ^ 32 := by omega
  by_cases h0 : n = 0
  · subst h0; rfl
  · rw [if_neg h0]
    have : BitVec.ofNat 32 n ≠ 0#32 := fun e => h0 (by
      have := congrArg BitVec.toNat e
      rw [BitVec.toNat_ofNat, Nat.mod_eq_of_lt h2] at this
      exact this)
    show IntOp.cmpi .eq (BitVec.ofNat 32 n) 0#32 = 0#1
    simp only [IntOp.cmpi]
    rw [beq_false_of_ne this]
    rfl

end Cert.Rows

end
-- ==== Proof.UpDxRun.lean ====
/- The gradient through the up projection: the body's run at a point, what its two results and its scratch hold after each point, and the frames of the kernel
   and of its idealization. The run is written for any float operations; both programs' frames are taken from it. -/
module

public import proofs.«01_k».proof.Defs
public import proofs.«01_k».proof.Proof.Gen.UpDx.Launch
public import proofs.«01_k».proof.Proof.Gen.UpDxIdeal.Frame
public import proofs.«01_k».proof.Proof.Gen.UpDxIdeal.Skeleton
public import proofs.«01_k».proof.Proof.RowSum

@[expose] public section

set_option maxRecDepth 16384

noncomputable section

namespace Cert.UpDxIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.UpDxIdeal Cert.UpDxIdeal.Gen Cert.Rows

variable {F : FTy → Type} [FloatOps F]

local notation "𝕄" => MT nD τ sig Unit (Elt F) ℕ (UR sig nD τ) ℕ

/-- The flag of the first row block, and the conditions of the first and the last step of the contracted axis. -/
abbrev isFirst (i : grid0.Coords) : BitVec 1 := Scalar.cmpi .eq (BitVec.ofNat 32 (i 0).val) 0#32
abbrev opens (i : grid0.Coords) : Prop := Scalar.cmpi .ne (Scalar.extui (Scalar.cmpi .eq (BitVec.ofNat 32 (i 2).val) 0#32) : BitVec 32) 0#32 = 1#1
abbrev closes (i : grid0.Coords) : Prop := k0_cond2 i = 1#1

set_option maxHeartbeats 2000000 in
/-- The run of the first step: the scratch is the product of the two blocks, over zeros. -/
theorem run_open (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1024x1024 .f32) (h10 : a10.IsWhole)
  (ho : opens i) (hc : ¬closes i)
  (x0 x1 : Vec F S1024x1024 .bf16) (E : Set ℕ) (K : PUnit → sProp 𝕄) :
    iprop(owns (c : Thread nD τ) a3 fullShare x0 ∗ owns (c : Thread nD τ) a4 fullShare x1 ∗ (∃ d, owns (c : Thread nD τ) a10 fullShare d)
        ∗ (iprop(owns (c : Thread nD τ) a3 fullShare x0 ∗ owns (c : Thread nD τ) a4 fullShare x1 ∗ owns (c : Thread nD τ) a10 fullShare (k0_pay2 k0_pay1 x0 x1)) -∗ K ⟨⟩))
      ⊢ wp frame (wpE (defs₀ (F := F)) Variants.none c none) E (cc0_mlp_up_dx i a3 h3 a4 h4 a5 h5 a6 h6 a7 h7 a8 h8 a9 h9 a10 h10) K := by
  simp only [cc0_mlp_up_dx_eq_skeleton]
  unfold cc0_mlp_up_dx_skel
  unfold owns
  iintro ⟨⟨%f0, %e0, H0⟩, ⟨%f1, %e1, H1⟩, ⟨%ds, %fs, -, HS⟩, Hk⟩
  obtain rfl := h3.eq_unread e0
  obtain rfl := h4.eq_unread e1
  have l0 := load_whole (F := F) a3 h3 x0 inb_S1024x1024_S1024x1024_0_0
  have l1 := load_whole (F := F) a4 h4 x1 inb_S1024x1024_S1024x1024_0_0
  sl_exec (disch := first | sl_exact ho | sl_exact hc)
  sl_step
  iapply Hk
  isplitl [H0]
  · iexists _; isplitr; · ipureintro; exact h3.read_unread _
    iexact H0
  isplitl [H1]
  · iexists _; isplitr; · ipureintro; exact h4.read_unread _
    iexact H1
  iexists _
  isplitr
  swap; · iexact HS
  ipureintro
  refine (View.read_writes_full _ _ _ _ _).trans ?_
  exact congrArg (fun z => k0_pay2 z x0 x1) (View.readCov_cons_toLoadRect _ _ _ _)

set_option maxHeartbeats 2000000 in
/-- The run of a step in between: the scratch grows by the product of the two blocks. -/
theorem run_mid (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1024x1024 .f32) (h10 : a10.IsWhole)
  (ho : ¬opens i) (hc : ¬closes i)
  (x0 x1 : Vec F S1024x1024 .bf16) (s : Vec F S1024x1024 .f32) (E : Set ℕ) (K : PUnit → sProp 𝕄) :
    iprop(owns (c : Thread nD τ) a3 fullShare x0 ∗ owns (c : Thread nD τ) a4 fullShare x1 ∗ owns (c : Thread nD τ) a10 fullShare s
        ∗ (iprop(owns (c : Thread nD τ) a3 fullShare x0 ∗ owns (c : Thread nD τ) a4 fullShare x1 ∗ owns (c : Thread nD τ) a10 fullShare (k0_pay2 s x0 x1)) -∗ K ⟨⟩))
      ⊢ wp frame (wpE (defs₀ (F := F)) Variants.none c none) E (cc0_mlp_up_dx i a3 h3 a4 h4 a5 h5 a6 h6 a7 h7 a8 h8 a9 h9 a10 h10) K := by
  simp only [cc0_mlp_up_dx_eq_skeleton]
  unfold cc0_mlp_up_dx_skel
  unfold owns
  iintro ⟨⟨%f0, %e0, H0⟩, ⟨%f1, %e1, H1⟩, ⟨%fs, %es, HS⟩, Hk⟩
  obtain rfl := h3.eq_unread e0
  obtain rfl := h4.eq_unread e1
  obtain rfl := h10.eq_unread es
  have l0 := load_whole (F := F) a3 h3 x0 inb_S1024x1024_S1024x1024_0_0
  have l1 := load_whole (F := F) a4 h4 x1 inb_S1024x1024_S1024x1024_0_0
  have ls := load_whole (F := F) a10 h10 s inb_S1024x1024_S1024x1024_0_0
  sl_exec (disch := first | sl_exact ho | sl_exact hc)
  sl_step
  iapply Hk
  isplitl [H0]
  · iexists _; isplitr; · ipureintro; exact h3.read_unread _
    iexact H0
  isplitl [H1]
  · iexists _; isplitr; · ipureintro; exact h4.read_unread _
    iexact H1
  iexists _
  isplitr
  swap; · iexact HS
  ipureintro
  refine (View.read_writes_full _ _ _ _ _).trans ?_
  congr

set_option maxHeartbeats 2000000 in
/-- The run of the last step: the rows' block and the sum block are made of the finished scratch. -/
theorem run_close (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1024x1024 .f32) (h10 : a10.IsWhole)
  (ho : ¬opens i) (hc : closes i)
  (x0 x1 : Vec F S1024x1024 .bf16) (x2 x3 : Vec F S1024x1024 .f32) (x4 : Vec F S1x1024 .f32) (r : Vec F S1x1024 .f32) (s : Vec F S1024x1024 .f32) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare r ∗ owns (c : Thread nD τ) a10 fullShare s
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare (k0_pay4 (k0_pay2 s x0 x1) x2 x3 x4) ∗ owns (c : Thread nD τ) a9 fullShare (k0_pay5 (isFirst i) (k0_pay2 s x0 x1) x2 r) ∗ owns (c : Thread nD τ) a10 fullShare (k0_pay2 s x0 x1)) -∗ K ⟨⟩))
      ⊢ wp frame (wpE (defs₀ (F := F)) Variants.none c none) E (cc0_mlp_up_dx i a3 h3 a4 h4 a5 h5 a6 h6 a7 h7 a8 h8 a9 h9 a10 h10) K := by
  simp only [cc0_mlp_up_dx_eq_skeleton]
  unfold cc0_mlp_up_dx_skel
  simp only [k0_part1_eq_skeleton]
  unfold k0_part1_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%f6, %e6, H6⟩, ⟨%fs, %es, HS⟩, Hk⟩
  obtain rfl := h3.eq_unread e0
  obtain rfl := h4.eq_unread e1
  obtain rfl := h5.eq_unread e2
  obtain rfl := h6.eq_unread e3
  obtain rfl := h7.eq_unread e4
  obtain rfl := h9.eq_unread e6
  obtain rfl := h10.eq_unread es
  have l0 := load_whole (F := F) a3 h3 x0 inb_S1024x1024_S1024x1024_0_0
  have l1 := load_whole (F := F) a4 h4 x1 inb_S1024x1024_S1024x1024_0_0
  have l2 := load_whole (F := F) a5 h5 x2 inb_S1024x1024_S1024x1024_0_0
  have l3 := load_whole (F := F) a6 h6 x3 inb_S1024x1024_S1024x1024_0_0
  have l4 := load_whole (F := F) a7 h7 x4 inb_S1x1024_S1x1024_0_0
  have l6 := load_whole (F := F) a9 h9 r inb_S1x1024_S1x1024_0_0
  have ls := load_whole (F := F) a10 h10 s inb_S1024x1024_S1024x1024_0_0
  sl_exec (disch := first | sl_exact ho | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _
    isplitr
    swap; · iexact H5
    ipureintro
    refine (View.read_writes_full _ _ _ _ _).trans ?_
    exact congrArg (fun z => k0_pay4 z x2 x3 x4) (View.readCov_cons_toLoadRect _ _ _ _)
  isplitl [H6]
  · iexists _
    isplitr
    swap; · iexact H6
    ipureintro
    refine (View.read_writes_full _ _ _ _ _).trans ?_
    exact congrArg (fun z => k0_pay5 (isFirst i) z x2 r) (View.readCov_cons_toLoadRect _ _ _ _)
  iexists _
  isplitr
  swap; · iexact HS
  ipureintro
  refine (View.read_writes_full _ _ _ _ _).trans ?_
  congr

theorem opens_iff (t : Fin cfg0.N) : opens (grid0.coords t) ↔ t.val % 4 = 0 := by
  have ht : t.val < 32 := Nat.lt_of_lt_of_eq t.isLt N_0
  have e2 : (grid0.coords t 2).val = t.val / 1 % 4 := Pipeline.Grid.coords_val t 2 (by decide) rfl
  simp only [opens, e2]; word_cmp

theorem closes_iff (t : Fin cfg0.N) : closes (grid0.coords t) ↔ t.val % 4 = 3 := by
  have ht : t.val < 32 := Nat.lt_of_lt_of_eq t.isLt N_0
  have e2 : (grid0.coords t 2).val = t.val / 1 % 4 := Pipeline.Grid.coords_val t 2 (by decide) rfl
  simp only [closes, k0_cond2, e2]; word_cmp

theorem isFirst_eq (t : Fin cfg0.N) : isFirst (grid0.coords t) = if t.val / 4 = 0 then 1#1 else 0#1 := by
  have ht : t.val < 32 := Nat.lt_of_lt_of_eq t.isLt N_0
  have e0 : (grid0.coords t 0).val = t.val / 4 % 8 := Pipeline.Grid.coords_val t 0 (by decide) rfl
  have e : (grid0.coords t 0).val = t.val / 4 := by omega
  simp only [isFirst, e]
  exact first_flag (t.val / 4) 8 (by decide) (by omega)

theorem idle_of (t : Fin cfg0.N) (h : t.val % 4 ≠ 3) : k0_cond2 (grid0.coords t) ≠ 1#1 := fun e => h ((closes_iff t).mp e)

theorem idle5 (t : Fin cfg0.N) (h : t.val % 4 ≠ 3) : cfg0.idle 5 (grid0.coords t) = true := by
  show (!(k0_cond2 (grid0.coords t) == 1#1)) = true
  rw [beq_false_of_ne (idle_of t h)]; rfl

theorem idle6 (t : Fin cfg0.N) (h : t.val % 4 ≠ 3) : cfg0.idle 6 (grid0.coords t) = true := idle5 t h

theorem live5 (t : Fin cfg0.N) (h : t.val % 4 = 3) : cfg0.idle 5 (grid0.coords t) = false := by
  show (!(k0_cond2 (grid0.coords t) == 1#1)) = false
  rw [show k0_cond2 (grid0.coords t) = 1#1 from (closes_iff t).mpr h]; rfl

theorem live6 (t : Fin cfg0.N) (h : t.val % 4 = 3) : cfg0.idle 6 (grid0.coords t) = false := live5 t h

variable (m : (ℓ : Loc nD τ sig) → Buf (Elt F) ℓ) (ρ : Dev nD → PrngReg)

/-- The scratch after point `n`: a row block's products summed so far. -/
def accAt (c : Dev nD) : (n : ℕ) → n < cfg0.N → Vec F S1024x1024 .f32
  | 0, hn => k0_pay2 k0_pay1 (iblk m c 0 ⟨0, hn⟩) (iblk m c 1 ⟨0, hn⟩)
  | n + 1, hn => k0_pay2 (if (n + 1) % 4 = 0 then k0_pay1 else accAt c n (Nat.lt_of_succ_lt hn)) (iblk m c 0 ⟨n + 1, hn⟩) (iblk m c 1 ⟨n + 1, hn⟩)

/-- The first result's block after a last step. -/
def rowsAt (c : Dev nD) (t : Fin cfg0.N) : Vec F S1024x1024 .f32 := k0_pay4 (accAt m c t.val t.isLt) (iblk m c 2 t) (iblk m c 3 t) (iblk m c 4 t)

/-- The second result's block after point `n`: it changes at the last step of a row block, and the first row block ignores what it held. -/
def sumAt (c : Dev nD) : (n : ℕ) → n < cfg0.N → Vec F S1x1024 .f32
  | 0, _ => Rows.blank S1x1024
  | n + 1, hn => if (n + 1) % 4 = 3 then
      k0_pay5 (if (n + 1) / 4 = 0 then 1#1 else 0#1) (accAt m c (n + 1) hn) (iblk m c 2 ⟨n + 1, hn⟩) (sumAt c n (Nat.lt_of_succ_lt hn))
    else sumAt c n (Nat.lt_of_succ_lt hn)

theorem acc_open (c : Dev nD) (t : Fin cfg0.N) (h : t.val % 4 = 0) : accAt m c t.val t.isLt = k0_pay2 k0_pay1 (iblk m c 0 t) (iblk m c 1 t) := by
  obtain ⟨n, hn⟩ := t
  cases n with
  | zero => rfl
  | succ n =>
    show k0_pay2 (if (n + 1) % 4 = 0 then k0_pay1 else accAt m c n _) _ _ = _
    rw [if_pos h]

theorem acc_step (c : Dev nD) (t : Fin cfg0.N) (h : t.val % 4 ≠ 0) :
    accAt m c t.val t.isLt = k0_pay2 (accAt m c (t.val - 1) (Nat.lt_of_le_of_lt (Nat.sub_le _ _) t.isLt)) (iblk m c 0 t) (iblk m c 1 t) := by
  obtain ⟨n, hn⟩ := t
  cases n with
  | zero => exact absurd rfl h
  | succ n =>
    show k0_pay2 (if (n + 1) % 4 = 0 then k0_pay1 else accAt m c n _) _ _ = _
    rw [if_neg h]
    rfl

theorem sum_idle (c : Dev nD) (n : ℕ) (hn : n + 1 < cfg0.N) (h : (n + 1) % 4 ≠ 3) : sumAt m c (n + 1) hn = sumAt m c n (Nat.lt_of_succ_lt hn) := by
  show (if (n + 1) % 4 = 3 then _ else _) = _
  rw [if_neg h]

theorem sum_live (c : Dev nD) (n : ℕ) (hn : n + 1 < cfg0.N) (h : (n + 1) % 4 = 3) :
    sumAt m c (n + 1) hn = k0_pay5 (if (n + 1) / 4 = 0 then 1#1 else 0#1) (accAt m c (n + 1) hn) (iblk m c 2 ⟨n + 1, hn⟩) (sumAt m c n (Nat.lt_of_succ_lt hn)) := by
  show (if (n + 1) % 4 = 3 then _ else _) = _
  rw [if_pos h]

/-- The scratch between points: anything before the first, then what the point before left. -/
def carried (c : Dev nD) : (n : ℕ) → n ≤ cfg0.N → sProp 𝕄
  | 0, _ => Pipeline.ΦA spec0 c
  | n + 1, hn => iprop(iprop(owns (c : Thread nD τ) (Memref.whole cc0_scratch0) fullShare (accAt m c n hn)) ∗ (∃ r, prngReg c r))

theorem rest_eq (c : Dev nD) : (Pipeline.ΦA spec0 c : sProp 𝕄) = iprop(iprop(∃ d, owns (c : Thread nD τ) (Memref.whole cc0_scratch0) fullShare d) ∗ (∃ r, prngReg c r)) := by
  unfold Pipeline.ΦA
  rw [scopedRest0_eq]
  simp only [owns_whole]
  try rfl

theorem carried_pos (c : Dev nD) (n : ℕ) (h : n ≤ cfg0.N) (hz : n ≠ 0) :
    carried m c n h = iprop(iprop(owns (c : Thread nD τ) (Memref.whole cc0_scratch0) fullShare (accAt m c (n - 1) (by omega))) ∗ (∃ r, prngReg c r)) := by
  cases n with
  | zero => exact absurd rfl hz
  | succ n => rfl

/-- Whatever the point, the scratch holds something. -/
theorem carried_any (c : Dev nD) (n : ℕ) (h : n ≤ cfg0.N) :
    carried m c n h ⊢ iprop(iprop(∃ d, owns (c : Thread nD τ) (Memref.whole cc0_scratch0) fullShare d) ∗ (∃ r, prngReg c r)) := by
  cases n with
  | zero => rw [← rest_eq c]; exact Idealize.SL.BI.Entails.refl _
  | succ n =>
    rw [carried_pos m c _ h (Nat.succ_ne_zero n)]
    iintro ⟨HS, Hg⟩
    isplitl [HS]
    · iexists _; iexact HS
    iexact Hg

/-- The launch's proof data: each input's block stays, the results hold `rowsAt` and `sumAt`, the scratch `accAt`. -/
def data (_ : Fin 1) (c : Dev nD) : Dat τ (Elt F) Unit ℕ (UR sig nD τ) ℕ cfg0 c where
  A w := V m c (Pipeline.arrRef spec0 w)
  after w t := match w with
    | ⟨5, _⟩ => rowsAt m c t
    | ⟨6, _⟩ => sumAt m c t.val t.isLt
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := carried m c t.val (Nat.le_of_lt_succ t.isLt)
  q _ := fullShare
  owed _ := 0

theorem data_arr (c : Dev nD) (w : Fin cfg0.W) : (data m 0 c).A w = V m c (Pipeline.arrRef spec0 w) := by
  dsimp only [data]

theorem data_at (c : Dev nD) (t : Fin cfg0.N) : (data m 0 c).Φ t.castSucc = carried m c t.val (Nat.le_of_lt t.isLt) := by
  dsimp only [data]; exact Pipeline.Dat.Φ_castSucc (carried m c) t

theorem after_rows (c : Dev nD) (t : Fin cfg0.N) : (data m 0 c).after 5 t = rowsAt m c t := by dsimp only [data]
theorem after_sum (c : Dev nD) (t : Fin cfg0.N) : (data m 0 c).after 6 t = sumAt m c t.val t.isLt := by dsimp only [data]

theorem no_flush5 (t : Fin cfg0.N) (h : t.val % 4 ≠ 3) : (cfg0.win 5).flush t = false := Bool.eq_false_iff.mpr fun e => h ((flush0_5 t).mp e)
theorem no_flush6 (t : Fin cfg0.N) (h : t.val < 31) : (cfg0.win 6).flush t = false := Bool.eq_false_iff.mpr fun e => by
  have := (flush0_6 t).mp e; omega

/-- Before a later point the sum block is what the point before left. -/
theorem before_next (c : Dev nD) (d) (n : ℕ) (hn : n + 1 < cfg0.N) :
    (data m 0 c).before 6 ⟨n + 1, hn⟩ d = (data m 0 c).left 6 ⟨n, Nat.lt_of_succ_lt hn⟩ d := by
  have hN : n + 1 < 32 := Nat.lt_of_lt_of_eq hn N_0
  refine (Dat.before_of_pos (data m 0 c) 6 ⟨n + 1, hn⟩ (Nat.succ_ne_zero _) (Pipeline.Window.fetch_out _ rfl _) d).trans ?_
  exact if_neg (fun e => absurd (e.symm.trans (no_flush6 ⟨n, Nat.lt_of_succ_lt hn⟩ (by show n < 31; omega))) (by decide))

theorem left_live (c : Dev nD) (d) (t : Fin cfg0.N) (h : t.val % 4 = 3) : (data m 0 c).left 6 t d = sumAt m c t.val t.isLt := by
  unfold Dat.left
  rw [show cfg0.idle 6 (cfg0.grid.coords t) = false from live6 t h]
  show (data m 0 c).kept 6 t d = _
  unfold Dat.kept
  rw [Pipeline.fill_of_clip_none 6 _ (fun _ => rfl) d ((data m 0 c).after 6 t), Pipeline.Window.fill_cut]
  exact after_sum m c t

theorem left_idle (c : Dev nD) (d) (t : Fin cfg0.N) (h : t.val % 4 ≠ 3) : (data m 0 c).left 6 t d = (data m 0 c).before 6 t d := by
  unfold Dat.left
  rw [show cfg0.idle 6 (cfg0.grid.coords t) = true from idle6 t h]

/-- Past the first row block the sum block is found as it was left, through the points that do not touch it. -/
theorem sum_found (c : Dev nD) (d) : ∀ (n : ℕ) (hn : n + 1 < cfg0.N), 3 ≤ n → (data m 0 c).before 6 ⟨n + 1, hn⟩ d = sumAt m c n (Nat.lt_of_succ_lt hn)
  | 0, _, h => absurd h (by decide)
  | n + 1, hn, h => by
    rw [before_next]
    by_cases hl : (n + 1) % 4 = 3
    · exact left_live m c d ⟨n + 1, Nat.lt_of_succ_lt hn⟩ hl
    · rw [left_idle m c d ⟨n + 1, Nat.lt_of_succ_lt hn⟩ hl, sum_found c d n (Nat.lt_of_succ_lt hn) (by omega), sum_idle m c n _ hl]

/-- After a last step the sum block is `sumAt`, from whatever the point found in it. -/
theorem sum_step (c : Dev nD) (t : Fin cfg0.N) (h : t.val % 4 = 3) (d) :
    k0_pay5 (isFirst (grid0.coords t)) (accAt m c t.val t.isLt) (iblk m c 2 t) ((data m 0 c).before 6 t d) = sumAt m c t.val t.isLt := by
  rw [isFirst_eq]
  obtain ⟨n, hn⟩ := t
  cases n with
  | zero => exact absurd (show 0 % 4 = 3 from h) (by decide)
  | succ n =>
    rw [sum_live m c n hn h]
    by_cases h0 : (n + 1) / 4 = 0
    · show k0_pay5 (if (n + 1) / 4 = 0 then 1#1 else 0#1) _ _ _ = _
      rw [if_pos h0]; rfl
    · rw [sum_found m c d n hn (by omega)]

/-- At a point that a window is live at, the body leaves the proof data's block. -/
theorem live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact
  rw [h]

set_option maxHeartbeats 4000000 in
/-- The body at any point, in the library's form. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((data m 0 c).Φ t.castSucc ∗ (data m 0 c).owesAt () t.castSucc
        ∗ (∃ d, owns (c : Thread nD τ) (win0_0.stage (cfg0.slots t 0)) fullShare ((data m 0 c).before 0 t d))
        ∗ (∃ d, owns (c : Thread nD τ) (win0_1.stage (cfg0.slots t 1)) fullShare ((data m 0 c).before 1 t d))
        ∗ (∃ d, owns (c : Thread nD τ) (win0_2.stage (cfg0.slots t 2)) fullShare ((data m 0 c).before 2 t d))
        ∗ (∃ d, owns (c : Thread nD τ) (win0_3.stage (cfg0.slots t 3)) fullShare ((data m 0 c).before 3 t d))
        ∗ (∃ d, owns (c : Thread nD τ) (win0_4.stage (cfg0.slots t 4)) fullShare ((data m 0 c).before 4 t d))
        ∗ (∃ d, owns (c : Thread nD τ) (win0_5.stage (cfg0.slots t 5)) fullShare ((data m 0 c).before 5 t d))
        ∗ (∃ d, owns (c : Thread nD τ) (win0_6.stage (cfg0.slots t 6)) fullShare ((data m 0 c).before 6 t d))))
    (Q := fun _ => iprop((data m 0 c).Φ t.succ ∗ (data m 0 c).owesAt () t.castSucc
        ∗ (data m 0 c).leavesExact 0 t
        ∗ (data m 0 c).leavesExact 1 t
        ∗ (data m 0 c).leavesExact 2 t
        ∗ (data m 0 c).leavesExact 3 t
        ∗ (data m 0 c).leavesExact 4 t
        ∗ (data m 0 c).leavesExact 5 t
        ∗ (data m 0 c).leavesExact 6 t)) ?_ rfl .rfl fun _ => .rfl
  unfold bodyAt0
  rw [show (data m 0 c).Φ t.succ = iprop(iprop(owns (c : Thread nD τ) (Memref.whole cc0_scratch0) fullShare (accAt m c t.val t.isLt)) ∗ (∃ r, prngReg c r)) from rfl, data_at m c t]
  rw [live m c 0 t rfl, live m c 1 t rfl, live m c 2 t rfl, live m c 3 t rfl, live m c 4 t rfl]
  simp only [before0_0_of m (data m 0 c) (data_arr m c 0) (fun _ => rfl), before0_1_of m (data m 0 c) (data_arr m c 1) (fun _ => rfl), before0_2_of m (data m 0 c) (data_arr m c 2) (fun _ => rfl), before0_3_of m (data m 0 c) (data_arr m c 3) (fun _ => rfl), before0_4_of m (data m 0 c) (data_arr m c 4) (fun _ => rfl)]
  have hN : t.val < 32 := Nat.lt_of_lt_of_eq t.isLt N_0
  by_cases h0 : t.val % 4 = 0
  · have h3 : t.val % 4 ≠ 3 := by omega
    rw [Dat.leavesExact_idle (data m 0 c) 5 t (idle5 t h3) (no_flush5 t h3), Dat.leavesExact_idle (data m 0 c) 6 t (idle6 t h3) (no_flush6 t (by omega))]
    rw [acc_open m c t h0]
    refine (BIClass.sep_mono (carried_any m c _ _) (BI.Entails.refl _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_open c (grid0.coords t) _ _ _ _ _ _ _ _ _ _ _ _ _ _ _ _ ((opens_iff t).mpr h0) (fun e => h3 ((closes_iff t).mp e)) (iblk m c 0 t) (iblk m c 1 t) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := by omega
    rw [carried_pos m c _ _ hz]
    by_cases h3 : t.val % 4 = 3
    · rw [live m c 5 t (live5 t h3), live m c 6 t (live6 t h3), after_rows, after_sum, rowsAt]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      rw [← sum_step m c t h3 d6, acc_step m c t h0]
      iapply (run_close c (grid0.coords t) _ _ _ _ _ _ _ _ _ _ _ _ _ _ _ _ (fun e => h0 ((opens_iff t).mp e)) ((closes_iff t).mpr h3) (iblk m c 0 t) (iblk m c 1 t) (iblk m c 2 t) (iblk m c 3 t) (iblk m c 4 t) ((data m 0 c).before 6 t d6) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (data m 0 c) 5 t (idle5 t h3) (no_flush5 t h3), Dat.leavesExact_idle (data m 0 c) 6 t (idle6 t h3) (no_flush6 t (by omega))]
      rw [acc_step m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ (fun e => h0 ((opens_iff t).mp e)) (fun e => h3 ((closes_iff t).mp e)) (iblk m c 0 t) (iblk m c 1 t) (accAt m c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem carried_in (c : Dev nD) : Pipeline.ΦA spec0 c ⊢ (data m 0 c).Φ 0 := by
  rw [show (data m 0 c).Φ 0 = carried m c 0 (Nat.zero_le _) from rfl]
  exact Idealize.SL.BI.Entails.refl _

theorem carried_out (c : Dev nD) : (data m 0 c).Φ (Fin.last cfg0.N) ⊢ Pipeline.ΦA spec0 c := by
  rw [show (data m 0 c).Φ (Fin.last cfg0.N) = carried m c (Fin.last cfg0.N).val (Nat.le_of_lt_succ (Fin.last cfg0.N).isLt) from rfl, rest_eq]
  exact carried_any m c _ _

set_option backward.isDefEq.respectTransparency.types false in
/-- The launch: it ends with every window's array at what the proof data give, and with all counters at zero. -/
theorem launch : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arr m) (hin := carried_in m) (hout := carried_out m)

theorem run : θ_run defs (onTc (τ := τ) (main (F := F))) (s₀ m ρ) (Pipeline.FramePost cfgs (data m) 0 (V m)) :=
  (θ_run defs _ _).mono (fun _ h => h.1) (launch m ρ)

/-- What every run ends with: the results at what the proof data give, the arguments as they were. -/
theorem run_blocks : θ_run defs (onTc (τ := τ) (main (F := F))) ⟨m, fun _ => 0, ρ⟩ fun r => ∀ c : Dev nD,
      r.2.mem ((c.tc : Thread nD τ).loc main_v0_0) = (data m 0 c).arrAt 5 cfg0.N
      ∧ r.2.mem ((c.tc : Thread nD τ).loc main_v0_1) = (data m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 5, (h.1 c).1 6, h.2 c⟩)
    (θ_run_and (run m ρ) (frame_of m ρ (data m) (data_arr m) (run m ρ)))

theorem idealFrame : Cert.quiescent_UpDxIdeal := fun m g _ =>
  θ_run_and (frame_of m g (data m) (data_arr m) (run m g)) ((θ_run defs _ _).mono (fun _ h => h.2) (launch m g))

/-- The kernel's and its idealization's function tables are one. -/
theorem table_eq : Cert.UpDx.defs₀ (F := F) = defs₀ (F := F) := by
  refine congrArg Defs.onTc (funext fun l => ?_)
  obtain ⟨l, hl⟩ := l
  cases l with
  | zero => rfl
  | succ n => exact absurd hl (by omega)

theorem defs_eq : Cert.UpDx.defs (F := F) = defs (F := F) := congrArg (Pipeline.defs pcfgs) table_eq

theorem kernelFrame : Cert.quiescent_UpDx := by
  intro m g _
  rw [defs_eq]
  exact θ_run_and (frame_of m g (data m) (data_arr m) (run m g)) ((θ_run defs _ _).mono (fun _ h => h.2) (launch m g))

end Cert.UpDxIdeal.Rows

end
-- ==== Proof.RmsMath.lean ====
/- The gradient of a row divided by the root of its mean square: the two ways of writing it agree for all values, infinite ones included. -/
module

public import Idealize.ShloMosaic.Lib.Pointwise
public import Idealize.ShloMosaic.Lib.Pipeline.ValueKit

@[expose] public section

noncomputable section

namespace Cert.Rms

open Idealize.ShloMosaic

/-- The width of a row, the small constant and the factor minus one half. -/
def wid : EReal := Ideal.ofBits .f32 1149239296#32
def eps : EReal := Ideal.ofBits .f32 897988541#32
def mhalf : EReal := Ideal.ofBits .f32 3204448256#32

theorem wid_real : wid = ((1024 : ℝ) : EReal) := by
  unfold wid Ideal.ofBits Ideal.ieee
  simp only
  rw [if_neg (by decide), if_neg (by decide), if_neg (by decide)]
  norm_num [Nat.shiftRight_eq_div_pow]

theorem mhalf_real : mhalf = ((-(1 / 2) : ℝ) : EReal) := by
  unfold mhalf Ideal.ofBits Ideal.ieee
  simp only
  rw [if_neg (by decide), if_neg (by decide), if_pos (by decide)]
  norm_num [Nat.shiftRight_eq_div_pow]

theorem eps_real : ∃ e : ℝ, 0 < e ∧ eps = (e : EReal) := by
  unfold eps Ideal.ofBits Ideal.ieee
  simp only
  rw [if_neg (by decide), if_neg (by decide), if_neg (by decide)]
  exact ⟨_, by norm_num [Nat.shiftRight_eq_div_pow], rfl⟩

/-- The mean square of a row with the small constant added, and the inverse of its root. -/
def pw (r : Fin 1024 → EReal) : EReal := Ideal.div (∑ k, r k * r k) wid + eps
def inv (r : Fin 1024 → EReal) : EReal := Ideal.rsqrt (pw r)

theorem sq_nonneg (x : EReal) : 0 ≤ x * x := EReal.mul_nonneg_iff.mpr ((le_total 0 x).imp (fun h => ⟨h, h⟩) fun h => ⟨h, h⟩)

theorem div_wid (x : EReal) : Ideal.div x wid = x * (((1024 : ℝ)⁻¹ : ℝ) : EReal) := by
  have h : ((1024 : ℝ) : EReal) ≠ 0 := by exact_mod_cast (by norm_num : (1024 : ℝ) ≠ 0)
  rw [wid_real, Ideal.div, if_neg h, EReal.coe_inv]

/-- The mean square with the constant is a positive real or infinite. -/
theorem pw_cases (r : Fin 1024 → EReal) : pw r = ⊤ ∨ ∃ v : ℝ, 0 < v ∧ pw r = (v : EReal) := by
  obtain ⟨e, he, hE⟩ := eps_real
  have h0 : 0 ≤ Ideal.div (∑ k, r k * r k) wid := by
    rw [div_wid]
    exact EReal.mul_nonneg (Finset.sum_nonneg fun k _ => sq_nonneg _) (by exact_mod_cast (by norm_num : (0 : ℝ) ≤ (1024 : ℝ)⁻¹))
  rw [pw, hE]
  generalize Ideal.div (∑ k, r k * r k) wid = A at h0
  induction A with
  | bot => exact absurd h0 (by simp)
  | top => exact Or.inl (by simp)
  | coe a =>
    have ha : 0 ≤ a := by exact_mod_cast h0
    exact Or.inr ⟨a + e, by linarith, by rw [EReal.coe_add]⟩

/-- Twice a value is the value times two, for any extended real. -/
theorem twice (y : EReal) : y + y = y * ((2 : ℝ) : EReal) := by
  induction y with
  | bot => rw [EReal.bot_mul_coe_of_pos (by norm_num)]; rfl
  | top => rw [EReal.top_mul_coe_of_pos (by norm_num)]; rfl
  | coe a => rw [← EReal.coe_add, ← EReal.coe_mul]; congr 1; ring

/-- The inverse root is zero, or a real whose square is the inverse of the mean square. -/
theorem inv_cases (r : Fin 1024 → EReal) : inv r = 0 ∧ Ideal.div (inv r) (pw r) = 0 ∨
    ∃ c : ℝ, inv r = (c : EReal) ∧ Ideal.div (inv r) (pw r) = ((c * c * c : ℝ) : EReal) := by
  rcases pw_cases r with h | ⟨v, hv, h⟩
  · refine Or.inl ⟨by rw [inv, h, Ideal.rsqrt_top], ?_⟩
    rw [inv, h, Ideal.rsqrt_top, Ideal.div, if_neg (by simp), zero_mul]
  · refine Or.inr ⟨(Real.sqrt v)⁻¹, ?_, ?_⟩
    · rw [inv, h, Ideal.rsqrt_coe, if_neg (not_lt.mpr hv.le), if_neg hv.ne']
    · have hne : (v : EReal) ≠ 0 := by exact_mod_cast hv.ne'
      have hs : (Real.sqrt v)⁻¹ * (Real.sqrt v)⁻¹ = v⁻¹ := by rw [← mul_inv, Real.mul_self_sqrt hv.le]
      rw [inv, h, Ideal.rsqrt_coe, if_neg (not_lt.mpr hv.le), if_neg hv.ne', Ideal.div, if_neg hne, ← EReal.coe_inv, ← EReal.coe_mul, hs, mul_comm]

/-- Half the factor by which a row enters its own gradient. -/
def half (r u : Fin 1024 → EReal) : EReal := Ideal.div ((∑ k, r k * u k) * (mhalf * Ideal.div (inv r) (pw r))) wid

/-- One entry of the gradient of a row, as the reference writes it. -/
def grad (r u : Fin 1024 → EReal) (d : EReal) (q : Fin 1024) : EReal := d + u q * inv r + r q * half r u + half r u * r q

/-- The kernel's form of the entry is the reference's. -/
theorem grad_eq (r u : Fin 1024 → EReal) (d : EReal) (q : Fin 1024) :
    inv r * u q - r q * (inv r * inv r * inv r) * Ideal.div (∑ k, u k * r k) wid + d = grad r u d q := by
  have hk : r q * half r u + half r u * r q = -(r q * (inv r * inv r * inv r) * Ideal.div (∑ k, u k * r k) wid) := by
    have hT : ∑ k, u k * r k = ∑ k, r k * u k := Finset.sum_congr rfl fun k _ => mul_comm _ _
    rw [half, hT, div_wid, div_wid, mul_comm (_ * _ * _) (r q), twice, mhalf_real]
    generalize ∑ k, r k * u k = T
    rcases inv_cases r with ⟨h, h'⟩ | ⟨c, h, h'⟩
    · rw [h', h]; simp
    · rw [h', h, ← EReal.coe_mul, ← EReal.coe_mul, ← EReal.coe_mul]
      have e1 : r q * (T * ((-(1 / 2) * (c * c * c) : ℝ) : EReal) * ((1024 : ℝ)⁻¹ : ℝ)) * ((2 : ℝ) : EReal)
          = (r q * T) * ((-(1 / 2) * (c * c * c) * (1024 : ℝ)⁻¹ * 2 : ℝ) : EReal) := by
        rw [EReal.coe_mul (-(1 / 2) * (c * c * c) * (1024 : ℝ)⁻¹) 2, EReal.coe_mul (-(1 / 2) * (c * c * c)) (1024 : ℝ)⁻¹, EReal.coe_mul (-(1 / 2)) (c * c * c)]
        ac_rfl
      have e2 : r q * ((c * c * c : ℝ) : EReal) * (T * ((1024 : ℝ)⁻¹ : ℝ)) = (r q * T) * ((c * c * c * (1024 : ℝ)⁻¹ : ℝ) : EReal) := by
        rw [EReal.coe_mul (c * c * c) (1024 : ℝ)⁻¹]
        ac_rfl
      rw [e1, e2, ← mul_neg, ← EReal.coe_neg]
      congr 2
      ring
  rw [grad, add_assoc (d + _), hk, sub_eq_add_neg, mul_comm (inv r) (u q)]
  ac_rfl

end Cert.Rms

end
-- ==== Proof.RmsRef.lean ====
/- The gradient of the normalisation by the root mean square as the reference writes it, and its entries. -/
module

public import proofs.«01_k».proof.Proof.Gen.GradXRefIdeal.Run
public import proofs.«01_k».proof.Proof.RmsMath
public import Idealize.ShloMosaic.Lib.Pipeline.ValueKit

@[expose] public section

set_option maxRecDepth 16384

noncomputable section

namespace Cert.Rms

open Idealize.ShloMosaic Idealize.ShloMosaic.TcCoe Idealize.SL.Sem
open Cert.GradXRefIdeal Cert.GradXRefIdeal.Gen

/-- The mean of the squares of each row, with the small constant added. -/
def power (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- A row of a matrix of rows. -/
def row {M N : ℕ} (x : Shape.Idx ⟨2, ![M, N]⟩ → EReal) (p : Fin M) : Fin N → EReal := fun k => x (ix2 p k)

theorem power_at (x : FVec Ideal S8192x1024 .f32) (p : Fin 8192) (q : Fin 1) : power x (ix2 p q) = pw (row x p) := by
  pointwise [power, pw, row, wid, eps]

def scaled (g : FVec Ideal S1x1024 .f32) (dn : FVec Ideal S8192x1024 .f32) : FVec Ideal S8192x1024 .f32 :=
  mulf dn (broadcastInDim S8192x1024 ![0, 1] bcast_S1x1024_S8192x1024_0_1 (broadcastInDim S1x1024 ![1] bcast_S1024_S1x1024_1 (shapeCast _ g shapeCasts_S1x1024_S1024)))

theorem scaled_at (g : FVec Ideal S1x1024 .f32) (dn : FVec Ideal S8192x1024 .f32) (p : Fin 8192) (q : Fin 1024) :
    scaled g dn (ix2 p q) = dn (ix2 p q) * g (ix2 0 q) := by
  pointwise [scaled]

/-- The factor by which each row of `x` enters its own gradient, half of it. -/
def pull (x : FVec Ideal S8192x1024 .f32) (u : FVec Ideal S8192x1024 .f32) : FVec Ideal S8192 .f32 :=
  Host.reduceAdd (Host.divf (mulf (shapeCast _ (Host.reduceAdd (mulf x u) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (power x)) (power x))))
    (broadcastInDim S8192x1 ![] bcast_S_S8192x1 (constant S_ .f32 0x44800000#32))) (constant S_ .f32 0x00000000#32) reducesTo_S8192x1_S8192_d1 h_S_

theorem pull_at (x : FVec Ideal S8192x1024 .f32) (u : FVec Ideal S8192x1024 .f32) (p : Fin 8192) : pull x u (ix1 p) = half (row x p) (row u p) := by
  pointwise [pull, half, inv, mhalf, wid, row]
  simp only [Fin.sum_univ_one, power_at]

/-- The gradient of the normalised rows, with the gradient of the rows themselves. -/
def rows (x : FVec Ideal S8192x1024 .f32) (g : FVec Ideal S1x1024 .f32) (dn dh : FVec Ideal S8192x1024 .f32) : FVec Ideal S8192x1024 .f32 :=
  addf (addf (addf dh (mulf (scaled g dn) (broadcastInDim S8192x1024 ![0, 1] bcast_S8192x1_S8192x1024_0_1 (Host.rsqrt (power x)))))
    (mulf x (broadcastInDim S8192x1024 ![0] bcast_S8192_S8192x1024_0 (pull x (scaled g dn)))))
    (mulf (broadcastInDim S8192x1024 ![0] bcast_S8192_S8192x1024_0 (pull x (scaled g dn))) x)

theorem rows_at (x : FVec Ideal S8192x1024 .f32) (g : FVec Ideal S1x1024 .f32) (dn dh : FVec Ideal S8192x1024 .f32) (p : Fin 8192) (q : Fin 1024) :
    rows x g dn dh (ix2 p q) = grad (row x p) (fun k => dn (ix2 p k) * g (ix2 0 k)) (dh (ix2 p q)) q := by
  pointwise [rows, grad, inv, row]
  rw [pull_at, power_at, show row (scaled g dn) p = fun k => dn (ix2 p k) * g (ix2 0 k) from funext fun k => scaled_at g dn p k, scaled_at]

/-- The gradient of the gain. -/
def gain (x dn : FVec Ideal S8192x1024 .f32) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt (power x)))) dn)
    (constant S_ .f32 0x00000000#32) reducesTo_S8192x1024_S1024_d0 h_S_) shapeCasts_S1024_S1x1024) (constant S_ .f32 0x00000000#32) reducesTo_S1x1024_S1024_d0 h_S_)

theorem gain_at (x dn : FVec Ideal S8192x1024 .f32) (o : Fin 1) (q : Fin 1024) :
    gain x dn (ix2 o q) = ∑ r : Fin 8192, x (ix2 r q) * inv (row x r) * dn (ix2 r q) := by
  pointwise [gain, inv, row]
  simp only [Fin.sum_univ_one, power_at]

end Cert.Rms

end
-- ==== Proof.UpDx.lean ====
/- The gradient through the up projection and the normalisation before it: the kernel's two results are the reference's. -/
module

public import proofs.«01_k».proof.Proof.Gen.UpDxRefIdeal.Run
public import proofs.«01_k».proof.Proof.UpDxRun
public import proofs.«01_k».proof.Proof.RmsRef
public import proofs.«01_k».proof.Proof.MmMath

@[expose] public section

set_option maxRecDepth 16384

noncomputable section

namespace Cert.UpDxRefIdeal.Rows

open Idealize.ShloMosaic Idealize.ShloMosaic.TcCoe Idealize.SL.Sem
open Cert.UpDxRefIdeal Cert.UpDxRefIdeal.Gen Cert.Mm Cert.Rms

/-- The reference's gradient of the normalised rows. -/
def dn (W : FVec Ideal S4096x1024 .bf16) (A : FVec Ideal S8192x4096 .bf16) : FVec Ideal S8192x1024 .f32 :=
  Host.dotGeneral dot_S8192x4096_S1024x4096_S8192x1024_1_1_0_0_n_n none (φ₁ := .f32) (φ₂ := .f32) (extf .f32 A bitsLt_bf16_f32)
    (transpose S1024x4096 [1, 0] (extf .f32 W bitsLt_bf16_f32) transposes_S4096x1024_S1024x4096_1_0)

theorem dn_at (W : FVec Ideal S4096x1024 .bf16) (A : FVec Ideal S8192x4096 .bf16) (p : Fin 8192) (q : Fin 1024) : dn W A (ix2 p q) = nn A W p q := by
  pointwise [dn, nn]

theorem out0_eq (m : (ℓ : Loc nD τ sig) → Buf (Elt Ideal) ℓ) (c : Dev nD) :
    Cert.UpDxRefIdeal.Value.res_main_v42 m c = rows (m ((c.tc : Thread nD τ).loc main_arg0)) (m ((c.tc : Thread nD τ).loc main_arg1))
      (dn (m ((c.tc : Thread nD τ).loc main_arg2)) (m ((c.tc : Thread nD τ).loc main_arg3))) (m ((c.tc : Thread nD τ).loc main_arg4)) := rfl

end Cert.UpDxRefIdeal.Rows

namespace Cert.UpDxIdeal.Rows

open Idealize.ShloMosaic Idealize.ShloMosaic.TcCoe Idealize.SL.Sem
open Cert.UpDxIdeal Cert.UpDxIdeal.Gen Cert.Mm Cert.Rms

theorem pay1_at (j : S1024x1024.Idx) : k0_pay1 (F := Ideal) j = 0 := by
  pointwise [k0_pay1]

theorem pay2_at (s : Vec Ideal S1024x1024 .f32) (a b : Vec Ideal S1024x1024 .bf16) (j : S1024x1024.Idx) :
    k0_pay2 (F := Ideal) s a b j = s j + nn a b (j 0) (j 1) := by
  idx_vars j
  pointwise [k0_pay2, nn]

theorem pay3_at (x : Vec Ideal S1024x1024 .f32) (p : Fin 1024) (o : Fin 1) : k0_pay3 (F := Ideal) x (ix2 p o) = Rms.inv (row x p) := by
  pointwise [k0_pay3, Rms.inv, pw, row, wid, eps]

theorem pay4_at (dn x dh : Vec Ideal S1024x1024 .f32) (g : Vec Ideal S1x1024 .f32) (p q : Fin 1024) :
    k0_pay4 (F := Ideal) dn x dh g (ix2 p q) = k0_pay3 (F := Ideal) x (ix2 p 0) * (dn (ix2 p q) * g (ix2 0 q))
      - x (ix2 p q) * (k0_pay3 (F := Ideal) x (ix2 p 0) * k0_pay3 (F := Ideal) x (ix2 p 0) * k0_pay3 (F := Ideal) x (ix2 p 0))
        * Ideal.div (∑ k, dn (ix2 p k) * g (ix2 0 k) * x (ix2 p k)) wid + dh (ix2 p q) := by
  pointwise [k0_pay4, wid]

theorem pay5_first (dn x : Vec Ideal S1024x1024 .f32) (r : Vec Ideal S1x1024 .f32) (o : Fin 1) (q : Fin 1024) :
    k0_pay5 (F := Ideal) 1#1 dn x r (ix2 o q) = ∑ p, dn (ix2 p q) * x (ix2 p q) * k0_pay3 (F := Ideal) x (ix2 p 0) := by
  pointwise [k0_pay5]

theorem pay5_next (dn x : Vec Ideal S1024x1024 .f32) (r : Vec Ideal S1x1024 .f32) (o : Fin 1) (q : Fin 1024) :
    k0_pay5 (F := Ideal) 0#1 dn x r (ix2 o q) = r (ix2 o q) + ∑ p, dn (ix2 p q) * x (ix2 p q) * k0_pay3 (F := Ideal) x (ix2 p 0) := by
  pointwise [k0_pay5]

variable (m : (ℓ : Loc nD τ sig) → Buf (Elt Ideal) ℓ) (c : Dev nD)

theorem idx : ∀ t : Fin cfg0.N, win0_0.index t = ![t.val / 4, t.val % 4] ∧ win0_1.index t = ![t.val % 4, 0] ∧ win0_2.index t = ![t.val / 4, 0]
    ∧ win0_3.index t = ![t.val / 4, 0] ∧ win0_4.index t = ![0, 0] ∧ win0_5.index t = ![t.val / 4, 0] ∧ win0_6.index t = ![0, 0] :=
  (by decide +kernel : ∀ t : Fin grid0.N, _)

/-- The rows, their gain, the weights, the gradient of the projected rows, and the gradient of the rows themselves. -/
def aX : Vec Ideal S8192x1024 .f32 := m ((c.tc : Thread nD τ).loc main_arg0)
def aG : Vec Ideal S1x1024 .f32 := m ((c.tc : Thread nD τ).loc main_arg1)
def aW : Vec Ideal S4096x1024 .bf16 := m ((c.tc : Thread nD τ).loc main_arg2)
def aA : Vec Ideal S8192x4096 .bf16 := m ((c.tc : Thread nD τ).loc main_arg3)
def aH : Vec Ideal S8192x1024 .f32 := m ((c.tc : Thread nD τ).loc main_arg4)

theorem blk_a (t : Fin cfg0.N) (p l : Fin 1024) (hp : t.val / 4 * 1024 + p.val < 8192) (hl : t.val % 4 * 1024 + l.val < 4096) :
    (iblk m c 0 t (ix2 p l) : EReal) = aA m c (ix2 ⟨t.val / 4 * 1024 + p.val, hp⟩ ⟨t.val % 4 * 1024 + l.val, hl⟩) := by
  blk_ext [iblk, V, aA, idx t]

theorem blk_w (t : Fin cfg0.N) (l q : Fin 1024) (hl : t.val % 4 * 1024 + l.val < 4096) :
    (iblk m c 1 t (ix2 l q) : EReal) = aW m c (ix2 ⟨t.val % 4 * 1024 + l.val, hl⟩ q) := by
  blk_ext [iblk, V, aW, idx t]

theorem blk_x (t : Fin cfg0.N) (p q : Fin 1024) (hp : t.val / 4 * 1024 + p.val < 8192) :
    (iblk m c 2 t (ix2 p q) : EReal) = aX m c (ix2 ⟨t.val / 4 * 1024 + p.val, hp⟩ q) := by
  blk_ext [iblk, V, aX, idx t]

theorem blk_h (t : Fin cfg0.N) (p q : Fin 1024) (hp : t.val / 4 * 1024 + p.val < 8192) :
    (iblk m c 3 t (ix2 p q) : EReal) = aH m c (ix2 ⟨t.val / 4 * 1024 + p.val, hp⟩ q) := by
  blk_ext [iblk, V, aH, idx t]

theorem blk_g (t : Fin cfg0.N) (q : Fin 1024) : (iblk m c 4 t (ix2 0 q) : EReal) = aG m c (ix2 0 q) := by
  blk_ext [iblk, V, aG, idx t]

/-- The reference's gradient of the normalised rows, of the kernel's arguments. -/
def aN : Vec Ideal S8192x1024 .f32 := Cert.UpDxRefIdeal.Rows.dn (aW m c) (aA m c)

/-- The scratch at the last step of a row block. -/
theorem blk_dn (t : Fin cfg0.N) (h : t.val % 4 = 3) (p q : Fin 1024) (hp : t.val / 4 * 1024 + p.val < 8192) :
    (accAt m c t.val t.isLt (ix2 p q) : EReal) = aN m c (ix2 ⟨t.val / 4 * 1024 + p.val, hp⟩ q) := by
  refine Eq.trans ?_ (Cert.UpDxRefIdeal.Rows.dn_at (aW m c) (aA m c) ⟨t.val / 4 * 1024 + p.val, hp⟩ q).symm
  refine acc_nn 4 1024 rfl (accAt m c) (iblk m c 0) (iblk m c 1)
    (fun t h j => by rw [acc_open m c t h, pay2_at, pay1_at]) (fun t h j => by rw [acc_step m c t h, pay2_at]) (aA m c) (aW m c) t h p q _ _
    (fun s u hs hr l hl => ?_) (fun s u hs hr l hl => ?_)
  · have hp' : u.val / 4 * 1024 + p.val < 8192 := by rw [hr]; exact hp
    refine (blk_a m c u p l hp' (by rw [hs]; exact hl)).trans (congrArg (aA m c) ?_)
    exact congrArg₂ ix2 (Fin.ext (by show u.val / 4 * 1024 + p.val = t.val / 4 * 1024 + p.val; rw [hr])) (Fin.ext (by show u.val % 4 * 1024 + l.val = s.val * 1024 + l.val; rw [hs]))
  · refine (blk_w m c u l q (by rw [hs]; exact hl)).trans (congrArg (aW m c) ?_)
    exact congrArg₂ ix2 (Fin.ext (by show u.val % 4 * 1024 + l.val = s.val * 1024 + l.val; rw [hs])) rfl

theorem blk_row (t : Fin cfg0.N) (p : Fin 1024) (hp : t.val / 4 * 1024 + p.val < 8192) : row (iblk m c 2 t) p = row (aX m c) ⟨t.val / 4 * 1024 + p.val, hp⟩ :=
  funext fun k => blk_x m c t p k hp

theorem blk_inv (t : Fin cfg0.N) (p : Fin 1024) (hp : t.val / 4 * 1024 + p.val < 8192) :
    k0_pay3 (F := Ideal) (iblk m c 2 t) (ix2 p 0) = Rms.inv (row (aX m c) ⟨t.val / 4 * 1024 + p.val, hp⟩) :=
  (pay3_at _ p 0).trans (by rw [blk_row m c t p hp])

/-- The first result's block: the reference's rows. -/
theorem rows_blk (t : Fin cfg0.N) (h : t.val % 4 = 3) (p q : Fin 1024) (hp : t.val / 4 * 1024 + p.val < 8192) :
    rowsAt m c t (ix2 p q) = rows (aX m c) (aG m c) (aN m c) (aH m c) (ix2 ⟨t.val / 4 * 1024 + p.val, hp⟩ q) := by
  unfold rowsAt
  refine (pay4_at _ (iblk m c 2 t) (iblk m c 3 t) (iblk m c 4 t) p q).trans ?_
  refine Eq.trans ?_ ((grad_eq (row (aX m c) ⟨t.val / 4 * 1024 + p.val, hp⟩) (fun k => aN m c (ix2 ⟨t.val / 4 * 1024 + p.val, hp⟩ k) * aG m c (ix2 0 k))
    (aH m c (ix2 ⟨t.val / 4 * 1024 + p.val, hp⟩ q)) q).trans (rows_at (aX m c) (aG m c) (aN m c) (aH m c) ⟨t.val / 4 * 1024 + p.val, hp⟩ q).symm)
  rw [blk_inv m c t p hp]
  have hu : ∀ k : Fin 1024, (accAt m c t.val t.isLt (ix2 p k) * iblk m c 4 t (ix2 0 k) : EReal) = aN m c (ix2 ⟨t.val / 4 * 1024 + p.val, hp⟩ k) * aG m c (ix2 0 k) := fun k =>
    congrArg₂ (fun x y : EReal => x * y) (blk_dn m c t h p k hp) (blk_g m c t k)
  have hx : ∀ k, (iblk m c 2 t (ix2 p k) : EReal) = row (aX m c) ⟨t.val / 4 * 1024 + p.val, hp⟩ k := fun k => blk_x m c t p k hp
  refine congrArg₂ (fun x y : EReal => x + y) (congrArg₂ (fun x y : EReal => x - y) (congrArg (fun x : EReal => _ * x) (hu q))
    (congrArg₂ (fun x y : EReal => x * y) (congrArg₂ (fun x y : EReal => x * y) (hx q) rfl) (congrArg (Ideal.div · wid) ?_))) (blk_h m c t p q hp)
  exact Finset.sum_congr rfl fun k _ => congrArg₂ (fun x y : EReal => x * y) (hu k) (hx k)

theorem final_rows : (data m 0 c).arrAt 5 cfg0.N = rows (aX m c) (aG m c) (aN m c) (aH m c) := by
  refine (data m 0 c).arrAt_eq_of_covers 5 _ (by decide +kernel) fun t hf y => ?_
  have hN : t.val < 32 := lt_of_lt_of_eq t.isLt N_0
  have h3 := (flush0_5 t).mp hf
  blk_simp
  rw [after_rows]
  idx_vars y
  have hp : t.val / 4 * 1024 + y0.val < 8192 := by omega
  have hi : ((View.whole main_v0_0).slice (win0_5.rect t)).emb (ix2 y0 y1) = ix2 ⟨t.val / 4 * 1024 + y0.val, hp⟩ y1 := by
    blk_ext [idx t]
  refine Eq.trans ?_ (congrArg (rows (aX m c) (aG m c) (aN m c) (aH m c)) hi.symm)
  exact rows_blk m c t h3 y0 y1 hp

/-- A row's share of the gain's gradient. -/
def share (q : Fin 1024) (r : Fin 8192) : EReal := aX m c (ix2 r q) * Rms.inv (row (aX m c) r) * aN m c (ix2 r q)

/-- A row block's share, from the scratch at its last step. -/
theorem tile_eq (t : Fin cfg0.N) (h : t.val % 4 = 3) (u : Fin 8) (e : t.val / 4 = u.val) (q : Fin 1024) :
    (∑ p : Fin 1024, accAt m c t.val t.isLt (ix2 p q) * iblk m c 2 t (ix2 p q) * k0_pay3 (F := Ideal) (iblk m c 2 t) (ix2 p 0) : EReal)
      = ∑ p : Fin 1024, share m c q ⟨u.val * 1024 + p.val, by omega⟩ := by
  refine Finset.sum_congr rfl fun p _ => ?_
  have hp : t.val / 4 * 1024 + p.val < 8192 := by omega
  refine (congrArg₂ (fun x y : EReal => x * y) (congrArg₂ (fun x y : EReal => x * y) (blk_dn m c t h p q hp) (blk_x m c t p q hp)) (blk_inv m c t p hp)).trans ?_
  have hr : (⟨u.val * 1024 + p.val, by omega⟩ : Fin 8192) = ⟨t.val / 4 * 1024 + p.val, hp⟩ := Fin.ext (by show u.val * 1024 + p.val = t.val / 4 * 1024 + p.val; omega)
  rw [hr, share, mul_assoc, mul_comm]

/-- The sum block at the last step of row block `u`. -/
def sumTo (u : ℕ) (hu : u < 8) : Vec Ideal S1x1024 .f32 := sumAt m c (4 * u + 3) (Nat.lt_of_lt_of_eq (by omega) N_0.symm)

/-- Row block `u`'s share of the gain's gradient. -/
def tile (u : Fin 8) (j : S1x1024.Idx) : EReal := ∑ p : Fin 1024, share m c (j 1) ⟨u.val * 1024 + p.val, by omega⟩

theorem sum_first (u : Fin 8) (h : u.val = 0) (j : S1x1024.Idx) : sumTo m c u.val u.isLt j = 0 + tile m c u j := by
  have hN : 4 * u.val + 3 < cfg0.N := Nat.lt_of_lt_of_eq (by omega) N_0.symm
  idx_vars j
  rw [zero_add, sumTo, sum_live m c (4 * u.val + 2) hN (by omega), if_pos (by omega)]
  exact (pay5_first _ _ _ j0 j1).trans (tile_eq m c ⟨4 * u.val + 3, hN⟩ (by show (4 * u.val + 3) % 4 = 3; omega) u (by show (4 * u.val + 3) / 4 = u.val; omega) j1)

theorem sum_next (u : ℕ) (hu : u + 1 < 8) (j : S1x1024.Idx) : sumTo m c (u + 1) hu j = sumTo m c u (Nat.lt_of_succ_lt hu) j + tile m c ⟨u + 1, hu⟩ j := by
  have hN : 4 * (u + 1) + 3 < cfg0.N := Nat.lt_of_lt_of_eq (by omega) N_0.symm
  idx_vars j
  have hs : sumAt m c (4 * (u + 1) + 2) (Nat.lt_of_succ_lt hN) = sumTo m c u (Nat.lt_of_succ_lt hu) :=
    (sum_idle m c (4 * u + 5) _ (by omega)).trans ((sum_idle m c (4 * u + 4) _ (by omega)).trans (sum_idle m c (4 * u + 3) _ (by omega)))
  rw [sumTo, sum_live m c (4 * (u + 1) + 2) hN (by omega), if_neg (by omega), hs]
  exact (pay5_next _ _ _ j0 j1).trans (congrArg (fun x : EReal => sumTo m c u _ (ix2 j0 j1) + x)
    (tile_eq m c ⟨4 * (u + 1) + 3, hN⟩ (by show (4 * (u + 1) + 3) % 4 = 3; omega) ⟨u + 1, hu⟩ (by show (4 * (u + 1) + 3) / 4 = u + 1; omega) j1))

theorem tile_share (n : ℕ) (hn : n < 8) (s : ℕ) (hs : s < 8) (e : n = s) (o : Fin 1) (q : Fin 1024) :
    tile m c ⟨n, hn⟩ (ix2 o q) = ∑ p : Fin 1024, share m c q ⟨s * 1024 + p.val, by omega⟩ := by
  subst e
  rfl

theorem sum_all (o : Fin 1) (q : Fin 1024) : sumTo m c 7 (by omega) (ix2 o q) = gain (aX m c) (aN m c) (ix2 o q) := by
  have h := Pipeline.eq_sum_fin_of_reset_step_apply_of_flush (sumTo m c) 8 (fun _ => 0) (tile m c)
    (fun t h j => sum_first m c t (by have := t.isLt; omega) j)
    (fun t h j => by
      obtain ⟨n, hn⟩ := t
      cases n with
      | zero => exact absurd rfl h
      | succ n => exact sum_next m c n hn j) ⟨7, by omega⟩ rfl (ix2 o q)
  refine h.trans ?_
  rw [zero_add, Finset.sum_congr rfl fun s _ => tile_share m c _ _ s.val s.isLt (by show 8 * (7 / 8) + s.val = s.val; omega) o q]
  exact (Fin.sum_mul_add_congr (fun s k hl => rfl) rfl).trans (gain_at (aX m c) (aN m c) o q).symm

theorem final_sum : (data m 0 c).arrAt 6 cfg0.N = gain (aX m c) (aN m c) := by
  refine (data m 0 c).arrAt_eq_of_covers 6 _ (by decide +kernel) fun t hf y => ?_
  have hN : t.val < 32 := lt_of_lt_of_eq t.isLt N_0
  have ht : t.val = 31 := by have := (flush0_6 t).mp hf; omega
  blk_simp
  rw [after_sum]
  idx_vars y
  have hi : ((View.whole main_v0_1).slice (win0_6.rect t)).emb (ix2 y0 y1) = ix2 y0 y1 := by
    blk_ext [idx t]
  refine Eq.trans ?_ (congrArg (gain (aX m c) (aN m c)) hi.symm)
  obtain ⟨n, hn⟩ := t
  obtain rfl : n = 31 := ht
  exact sum_all m c y0 y1

end Cert.UpDxIdeal.Rows

end
-- ==== Proof.GradXRun.lean ====
/- The gradient through the input projection of the gate branch: the body's run at a point, what its two results hold after each point, and the frames of the kernel
   and of its idealization. The run is written for any float operations; both programs' frames are taken from it. -/
module

public import proofs.«01_k».proof.Defs
public import proofs.«01_k».proof.Proof.Gen.GradX.Launch
public import proofs.«01_k».proof.Proof.Gen.GradXIdeal.Frame
public import proofs.«01_k».proof.Proof.Gen.GradXIdeal.Skeleton
public import proofs.«01_k».proof.Proof.RowSum

@[expose] public section

set_option maxRecDepth 16384

noncomputable section

namespace Cert.GradXIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GradXIdeal Cert.GradXIdeal.Gen Cert.Rows

variable {F : FTy → Type} [FloatOps F]

local notation "𝕄" => MT nD τ sig Unit (Elt F) ℕ (UR sig nD τ) ℕ

/-- The block of the first result: the gradient of a block of rows. -/
def rowsOf (x0 : Vec F S512x1024 .bf16) (x1 : Vec F S1024x1024 .bf16) (x2 : Vec F S512x1024 .bf16) (x3 : Vec F S1024x1024 .bf16) (x4 : Vec F S512x1024 .bf16) (x5 : Vec F S1024x1024 .bf16) (x6 : Vec F S512x1024 .f32) (x7 : Vec F S512x1024 .f32) (x8 : Vec F S512x1024 .f32) (x9 : Vec F S1x1024 .f32) : FVec F S512x1024 .f32 :=
  k0_pay1 x7 x8 (k0_pay4 x7) (k0_pay5 x0 x1 x2 x3 x4 x5 x6 x9)

/-- The block of the second result: the rows' sum, over what the block held unless the point is the first. -/
def sumOf (b : BitVec 1) (x0 : Vec F S512x1024 .bf16) (x1 : Vec F S1024x1024 .bf16) (x2 : Vec F S512x1024 .bf16) (x3 : Vec F S1024x1024 .bf16) (x4 : Vec F S512x1024 .bf16) (x5 : Vec F S1024x1024 .bf16) (x6 : Vec F S512x1024 .f32) (x7 : Vec F S512x1024 .f32) (x8 : Vec F S512x1024 .f32) (x9 : Vec F S1x1024 .f32) (r : Vec F S1x1024 .f32) : FVec F S1x1024 .f32 :=
  k0_pay2 b x7 (k0_pay3 x0 x1 x2 x3 x4 x5 x6) (k0_pay4 x7) r

/-- The first row block's flag. -/
abbrev isFirst (i : grid0.Coords) : BitVec 1 := Scalar.cmpi .eq (BitVec.ofNat 32 (i 0).val) 0#32

set_option maxHeartbeats 2000000 in
/-- The body's run, from whole staging buffers holding the ten input blocks and the sum block at `r`. -/
theorem body_run (c : Dev nD) (i : grid0.Coords)
  (a3 : Memref sig .tc .vmem S512x1024 .bf16) (h3 : a3.IsWhole)
  (a4 : Memref sig .tc .vmem S1024x1024 .bf16) (h4 : a4.IsWhole)
  (a5 : Memref sig .tc .vmem S512x1024 .bf16) (h5 : a5.IsWhole)
  (a6 : Memref sig .tc .vmem S1024x1024 .bf16) (h6 : a6.IsWhole)
  (a7 : Memref sig .tc .vmem S512x1024 .bf16) (h7 : a7.IsWhole)
  (a8 : Memref sig .tc .vmem S1024x1024 .bf16) (h8 : a8.IsWhole)
  (a9 : Memref sig .tc .vmem S512x1024 .f32) (h9 : a9.IsWhole)
  (a10 : Memref sig .tc .vmem S512x1024 .f32) (h10 : a10.IsWhole)
  (a11 : Memref sig .tc .vmem S512x1024 .f32) (h11 : a11.IsWhole)
  (a12 : Memref sig .tc .vmem S1x1024 .f32) (h12 : a12.IsWhole)
  (a13 : Memref sig .tc .vmem S512x1024 .f32) (h13 : a13.IsWhole)
  (a14 : Memref sig .tc .vmem S1x1024 .f32) (h14 : a14.IsWhole)
  (x0 : Vec F S512x1024 .bf16) (x1 : Vec F S1024x1024 .bf16) (x2 : Vec F S512x1024 .bf16) (x3 : Vec F S1024x1024 .bf16) (x4 : Vec F S512x1024 .bf16) (x5 : Vec F S1024x1024 .bf16) (x6 : Vec F S512x1024 .f32) (x7 : Vec F S512x1024 .f32) (x8 : Vec F S512x1024 .f32) (x9 : Vec F S1x1024 .f32) (r : Vec F S1x1024 .f32) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9 ∗ (∃ d, owns (c : Thread nD τ) a13 fullShare d) ∗ owns (c : Thread nD τ) a14 fullShare r
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9 ∗ owns (c : Thread nD τ) a13 fullShare (rowsOf x0 x1 x2 x3 x4 x5 x6 x7 x8 x9) ∗ owns (c : Thread nD τ) a14 fullShare (sumOf (isFirst i) x0 x1 x2 x3 x4 x5 x6 x7 x8 x9 r)) -∗ K ⟨⟩))
      ⊢ wp frame (wpE (defs₀ (F := F)) Variants.none c none) E (cc0_in_proj_g_dx i a3 h3 a4 h4 a5 h5 a6 h6 a7 h7 a8 h8 a9 h9 a10 h10 a11 h11 a12 h12 a13 h13 a14 h14) K := by
  simp only [cc0_in_proj_g_dx_eq_skeleton, k0_part1_eq_skeleton]
  unfold cc0_in_proj_g_dx_skel
  simp only [k0_part1_eq_skeleton]
  unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%f11, %e11, H11⟩, Hk⟩
  obtain rfl := h3.eq_unread e0
  obtain rfl := h4.eq_unread e1
  obtain rfl := h5.eq_unread e2
  obtain rfl := h6.eq_unread e3
  obtain rfl := h7.eq_unread e4
  obtain rfl := h8.eq_unread e5
  obtain rfl := h9.eq_unread e6
  obtain rfl := h10.eq_unread e7
  obtain rfl := h11.eq_unread e8
  obtain rfl := h12.eq_unread e9
  obtain rfl := h14.eq_unread e11
  have l0 := load_whole (F := F) a3 h3 x0 inb_S512x1024_S512x1024_0_0
  have l1 := load_whole (F := F) a4 h4 x1 inb_S1024x1024_S1024x1024_0_0
  have l2 := load_whole (F := F) a5 h5 x2 inb_S512x1024_S512x1024_0_0
  have l3 := load_whole (F := F) a6 h6 x3 inb_S1024x1024_S1024x1024_0_0
  have l4 := load_whole (F := F) a7 h7 x4 inb_S512x1024_S512x1024_0_0
  have l5 := load_whole (F := F) a8 h8 x5 inb_S1024x1024_S1024x1024_0_0
  have l6 := load_whole (F := F) a9 h9 x6 inb_S512x1024_S512x1024_0_0
  have l7 := load_whole (F := F) a10 h10 x7 inb_S512x1024_S512x1024_0_0
  have l8 := load_whole (F := F) a11 h11 x8 inb_S512x1024_S512x1024_0_0
  have l9 := load_whole (F := F) a12 h12 x9 inb_S1x1024_S1x1024_0_0
  have l11 := load_whole (F := F) a14 h14 r inb_S1x1024_S1x1024_0_0
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H6]
  · iexists _; isplitr; · ipureintro; exact h9.read_unread _
    iexact H6
  isplitl [H7]
  · iexists _; isplitr; · ipureintro; exact h10.read_unread _
    iexact H7
  isplitl [H8]
  · iexists _; isplitr; · ipureintro; exact h11.read_unread _
    iexact H8
  isplitl [H9]
  · iexists _; isplitr; · ipureintro; exact h12.read_unread _
    iexact H9
  isplitl [H10]
  · iexists _
    isplitr
    swap; · iexact H10
    ipureintro
    refine (View.read_writes_full _ _ _ _ _).trans ?_
    rw [rowsOf]
  iexists _
  isplitr
  swap; · iexact H11
  ipureintro
  refine (View.read_writes_full _ _ _ _ _).trans ?_
  rw [sumOf]
  congr

variable (m : (ℓ : Loc nD τ sig) → Buf (Elt F) ℓ) (ρ : Dev nD → PrngReg)

/-- The first result's block after point `t`. -/
def rowsAt (c : Dev nD) (t : Fin cfg0.N) : Vec F S512x1024 .f32 := rowsOf (iblk m c 0 t) (iblk m c 1 t) (iblk m c 2 t) (iblk m c 3 t) (iblk m c 4 t) (iblk m c 5 t) (iblk m c 6 t) (iblk m c 7 t) (iblk m c 8 t) (iblk m c 9 t)

/-- The second result's block after point `n`: the first point ignores what the block held. -/
def sumAt (c : Dev nD) : (n : ℕ) → n < cfg0.N → Vec F S1x1024 .f32
  | 0, hn => sumOf 1#1 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (Rows.blank S1x1024)
  | n + 1, hn => sumOf 0#1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (sumAt c n (Nat.lt_of_succ_lt hn))

theorem isFirst_iff (t : Fin cfg0.N) : isFirst (grid0.coords t) = if t.val = 0 then 1#1 else 0#1 := by
  have ht : t.val < 16 := Nat.lt_of_lt_of_eq t.isLt N_0
  have e0 : (grid0.coords t 0).val = t.val / 1 % 16 := Pipeline.Grid.coords_val t 0 (by decide) rfl
  have e : (grid0.coords t 0).val = t.val := by omega
  simp only [isFirst, e]
  exact first_flag t.val 16 (by decide) ht

/-- The launch's proof data: each input's block stays, the results hold `rowsAt` and `sumAt`. -/
def data (_ : Fin 1) (c : Dev nD) : Dat τ (Elt F) Unit ℕ (UR sig nD τ) ℕ cfg0 c where
  A w := V m c (Pipeline.arrRef spec0 w)
  after w t := match w with
    | ⟨10, _⟩ => rowsAt m c t
    | ⟨11, _⟩ => sumAt m c t.val t.isLt
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q _ := fullShare
  owed _ := 0

theorem data_arr (c : Dev nD) (w : Fin cfg0.W) : (data m 0 c).A w = V m c (Pipeline.arrRef spec0 w) := by
  dsimp only [data]

theorem after_rows (c : Dev nD) (t : Fin cfg0.N) : (data m 0 c).after 10 t = rowsAt m c t := by dsimp only [data]
theorem after_sum (c : Dev nD) (t : Fin cfg0.N) : (data m 0 c).after 11 t = sumAt m c t.val t.isLt := by dsimp only [data]

/-- After the body the sum block is `sumAt`, from whatever the point found in it. -/
theorem sum_step (c : Dev nD) (t : Fin cfg0.N) (d) :
    sumOf (isFirst (grid0.coords t)) (iblk m c 0 t) (iblk m c 1 t) (iblk m c 2 t) (iblk m c 3 t) (iblk m c 4 t) (iblk m c 5 t) (iblk m c 6 t) (iblk m c 7 t) (iblk m c 8 t) (iblk m c 9 t) ((data m 0 c).before 11 t d) = sumAt m c t.val t.isLt := by
  rw [isFirst_iff]
  obtain ⟨n, hn⟩ := t
  cases n with
  | zero => rfl
  | succ n =>
    have hb : (data m 0 c).before 11 ⟨n + 1, hn⟩ d = sumAt m c n (Nat.lt_of_succ_lt hn) := by
      rw [Dat.before_out_kept _ 11 rfl ⟨n + 1, hn⟩ (Nat.succ_ne_zero n) (Bool.eq_false_iff.mpr fun h => by
        have := (flush0_11 _).mp h; have hN : n + 1 < 16 := lt_of_lt_of_eq hn N_0; dsimp only at this; omega) (fun _ => rfl) (fun _ _ => rfl)]
      exact after_sum m c _
    rw [hb, if_neg (Nat.succ_ne_zero n)]
    rfl

/-- No window is ever idle: what the body leaves is the proof data's. -/
theorem live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact
  rw [h]

set_option maxHeartbeats 2000000 in
/-- The body at any point, in the library's form. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((data m 0 c).Φ t.castSucc ∗ (data m 0 c).owesAt () t.castSucc
        ∗ (∃ d, owns (c : Thread nD τ) (win0_0.stage (cfg0.slots t 0)) fullShare ((data m 0 c).before 0 t d))
        ∗ (∃ d, owns (c : Thread nD τ) (win0_1.stage (cfg0.slots t 1)) fullShare ((data m 0 c).before 1 t d))
        ∗ (∃ d, owns (c : Thread nD τ) (win0_2.stage (cfg0.slots t 2)) fullShare ((data m 0 c).before 2 t d))
        ∗ (∃ d, owns (c : Thread nD τ) (win0_3.stage (cfg0.slots t 3)) fullShare ((data m 0 c).before 3 t d))
        ∗ (∃ d, owns (c : Thread nD τ) (win0_4.stage (cfg0.slots t 4)) fullShare ((data m 0 c).before 4 t d))
        ∗ (∃ d, owns (c : Thread nD τ) (win0_5.stage (cfg0.slots t 5)) fullShare ((data m 0 c).before 5 t d))
        ∗ (∃ d, owns (c : Thread nD τ) (win0_6.stage (cfg0.slots t 6)) fullShare ((data m 0 c).before 6 t d))
        ∗ (∃ d, owns (c : Thread nD τ) (win0_7.stage (cfg0.slots t 7)) fullShare ((data m 0 c).before 7 t d))
        ∗ (∃ d, owns (c : Thread nD τ) (win0_8.stage (cfg0.slots t 8)) fullShare ((data m 0 c).before 8 t d))
        ∗ (∃ d, owns (c : Thread nD τ) (win0_9.stage (cfg0.slots t 9)) fullShare ((data m 0 c).before 9 t d))
        ∗ (∃ d, owns (c : Thread nD τ) (win0_10.stage (cfg0.slots t 10)) fullShare ((data m 0 c).before 10 t d))
        ∗ (∃ d, owns (c : Thread nD τ) (win0_11.stage (cfg0.slots t 11)) fullShare ((data m 0 c).before 11 t d))))
    (Q := fun _ => iprop((data m 0 c).Φ t.castSucc ∗ (data m 0 c).owesAt () t.castSucc
        ∗ (data m 0 c).leavesExact 0 t
        ∗ (data m 0 c).leavesExact 1 t
        ∗ (data m 0 c).leavesExact 2 t
        ∗ (data m 0 c).leavesExact 3 t
        ∗ (data m 0 c).leavesExact 4 t
        ∗ (data m 0 c).leavesExact 5 t
        ∗ (data m 0 c).leavesExact 6 t
        ∗ (data m 0 c).leavesExact 7 t
        ∗ (data m 0 c).leavesExact 8 t
        ∗ (data m 0 c).leavesExact 9 t
        ∗ (data m 0 c).leavesExact 10 t
        ∗ (data m 0 c).leavesExact 11 t)) ?_ rfl .rfl fun _ => .rfl
  unfold bodyAt0
  rw [live m c 0 t rfl, live m c 1 t rfl, live m c 2 t rfl, live m c 3 t rfl, live m c 4 t rfl, live m c 5 t rfl, live m c 6 t rfl, live m c 7 t rfl, live m c 8 t rfl, live m c 9 t rfl, live m c 10 t rfl, live m c 11 t rfl, after_rows, after_sum]
  simp only [before0_0_of m (data m 0 c) (data_arr m c 0) (fun _ => rfl), before0_1_of m (data m 0 c) (data_arr m c 1) (fun _ => rfl), before0_2_of m (data m 0 c) (data_arr m c 2) (fun _ => rfl), before0_3_of m (data m 0 c) (data_arr m c 3) (fun _ => rfl), before0_4_of m (data m 0 c) (data_arr m c 4) (fun _ => rfl), before0_5_of m (data m 0 c) (data_arr m c 5) (fun _ => rfl), before0_6_of m (data m 0 c) (data_arr m c 6) (fun _ => rfl), before0_7_of m (data m 0 c) (data_arr m c 7) (fun _ => rfl), before0_8_of m (data m 0 c) (data_arr m c 8) (fun _ => rfl), before0_9_of m (data m 0 c) (data_arr m c 9) (fun _ => rfl)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [← sum_step m c t d11]
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((data m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
/-- The launch: it ends with every window's array at what the proof data give, and with all counters at zero. -/
theorem launch : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arr m) (hΦ := fun _ _ => rfl)

theorem run : θ_run defs (onTc (τ := τ) (main (F := F))) (s₀ m ρ) (Pipeline.FramePost cfgs (data m) 0 (V m)) :=
  (θ_run defs _ _).mono (fun _ h => h.1) (launch m ρ)

/-- What every run ends with: the results at what the proof data give, the arguments as they were. -/
theorem run_blocks : θ_run defs (onTc (τ := τ) (main (F := F))) ⟨m, fun _ => 0, ρ⟩ fun r => ∀ c : Dev nD,
      r.2.mem ((c.tc : Thread nD τ).loc main_v3_0) = (data m 0 c).arrAt 10 cfg0.N
      ∧ r.2.mem ((c.tc : Thread nD τ).loc main_v3_1) = (data m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).1 10, (h.1 c).1 11, h.2 c⟩)
    (θ_run_and (run m ρ) (frame_of m ρ (data m) (data_arr m) (run m ρ)))

theorem idealFrame : Cert.quiescent_GradXIdeal := fun m g _ =>
  θ_run_and (frame_of m g (data m) (data_arr m) (run m g)) ((θ_run defs _ _).mono (fun _ h => h.2) (launch m g))

/-- The kernel's and its idealization's function tables are one. -/
theorem table_eq : Cert.GradX.defs₀ (F := F) = defs₀ (F := F) := by
  refine congrArg Defs.onTc (funext fun l => ?_)
  obtain ⟨l, hl⟩ := l
  cases l with
  | zero => rfl
  | succ n => exact absurd hl (by omega)

theorem defs_eq : Cert.GradX.defs (F := F) = defs (F := F) := congrArg (Pipeline.defs pcfgs) table_eq

theorem kernelFrame : Cert.quiescent_GradX := by
  intro m g _
  rw [defs_eq]
  exact θ_run_and (frame_of m g (data m) (data_arr m) (run m g)) ((θ_run defs _ _).mono (fun _ h => h.2) (launch m g))

end Cert.GradXIdeal.Rows

end
-- ==== Proof.GradXRef.lean ====
/- The reference's gradient through the input projection of the gate branch and the normalisation before it, entry by entry. -/
module

public import proofs.«01_k».proof.Proof.Gen.GradXRefIdeal.Run
public import proofs.«01_k».proof.Proof.RmsRef
public import proofs.«01_k».proof.Proof.MmMath

@[expose] public section

set_option maxRecDepth 16384

noncomputable section

namespace Cert.GradXRefIdeal.Rows

open Idealize.ShloMosaic Idealize.ShloMosaic.TcCoe Idealize.SL.Sem
open Cert.GradXRefIdeal Cert.GradXRefIdeal.Gen Cert.Mm Cert.Rms

/-- The reference's gradient of the normalised rows. -/
def dn (W : FVec Ideal S3072x1024 .bf16) (Z0 Z1 Z2 : FVec Ideal S8192x1024 .bf16) (D : FVec Ideal S8192x1024 .f32) : FVec Ideal S8192x1024 .f32 :=
  addf D (Host.dotGeneral dot_S8192x3072_S1024x3072_S8192x1024_1_1_0_0_n_n none (φ₁ := .f32) (φ₂ := .f32) ((concatenate S8192x3072 1 [⟨S8192x1024, ((extf .f32 Z0 bitsLt_bf16_f32) : (⟨S8192x1024, .f32⟩ : BufTy).Contents (Elt Ideal))⟩,
    ⟨S8192x1024, ((extf .f32 Z1 bitsLt_bf16_f32) : (⟨S8192x1024, .f32⟩ : BufTy).Contents (Elt Ideal))⟩, ⟨S8192x1024, ((extf .f32 Z2 bitsLt_bf16_f32) : (⟨S8192x1024, .f32⟩ : BufTy).Contents (Elt Ideal))⟩]
    concatenates_S8192x1024_S8192x1024_S8192x1024_S8192x3072_d1 : (⟨S8192x3072, .f32⟩ : BufTy).Contents (Elt Ideal))) (transpose S1024x3072 [1, 0] (extf .f32 W bitsLt_bf16_f32) transposes_S3072x1024_S1024x3072_1_0))

/-- One of the three products: the columns of one branch's gradient against a third of the weights. -/
def part (k : Fin 3) (W : Shape.Idx ⟨2, ![3072, 1024]⟩ → EReal) (Z : Shape.Idx ⟨2, ![8192, 1024]⟩ → EReal) (p : Fin 8192) (q : Fin 1024) : EReal :=
  ∑ l : Fin 1024, Z (ix2 p l) * W (ix2 ⟨k.val * 1024 + l.val, by omega⟩ q)

theorem dn_at (W : FVec Ideal S3072x1024 .bf16) (Z0 Z1 Z2 : FVec Ideal S8192x1024 .bf16) (D : FVec Ideal S8192x1024 .f32) (p : Fin 8192) (q : Fin 1024) :
    dn W Z0 Z1 Z2 D (ix2 p q) = part 0 W Z0 p q + part 1 W Z1 p q + part 2 W Z2 p q + D (ix2 p q) := by
  pointwise [dn]
  rw [add_comm]
  refine congrArg (fun x : EReal => x + D (ix2 p q)) ?_
  refine (Fin.sum_mul_add_congr (S := 3) (n := 1024) (F := fun s k => ![Z0, Z1, Z2] s (ix2 p k) * W (ix2 ⟨s.val * 1024 + k.val, by omega⟩ q)) (fun s k hl => ?_)).symm.trans ?_
  · have hk := k.isLt
    refine congrArg (fun x : EReal => x * W (ix2 ⟨s.val * 1024 + k.val, hl⟩ q)) ?_
    fin_cases s
    · simp only [Fin.zero_eta, Fin.val_zero, zero_mul, zero_add, k.isLt, dite_true]; rfl
    · have e : 1 * 1024 + k.val - 1024 = k.val := by omega
      simp only [Fin.mk_one, Fin.val_one, e, k.isLt, dite_true, show ¬1 * 1024 + k.val < 1024 by omega, dite_false]; rfl
    · have e : 2 * 1024 + k.val - 1024 - 1024 = k.val := by omega
      simp only [Fin.reduceFinMk, Fin.val_two, e, show ¬2 * 1024 + k.val < 1024 by omega, show ¬2 * 1024 + k.val - 1024 < 1024 by omega, dite_false]; rfl
  · rw [Fin.sum_univ_three]; rfl

/-- The reference's run with its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = rows (m ((c.tc : Thread nD τ).loc main_arg0)) (m ((c.tc : Thread nD τ).loc main_arg1))
          (dn (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))
      ∧ r.2.mem ((c.tc : Thread nD τ).loc main_v47) = gain (m ((c.tc : Thread nD τ).loc main_arg0))
          (dn (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1, (h c).2.1, (h c).2.2⟩) (Cert.GradXRefIdeal.Value.run m ρ)

end Cert.GradXRefIdeal.Rows

end
-- ==== Proof.GradX.lean ====
/- The gradient through the input projection of the gate branch and the normalisation before it: the kernel's two results are the reference's. -/
module

public import proofs.«01_k».proof.Proof.GradXRun
public import proofs.«01_k».proof.Proof.GradXRef
public import proofs.«01_k».proof.Proof.MmMath

@[expose] public section

set_option maxRecDepth 16384

noncomputable section

namespace Cert.GradXIdeal.Rows

open Idealize.ShloMosaic Idealize.ShloMosaic.TcCoe Idealize.SL.Sem
open Cert.GradXIdeal Cert.GradXIdeal.Gen Cert.Mm Cert.Rms

theorem pay3_at (x0 : Vec Ideal S512x1024 .bf16) (x1 : Vec Ideal S1024x1024 .bf16) (x2 : Vec Ideal S512x1024 .bf16) (x3 : Vec Ideal S1024x1024 .bf16)
    (x4 : Vec Ideal S512x1024 .bf16) (x5 : Vec Ideal S1024x1024 .bf16) (x6 : Vec Ideal S512x1024 .f32) (p : Fin 512) (q : Fin 1024) :
    k0_pay3 (F := Ideal) x0 x1 x2 x3 x4 x5 x6 (ix2 p q) = nn x0 x1 p q + nn x2 x3 p q + nn x4 x5 p q + x6 (ix2 p q) := by
  pointwise [k0_pay3, nn]

theorem pay4_at (x7 : Vec Ideal S512x1024 .f32) (p : Fin 512) (o : Fin 1) : k0_pay4 (F := Ideal) x7 (ix2 p o) = inv (row x7 p) := by
  pointwise [k0_pay4, Rms.inv, pw, row, wid, eps]

theorem pay5_at (x0 : Vec Ideal S512x1024 .bf16) (x1 : Vec Ideal S1024x1024 .bf16) (x2 : Vec Ideal S512x1024 .bf16) (x3 : Vec Ideal S1024x1024 .bf16)
    (x4 : Vec Ideal S512x1024 .bf16) (x5 : Vec Ideal S1024x1024 .bf16) (x6 : Vec Ideal S512x1024 .f32) (x9 : Vec Ideal S1x1024 .f32) (p : Fin 512) (q : Fin 1024) :
    k0_pay5 (F := Ideal) x0 x1 x2 x3 x4 x5 x6 x9 (ix2 p q) = k0_pay3 (F := Ideal) x0 x1 x2 x3 x4 x5 x6 (ix2 p q) * x9 (ix2 0 q) := by
  pointwise [k0_pay5]

theorem pay1_at (x7 x8 : Vec Ideal S512x1024 .f32) (i : FVec Ideal S512x1 .f32) (u : FVec Ideal S512x1024 .f32) (p : Fin 512) (q : Fin 1024) :
    k0_pay1 (F := Ideal) x7 x8 i u (ix2 p q) = i (ix2 p 0) * u (ix2 p q) - x7 (ix2 p q) * (i (ix2 p 0) * i (ix2 p 0) * i (ix2 p 0)) * Ideal.div (∑ k, u (ix2 p k) * x7 (ix2 p k)) wid
      + x8 (ix2 p q) := by
  pointwise [k0_pay1, wid]

theorem pay2_first (x7 : Vec Ideal S512x1024 .f32) (dn : FVec Ideal S512x1024 .f32) (i : FVec Ideal S512x1 .f32) (r : Vec Ideal S1x1024 .f32) (o : Fin 1) (q : Fin 1024) :
    k0_pay2 (F := Ideal) 1#1 x7 dn i r (ix2 o q) = ∑ p, dn (ix2 p q) * x7 (ix2 p q) * i (ix2 p 0) := by
  pointwise [k0_pay2]

theorem pay2_next (x7 : Vec Ideal S512x1024 .f32) (dn : FVec Ideal S512x1024 .f32) (i : FVec Ideal S512x1 .f32) (r : Vec Ideal S1x1024 .f32) (o : Fin 1) (q : Fin 1024) :
    k0_pay2 (F := Ideal) 0#1 x7 dn i r (ix2 o q) = r (ix2 o q) + ∑ p, dn (ix2 p q) * x7 (ix2 p q) * i (ix2 p 0) := by
  pointwise [k0_pay2]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![t.val, 0]
    ∧ win0_9.index t = ![0, 0] ∧ win0_10.index t = ![t.val, 0] ∧ win0_11.index t = ![0, 0] :=
  (by decide +kernel : ∀ t : Fin grid0.N, _)

/-- The rows, their gain, the gate's weights, the gradients of the three gates, of the other branch's rows, and of the rows themselves. -/
def aX : Vec Ideal S8192x1024 .f32 := m ((c.tc : Thread nD τ).loc main_arg0)
def aG : Vec Ideal S1x1024 .f32 := m ((c.tc : Thread nD τ).loc main_arg1)
def aW : Vec Ideal S3072x1024 .bf16 := m ((c.tc : Thread nD τ).loc main_arg2)
def aZ0 : Vec Ideal S8192x1024 .bf16 := m ((c.tc : Thread nD τ).loc main_arg3)
def aZ1 : Vec Ideal S8192x1024 .bf16 := m ((c.tc : Thread nD τ).loc main_arg4)
def aZ2 : Vec Ideal S8192x1024 .bf16 := m ((c.tc : Thread nD τ).loc main_arg5)
def aD : Vec Ideal S8192x1024 .f32 := m ((c.tc : Thread nD τ).loc main_arg6)
def aH : Vec Ideal S8192x1024 .f32 := m ((c.tc : Thread nD τ).loc main_arg7)

theorem blk_z0 (t : Fin cfg0.N) (p : Fin 512) (q : Fin 1024) (hp : t.val * 512 + p.val < 8192) :
    (iblk m c 0 t (ix2 p q) : EReal) = aZ0 m c (ix2 ⟨t.val * 512 + p.val, hp⟩ q) := by
  blk_ext [iblk, V, aZ0, V_main_arg3 m c, idx t]

theorem blk_z1 (t : Fin cfg0.N) (p : Fin 512) (q : Fin 1024) (hp : t.val * 512 + p.val < 8192) :
    (iblk m c 2 t (ix2 p q) : EReal) = aZ1 m c (ix2 ⟨t.val * 512 + p.val, hp⟩ q) := by
  blk_ext [iblk, V, aZ1, V_main_arg4 m c, idx t]

theorem blk_z2 (t : Fin cfg0.N) (p : Fin 512) (q : Fin 1024) (hp : t.val * 512 + p.val < 8192) :
    (iblk m c 4 t (ix2 p q) : EReal) = aZ2 m c (ix2 ⟨t.val * 512 + p.val, hp⟩ q) := by
  blk_ext [iblk, V, aZ2, V_main_arg5 m c, idx t]

theorem blk_d (t : Fin cfg0.N) (p : Fin 512) (q : Fin 1024) (hp : t.val * 512 + p.val < 8192) :
    (iblk m c 6 t (ix2 p q) : EReal) = aD m c (ix2 ⟨t.val * 512 + p.val, hp⟩ q) := by
  blk_ext [iblk, V, aD, V_main_arg6 m c, idx t]

theorem blk_x (t : Fin cfg0.N) (p : Fin 512) (q : Fin 1024) (hp : t.val * 512 + p.val < 8192) :
    (iblk m c 7 t (ix2 p q) : EReal) = aX m c (ix2 ⟨t.val * 512 + p.val, hp⟩ q) := by
  blk_ext [iblk, V, aX, V_main_arg0 m c, idx t]

theorem blk_h (t : Fin cfg0.N) (p : Fin 512) (q : Fin 1024) (hp : t.val * 512 + p.val < 8192) :
    (iblk m c 8 t (ix2 p q) : EReal) = aH m c (ix2 ⟨t.val * 512 + p.val, hp⟩ q) := by
  blk_ext [iblk, V, aH, V_main_arg7 m c, idx t]

theorem blk_g (t : Fin cfg0.N) (q : Fin 1024) : (iblk m c 9 t (ix2 0 q) : EReal) = aG m c (ix2 0 q) := by
  blk_ext [iblk, V, aG, V_main_arg1 m c, idx t]

theorem blk_w0 (t : Fin cfg0.N) (l q : Fin 1024) (hl : (0 : Fin 3).val * 1024 + l.val < 3072) :
    (iblk m c 1 t (ix2 l q) : EReal) = aW m c (ix2 ⟨(0 : Fin 3).val * 1024 + l.val, hl⟩ q) := by
  blk_simp [iblk, idx t]
  entry_read
  pointwise [aW]
  refine congrArg (aW m c) ?_
  blk_ext [idx t]

theorem blk_w1 (t : Fin cfg0.N) (l q : Fin 1024) (hl : (1 : Fin 3).val * 1024 + l.val < 3072) :
    (iblk m c 3 t (ix2 l q) : EReal) = aW m c (ix2 ⟨(1 : Fin 3).val * 1024 + l.val, hl⟩ q) := by
  blk_simp [iblk, idx t]
  entry_read
  pointwise [aW]
  refine congrArg (aW m c) ?_
  blk_ext [idx t]

theorem blk_w2 (t : Fin cfg0.N) (l q : Fin 1024) (hl : (2 : Fin 3).val * 1024 + l.val < 3072) :
    (iblk m c 5 t (ix2 l q) : EReal) = aW m c (ix2 ⟨(2 : Fin 3).val * 1024 + l.val, hl⟩ q) := by
  blk_simp [iblk, idx t]
  entry_read
  pointwise [aW]
  refine congrArg (aW m c) ?_
  blk_ext [idx t]

/-- The reference's gradient of the normalised rows, of the kernel's arguments. -/
def aN : Vec Ideal S8192x1024 .f32 := Cert.GradXRefIdeal.Rows.dn (aW m c) (aZ0 m c) (aZ1 m c) (aZ2 m c) (aD m c)

theorem blk_dn (t : Fin cfg0.N) (p : Fin 512) (q : Fin 1024) (hp : t.val * 512 + p.val < 8192) :
    k0_pay3 (F := Ideal) (iblk m c 0 t) (iblk m c 1 t) (iblk m c 2 t) (iblk m c 3 t) (iblk m c 4 t) (iblk m c 5 t) (iblk m c 6 t) (ix2 p q) = aN m c (ix2 ⟨t.val * 512 + p.val, hp⟩ q) := by
  refine (pay3_at (iblk m c 0 t) (iblk m c 1 t) (iblk m c 2 t) (iblk m c 3 t) (iblk m c 4 t) (iblk m c 5 t) (iblk m c 6 t) p q).trans ?_
  refine Eq.trans ?_ (Cert.GradXRefIdeal.Rows.dn_at (aW m c) (aZ0 m c) (aZ1 m c) (aZ2 m c) (aD m c) ⟨t.val * 512 + p.val, hp⟩ q).symm
  refine congrArg₂ (· + ·) (congrArg₂ (· + ·) (congrArg₂ (· + ·) ?_ ?_) ?_) (blk_d m c t p q hp)
  · exact Finset.sum_congr rfl fun l _ => congrArg₂ (· * ·) (blk_z0 m c t p l hp) (blk_w0 m c t l q _)
  · exact Finset.sum_congr rfl fun l _ => congrArg₂ (· * ·) (blk_z1 m c t p l hp) (blk_w1 m c t l q _)
  · exact Finset.sum_congr rfl fun l _ => congrArg₂ (· * ·) (blk_z2 m c t p l hp) (blk_w2 m c t l q _)

theorem blk_row (t : Fin cfg0.N) (p : Fin 512) (hp : t.val * 512 + p.val < 8192) : row (iblk m c 7 t) p = row (aX m c) ⟨t.val * 512 + p.val, hp⟩ :=
  funext fun k => blk_x m c t p k hp

/-- The first result's block: the reference's rows. -/
theorem rows_blk (t : Fin cfg0.N) (p : Fin 512) (q : Fin 1024) (hp : t.val * 512 + p.val < 8192) :
    rowsAt m c t (ix2 p q) = rows (aX m c) (aG m c) (aN m c) (aH m c) (ix2 ⟨t.val * 512 + p.val, hp⟩ q) := by
  unfold rowsAt rowsOf
  refine (pay1_at (iblk m c 7 t) (iblk m c 8 t) _ _ p q).trans ?_
  have hu : ∀ k : Fin 1024, k0_pay5 (F := Ideal) (iblk m c 0 t) (iblk m c 1 t) (iblk m c 2 t) (iblk m c 3 t) (iblk m c 4 t) (iblk m c 5 t) (iblk m c 6 t) (iblk m c 9 t) (ix2 p k)
      = aN m c (ix2 ⟨t.val * 512 + p.val, hp⟩ k) * aG m c (ix2 0 k) := fun k =>
    (pay5_at _ _ _ _ _ _ _ _ p k).trans (congrArg₂ (fun x y : EReal => x * y) (blk_dn m c t p k hp) (blk_g m c t k))
  have hi : k0_pay4 (F := Ideal) (iblk m c 7 t) (ix2 p 0) = Rms.inv (row (aX m c) ⟨t.val * 512 + p.val, hp⟩) := (pay4_at _ p 0).trans (by rw [blk_row m c t p hp])
  refine Eq.trans ?_ ((grad_eq (row (aX m c) ⟨t.val * 512 + p.val, hp⟩) (fun k => aN m c (ix2 ⟨t.val * 512 + p.val, hp⟩ k) * aG m c (ix2 0 k))
    (aH m c (ix2 ⟨t.val * 512 + p.val, hp⟩ q)) q).trans (rows_at (aX m c) (aG m c) (aN m c) (aH m c) ⟨t.val * 512 + p.val, hp⟩ q).symm)
  rw [hi]
  simp only [hu]
  have hx : ∀ k, (iblk m c 7 t (ix2 p k) : EReal) = row (aX m c) ⟨t.val * 512 + p.val, hp⟩ k := fun k => blk_x m c t p k hp
  refine congrArg₂ (fun x y : EReal => x + y) (congrArg₂ (fun x y : EReal => x - y) rfl (congrArg₂ (fun x y : EReal => x * y) (congrArg₂ (fun x y : EReal => x * y) (hx q) rfl) (congrArg (Ideal.div · wid) ?_))) (blk_h m c t p q hp)
  exact Finset.sum_congr rfl fun k _ => congrArg₂ (fun x y : EReal => x * y) rfl (hx k)

theorem final_rows : (data m 0 c).arrAt 10 cfg0.N = rows (aX m c) (aG m c) (aN m c) (aH m c) := by
  refine (data m 0 c).arrAt_eq_of_covers 10 _ (by decide +kernel) fun t hf y => ?_
  have hN : t.val < 16 := lt_of_lt_of_eq t.isLt N_0
  blk_simp
  rw [after_rows]
  idx_vars y
  have hp : t.val * 512 + y0.val < 8192 := by omega
  have hi : ((View.whole main_v3_0).slice (win0_10.rect t)).emb (ix2 y0 y1) = ix2 ⟨t.val * 512 + y0.val, hp⟩ y1 := by
    blk_ext [idx t]
  refine Eq.trans ?_ (congrArg (rows (aX m c) (aG m c) (aN m c) (aH m c)) hi.symm)
  exact rows_blk m c t y0 y1 hp

/-- A tile's share of the gain's gradient. -/
def tile (t : Fin cfg0.N) (j : S1x1024.Idx) : EReal :=
  ∑ p : Fin 512, k0_pay3 (F := Ideal) (iblk m c 0 t) (iblk m c 1 t) (iblk m c 2 t) (iblk m c 3 t) (iblk m c 4 t) (iblk m c 5 t) (iblk m c 6 t) (ix2 p (j 1)) * iblk m c 7 t (ix2 p (j 1))
    * k0_pay4 (F := Ideal) (iblk m c 7 t) (ix2 p 0)

theorem sum_first (n : ℕ) (hn : n < cfg0.N) (h : n = 0) (j : S1x1024.Idx) : sumAt m c n hn j = 0 + tile m c ⟨n, hn⟩ j := by
  subst h
  rw [zero_add, sumAt, sumOf]
  idx_vars j
  exact pay2_first _ _ _ _ j0 j1

theorem sum_next (n : ℕ) (hn : n + 1 < cfg0.N) (j : S1x1024.Idx) : sumAt m c (n + 1) hn j = sumAt m c n (Nat.lt_of_succ_lt hn) j + tile m c ⟨n + 1, hn⟩ j := by
  rw [sumAt, sumOf]
  idx_vars j
  exact pay2_next _ _ _ _ j0 j1

theorem tile_eq (t : Fin cfg0.N) (o : Fin 1) (q : Fin 1024) (p : Fin 512) (hp : t.val * 512 + p.val < 8192) :
    (k0_pay3 (F := Ideal) (iblk m c 0 t) (iblk m c 1 t) (iblk m c 2 t) (iblk m c 3 t) (iblk m c 4 t) (iblk m c 5 t) (iblk m c 6 t) (ix2 p q) * iblk m c 7 t (ix2 p q)
      * k0_pay4 (F := Ideal) (iblk m c 7 t) (ix2 p 0) : EReal)
    = aX m c (ix2 ⟨t.val * 512 + p.val, hp⟩ q) * Rms.inv (row (aX m c) ⟨t.val * 512 + p.val, hp⟩) * aN m c (ix2 ⟨t.val * 512 + p.val, hp⟩ q) := by
  have hi : k0_pay4 (F := Ideal) (iblk m c 7 t) (ix2 p 0) = Rms.inv (row (aX m c) ⟨t.val * 512 + p.val, hp⟩) := (pay4_at _ p 0).trans (by rw [blk_row m c t p hp])
  refine (congrArg₂ (fun x y : EReal => x * y) (congrArg₂ (fun x y : EReal => x * y) (blk_dn m c t p q hp) (blk_x m c t p q hp)) hi).trans ?_
  rw [mul_assoc, mul_comm]

/-- A row's share of the gain's gradient. -/
def share (q : Fin 1024) (r : Fin 8192) : EReal := aX m c (ix2 r q) * Rms.inv (row (aX m c) r) * aN m c (ix2 r q)

theorem tile_share (n : ℕ) (hn : n < cfg0.N) (s : ℕ) (hs : s < 16) (e : n = s) (o : Fin 1) (q : Fin 1024) :
    tile m c ⟨n, hn⟩ (ix2 o q) = ∑ p : Fin 512, share m c q ⟨s * 512 + p.val, by omega⟩ := by
  subst e
  exact Finset.sum_congr rfl fun p _ => tile_eq m c ⟨n, hn⟩ o q p (by have := p.isLt; show n * 512 + p.val < 8192; omega)

theorem sum_all (hn : 15 < cfg0.N) (o : Fin 1) (q : Fin 1024) : sumAt m c 15 hn (ix2 o q) = gain (aX m c) (aN m c) (ix2 o q) := by
  have hN : ∀ u : Fin cfg0.N, u.val < 16 := fun u => lt_of_lt_of_eq u.isLt N_0
  have h := Pipeline.eq_sum_fin_of_reset_step_apply_of_flush (fun n hn => sumAt m c n hn) 16 (fun _ => 0) (tile m c)
    (fun t h j => sum_first m c t.val t.isLt (by have := hN t; omega) j)
    (fun t h j => by
      obtain ⟨n, hn⟩ := t
      cases n with
      | zero => exact absurd rfl h
      | succ n => exact sum_next m c n hn j) ⟨15, hn⟩ rfl (ix2 o q)
  refine h.trans ?_
  rw [zero_add, Finset.sum_congr rfl fun s _ => tile_share m c _ _ s.val s.isLt (by show 16 * (15 / 16) + s.val = s.val; omega) o q]
  refine (Fin.sum_mul_add_congr (fun s k hl => rfl) rfl).trans (gain_at (aX m c) (aN m c) o q).symm

theorem final_sum : (data m 0 c).arrAt 11 cfg0.N = gain (aX m c) (aN m c) := by
  refine (data m 0 c).arrAt_eq_of_covers 11 _ (by decide +kernel) fun t hf y => ?_
  have hN : t.val < 16 := lt_of_lt_of_eq t.isLt N_0
  have ht : t.val = 15 := by have := (flush0_11 t).mp hf; omega
  blk_simp
  rw [after_sum]
  idx_vars y
  have hi : ((View.whole main_v3_1).slice (win0_11.rect t)).emb (ix2 y0 y1) = ix2 y0 y1 := by
    blk_ext [idx t]
  refine Eq.trans ?_ (congrArg (gain (aX m c) (aN m c)) hi.symm)
  obtain ⟨n, hn⟩ := t
  obtain rfl : n = 15 := ht
  exact sum_all m c hn y0 y1

end Cert.GradXIdeal.Rows

end
-- ==== Proof.DownRun.lean ====
/- The down projection with the gradients of the loss at its end: the body's run at a point, what its three results and its scratch hold after each point, and the
   frames of the kernel and of its idealization. The run is written for any float operations; both programs' frames are taken from it. -/
module

public import proofs.«01_k».proof.Defs
public import proofs.«01_k».proof.Proof.Gen.Down.Launch
public import proofs.«01_k».proof.Proof.Gen.DownIdeal.Frame
public import proofs.«01_k».proof.Proof.Gen.DownIdeal.Skeleton
public import proofs.«01_k».proof.Proof.RowSum

@[expose] public section

set_option maxRecDepth 16384

noncomputable section

namespace Cert.DownIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.DownIdeal Cert.DownIdeal.Gen Cert.Rows

variable {F : FTy → Type} [FloatOps F]

local notation "𝕄" => MT nD τ sig Unit (Elt F) ℕ (UR sig nD τ) ℕ

/-- The conditions of the first and of the last step of the contracted axis. -/
abbrev opens (i : grid0.Coords) : Prop := Scalar.cmpi .ne (Scalar.extui (Scalar.cmpi .eq (BitVec.ofNat 32 (i 2).val) 0#32) : BitVec 32) 0#32 = 1#1
abbrev closes (i : grid0.Coords) : Prop := k0_cond2 i = 1#1

/-- The three results' blocks at the last step, of the finished product `z` and of the blocks of the inputs; the last two add to what they held. -/
def rowsOf (z x2 x3 : Vec F S1024x1024 .f32) (x4 : Vec F S1x1024 .f32) : Vec F S1024x1024 .f32 := k0_pay3 (k0_pay11 z x2 x3 x4) (k0_pay12 z x2 x3 x4)
def gainOf (i : grid0.Coords) (z x2 x3 : Vec F S1024x1024 .f32) (x4 r : Vec F S1x1024 .f32) : Vec F S1x1024 .f32 :=
  k0_pay4 i (k0_pay6 z x2) (k0_pay8 z x2 x3 x4) (k0_pay9 z x2) r
def lossOf (i : grid0.Coords) (z x2 x3 : Vec F S1024x1024 .f32) (x4 r : Vec F S1x1024 .f32) : Vec F S1x1024 .f32 := k0_pay5 i (k0_pay7 z x2 x3 x4) r

/-- In the first row block the sums ignore what they held. -/
theorem first_cond (i : grid0.Coords) (h : (i 0).val = 0) : Scalar.cmpi .eq (BitVec.ofNat 32 (i 0).val) 0#32 = 1#1 := by rw [h]; rfl

theorem gain_blind (i : grid0.Coords) (h : (i 0).val = 0) (z x2 x3 : Vec F S1024x1024 .f32) (x4 r r' : Vec F S1x1024 .f32) :
    gainOf i z x2 x3 x4 r = gainOf i z x2 x3 x4 r' := by
  simp only [gainOf, k0_pay4, first_cond i h]
  rfl

theorem loss_blind (i : grid0.Coords) (h : (i 0).val = 0) (z x2 x3 : Vec F S1024x1024 .f32) (x4 r r' : Vec F S1x1024 .f32) :
    lossOf i z x2 x3 x4 r = lossOf i z x2 x3 x4 r' := by
  simp only [lossOf, k0_pay5, first_cond i h]
  rfl

set_option maxHeartbeats 2000000 in
/-- The run of the first step: the scratch is the product of the two blocks, over zeros. -/
theorem run_open (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1024x1024 .f32) (h11 : a11.IsWhole)
  (ho : opens i) (hc : ¬closes i)
  (x0 x1 : Vec F S1024x1024 .bf16) (E : Set ℕ) (K : PUnit → sProp 𝕄) :
    iprop(owns (c : Thread nD τ) a3 fullShare x0 ∗ owns (c : Thread nD τ) a4 fullShare x1 ∗ (∃ d, owns (c : Thread nD τ) a11 fullShare d)
        ∗ (iprop(owns (c : Thread nD τ) a3 fullShare x0 ∗ owns (c : Thread nD τ) a4 fullShare x1 ∗ owns (c : Thread nD τ) a11 fullShare (k0_pay2 k0_pay1 x0 x1)) -∗ K ⟨⟩))
      ⊢ wp frame (wpE (defs₀ (F := F)) Variants.none c none) E (cc0_mlp_down i a3 h3 a4 h4 a5 h5 a6 h6 a7 h7 a8 h8 a9 h9 a10 h10 a11 h11) K := by
  simp only [cc0_mlp_down_eq_skeleton]
  unfold cc0_mlp_down_skel
  unfold owns
  iintro ⟨⟨%f0, %e0, H0⟩, ⟨%f1, %e1, H1⟩, ⟨%ds, %fs, -, HS⟩, Hk⟩
  obtain rfl := h3.eq_unread e0
  obtain rfl := h4.eq_unread e1
  have l0 := load_whole (F := F) a3 h3 x0 inb_S1024x1024_S1024x1024_0_0
  have l1 := load_whole (F := F) a4 h4 x1 inb_S1024x1024_S1024x1024_0_0
  sl_exec (disch := first | sl_exact ho | sl_exact hc)
  sl_step
  iapply Hk
  isplitl [H0]
  · iexists _; isplitr; · ipureintro; exact h3.read_unread _
    iexact H0
  isplitl [H1]
  · iexists _; isplitr; · ipureintro; exact h4.read_unread _
    iexact H1
  iexists _
  isplitr
  swap; · iexact HS
  ipureintro
  refine (View.read_writes_full _ _ _ _ _).trans ?_
  exact congrArg (fun z => k0_pay2 z x0 x1) (View.readCov_cons_toLoadRect _ _ _ _)

set_option maxHeartbeats 2000000 in
/-- The run of a step in between: the scratch grows by the product of the two blocks. -/
theorem run_mid (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1024x1024 .f32) (h11 : a11.IsWhole)
  (ho : ¬opens i) (hc : ¬closes i)
  (x0 x1 : Vec F S1024x1024 .bf16) (s : Vec F S1024x1024 .f32) (E : Set ℕ) (K : PUnit → sProp 𝕄) :
    iprop(owns (c : Thread nD τ) a3 fullShare x0 ∗ owns (c : Thread nD τ) a4 fullShare x1 ∗ owns (c : Thread nD τ) a11 fullShare s
        ∗ (iprop(owns (c : Thread nD τ) a3 fullShare x0 ∗ owns (c : Thread nD τ) a4 fullShare x1 ∗ owns (c : Thread nD τ) a11 fullShare (k0_pay2 s x0 x1)) -∗ K ⟨⟩))
      ⊢ wp frame (wpE (defs₀ (F := F)) Variants.none c none) E (cc0_mlp_down i a3 h3 a4 h4 a5 h5 a6 h6 a7 h7 a8 h8 a9 h9 a10 h10 a11 h11) K := by
  simp only [cc0_mlp_down_eq_skeleton]
  unfold cc0_mlp_down_skel
  unfold owns
  iintro ⟨⟨%f0, %e0, H0⟩, ⟨%f1, %e1, H1⟩, ⟨%fs, %es, HS⟩, Hk⟩
  obtain rfl := h3.eq_unread e0
  obtain rfl := h4.eq_unread e1
  obtain rfl := h11.eq_unread es
  have l0 := load_whole (F := F) a3 h3 x0 inb_S1024x1024_S1024x1024_0_0
  have l1 := load_whole (F := F) a4 h4 x1 inb_S1024x1024_S1024x1024_0_0
  have ls := load_whole (F := F) a11 h11 s inb_S1024x1024_S1024x1024_0_0
  sl_exec (disch := first | sl_exact ho | sl_exact hc)
  sl_step
  iapply Hk
  isplitl [H0]
  · iexists _; isplitr; · ipureintro; exact h3.read_unread _
    iexact H0
  isplitl [H1]
  · iexists _; isplitr; · ipureintro; exact h4.read_unread _
    iexact H1
  iexists _
  isplitr
  swap; · iexact HS
  ipureintro
  refine (View.read_writes_full _ _ _ _ _).trans ?_
  congr

set_option maxHeartbeats 2000000 in
/-- The run of the last step: the rows' block and the two sum blocks are made of the finished scratch. -/
theorem run_close (c : Dev nD) (i : grid0.Coords)
  (a3 : Memref sig .tc .vmem S1024x1024 .bf16) (h3 : a3.IsWhole)
  (a4 : Memref sig .tc .vmem S1024x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1024x1024 .f32) (h11 : a11.IsWhole)
  (ho : ¬opens i) (hc : closes i)
  (x0 x1 : Vec F S1024x1024 .bf16) (x2 x3 : Vec F S1024x1024 .f32) (x4 : Vec F S1x1024 .f32) (r r' : Vec F S1x1024 .f32) (s : Vec F S1024x1024 .f32) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare r ∗ owns (c : Thread nD τ) a10 fullShare r' ∗ owns (c : Thread nD τ) a11 fullShare s
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare (rowsOf (k0_pay2 s x0 x1) x2 x3 x4) ∗ owns (c : Thread nD τ) a9 fullShare (gainOf i (k0_pay2 s x0 x1) x2 x3 x4 r) ∗ owns (c : Thread nD τ) a10 fullShare (lossOf i (k0_pay2 s x0 x1) x2 x3 x4 r') ∗ owns (c : Thread nD τ) a11 fullShare (k0_pay2 s x0 x1)) -∗ K ⟨⟩))
      ⊢ wp frame (wpE (defs₀ (F := F)) Variants.none c none) E (cc0_mlp_down i a3 h3 a4 h4 a5 h5 a6 h6 a7 h7 a8 h8 a9 h9 a10 h10 a11 h11) K := by
  simp only [cc0_mlp_down_eq_skeleton]
  unfold cc0_mlp_down_skel
  simp only [k0_part1_eq_skeleton]
  unfold k0_part1_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%f6, %e6, H6⟩, ⟨%f7, %e7, H7⟩, ⟨%fs, %es, HS⟩, Hk⟩
  obtain rfl := h3.eq_unread e0
  obtain rfl := h4.eq_unread e1
  obtain rfl := h5.eq_unread e2
  obtain rfl := h6.eq_unread e3
  obtain rfl := h7.eq_unread e4
  obtain rfl := h9.eq_unread e6
  obtain rfl := h10.eq_unread e7
  obtain rfl := h11.eq_unread es
  have l0 := load_whole (F := F) a3 h3 x0 inb_S1024x1024_S1024x1024_0_0
  have l1 := load_whole (F := F) a4 h4 x1 inb_S1024x1024_S1024x1024_0_0
  have l2 := load_whole (F := F) a5 h5 x2 inb_S1024x1024_S1024x1024_0_0
  have l3 := load_whole (F := F) a6 h6 x3 inb_S1024x1024_S1024x1024_0_0
  have l4 := load_whole (F := F) a7 h7 x4 inb_S1x1024_S1x1024_0_0
  have l6 := load_whole (F := F) a9 h9 r inb_S1x1024_S1x1024_0_0
  have l7 := load_whole (F := F) a10 h10 r' inb_S1x1024_S1x1024_0_0
  have ls := load_whole (F := F) a11 h11 s inb_S1024x1024_S1024x1024_0_0
  sl_exec (disch := first | sl_exact ho | sl_exact hc)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _
    isplitr
    swap; · iexact H5
    ipureintro
    refine (View.read_writes_full _ _ _ _ _).trans ?_
    exact congrArg (fun z => rowsOf z x2 x3 x4) (View.readCov_cons_toLoadRect _ _ _ _)
  isplitl [H6]
  · iexists _
    isplitr
    swap; · iexact H6
    ipureintro
    refine (View.read_writes_full _ _ _ _ _).trans ?_
    exact congrArg (fun z => gainOf i z x2 x3 x4 r) (View.readCov_cons_toLoadRect _ _ _ _)
  isplitl [H7]
  · iexists _
    isplitr
    swap; · iexact H7
    ipureintro
    refine (View.read_writes_full _ _ _ _ _).trans ?_
    exact congrArg (fun z => lossOf i z x2 x3 x4 r') (View.readCov_cons_toLoadRect _ _ _ _)
  iexists _
  isplitr
  swap; · iexact HS
  ipureintro
  refine (View.read_writes_full _ _ _ _ _).trans ?_
  congr

theorem opens_iff (t : Fin cfg0.N) : opens (grid0.coords t) ↔ t.val % 4 = 0 := by
  have ht : t.val < 32 := Nat.lt_of_lt_of_eq t.isLt N_0
  have e2 : (grid0.coords t 2).val = t.val / 1 % 4 := Pipeline.Grid.coords_val t 2 (by decide) rfl
  simp only [opens, e2]; word_cmp

theorem closes_iff (t : Fin cfg0.N) : closes (grid0.coords t) ↔ t.val % 4 = 3 := by
  have ht : t.val < 32 := Nat.lt_of_lt_of_eq t.isLt N_0
  have e2 : (grid0.coords t 2).val = t.val / 1 % 4 := Pipeline.Grid.coords_val t 2 (by decide) rfl
  simp only [closes, k0_cond2, e2]; word_cmp

theorem row_block (t : Fin cfg0.N) : (grid0.coords t 0).val = t.val / 4 := by
  have ht : t.val < 32 := Nat.lt_of_lt_of_eq t.isLt N_0
  have e0 : (grid0.coords t 0).val = t.val / 4 % 8 := Pipeline.Grid.coords_val t 0 (by decide) rfl
  omega

theorem idle_of (t : Fin cfg0.N) (h : t.val % 4 ≠ 3) : k0_cond2 (grid0.coords t) ≠ 1#1 := fun e => h ((closes_iff t).mp e)

theorem idle5 (t : Fin cfg0.N) (h : t.val % 4 ≠ 3) : cfg0.idle 5 (grid0.coords t) = true := by
  show (!(k0_cond2 (grid0.coords t) == 1#1)) = true
  rw [beq_false_of_ne (idle_of t h)]; rfl

theorem idle6 (t : Fin cfg0.N) (h : t.val % 4 ≠ 3) : cfg0.idle 6 (grid0.coords t) = true := idle5 t h

theorem idle7 (t : Fin cfg0.N) (h : t.val % 4 ≠ 3) : cfg0.idle 7 (grid0.coords t) = true := idle5 t h

theorem live5 (t : Fin cfg0.N) (h : t.val % 4 = 3) : cfg0.idle 5 (grid0.coords t) = false := by
  show (!(k0_cond2 (grid0.coords t) == 1#1)) = false
  rw [show k0_cond2 (grid0.coords t) = 1#1 from (closes_iff t).mpr h]; rfl

theorem live6 (t : Fin cfg0.N) (h : t.val % 4 = 3) : cfg0.idle 6 (grid0.coords t) = false := live5 t h

theorem live7 (t : Fin cfg0.N) (h : t.val % 4 = 3) : cfg0.idle 7 (grid0.coords t) = false := live5 t h

variable (m : (ℓ : Loc nD τ sig) → Buf (Elt F) ℓ) (ρ : Dev nD → PrngReg)

/-- The scratch after point `n`: a row block's products summed so far. -/
def accAt (c : Dev nD) : (n : ℕ) → n < cfg0.N → Vec F S1024x1024 .f32
  | 0, hn => k0_pay2 k0_pay1 (iblk m c 0 ⟨0, hn⟩) (iblk m c 1 ⟨0, hn⟩)
  | n + 1, hn => k0_pay2 (if (n + 1) % 4 = 0 then k0_pay1 else accAt c n (Nat.lt_of_succ_lt hn)) (iblk m c 0 ⟨n + 1, hn⟩) (iblk m c 1 ⟨n + 1, hn⟩)

/-- The first result's block after a last step. -/
def rowsAt (c : Dev nD) (t : Fin cfg0.N) : Vec F S1024x1024 .f32 := rowsOf (accAt m c t.val t.isLt) (iblk m c 2 t) (iblk m c 3 t) (iblk m c 4 t)

/-- What the last step of a row block makes of a sum block that held `r`: the gain's gradient, and the loss column by column. -/
def gainStep (c : Dev nD) (t : Fin cfg0.N) (r : Vec F S1x1024 .f32) : Vec F S1x1024 .f32 :=
  gainOf (grid0.coords t) (accAt m c t.val t.isLt) (iblk m c 2 t) (iblk m c 3 t) (iblk m c 4 t) r
def lossStep (c : Dev nD) (t : Fin cfg0.N) (r : Vec F S1x1024 .f32) : Vec F S1x1024 .f32 :=
  lossOf (grid0.coords t) (accAt m c t.val t.isLt) (iblk m c 2 t) (iblk m c 3 t) (iblk m c 4 t) r

/-- A sum block after point `n`: it changes at the last step of a row block, by `f`. -/
def sumAt (f : Fin cfg0.N → Vec F S1x1024 .f32 → Vec F S1x1024 .f32) : (n : ℕ) → n < cfg0.N → Vec F S1x1024 .f32
  | 0, _ => Rows.blank S1x1024
  | n + 1, hn => if (n + 1) % 4 = 3 then f ⟨n + 1, hn⟩ (sumAt f n (Nat.lt_of_succ_lt hn)) else sumAt f n (Nat.lt_of_succ_lt hn)

theorem acc_open (c : Dev nD) (t : Fin cfg0.N) (h : t.val % 4 = 0) : accAt m c t.val t.isLt = k0_pay2 k0_pay1 (iblk m c 0 t) (iblk m c 1 t) := by
  obtain ⟨n, hn⟩ := t
  cases n with
  | zero => rfl
  | succ n =>
    show k0_pay2 (if (n + 1) % 4 = 0 then k0_pay1 else accAt m c n _) _ _ = _
    rw [if_pos h]

theorem acc_step (c : Dev nD) (t : Fin cfg0.N) (h : t.val % 4 ≠ 0) :
    accAt m c t.val t.isLt = k0_pay2 (accAt m c (t.val - 1) (Nat.lt_of_le_of_lt (Nat.sub_le _ _) t.isLt)) (iblk m c 0 t) (iblk m c 1 t) := by
  obtain ⟨n, hn⟩ := t
  cases n with
  | zero => exact absurd rfl h
  | succ n =>
    show k0_pay2 (if (n + 1) % 4 = 0 then k0_pay1 else accAt m c n _) _ _ = _
    rw [if_neg h]
    rfl

theorem sum_idle (f : Fin cfg0.N → Vec F S1x1024 .f32 → Vec F S1x1024 .f32) (n : ℕ) (hn : n + 1 < cfg0.N) (h : (n + 1) % 4 ≠ 3) :
    sumAt f (n + 1) hn = sumAt f n (Nat.lt_of_succ_lt hn) := by
  show (if (n + 1) % 4 = 3 then _ else _) = _
  rw [if_neg h]

theorem sum_live (f : Fin cfg0.N → Vec F S1x1024 .f32 → Vec F S1x1024 .f32) (n : ℕ) (hn : n + 1 < cfg0.N) (h : (n + 1) % 4 = 3) :
    sumAt f (n + 1) hn = f ⟨n + 1, hn⟩ (sumAt f n (Nat.lt_of_succ_lt hn)) := by
  show (if (n + 1) % 4 = 3 then _ else _) = _
  rw [if_pos h]

/-- The scratch between points: anything before the first, then what the point before left. -/
def carried (c : Dev nD) : (n : ℕ) → n ≤ cfg0.N → sProp 𝕄
  | 0, _ => Pipeline.ΦA spec0 c
  | n + 1, hn => iprop(iprop(owns (c : Thread nD τ) (Memref.whole cc0_scratch0) fullShare (accAt m c n hn)) ∗ (∃ r, prngReg c r))

theorem rest_eq (c : Dev nD) : (Pipeline.ΦA spec0 c : sProp 𝕄) = iprop(iprop(∃ d, owns (c : Thread nD τ) (Memref.whole cc0_scratch0) fullShare d) ∗ (∃ r, prngReg c r)) := by
  unfold Pipeline.ΦA
  rw [scopedRest0_eq]
  simp only [owns_whole]
  try rfl

theorem carried_pos (c : Dev nD) (n : ℕ) (h : n ≤ cfg0.N) (hz : n ≠ 0) :
    carried m c n h = iprop(iprop(owns (c : Thread nD τ) (Memref.whole cc0_scratch0) fullShare (accAt m c (n - 1) (by omega))) ∗ (∃ r, prngReg c r)) := by
  cases n with
  | zero => exact absurd rfl hz
  | succ n => rfl

/-- Whatever the point, the scratch holds something. -/
theorem carried_any (c : Dev nD) (n : ℕ) (h : n ≤ cfg0.N) :
    carried m c n h ⊢ iprop(iprop(∃ d, owns (c : Thread nD τ) (Memref.whole cc0_scratch0) fullShare d) ∗ (∃ r, prngReg c r)) := by
  cases n with
  | zero => rw [← rest_eq c]; exact Idealize.SL.BI.Entails.refl _
  | succ n =>
    rw [carried_pos m c _ h (Nat.succ_ne_zero n)]
    iintro ⟨HS, Hg⟩
    isplitl [HS]
    · iexists _; iexact HS
    iexact Hg

/-- The launch's proof data: each input's block stays, the results hold `rowsAt` and the two sums, the scratch `accAt`. -/
def data (_ : Fin 1) (c : Dev nD) : Dat τ (Elt F) Unit ℕ (UR sig nD τ) ℕ cfg0 c where
  A w := V m c (Pipeline.arrRef spec0 w)
  after w t := match w with
    | ⟨5, _⟩ => rowsAt m c t
    | ⟨6, _⟩ => sumAt (gainStep m c) t.val t.isLt
    | ⟨7, _⟩ => sumAt (lossStep m c) t.val t.isLt
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := carried m c t.val (Nat.le_of_lt_succ t.isLt)
  q _ := fullShare
  owed _ := 0

theorem data_arr (c : Dev nD) (w : Fin cfg0.W) : (data m 0 c).A w = V m c (Pipeline.arrRef spec0 w) := by
  dsimp only [data]

theorem data_at (c : Dev nD) (t : Fin cfg0.N) : (data m 0 c).Φ t.castSucc = carried m c t.val (Nat.le_of_lt t.isLt) := by
  dsimp only [data]; exact Pipeline.Dat.Φ_castSucc (carried m c) t

theorem after_rows (c : Dev nD) (t : Fin cfg0.N) : (data m 0 c).after 5 t = rowsAt m c t := by dsimp only [data]
theorem after_gain (c : Dev nD) (t : Fin cfg0.N) : (data m 0 c).after 6 t = sumAt (gainStep m c) t.val t.isLt := by dsimp only [data]
theorem after_loss (c : Dev nD) (t : Fin cfg0.N) : (data m 0 c).after 7 t = sumAt (lossStep m c) t.val t.isLt := by dsimp only [data]

theorem no_flush5 (t : Fin cfg0.N) (h : t.val % 4 ≠ 3) : (cfg0.win 5).flush t = false := Bool.eq_false_iff.mpr fun e => h ((flush0_5 t).mp e)
theorem no_flush6 (t : Fin cfg0.N) (h : t.val < 31) : (cfg0.win 6).flush t = false := Bool.eq_false_iff.mpr fun e => by
  have := (flush0_6 t).mp e; omega

/-- Before a later point a sum block is what the point before left. -/
theorem before_gain (c : Dev nD) (d) (n : ℕ) (hn : n + 1 < cfg0.N) :
    (data m 0 c).before 6 ⟨n + 1, hn⟩ d = (data m 0 c).left 6 ⟨n, Nat.lt_of_succ_lt hn⟩ d := by
  have hN : n + 1 < 32 := Nat.lt_of_lt_of_eq hn N_0
  refine (Dat.before_of_pos (data m 0 c) 6 ⟨n + 1, hn⟩ (Nat.succ_ne_zero _) (Pipeline.Window.fetch_out _ rfl _) d).trans ?_
  exact if_neg (fun e => absurd (e.symm.trans (no_flush6 ⟨n, Nat.lt_of_succ_lt hn⟩ (by show n < 31; omega))) (by decide))

theorem left_gain (c : Dev nD) (d) (t : Fin cfg0.N) (h : t.val % 4 = 3) : (data m 0 c).left 6 t d = sumAt (gainStep m c) t.val t.isLt := by
  unfold Dat.left
  rw [show cfg0.idle 6 (cfg0.grid.coords t) = false from live6 t h]
  show (data m 0 c).kept 6 t d = _
  unfold Dat.kept
  rw [Pipeline.fill_of_clip_none 6 _ (fun _ => rfl) d ((data m 0 c).after 6 t), Pipeline.Window.fill_cut]
  exact after_gain m c t

theorem kept_gain (c : Dev nD) (d) (t : Fin cfg0.N) (h : t.val % 4 ≠ 3) : (data m 0 c).left 6 t d = (data m 0 c).before 6 t d := by
  unfold Dat.left
  rw [show cfg0.idle 6 (cfg0.grid.coords t) = true from idle6 t h]

theorem no_flush7 (t : Fin cfg0.N) (h : t.val < 31) : (cfg0.win 7).flush t = false := Bool.eq_false_iff.mpr fun e => by
  have := (flush0_7 t).mp e; omega

/-- Before a later point a sum block is what the point before left. -/
theorem before_loss (c : Dev nD) (d) (n : ℕ) (hn : n + 1 < cfg0.N) :
    (data m 0 c).before 7 ⟨n + 1, hn⟩ d = (data m 0 c).left 7 ⟨n, Nat.lt_of_succ_lt hn⟩ d := by
  have hN : n + 1 < 32 := Nat.lt_of_lt_of_eq hn N_0
  refine (Dat.before_of_pos (data m 0 c) 7 ⟨n + 1, hn⟩ (Nat.succ_ne_zero _) (Pipeline.Window.fetch_out _ rfl _) d).trans ?_
  exact if_neg (fun e => absurd (e.symm.trans (no_flush7 ⟨n, Nat.lt_of_succ_lt hn⟩ (by show n < 31; omega))) (by decide))

theorem left_loss (c : Dev nD) (d) (t : Fin cfg0.N) (h : t.val % 4 = 3) : (data m 0 c).left 7 t d = sumAt (lossStep m c) t.val t.isLt := by
  unfold Dat.left
  rw [show cfg0.idle 7 (cfg0.grid.coords t) = false from live7 t h]
  show (data m 0 c).kept 7 t d = _
  unfold Dat.kept
  rw [Pipeline.fill_of_clip_none 7 _ (fun _ => rfl) d ((data m 0 c).after 7 t), Pipeline.Window.fill_cut]
  exact after_loss m c t

theorem kept_loss (c : Dev nD) (d) (t : Fin cfg0.N) (h : t.val % 4 ≠ 3) : (data m 0 c).left 7 t d = (data m 0 c).before 7 t d := by
  unfold Dat.left
  rw [show cfg0.idle 7 (cfg0.grid.coords t) = true from idle7 t h]

/-- Past the first row block a sum block is found as it was left, through the points that do not touch it. -/
theorem sum_found (f : Fin cfg0.N → Vec F S1x1024 .f32 → Vec F S1x1024 .f32) (found left : Fin cfg0.N → Vec F S1x1024 .f32)
    (hb : ∀ (n : ℕ) (hn : n + 1 < cfg0.N), found ⟨n + 1, hn⟩ = left ⟨n, Nat.lt_of_succ_lt hn⟩)
    (hl : ∀ t : Fin cfg0.N, t.val % 4 = 3 → left t = sumAt f t.val t.isLt) (hi : ∀ t : Fin cfg0.N, t.val % 4 ≠ 3 → left t = found t) :
    ∀ (n : ℕ) (hn : n + 1 < cfg0.N), 3 ≤ n → found ⟨n + 1, hn⟩ = sumAt f n (Nat.lt_of_succ_lt hn)
  | 0, _, h => absurd h (by decide)
  | n + 1, hn, h => by
    rw [hb]
    by_cases h3 : (n + 1) % 4 = 3
    · exact hl ⟨n + 1, Nat.lt_of_succ_lt hn⟩ h3
    · rw [hi ⟨n + 1, Nat.lt_of_succ_lt hn⟩ h3, sum_found f found left hb hl hi n (Nat.lt_of_succ_lt hn) (by omega), sum_idle f n _ h3]

/-- After a last step a sum block is `sumAt`, from whatever the point found in it, if the first row block ignores that. -/
theorem sum_step (f : Fin cfg0.N → Vec F S1x1024 .f32 → Vec F S1x1024 .f32) (found : Fin cfg0.N → Vec F S1x1024 .f32)
    (hf : ∀ (n : ℕ) (hn : n + 1 < cfg0.N), 3 ≤ n → found ⟨n + 1, hn⟩ = sumAt f n (Nat.lt_of_succ_lt hn))
    (h0 : ∀ (t : Fin cfg0.N) (r r' : Vec F S1x1024 .f32), t.val / 4 = 0 → f t r = f t r') (t : Fin cfg0.N) (h : t.val % 4 = 3) :
    f t (found t) = sumAt f t.val t.isLt := by
  obtain ⟨n, hn⟩ := t
  cases n with
  | zero => exact absurd (show 0 % 4 = 3 from h) (by decide)
  | succ n =>
    rw [sum_live f n hn h]
    by_cases hz : (n + 1) / 4 = 0
    · exact h0 _ _ _ hz
    · rw [hf n hn (by omega)]

theorem gain_step (c : Dev nD) (t : Fin cfg0.N) (h : t.val % 4 = 3) (d) : gainStep m c t ((data m 0 c).before 6 t d) = sumAt (gainStep m c) t.val t.isLt :=
  sum_step (gainStep m c) (fun t => (data m 0 c).before 6 t d)
    (sum_found _ _ (fun t => (data m 0 c).left 6 t d) (before_gain m c d) (left_gain m c d) (kept_gain m c d))
    (fun t r r' hz => gain_blind _ ((row_block t).trans hz) _ _ _ _ r r') t h

theorem loss_step (c : Dev nD) (t : Fin cfg0.N) (h : t.val % 4 = 3) (d) : lossStep m c t ((data m 0 c).before 7 t d) = sumAt (lossStep m c) t.val t.isLt :=
  sum_step (lossStep m c) (fun t => (data m 0 c).before 7 t d)
    (sum_found _ _ (fun t => (data m 0 c).left 7 t d) (before_loss m c d) (left_loss m c d) (kept_loss m c d))
    (fun t r r' hz => loss_blind _ ((row_block t).trans hz) _ _ _ _ r r') t h

/-- At a point that a window is live at, the body leaves the proof data's block. -/
theorem live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact
  rw [h]

set_option maxHeartbeats 4000000 in
/-- The body at any point, in the library's form. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((data m 0 c).Φ t.castSucc ∗ (data m 0 c).owesAt () t.castSucc
        ∗ (∃ d, owns (c : Thread nD τ) (win0_0.stage (cfg0.slots t 0)) fullShare ((data m 0 c).before 0 t d))
        ∗ (∃ d, owns (c : Thread nD τ) (win0_1.stage (cfg0.slots t 1)) fullShare ((data m 0 c).before 1 t d))
        ∗ (∃ d, owns (c : Thread nD τ) (win0_2.stage (cfg0.slots t 2)) fullShare ((data m 0 c).before 2 t d))
        ∗ (∃ d, owns (c : Thread nD τ) (win0_3.stage (cfg0.slots t 3)) fullShare ((data m 0 c).before 3 t d))
        ∗ (∃ d, owns (c : Thread nD τ) (win0_4.stage (cfg0.slots t 4)) fullShare ((data m 0 c).before 4 t d))
        ∗ (∃ d, owns (c : Thread nD τ) (win0_5.stage (cfg0.slots t 5)) fullShare ((data m 0 c).before 5 t d))
        ∗ (∃ d, owns (c : Thread nD τ) (win0_6.stage (cfg0.slots t 6)) fullShare ((data m 0 c).before 6 t d))
        ∗ (∃ d, owns (c : Thread nD τ) (win0_7.stage (cfg0.slots t 7)) fullShare ((data m 0 c).before 7 t d))))
    (Q := fun _ => iprop((data m 0 c).Φ t.succ ∗ (data m 0 c).owesAt () t.castSucc
        ∗ (data m 0 c).leavesExact 0 t
        ∗ (data m 0 c).leavesExact 1 t
        ∗ (data m 0 c).leavesExact 2 t
        ∗ (data m 0 c).leavesExact 3 t
        ∗ (data m 0 c).leavesExact 4 t
        ∗ (data m 0 c).leavesExact 5 t
        ∗ (data m 0 c).leavesExact 6 t
        ∗ (data m 0 c).leavesExact 7 t)) ?_ rfl .rfl fun _ => .rfl
  unfold bodyAt0
  rw [show (data m 0 c).Φ t.succ = iprop(iprop(owns (c : Thread nD τ) (Memref.whole cc0_scratch0) fullShare (accAt m c t.val t.isLt)) ∗ (∃ r, prngReg c r)) from rfl, data_at m c t]
  rw [live m c 0 t rfl, live m c 1 t rfl, live m c 2 t rfl, live m c 3 t rfl, live m c 4 t rfl]
  simp only [before0_0_of m (data m 0 c) (data_arr m c 0) (fun _ => rfl), before0_1_of m (data m 0 c) (data_arr m c 1) (fun _ => rfl), before0_2_of m (data m 0 c) (data_arr m c 2) (fun _ => rfl), before0_3_of m (data m 0 c) (data_arr m c 3) (fun _ => rfl), before0_4_of m (data m 0 c) (data_arr m c 4) (fun _ => rfl)]
  have hN : t.val < 32 := Nat.lt_of_lt_of_eq t.isLt N_0
  by_cases h0 : t.val % 4 = 0
  · have h3 : t.val % 4 ≠ 3 := by omega
    rw [Dat.leavesExact_idle (data m 0 c) 5 t (idle5 t h3) (no_flush5 t h3), Dat.leavesExact_idle (data m 0 c) 6 t (idle6 t h3) (no_flush6 t (by omega)),
      Dat.leavesExact_idle (data m 0 c) 7 t (idle7 t h3) (no_flush7 t (by omega))]
    rw [acc_open m c t h0]
    refine (BIClass.sep_mono (carried_any m c _ _) (BI.Entails.refl _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_open c (grid0.coords t) _ _ _ _ _ _ _ _ _ _ _ _ _ _ _ _ _ _ ((opens_iff t).mpr h0) (fun e => h3 ((closes_iff t).mp e)) (iblk m c 0 t) (iblk m c 1 t) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · have hz : t.val ≠ 0 := by omega
    rw [carried_pos m c _ _ hz]
    by_cases h3 : t.val % 4 = 3
    · rw [live m c 5 t (live5 t h3), live m c 6 t (live6 t h3), live m c 7 t (live7 t h3), after_rows, after_gain, after_loss, rowsAt]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [← gain_step m c t h3 d6, ← loss_step m c t h3 d7, gainStep, lossStep, acc_step m c t h0]
      iapply (run_close c (grid0.coords t) _ _ _ _ _ _ _ _ _ _ _ _ _ _ _ _ _ _ (fun e => h0 ((opens_iff t).mp e)) ((closes_iff t).mpr h3) (iblk m c 0 t) (iblk m c 1 t) (iblk m c 2 t) (iblk m c 3 t) (iblk m c 4 t) ((data m 0 c).before 6 t d6) ((data m 0 c).before 7 t d7) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (data m 0 c) 5 t (idle5 t h3) (no_flush5 t h3), Dat.leavesExact_idle (data m 0 c) 6 t (idle6 t h3) (no_flush6 t (by omega)),
      Dat.leavesExact_idle (data m 0 c) 7 t (idle7 t h3) (no_flush7 t (by omega))]
      rw [acc_step m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c (grid0.coords t) _ _ _ _ _ _ _ _ _ _ _ _ _ _ _ _ _ _ (fun e => h0 ((opens_iff t).mp e)) (fun e => h3 ((closes_iff t).mp e)) (iblk m c 0 t) (iblk m c 1 t) (accAt m c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7

theorem carried_in (c : Dev nD) : Pipeline.ΦA spec0 c ⊢ (data m 0 c).Φ 0 := by
  rw [show (data m 0 c).Φ 0 = carried m c 0 (Nat.zero_le _) from rfl]
  exact Idealize.SL.BI.Entails.refl _

theorem carried_out (c : Dev nD) : (data m 0 c).Φ (Fin.last cfg0.N) ⊢ Pipeline.ΦA spec0 c := by
  rw [show (data m 0 c).Φ (Fin.last cfg0.N) = carried m c (Fin.last cfg0.N).val (Nat.le_of_lt_succ (Fin.last cfg0.N).isLt) from rfl, rest_eq]
  exact carried_any m c _ _

set_option backward.isDefEq.respectTransparency.types false in
/-- The launch: it ends with every window's array at what the proof data give, with the lines after it run, and with all counters at zero. -/
theorem launch : θ_run defs (onTc (τ := τ) (main (F := F))) (s₀ m ρ) (fun r => (Pipeline.FramePost cfgs (data m) 0 (Pipeline.afterTail₀ cfgs (data m) 0 (V0 m) [hostOps1])) r ∧ r.2.sem = fun _ => 0) :=
  Pipeline.θ_run_frame_around_track (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := data_arr m) (hin := carried_in m) (hout := carried_out m)

theorem run : θ_run defs (onTc (τ := τ) (main (F := F))) (s₀ m ρ) (Pipeline.FramePost cfgs (data m) 0 (Pipeline.afterTail₀ cfgs (data m) 0 (V0 m) [hostOps1])) :=
  (θ_run defs _ _).mono (fun _ h => h.1) (launch m ρ)

/-- The lines after the launch sum the loss's columns, whatever the arrays hold. -/
theorem loss_tail (V0 : Valuation τ sig (Elt F)) : StableHlo.after (List.flatten [hostOps1]) V0 (Proc.devRef .tc main_v3)
    = shapeCast S_ (broadcastInDim S1x1 ![0] bcast_S1_S1x1_0
        (Host.reduceAdd (V0 (Proc.devRef .tc main_v0_2)) (constant S_ .f32 0x00000000#32) reducesTo_S1x1024_S1_d1 h_S_)) shapeCasts_S1x1_S_ := by
  simp only [List.flatten_cons, List.flatten_nil, List.append_nil, List.cons_append, List.nil_append]
  after_results_simp <;> rfl

theorem loss_cell (c : Dev nD) : Pipeline.afterTail₀ cfgs (data m) 0 (V0 m) [hostOps1] c main_v3
    = shapeCast S_ (broadcastInDim S1x1 ![0] bcast_S1_S1x1_0 (Host.reduceAdd ((data m 0 c).arrAt 7 cfg0.N) (constant S_ .f32 0x00000000#32) reducesTo_S1x1024_S1_d1 h_S_)) shapeCasts_S1x1_S_ := by
  unfold Pipeline.afterTail₀
  refine (loss_tail _).trans ?_
  rw [show (Pipeline.withArrays spec0 c (V0 m c) fun w => (data m 0 c).arrAt w cfg0.N) (Proc.devRef .tc main_v0_2) = (data m 0 c).arrAt 7 cfg0.N
    from Pipeline.withArrays_arr spec0 (by decide) c (V0 m c) _ 7]

/-- What every run ends with: the results at what the proof data give, the arguments as they were. -/
theorem run_blocks : θ_run defs (onTc (τ := τ) (main (F := F))) ⟨m, fun _ => 0, ρ⟩ fun r => ∀ c : Dev nD,
      r.2.mem ((c.tc : Thread nD τ).loc main_v0_0) = (data m 0 c).arrAt 5 cfg0.N
      ∧ r.2.mem ((c.tc : Thread nD τ).loc main_v0_1) = (data m 0 c).arrAt 6 cfg0.N
      ∧ r.2.mem ((c.tc : Thread nD τ).loc main_v3)
        = shapeCast S_ (broadcastInDim S1x1 ![0] bcast_S1_S1x1_0 (Host.reduceAdd ((data m 0 c).arrAt 7 cfg0.N) (constant S_ .f32 0x00000000#32) reducesTo_S1x1024_S1_d1 h_S_)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 5, (h.1 c).1 6, ((h.1 c).2 main_v3 (by decide)).trans (loss_cell m c), h.2 c⟩)
    (θ_run_and (run m ρ) (frame_of m ρ (data m) (data_arr m) (run m ρ)))

theorem idealFrame : Cert.quiescent_DownIdeal := fun m g _ =>
  θ_run_and (frame_of m g (data m) (data_arr m) (run m g)) ((θ_run defs _ _).mono (fun _ h => h.2) (launch m g))

/-- The kernel's and its idealization's function tables are one. -/
theorem table_eq : Cert.Down.defs₀ (F := F) = defs₀ (F := F) := by
  refine congrArg Defs.onTc (funext fun l => ?_)
  obtain ⟨l, hl⟩ := l
  cases l with
  | zero => rfl
  | succ n => exact absurd hl (by omega)

theorem defs_eq : Cert.Down.defs (F := F) = defs (F := F) := congrArg (Pipeline.defs pcfgs) table_eq

theorem kernelFrame : Cert.quiescent_Down := by
  intro m g _
  rw [defs_eq]
  exact θ_run_and (frame_of m g (data m) (data_arr m) (run m g)) ((θ_run defs _ _).mono (fun _ h => h.2) (launch m g))

end Cert.DownIdeal.Rows

end
-- ==== Proof.DownRef.lean ====
/- The loss of the rows after the down projection, its gradient by the rows and by the gain as the reference writes them, entry by entry. -/
module

public import proofs.«01_k».proof.Proof.Gen.DownRefIdeal.Run
public import proofs.«01_k».proof.Proof.RmsRef
public import proofs.«01_k».proof.Proof.MmMath

@[expose] public section

set_option maxRecDepth 16384

noncomputable section

namespace Cert.DownRefIdeal.Rows

open Idealize.ShloMosaic Idealize.ShloMosaic.TcCoe Idealize.SL.Sem
open Cert.DownRefIdeal Cert.DownRefIdeal.Gen Cert.Mm Cert.Rms

/-- The rows: the residual and the projected activations. -/
def xs (A : FVec Ideal S8192x4096 .bf16) (W : FVec Ideal S4096x1024 .bf16) (H : FVec Ideal S8192x1024 .f32) : FVec Ideal S8192x1024 .f32 :=
  addf H (Host.dotGeneral dot_S8192x4096_S4096x1024_S8192x1024_1_0_0_1_n_n none (φ₁ := .f32) (φ₂ := .f32) (extf .f32 A bitsLt_bf16_f32) (extf .f32 W bitsLt_bf16_f32))

theorem xs_at (A : FVec Ideal S8192x4096 .bf16) (W : FVec Ideal S4096x1024 .bf16) (H : FVec Ideal S8192x1024 .f32) (p : Fin 8192) (q : Fin 1024) :
    xs A W H (ix2 p q) = H (ix2 p q) + nn A W p q := by
  pointwise [xs, nn]

/-- The normalised rows less the targets. -/
def err (x : FVec Ideal S8192x1024 .f32) (g : FVec Ideal S1x1024 .f32) (T : FVec Ideal S8192x1024 .f32) : FVec Ideal S8192x1024 .f32 :=
  subf (mulf (mulf x (broadcastInDim S8192x1024 ![0, 1] bcast_S8192x1_S8192x1024_0_1 (Host.rsqrt (power x))))
    (broadcastInDim S8192x1024 ![0, 1] bcast_S1x1024_S8192x1024_0_1 (broadcastInDim S1x1024 ![1] bcast_S1024_S1x1024_1 (shapeCast _ g shapeCasts_S1x1024_S1024)))) T

theorem err_at (x : FVec Ideal S8192x1024 .f32) (g : FVec Ideal S1x1024 .f32) (T : FVec Ideal S8192x1024 .f32) (p : Fin 8192) (q : Fin 1024) :
    err x g T (ix2 p q) = x (ix2 p q) * Rms.inv (row x p) * g (ix2 0 q) - T (ix2 p q) := by
  pointwise [err, Rms.inv, row]
  rw [power_at]

/-- The loss: half the sum over the rows of the mean square of `e`. -/
def loss (e : FVec Ideal S8192x1024 .f32) : FVec Ideal S_ .f32 :=
  mulf (constant S_ .f32 0x3F000000#32) (Host.reduceAdd (Host.divf (Host.reduceAdd (mulf e e) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_)

/-- The loss's gradient by `e`. -/
def slope (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32)))
    (broadcastInDim S8192 ![] bcast_S_S8192 (constant S_ .f32 0x44800000#32)))) (mulf (broadcastInDim S8192x1024 ![] bcast_S_S8192x1024 (constant S_ .f32 0x40000000#32)) e)

/-- The numbers one half, one and two, and the kernel's factors of the loss and of its gradient. -/
def one2 : EReal := Ideal.ofBits .f32 0x3F000000#32
def one : EReal := Ideal.ofBits .f32 0x3F800000#32
def two : EReal := Ideal.ofBits .f32 0x40000000#32
def lossFactor : EReal := Ideal.ofBits .f32 0x3A000000#32
def slopeFactor : EReal := Ideal.ofBits .f32 0x3A800000#32

theorem one2_real : one2 = ((1 / 2 : ℝ) : EReal) := by
  unfold one2 Ideal.ofBits Ideal.ieee
  simp only
  rw [if_neg (by decide), if_neg (by decide), if_neg (by decide)]
  norm_num [Nat.shiftRight_eq_div_pow]

theorem one_real : one = ((1 : ℝ) : EReal) := by
  unfold one Ideal.ofBits Ideal.ieee
  simp only
  rw [if_neg (by decide), if_neg (by decide), if_neg (by decide)]
  norm_num [Nat.shiftRight_eq_div_pow]

theorem two_real : two = ((2 : ℝ) : EReal) := by
  unfold two Ideal.ofBits Ideal.ieee
  simp only
  rw [if_neg (by decide), if_neg (by decide), if_neg (by decide)]
  norm_num [Nat.shiftRight_eq_div_pow]

theorem lossFactor_real : lossFactor = (((2048 : ℝ)⁻¹ : ℝ) : EReal) := by
  unfold lossFactor Ideal.ofBits Ideal.ieee
  simp only
  rw [if_neg (by decide), if_neg (by decide), if_neg (by decide)]
  norm_num [Nat.shiftRight_eq_div_pow]

theorem slopeFactor_real : slopeFactor = (((1024 : ℝ)⁻¹ : ℝ) : EReal) := by
  unfold slopeFactor Ideal.ofBits Ideal.ieee
  simp only
  rw [if_neg (by decide), if_neg (by decide), if_neg (by decide)]
  norm_num [Nat.shiftRight_eq_div_pow]

/-- A sum scaled by a real number that is not negative is the sum of the scaled values. -/
theorem sum_scale {ι : Type} [Fintype ι] (c : ℝ) (hc : 0 ≤ c) (f : ι → EReal) : (∑ k, f k) * (c : EReal) = ∑ k, f k * (c : EReal) := by
  classical
  refine Finset.induction_on (motive := fun s => (∑ k ∈ s, f k) * (c : EReal) = ∑ k ∈ s, f k * (c : EReal)) Finset.univ (by simp) fun k s hk ih => ?_
  rw [Finset.sum_insert hk, Finset.sum_insert hk, EReal.right_distrib_of_nonneg_of_ne_top (by exact_mod_cast hc) (EReal.coe_ne_top c), ih]

theorem slope_at (e : FVec Ideal S8192x1024 .f32) (p : Fin 8192) (q : Fin 1024) : slope e (ix2 p q) = e (ix2 p q) * slopeFactor := by
  have h : slope e (ix2 p q) = Ideal.div (one2 * one) wid * (two * e (ix2 p q)) := by
    pointwise [slope, one2, one, two, wid]
  rw [h, div_wid, one2_real, one_real, two_real, slopeFactor_real, ← mul_assoc, ← EReal.coe_mul, ← EReal.coe_mul, ← EReal.coe_mul, mul_comm]
  congr 2
  norm_num

/-- The loss is the sum of the scaled squares, column by column. -/
theorem loss_at (e : FVec Ideal S8192x1024 .f32) (i : S_.Idx) : loss e i = ∑ q : Fin 1024, ∑ p : Fin 8192, e (ix2 p q) * e (ix2 p q) * lossFactor := by
  have h : loss e i = one2 * ∑ p : Fin 8192, Ideal.div (∑ q : Fin 1024, e (ix2 p q) * e (ix2 p q)) wid := by
    pointwise [loss, one2, wid]
  rw [h, Finset.sum_comm, mul_comm, one2_real, sum_scale _ (by norm_num)]
  refine Finset.sum_congr rfl fun p _ => ?_
  rw [div_wid, mul_assoc, ← EReal.coe_mul, sum_scale _ (by norm_num), lossFactor_real]
  refine Finset.sum_congr rfl fun q _ => ?_
  congr 2
  norm_num

/-- The gradient of the rows. -/
def rows (x : FVec Ideal S8192x1024 .f32) (g : FVec Ideal S1x1024 .f32) (d : FVec Ideal S8192x1024 .f32) : FVec Ideal S8192x1024 .f32 :=
  addf (addf (mulf (scaled g d) (broadcastInDim S8192x1024 ![0, 1] bcast_S8192x1_S8192x1024_0_1 (Host.rsqrt (power x))))
    (mulf x (broadcastInDim S8192x1024 ![0] bcast_S8192_S8192x1024_0 (pull x (scaled g d)))))
    (mulf (broadcastInDim S8192x1024 ![0] bcast_S8192_S8192x1024_0 (pull x (scaled g d))) x)

theorem rows_at (x : FVec Ideal S8192x1024 .f32) (g : FVec Ideal S1x1024 .f32) (d : FVec Ideal S8192x1024 .f32) (p : Fin 8192) (q : Fin 1024) :
    rows x g d (ix2 p q) = grad (row x p) (fun k => d (ix2 p k) * g (ix2 0 k)) 0 q := by
  pointwise [rows, grad, Rms.inv, row]
  rw [pull_at, power_at, show row (scaled g d) p = fun k => d (ix2 p k) * g (ix2 0 k) from funext fun k => scaled_at g d p k, scaled_at]

/-- The reference's run with its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
        = rows (xs (m ((c.tc : Thread nD τ).loc main_arg0)) (m ((c.tc : Thread nD τ).loc main_arg1)) (m ((c.tc : Thread nD τ).loc main_arg2))) (m ((c.tc : Thread nD τ).loc main_arg4))
          (slope (err (xs (m ((c.tc : Thread nD τ).loc main_arg0)) (m ((c.tc : Thread nD τ).loc main_arg1)) (m ((c.tc : Thread nD τ).loc main_arg2)))
            (m ((c.tc : Thread nD τ).loc main_arg4)) (m ((c.tc : Thread nD τ).loc main_arg3))))
      ∧ r.2.mem ((c.tc : Thread nD τ).loc main_v56)
        = gain (xs (m ((c.tc : Thread nD τ).loc main_arg0)) (m ((c.tc : Thread nD τ).loc main_arg1)) (m ((c.tc : Thread nD τ).loc main_arg2)))
          (slope (err (xs (m ((c.tc : Thread nD τ).loc main_arg0)) (m ((c.tc : Thread nD τ).loc main_arg1)) (m ((c.tc : Thread nD τ).loc main_arg2)))
            (m ((c.tc : Thread nD τ).loc main_arg4)) (m ((c.tc : Thread nD τ).loc main_arg3))))
      ∧ r.2.mem ((c.tc : Thread nD τ).loc main_v29)
        = loss (err (xs (m ((c.tc : Thread nD τ).loc main_arg0)) (m ((c.tc : Thread nD τ).loc main_arg1)) (m ((c.tc : Thread nD τ).loc main_arg2)))
            (m ((c.tc : Thread nD τ).loc main_arg4)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2⟩) (Cert.DownRefIdeal.Value.run m ρ)

end Cert.DownRefIdeal.Rows

end
-- ==== Proof.Down.lean ====
/- The down projection with the gradients of the loss at its end: the kernel's three results are the reference's. -/
module

public import proofs.«01_k».proof.Proof.DownRun
public import proofs.«01_k».proof.Proof.DownRef

@[expose] public section

set_option maxRecDepth 16384

noncomputable section

namespace Cert.DownIdeal.Rows

open Idealize.ShloMosaic Idealize.ShloMosaic.TcCoe Idealize.SL.Sem
open Cert.DownIdeal Cert.DownIdeal.Gen Cert.Mm Cert.Rms
open Cert.DownRefIdeal.Rows (xs xs_at err err_at loss loss_at slope slope_at lossFactor slopeFactor)

theorem pay1_at (j : S1024x1024.Idx) : k0_pay1 (F := Ideal) j = 0 := by
  pointwise [k0_pay1]

theorem pay2_at (s : Vec Ideal S1024x1024 .f32) (a b : Vec Ideal S1024x1024 .bf16) (j : S1024x1024.Idx) :
    k0_pay2 (F := Ideal) s a b j = s j + nn a b (j 0) (j 1) := by
  idx_vars j
  pointwise [k0_pay2, nn]

theorem pay9_at (z h : Vec Ideal S1024x1024 .f32) (p : Fin 1024) (o : Fin 1) : k0_pay9 (F := Ideal) z h (ix2 p o) = Rms.inv (row (k0_pay6 (F := Ideal) z h) p) := by
  pointwise [k0_pay9, Rms.inv, pw, row, wid, eps]

theorem pay7_at (z h T : Vec Ideal S1024x1024 .f32) (g : Vec Ideal S1x1024 .f32) (p q : Fin 1024) :
    k0_pay7 (F := Ideal) z h T g (ix2 p q) = k0_pay6 (F := Ideal) z h (ix2 p q) * Rms.inv (row (k0_pay6 (F := Ideal) z h) p) * g (ix2 0 q) - T (ix2 p q) := by
  pointwise [k0_pay7, Rms.inv, pw, row, wid, eps]

theorem pay8_at (z h T : Vec Ideal S1024x1024 .f32) (g : Vec Ideal S1x1024 .f32) (p q : Fin 1024) :
    k0_pay8 (F := Ideal) z h T g (ix2 p q) = k0_pay7 (F := Ideal) z h T g (ix2 p q) * slopeFactor := by
  pointwise [k0_pay8, slopeFactor]

theorem rows_pay (z h T : Vec Ideal S1024x1024 .f32) (g : Vec Ideal S1x1024 .f32) (p q : Fin 1024) :
    rowsOf (F := Ideal) z h T g (ix2 p q) = k0_pay9 (F := Ideal) z h (ix2 p 0) * (k0_pay8 (F := Ideal) z h T g (ix2 p q) * g (ix2 0 q))
      - k0_pay6 (F := Ideal) z h (ix2 p q) * (k0_pay9 (F := Ideal) z h (ix2 p 0) * k0_pay9 (F := Ideal) z h (ix2 p 0) * k0_pay9 (F := Ideal) z h (ix2 p 0))
        * Ideal.div (∑ k, k0_pay8 (F := Ideal) z h T g (ix2 p k) * g (ix2 0 k) * k0_pay6 (F := Ideal) z h (ix2 p k)) wid := by
  pointwise [rowsOf, k0_pay3, k0_pay11, k0_pay12, k0_pay10, wid]

theorem next_cond (i : grid0.Coords) (h : (i 0).val ≠ 0) : Scalar.cmpi .eq (BitVec.ofNat 32 (i 0).val) 0#32 = 0#1 :=
  (by decide : ∀ k : Fin 8, k.val ≠ 0 → Scalar.cmpi .eq (BitVec.ofNat 32 k.val) 0#32 = 0#1) (i 0) h

theorem gain_first (i : grid0.Coords) (e : (i 0).val = 0) (z h T : Vec Ideal S1024x1024 .f32) (g r : Vec Ideal S1x1024 .f32) (o : Fin 1) (q : Fin 1024) :
    gainOf (F := Ideal) i z h T g r (ix2 o q)
      = ∑ p, k0_pay8 (F := Ideal) z h T g (ix2 p q) * k0_pay6 (F := Ideal) z h (ix2 p q) * k0_pay9 (F := Ideal) z h (ix2 p 0) := by
  simp only [gainOf, k0_pay4, first_cond i e]
  pointwise []

theorem gain_next (i : grid0.Coords) (e : (i 0).val ≠ 0) (z h T : Vec Ideal S1024x1024 .f32) (g r : Vec Ideal S1x1024 .f32) (o : Fin 1) (q : Fin 1024) :
    gainOf (F := Ideal) i z h T g r (ix2 o q) = r (ix2 o q)
      + ∑ p, k0_pay8 (F := Ideal) z h T g (ix2 p q) * k0_pay6 (F := Ideal) z h (ix2 p q) * k0_pay9 (F := Ideal) z h (ix2 p 0) := by
  simp only [gainOf, k0_pay4, next_cond i e]
  pointwise []

theorem loss_first (i : grid0.Coords) (e : (i 0).val = 0) (z h T : Vec Ideal S1024x1024 .f32) (g r : Vec Ideal S1x1024 .f32) (o : Fin 1) (q : Fin 1024) :
    lossOf (F := Ideal) i z h T g r (ix2 o q)
      = (∑ p, k0_pay7 (F := Ideal) z h T g (ix2 p q) * k0_pay7 (F := Ideal) z h T g (ix2 p q)) * lossFactor := by
  simp only [lossOf, k0_pay5, first_cond i e]
  pointwise [lossFactor]

theorem loss_next (i : grid0.Coords) (e : (i 0).val ≠ 0) (z h T : Vec Ideal S1024x1024 .f32) (g r : Vec Ideal S1x1024 .f32) (o : Fin 1) (q : Fin 1024) :
    lossOf (F := Ideal) i z h T g r (ix2 o q) = r (ix2 o q)
      + (∑ p, k0_pay7 (F := Ideal) z h T g (ix2 p q) * k0_pay7 (F := Ideal) z h T g (ix2 p q)) * lossFactor := by
  simp only [lossOf, k0_pay5, next_cond i e]
  pointwise [lossFactor]

variable (m : (ℓ : Loc nD τ sig) → Buf (Elt Ideal) ℓ) (c : Dev nD)

theorem idx : ∀ t : Fin cfg0.N, win0_0.index t = ![t.val / 4, t.val % 4] ∧ win0_1.index t = ![t.val % 4, 0] ∧ win0_2.index t = ![t.val / 4, 0]
    ∧ win0_3.index t = ![t.val / 4, 0] ∧ win0_4.index t = ![0, 0] ∧ win0_5.index t = ![t.val / 4, 0] ∧ win0_6.index t = ![0, 0] ∧ win0_7.index t = ![0, 0] :=
  (by decide +kernel : ∀ t : Fin grid0.N, _)

/-- The activations, the weights, the residual rows, the targets and the gain. -/
def aA : Vec Ideal S8192x4096 .bf16 := m ((c.tc : Thread nD τ).loc main_arg0)
def aW : Vec Ideal S4096x1024 .bf16 := m ((c.tc : Thread nD τ).loc main_arg1)
def aH : Vec Ideal S8192x1024 .f32 := m ((c.tc : Thread nD τ).loc main_arg2)
def aT : Vec Ideal S8192x1024 .f32 := m ((c.tc : Thread nD τ).loc main_arg3)
def aG : Vec Ideal S1x1024 .f32 := m ((c.tc : Thread nD τ).loc main_arg4)

theorem blk_a (t : Fin cfg0.N) (p l : Fin 1024) (hp : t.val / 4 * 1024 + p.val < 8192) (hl : t.val % 4 * 1024 + l.val < 4096) :
    (iblk m c 0 t (ix2 p l) : EReal) = aA m c (ix2 ⟨t.val / 4 * 1024 + p.val, hp⟩ ⟨t.val % 4 * 1024 + l.val, hl⟩) := by
  blk_ext [iblk, V, aA, idx t]

theorem blk_w (t : Fin cfg0.N) (l q : Fin 1024) (hl : t.val % 4 * 1024 + l.val < 4096) :
    (iblk m c 1 t (ix2 l q) : EReal) = aW m c (ix2 ⟨t.val % 4 * 1024 + l.val, hl⟩ q) := by
  blk_ext [iblk, V, aW, idx t]

theorem blk_h (t : Fin cfg0.N) (p q : Fin 1024) (hp : t.val / 4 * 1024 + p.val < 8192) :
    (iblk m c 2 t (ix2 p q) : EReal) = aH m c (ix2 ⟨t.val / 4 * 1024 + p.val, hp⟩ q) := by
  blk_ext [iblk, V, aH, idx t]

theorem blk_t (t : Fin cfg0.N) (p q : Fin 1024) (hp : t.val / 4 * 1024 + p.val < 8192) :
    (iblk m c 3 t (ix2 p q) : EReal) = aT m c (ix2 ⟨t.val / 4 * 1024 + p.val, hp⟩ q) := by
  blk_ext [iblk, V, aT, idx t]

theorem blk_g (t : Fin cfg0.N) (q : Fin 1024) : (iblk m c 4 t (ix2 0 q) : EReal) = aG m c (ix2 0 q) := by
  blk_ext [iblk, V, aG, idx t]

/-- The reference's rows, their errors and the loss's gradient by those, of the kernel's arguments. -/
def aX : Vec Ideal S8192x1024 .f32 := xs (aA m c) (aW m c) (aH m c)
def aE : Vec Ideal S8192x1024 .f32 := err (aX m c) (aG m c) (aT m c)
def aD : Vec Ideal S8192x1024 .f32 := slope (aE m c)

/-- The scratch at the last step of a row block. -/
theorem blk_nn (t : Fin cfg0.N) (h : t.val % 4 = 3) (p q : Fin 1024) (hp : t.val / 4 * 1024 + p.val < 8192) :
    (accAt m c t.val t.isLt (ix2 p q) : EReal) = nn (aA m c) (aW m c) ⟨t.val / 4 * 1024 + p.val, hp⟩ q := by
  refine acc_nn 4 1024 rfl (accAt m c) (iblk m c 0) (iblk m c 1)
    (fun t h j => by rw [acc_open m c t h, pay2_at, pay1_at]) (fun t h j => by rw [acc_step m c t h, pay2_at]) (aA m c) (aW m c) t h p q _ _
    (fun s u hs hr l hl => ?_) (fun s u hs hr l hl => ?_)
  · have hp' : u.val / 4 * 1024 + p.val < 8192 := by rw [hr]; exact hp
    refine (blk_a m c u p l hp' (by rw [hs]; exact hl)).trans (congrArg (aA m c) ?_)
    exact congrArg₂ ix2 (Fin.ext (by show u.val / 4 * 1024 + p.val = t.val / 4 * 1024 + p.val; rw [hr])) (Fin.ext (by show u.val % 4 * 1024 + l.val = s.val * 1024 + l.val; rw [hs]))
  · refine (blk_w m c u l q (by rw [hs]; exact hl)).trans (congrArg (aW m c) ?_)
    exact congrArg₂ ix2 (Fin.ext (by show u.val % 4 * 1024 + l.val = s.val * 1024 + l.val; rw [hs])) rfl

theorem blk_x (t : Fin cfg0.N) (h : t.val % 4 = 3) (p q : Fin 1024) (hp : t.val / 4 * 1024 + p.val < 8192) :
    k0_pay6 (F := Ideal) (accAt m c t.val t.isLt) (iblk m c 2 t) (ix2 p q) = aX m c (ix2 ⟨t.val / 4 * 1024 + p.val, hp⟩ q) := by
  refine Eq.trans ?_ ((xs_at (aA m c) (aW m c) (aH m c) ⟨t.val / 4 * 1024 + p.val, hp⟩ q).trans (add_comm _ _)).symm
  exact congrArg₂ (fun x y : EReal => x + y) (blk_nn m c t h p q hp) (blk_h m c t p q hp)

theorem blk_row (t : Fin cfg0.N) (h : t.val % 4 = 3) (p : Fin 1024) (hp : t.val / 4 * 1024 + p.val < 8192) :
    row (k0_pay6 (F := Ideal) (accAt m c t.val t.isLt) (iblk m c 2 t)) p = row (aX m c) ⟨t.val / 4 * 1024 + p.val, hp⟩ :=
  funext fun k => blk_x m c t h p k hp

theorem blk_inv (t : Fin cfg0.N) (h : t.val % 4 = 3) (p : Fin 1024) (hp : t.val / 4 * 1024 + p.val < 8192) :
    k0_pay9 (F := Ideal) (accAt m c t.val t.isLt) (iblk m c 2 t) (ix2 p 0) = Rms.inv (row (aX m c) ⟨t.val / 4 * 1024 + p.val, hp⟩) :=
  (pay9_at _ _ p 0).trans (by rw [blk_row m c t h p hp])

theorem blk_e (t : Fin cfg0.N) (h : t.val % 4 = 3) (p q : Fin 1024) (hp : t.val / 4 * 1024 + p.val < 8192) :
    k0_pay7 (F := Ideal) (accAt m c t.val t.isLt) (iblk m c 2 t) (iblk m c 3 t) (iblk m c 4 t) (ix2 p q) = aE m c (ix2 ⟨t.val / 4 * 1024 + p.val, hp⟩ q) := by
  refine (pay7_at _ _ _ _ p q).trans (Eq.trans ?_ (err_at (aX m c) (aG m c) (aT m c) ⟨t.val / 4 * 1024 + p.val, hp⟩ q).symm)
  rw [blk_row m c t h p hp, blk_x m c t h p q hp]
  exact congrArg₂ (fun x y : EReal => _ * x - y) (blk_g m c t q) (blk_t m c t p q hp)

theorem blk_d (t : Fin cfg0.N) (h : t.val % 4 = 3) (p q : Fin 1024) (hp : t.val / 4 * 1024 + p.val < 8192) :
    k0_pay8 (F := Ideal) (accAt m c t.val t.isLt) (iblk m c 2 t) (iblk m c 3 t) (iblk m c 4 t) (ix2 p q) = aD m c (ix2 ⟨t.val / 4 * 1024 + p.val, hp⟩ q) :=
  (pay8_at _ _ _ _ p q).trans ((congrArg (fun x : EReal => x * slopeFactor) (blk_e m c t h p q hp)).trans (slope_at (aE m c) ⟨t.val / 4 * 1024 + p.val, hp⟩ q).symm)

/-- The first result's block: the reference's rows. -/
theorem rows_blk (t : Fin cfg0.N) (h : t.val % 4 = 3) (p q : Fin 1024) (hp : t.val / 4 * 1024 + p.val < 8192) :
    rowsAt m c t (ix2 p q) = Cert.DownRefIdeal.Rows.rows (aX m c) (aG m c) (aD m c) (ix2 ⟨t.val / 4 * 1024 + p.val, hp⟩ q) := by
  unfold rowsAt
  refine (rows_pay _ (iblk m c 2 t) (iblk m c 3 t) (iblk m c 4 t) p q).trans ?_
  refine Eq.trans ?_ ((grad_eq (row (aX m c) ⟨t.val / 4 * 1024 + p.val, hp⟩) (fun k => aD m c (ix2 ⟨t.val / 4 * 1024 + p.val, hp⟩ k) * aG m c (ix2 0 k)) 0 q).trans
    (Cert.DownRefIdeal.Rows.rows_at (aX m c) (aG m c) (aD m c) ⟨t.val / 4 * 1024 + p.val, hp⟩ q).symm)
  rw [blk_inv m c t h p hp, add_zero]
  have hu : ∀ k : Fin 1024, (k0_pay8 (F := Ideal) (accAt m c t.val t.isLt) (iblk m c 2 t) (iblk m c 3 t) (iblk m c 4 t) (ix2 p k) * iblk m c 4 t (ix2 0 k) : EReal)
      = aD m c (ix2 ⟨t.val / 4 * 1024 + p.val, hp⟩ k) * aG m c (ix2 0 k) := fun k =>
    congrArg₂ (fun x y : EReal => x * y) (blk_d m c t h p k hp) (blk_g m c t k)
  refine congrArg₂ (fun x y : EReal => x - y) (congrArg (fun x : EReal => _ * x) (hu q))
    (congrArg₂ (fun x y : EReal => x * y) (congrArg₂ (fun x y : EReal => x * y) (blk_x m c t h p q hp) rfl) (congrArg (Ideal.div · wid) ?_))
  exact Finset.sum_congr rfl fun k _ => congrArg₂ (fun x y : EReal => x * y) (hu k) (blk_x m c t h p k hp)

theorem final_rows : (data m 0 c).arrAt 5 cfg0.N = Cert.DownRefIdeal.Rows.rows (aX m c) (aG m c) (aD m c) := by
  refine (data m 0 c).arrAt_eq_of_covers 5 _ (by decide +kernel) fun t hf y => ?_
  have hN : t.val < 32 := lt_of_lt_of_eq t.isLt N_0
  have h3 := (flush0_5 t).mp hf
  blk_simp
  rw [after_rows]
  idx_vars y
  have hp : t.val / 4 * 1024 + y0.val < 8192 := by omega
  have hi : ((View.whole main_v0_0).slice (win0_5.rect t)).emb (ix2 y0 y1) = ix2 ⟨t.val / 4 * 1024 + y0.val, hp⟩ y1 := by
    blk_ext [idx t]
  refine Eq.trans ?_ (congrArg (Cert.DownRefIdeal.Rows.rows (aX m c) (aG m c) (aD m c)) hi.symm)
  exact rows_blk m c t h3 y0 y1 hp

section Sums

variable (f : Fin cfg0.N → Vec Ideal S1x1024 .f32 → Vec Ideal S1x1024 .f32) (share : Fin 1024 → Fin 8192 → EReal)
  (h0 : ∀ t : Fin cfg0.N, t.val % 4 = 3 → t.val / 4 = 0 → ∀ (r : Vec Ideal S1x1024 .f32) (o : Fin 1) (q : Fin 1024) (hp : ∀ p : Fin 1024, t.val / 4 * 1024 + p.val < 8192),
    f t r (ix2 o q) = ∑ p : Fin 1024, share q ⟨t.val / 4 * 1024 + p.val, hp p⟩)
  (hs : ∀ t : Fin cfg0.N, t.val % 4 = 3 → t.val / 4 ≠ 0 → ∀ (r : Vec Ideal S1x1024 .f32) (o : Fin 1) (q : Fin 1024) (hp : ∀ p : Fin 1024, t.val / 4 * 1024 + p.val < 8192),
    f t r (ix2 o q) = r (ix2 o q) + ∑ p : Fin 1024, share q ⟨t.val / 4 * 1024 + p.val, hp p⟩)

/-- A sum block at the last step of row block `u`. -/
def sumTo (u : ℕ) (hu : u < 8) : Vec Ideal S1x1024 .f32 := sumAt f (4 * u + 3) (Nat.lt_of_lt_of_eq (by omega) N_0.symm)

/-- Row block `u`'s share of column `q` of a sum. -/
def tile (q : Fin 1024) (u : ℕ) (hu : u < 8) : EReal := ∑ p : Fin 1024, share q ⟨u * 1024 + p.val, by omega⟩

theorem tile_eq (q : Fin 1024) (a u : ℕ) (e : a = u) (hu : u < 8) (hp : ∀ p : Fin 1024, a * 1024 + p.val < 8192) :
    ∑ p : Fin 1024, share q ⟨a * 1024 + p.val, hp p⟩ = tile share q u hu := by
  subst e
  rfl

include h0 in
theorem sum_first (o : Fin 1) (q : Fin 1024) (u : ℕ) (hu : u < 8) (e : u = 0) : sumTo f u hu (ix2 o q) = tile share q u hu := by
  have hN : 4 * u + 2 + 1 < cfg0.N := Nat.lt_of_lt_of_eq (by omega) N_0.symm
  have h := h0 ⟨4 * u + 2 + 1, hN⟩ (by show (4 * u + 2 + 1) % 4 = 3; omega) (by show (4 * u + 2 + 1) / 4 = 0; omega)
    (sumAt f (4 * u + 2) (Nat.lt_of_succ_lt hN)) o q (fun p => by have := p.isLt; show (4 * u + 2 + 1) / 4 * 1024 + p.val < 8192; omega)
  refine (congrFun (sum_live f (4 * u + 2) hN (by omega)) _).trans (h.trans ?_)
  exact tile_eq share q _ u (by show (4 * u + 2 + 1) / 4 = u; omega) hu _

include hs in
theorem sum_next (o : Fin 1) (q : Fin 1024) (u : ℕ) (hu : u + 1 < 8) :
    sumTo f (u + 1) hu (ix2 o q) = sumTo f u (Nat.lt_of_succ_lt hu) (ix2 o q) + tile share q (u + 1) hu := by
  have hN : 4 * (u + 1) + 2 + 1 < cfg0.N := Nat.lt_of_lt_of_eq (by omega) N_0.symm
  have hk : sumAt f (4 * (u + 1) + 2) (Nat.lt_of_succ_lt hN) = sumTo f u (Nat.lt_of_succ_lt hu) :=
    (sum_idle f (4 * u + 5) _ (by omega)).trans ((sum_idle f (4 * u + 4) _ (by omega)).trans (sum_idle f (4 * u + 3) _ (by omega)))
  have h := hs ⟨4 * (u + 1) + 2 + 1, hN⟩ (by show (4 * (u + 1) + 2 + 1) % 4 = 3; omega) (by show (4 * (u + 1) + 2 + 1) / 4 ≠ 0; omega)
    (sumAt f (4 * (u + 1) + 2) (Nat.lt_of_succ_lt hN)) o q (fun p => by have := p.isLt; show (4 * (u + 1) + 2 + 1) / 4 * 1024 + p.val < 8192; omega)
  refine (congrFun (sum_live f (4 * (u + 1) + 2) hN (by omega)) _).trans (h.trans ?_)
  exact congrArg₂ (fun x y : EReal => x + y) (congrFun hk _) (tile_eq share q _ (u + 1) (by show (4 * (u + 1) + 2 + 1) / 4 = u + 1; omega) hu _)

include h0 hs in
theorem sum_tiles (o : Fin 1) (q : Fin 1024) (u : ℕ) (hu : u < 8) :
    sumTo f u hu (ix2 o q) = ∑ s : Fin (u + 1), tile share q s.val (Nat.lt_of_lt_of_le s.isLt hu) := by
  induction u with
  | zero => exact (sum_first f share h0 o q 0 hu rfl).trans (Fin.sum_univ_one fun s => tile share q s.val (Nat.lt_of_lt_of_le s.isLt hu)).symm
  | succ u ih => rw [Fin.sum_univ_castSucc, sum_next f share hs o q u hu, ih (Nat.lt_of_succ_lt hu)]; rfl

include h0 hs in
/-- The last sum is over all rows. -/
theorem sum_all (hN : 31 < cfg0.N) (o : Fin 1) (q : Fin 1024) : sumAt f 31 hN (ix2 o q) = ∑ r : Fin 8192, share q r :=
  (sum_tiles f share h0 hs o q 7 (by omega)).trans (Fin.sum_mul_add_congr (S := 8) (n := 1024) (fun s k hl => rfl) rfl)

end Sums

theorem gain_tile (t : Fin cfg0.N) (h : t.val % 4 = 3) (q : Fin 1024) (hp : ∀ p : Fin 1024, t.val / 4 * 1024 + p.val < 8192) :
    (∑ p : Fin 1024, k0_pay8 (F := Ideal) (accAt m c t.val t.isLt) (iblk m c 2 t) (iblk m c 3 t) (iblk m c 4 t) (ix2 p q) * k0_pay6 (F := Ideal) (accAt m c t.val t.isLt) (iblk m c 2 t) (ix2 p q)
        * k0_pay9 (F := Ideal) (accAt m c t.val t.isLt) (iblk m c 2 t) (ix2 p 0) : EReal)
      = ∑ p : Fin 1024, aX m c (ix2 ⟨t.val / 4 * 1024 + p.val, hp p⟩ q) * Rms.inv (row (aX m c) ⟨t.val / 4 * 1024 + p.val, hp p⟩) * aD m c (ix2 ⟨t.val / 4 * 1024 + p.val, hp p⟩ q) :=
  Finset.sum_congr rfl fun p _ => by
    rw [blk_d m c t h p q (hp p), blk_x m c t h p q (hp p), blk_inv m c t h p (hp p), mul_assoc, mul_comm]

theorem loss_tile (t : Fin cfg0.N) (h : t.val % 4 = 3) (q : Fin 1024) (hp : ∀ p : Fin 1024, t.val / 4 * 1024 + p.val < 8192) :
    (∑ p : Fin 1024, k0_pay7 (F := Ideal) (accAt m c t.val t.isLt) (iblk m c 2 t) (iblk m c 3 t) (iblk m c 4 t) (ix2 p q)
        * k0_pay7 (F := Ideal) (accAt m c t.val t.isLt) (iblk m c 2 t) (iblk m c 3 t) (iblk m c 4 t) (ix2 p q) : EReal) * lossFactor
      = ∑ p : Fin 1024, aE m c (ix2 ⟨t.val / 4 * 1024 + p.val, hp p⟩ q) * aE m c (ix2 ⟨t.val / 4 * 1024 + p.val, hp p⟩ q) * lossFactor := by
  rw [Cert.DownRefIdeal.Rows.lossFactor_real, Cert.DownRefIdeal.Rows.sum_scale _ (by norm_num)]
  exact Finset.sum_congr rfl fun p _ => by rw [blk_e m c t h p q (hp p)]

theorem gain_all (hN : 31 < cfg0.N) (o : Fin 1) (q : Fin 1024) : sumAt (gainStep m c) 31 hN (ix2 o q) = gain (aX m c) (aD m c) (ix2 o q) :=
  (sum_all (gainStep m c) (fun q r => aX m c (ix2 r q) * Rms.inv (row (aX m c) r) * aD m c (ix2 r q))
    (fun t h e r o q hp => (gain_first _ ((row_block t).trans e) _ _ _ _ r o q).trans (gain_tile m c t h q hp))
    (fun t h e r o q hp => (gain_next _ (fun x => e ((row_block t).symm.trans x)) _ _ _ _ r o q).trans (congrArg (fun x : EReal => r (ix2 o q) + x) (gain_tile m c t h q hp))) hN o q).trans
    (gain_at (aX m c) (aD m c) o q).symm

theorem loss_all (hN : 31 < cfg0.N) (o : Fin 1) (q : Fin 1024) :
    sumAt (lossStep m c) 31 hN (ix2 o q) = ∑ r : Fin 8192, aE m c (ix2 r q) * aE m c (ix2 r q) * lossFactor :=
  sum_all (lossStep m c) (fun q r => aE m c (ix2 r q) * aE m c (ix2 r q) * lossFactor)
    (fun t h e r o q hp => (loss_first _ ((row_block t).trans e) _ _ _ _ r o q).trans (loss_tile m c t h q hp))
    (fun t h e r o q hp => (loss_next _ (fun x => e ((row_block t).symm.trans x)) _ _ _ _ r o q).trans (congrArg (fun x : EReal => r (ix2 o q) + x) (loss_tile m c t h q hp))) hN o q

theorem final_gain : (data m 0 c).arrAt 6 cfg0.N = gain (aX m c) (aD m c) := by
  refine (data m 0 c).arrAt_eq_of_covers 6 _ (by decide +kernel) fun t hf y => ?_
  have hN : t.val < 32 := lt_of_lt_of_eq t.isLt N_0
  have ht : t.val = 31 := by have := (flush0_6 t).mp hf; omega
  blk_simp
  rw [after_gain]
  idx_vars y
  have hi : ((View.whole main_v0_1).slice (win0_6.rect t)).emb (ix2 y0 y1) = ix2 y0 y1 := by
    blk_ext [idx t]
  refine Eq.trans ?_ (congrArg (gain (aX m c) (aD m c)) hi.symm)
  obtain ⟨n, hn⟩ := t
  obtain rfl : n = 31 := ht
  exact gain_all m c hn y0 y1

/-- The loss, column by column. -/
def columns (e : Vec Ideal S8192x1024 .f32) : Vec Ideal S1x1024 .f32 := fun j => ∑ r : Fin 8192, e (ix2 r (j 1)) * e (ix2 r (j 1)) * lossFactor

theorem final_columns : (data m 0 c).arrAt 7 cfg0.N = columns (aE m c) := by
  refine (data m 0 c).arrAt_eq_of_covers 7 _ (by decide +kernel) fun t hf y => ?_
  have hN : t.val < 32 := lt_of_lt_of_eq t.isLt N_0
  have ht : t.val = 31 := by have := (flush0_7 t).mp hf; omega
  blk_simp
  rw [after_loss]
  idx_vars y
  have hi : ((View.whole main_v0_2).slice (win0_7.rect t)).emb (ix2 y0 y1) = ix2 y0 y1 := by
    blk_ext [idx t]
  refine Eq.trans ?_ (congrArg (columns (aE m c)) hi.symm)
  obtain ⟨n, hn⟩ := t
  obtain rfl : n = 31 := ht
  exact loss_all m c hn y0 y1

theorem columns_sum (x : Vec Ideal S1x1024 .f32) (i : S_.Idx) :
    shapeCast S_ (broadcastInDim S1x1 ![0] bcast_S1_S1x1_0 (Host.reduceAdd (F := Ideal) x (constant S_ .f32 0x00000000#32) reducesTo_S1x1024_S1_d1 h_S_)) shapeCasts_S1x1_S_ i
      = ∑ q : Fin 1024, x (ix2 0 q) := by
  pointwise []

theorem final_loss : shapeCast S_ (broadcastInDim S1x1 ![0] bcast_S1_S1x1_0 (Host.reduceAdd ((data m 0 c).arrAt 7 cfg0.N) (constant S_ .f32 0x00000000#32) reducesTo_S1x1024_S1_d1 h_S_)) shapeCasts_S1x1_S_
    = loss (aE m c) := by
  rw [final_columns]
  exact funext fun i => (columns_sum _ i).trans (loss_at (aE m c) i).symm

end Cert.DownIdeal.Rows

end
-- ==== Proof.BrDw.lean ====
/- The gradient of the weights of a branch's projection: the kernel's result is the reference's. -/
module

public import proofs.«01_k».proof.Proof.Gen.BrDwIdeal.Value
public import proofs.«01_k».proof.Proof.Gen.BrDwRefIdeal.Run
public import proofs.«01_k».proof.Proof.MmMath

@[expose] public section

set_option maxRecDepth 16384

noncomputable section

namespace Cert.BrDwIdeal.Mm

open Idealize.ShloMosaic Idealize.ShloMosaic.TcCoe Idealize.SL.Sem
open Cert.BrDwIdeal Cert.BrDwIdeal.Gen Cert.Mm

theorem zero_at (j : S1024x512.Idx) : k0_pay1 (F := Ideal) j = 0 := by
  pointwise [k0_pay1]

theorem step_at (s : Vec Ideal S1024x512 .f32) (a : Vec Ideal S2048x1024 .bf16) (b : Vec Ideal S2048x512 .bf16) (j : S1024x512.Idx) :
    k0_pay2 (F := Ideal) s a b j = s j + tn a b (j 0) (j 1) := by
  idx_vars j
  pointwise [k0_pay2, tn]

section point

variable (c : Dev nD) (i : grid0.Coords) (a3 : Memref sig .tc .vmem S2048x1024 .bf16) (h3 : a3.IsWhole) (a4 : Memref sig .tc .vmem S2048x512 .bf16) (h4 : a4.IsWhole)
  (a5 : Memref sig .tc .vmem S1024x512 .f32) (h5 : a5.IsWhole) (a6 : Memref sig .tc .vmem S1024x512 .f32) (h6 : a6.IsWhole)
  (x0 : Vec Ideal S2048x1024 .bf16) (x1 : Vec Ideal S2048x512 .bf16) (s : Vec Ideal S1024x512 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S1024x512.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S1024x512.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, 0] ∧ win0_1.index t = ![t.val % 4, 0] ∧ win0_2.index t = ![0, 0] :=
  (by decide +kernel : ∀ t : Fin grid0.N, _)

/-- The two factors: the contracted axis is the first of each. -/
def aA : Vec Ideal S8192x1024 .bf16 := m ((c.tc : Thread nD τ).loc main_arg1)
def aB : Vec Ideal S8192x512 .bf16 := m ((c.tc : Thread nD τ).loc main_arg0)

/-- A point reads rows of the `s`-th part of the contracted axis. -/
theorem blkA (u : Fin cfg0.N) (s : ℕ) (hs : u.val % 4 = s) (l : Fin 2048) (p : Fin 1024) (h : s * 2048 + l.val < 8192) :
    iblk m c 0 u (ix2 l p) = aA m c (ix2 ⟨s * 2048 + l.val, h⟩ p) := by
  subst hs
  blk_ext [iblk, V, aA, idx u]

theorem blkB (u : Fin cfg0.N) (s : ℕ) (hs : u.val % 4 = s) (l : Fin 2048) (q : Fin 512) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x1024 .bf16) (B : Vec Ideal S8192x512 .bf16) : Vec Ideal S1024x512 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  blk_simp
  rw [after0_2, out_last m c t ht]
  idx_vars y
  have hi : ((View.whole main_v0).slice (win0_2.rect t)).emb (ix2 y0 y1) = ix2 y0 y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 y0 y1
    (fun s u hs _ l h => blkA m c u s.val hs l y0 h) (fun s u hs _ l h => blkB m c u s.val hs l y1 h)

end Cert.BrDwIdeal.Mm

namespace Cert.BrDwRefIdeal.Mm

open Idealize.ShloMosaic Idealize.ShloMosaic.TcCoe Idealize.SL.Sem
open Cert.BrDwRefIdeal Cert.BrDwRefIdeal.Gen Cert.Mm

/-- The reference's operations, read at an index. -/
theorem ref_at (A : FVec Ideal S8192x1024 .bf16) (B : FVec Ideal S8192x512 .bf16) :
    transpose S1024x512 [1, 0] (transpose S512x1024 [1, 0] (Host.dotGeneral dot_S8192x1024_S8192x512_S1024x512_0_0_1_1_n_n none (extf .f32 A bitsLt_bf16_f32) (extf .f32 B bitsLt_bf16_f32)) transposes_S1024x512_S512x1024_1_0) transposes_S512x1024_S1024x512_1_0 =
      Cert.BrDwIdeal.Mm.refV A B := by
  funext j
  idx_vars j
  pointwise [Cert.BrDwIdeal.Mm.refV, tn]

end Cert.BrDwRefIdeal.Mm

end
-- ==== Proof.AttnDw.lean ====
/- The gradient of the weights of the attention branch's projection: the kernel's result is the reference's. -/
module

public import proofs.«01_k».proof.Proof.Gen.AttnDwIdeal.Value
public import proofs.«01_k».proof.Proof.Gen.AttnDwRefIdeal.Run
public import proofs.«01_k».proof.Proof.MmMath

@[expose] public section

set_option maxRecDepth 16384

noncomputable section

namespace Cert.AttnDwIdeal.Mm

open Idealize.ShloMosaic Idealize.ShloMosaic.TcCoe Idealize.SL.Sem
open Cert.AttnDwIdeal Cert.AttnDwIdeal.Gen Cert.Mm

theorem zero_at (j : S1024x256.Idx) : k0_pay1 (F := Ideal) j = 0 := by
  pointwise [k0_pay1]

theorem step_at (s : Vec Ideal S1024x256 .f32) (a : Vec Ideal S2048x1024 .bf16) (b : Vec Ideal S2048x256 .f32) (j : S1024x256.Idx) :
    k0_pay2 (F := Ideal) s a b j = s j + tn a b (j 0) (j 1) := by
  idx_vars j
  pointwise [k0_pay2, tn]

section point

variable (c : Dev nD) (i : grid0.Coords) (a3 : Memref sig .tc .vmem S2048x1024 .bf16) (h3 : a3.IsWhole) (a4 : Memref sig .tc .vmem S2048x256 .f32) (h4 : a4.IsWhole)
  (a5 : Memref sig .tc .vmem S1024x256 .f32) (h5 : a5.IsWhole) (a6 : Memref sig .tc .vmem S1024x256 .f32) (h6 : a6.IsWhole)
  (x0 : Vec Ideal S2048x1024 .bf16) (x1 : Vec Ideal S2048x256 .f32) (s : Vec Ideal S1024x256 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S1024x256.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S1024x256.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, 0] ∧ win0_1.index t = ![t.val % 4, 0] ∧ win0_2.index t = ![0, 0] :=
  (by decide +kernel : ∀ t : Fin grid0.N, _)

/-- The two factors: the contracted axis is the first of each. -/
def aA : Vec Ideal S8192x1024 .bf16 := m ((c.tc : Thread nD τ).loc main_arg1)
def aB : Vec Ideal S8192x256 .f32 := m ((c.tc : Thread nD τ).loc main_arg0)

/-- A point reads rows of the `s`-th part of the contracted axis. -/
theorem blkA (u : Fin cfg0.N) (s : ℕ) (hs : u.val % 4 = s) (l : Fin 2048) (p : Fin 1024) (h : s * 2048 + l.val < 8192) :
    iblk m c 0 u (ix2 l p) = aA m c (ix2 ⟨s * 2048 + l.val, h⟩ p) := by
  subst hs
  blk_ext [iblk, V, aA, idx u]

theorem blkB (u : Fin cfg0.N) (s : ℕ) (hs : u.val % 4 = s) (l : Fin 2048) (q : Fin 256) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x1024 .bf16) (B : Vec Ideal S8192x256 .f32) : Vec Ideal S1024x256 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  blk_simp
  rw [after0_2, out_last m c t ht]
  idx_vars y
  have hi : ((View.whole main_v0).slice (win0_2.rect t)).emb (ix2 y0 y1) = ix2 y0 y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 y0 y1
    (fun s u hs _ l h => blkA m c u s.val hs l y0 h) (fun s u hs _ l h => blkB m c u s.val hs l y1 h)

end Cert.AttnDwIdeal.Mm

namespace Cert.AttnDwRefIdeal.Mm

open Idealize.ShloMosaic Idealize.ShloMosaic.TcCoe Idealize.SL.Sem
open Cert.AttnDwRefIdeal Cert.AttnDwRefIdeal.Gen Cert.Mm

/-- The reference's operations, read at an index. -/
theorem ref_at (A : FVec Ideal S8192x1024 .bf16) (B : FVec Ideal S8192x256 .f32) :
    transpose S1024x256 [1, 0] (transpose S256x1024 [1, 0] (Host.dotGeneral dot_S8192x1024_S8192x256_S1024x256_0_0_1_1_n_n none (extf .f32 A bitsLt_bf16_f32) B) transposes_S1024x256_S256x1024_1_0) transposes_S256x1024_S1024x256_1_0 =
      Cert.AttnDwIdeal.Mm.refV A B := by
  funext j
  idx_vars j
  pointwise [Cert.AttnDwIdeal.Mm.refV, tn]

end Cert.AttnDwRefIdeal.Mm

end
-- ==== Proof.GluDw.lean ====
/- The gradient of the weights of the gated linear unit: the kernel's result is the reference's. -/
module

public import proofs.«01_k».proof.Proof.Gen.GluDwIdeal.Value
public import proofs.«01_k».proof.Proof.Gen.GluDwRefIdeal.Run
public import proofs.«01_k».proof.Proof.MmMath

@[expose] public section

set_option maxRecDepth 16384

noncomputable section

namespace Cert.GluDwIdeal.Mm

open Idealize.ShloMosaic Idealize.ShloMosaic.TcCoe Idealize.SL.Sem
open Cert.GluDwIdeal Cert.GluDwIdeal.Gen Cert.Mm

theorem zero_at (j : S512x512.Idx) : k0_pay1 (F := Ideal) j = 0 := by
  pointwise [k0_pay1]

theorem step_at (s : Vec Ideal S512x512 .f32) (a : Vec Ideal S2048x512 .bf16) (b : Vec Ideal S2048x512 .bf16) (j : S512x512.Idx) :
    k0_pay2 (F := Ideal) s a b j = s j + tn a b (j 0) (j 1) := by
  idx_vars j
  pointwise [k0_pay2, tn]

section point

variable (c : Dev nD) (i : grid0.Coords) (a3 : Memref sig .tc .vmem S2048x512 .bf16) (h3 : a3.IsWhole) (a4 : Memref sig .tc .vmem S2048x512 .bf16) (h4 : a4.IsWhole)
  (a5 : Memref sig .tc .vmem S512x512 .f32) (h5 : a5.IsWhole) (a6 : Memref sig .tc .vmem S512x512 .f32) (h6 : a6.IsWhole)
  (x0 : Vec Ideal S2048x512 .bf16) (x1 : Vec Ideal S2048x512 .bf16) (s : Vec Ideal S512x512 .f32)

theorem scr_A (hc : cond0_0 i) (hd : ¬cond0_1 i) : sout0_A_0 c i a3 h3 a4 h4 a5 h5 a6 h6 hc hd x0 x1 = k0_pay2 (k0_pay1 (F := Ideal)) x0 x1 := by
  funext y
  frame_out

theorem scr_B (hc : ¬cond0_0 i) (hd : ¬cond0_1 i) : sout0_B_0 c i a3 h3 a4 h4 a5 h5 a6 h6 hc hd x0 x1 s = k0_pay2 (F := Ideal) s x0 x1 := by
  funext y
  frame_out

theorem scr_C (hc : ¬cond0_0 i) (hd : cond0_1 i) : sout0_C_0 c i a3 h3 a4 h4 a5 h5 a6 h6 hc hd x0 x1 s = k0_pay2 (F := Ideal) s x0 x1 := by
  funext y
  frame_out

theorem out_C (hc : ¬cond0_0 i) (hd : cond0_1 i) : out0_C_2 c i a3 h3 a4 h4 a5 h5 a6 h6 hc hd x0 x1 s = k0_pay2 (F := Ideal) s x0 x1 := by
  funext y
  frame_out

end point

variable (m : (ℓ : Loc nD τ sig) → Buf (Elt Ideal) ℓ) (c : Dev nD)

theorem scr_first (t : Fin cfg0.N) (h : t.val % 4 = 0) (j : S512x512.Idx) : (outsAt0 m c t.val t.isLt).2 j = 0 + tn (iblk m c 0 t) (iblk m c 1 t) (j 0) (j 1) := by
  rw [outsAt0_A m c t h (by omega)]
  dsimp only
  rw [scr_A, step_at, zero_at]

theorem scr_step (t : Fin cfg0.N) (h : ¬t.val % 4 = 0) (j : S512x512.Idx) :
    (outsAt0 m c t.val t.isLt).2 j = (outsAt0 m c (t.val - 1) (Nat.lt_of_le_of_lt (Nat.sub_le _ _) t.isLt)).2 j + tn (iblk m c 0 t) (iblk m c 1 t) (j 0) (j 1) := by
  by_cases h' : t.val % 4 = 3
  · rw [outsAt0_C m c t h h']
    dsimp only
    rw [scr_C, step_at]
  · rw [outsAt0_B m c t h h']
    dsimp only
    rw [scr_B, step_at]

/-- The point that writes a block back leaves there what it leaves in the scratch. -/
theorem out_last (t : Fin cfg0.N) (h : t.val % 4 = 3) : (outsAt0 m c t.val t.isLt).1 = (outsAt0 m c t.val t.isLt).2 := by
  rw [outsAt0_C m c t (by omega) h]
  dsimp only
  rw [out_C, scr_C]

theorem idx : ∀ t : Fin cfg0.N, win0_0.index t = ![t.val % 4, 0] ∧ win0_1.index t = ![t.val % 4, 0] ∧ win0_2.index t = ![0, 0] :=
  (by decide +kernel : ∀ t : Fin grid0.N, _)

/-- The two factors: the contracted axis is the first of each. -/
def aA : Vec Ideal S8192x512 .bf16 := m ((c.tc : Thread nD τ).loc main_arg0)
def aB : Vec Ideal S8192x512 .bf16 := m ((c.tc : Thread nD τ).loc main_arg1)

/-- A point reads rows of the `s`-th part of the contracted axis. -/
theorem blkA (u : Fin cfg0.N) (s : ℕ) (hs : u.val % 4 = s) (l : Fin 2048) (p : Fin 512) (h : s * 2048 + l.val < 8192) :
    iblk m c 0 u (ix2 l p) = aA m c (ix2 ⟨s * 2048 + l.val, h⟩ p) := by
  subst hs
  blk_ext [iblk, V, aA, idx u]

theorem blkB (u : Fin cfg0.N) (s : ℕ) (hs : u.val % 4 = s) (l : Fin 2048) (q : Fin 512) (h : s * 2048 + l.val < 8192) :
    iblk m c 1 u (ix2 l q) = aB m c (ix2 ⟨s * 2048 + l.val, h⟩ q) := by
  subst hs
  blk_ext [iblk, V, aB, idx u]

/-- The reference's result. -/
def refV (A : Vec Ideal S8192x512 .bf16) (B : Vec Ideal S8192x512 .bf16) : Vec Ideal S512x512 .f32 :=
  fun j => tn A B (j 0) (j 1)

theorem final : (dats m 0 c).arrAt 2 cfg0.N = refV (aA m c) (aB m c) := by
  refine (dats m 0 c).arrAt_eq_of_covers 2 _ (by decide +kernel) fun t hf y => ?_
  have ht : t.val % 4 = 3 := (flush0_2 t).mp hf
  blk_simp
  rw [after0_2, out_last m c t ht]
  idx_vars y
  have hi : ((View.whole main_v0).slice (win0_2.rect t)).emb (ix2 y0 y1) = ix2 y0 y1 := by
    blk_ext [idx t]
  refine Eq.trans ?_ (congrArg (refV (aA m c) (aB m c)) hi.symm)
  exact acc_tn 4 2048 (by decide) (fun n h => (outsAt0 m c n h).2) (fun t => iblk m c 0 t) (fun t => iblk m c 1 t) (scr_first m c) (scr_step m c)
    (aA m c) (aB m c) t ht y0 y1 y0 y1
    (fun s u hs _ l h => blkA m c u s.val hs l y0 h) (fun s u hs _ l h => blkB m c u s.val hs l y1 h)

end Cert.GluDwIdeal.Mm

namespace Cert.GluDwRefIdeal.Mm

open Idealize.ShloMosaic Idealize.ShloMosaic.TcCoe Idealize.SL.Sem
open Cert.GluDwRefIdeal Cert.GluDwRefIdeal.Gen Cert.Mm

/-- The reference's operations, read at an index. -/
theorem ref_at (A B : FVec Ideal S8192x512 .bf16) :
    transpose S512x512 [1, 0] (Host.dotGeneral dot_S8192x512_S8192x512_S512x512_0_0_1_1_n_n none (extf .f32 B bitsLt_bf16_f32) (extf .f32 A bitsLt_bf16_f32)) transposes_S512x512_S512x512_1_0 =
      Cert.GluDwIdeal.Mm.refV A B := by
  funext j
  idx_vars j
  pointwise [Cert.GluDwIdeal.Mm.refV, tn]
  exact Finset.sum_congr rfl fun l _ => mul_comm _ _

end Cert.GluDwRefIdeal.Mm

end
-- ==== Proof.MemBrDx.lean ====
/- The gradient through the memory branch's projection: the kernel's result is the reference's. -/
module

public import proofs.«01_k».proof.Proof.Gen.MemBrDxIdeal.Value
public import proofs.«01_k».proof.Proof.Gen.MemBrDxRefIdeal.Run
public import proofs.«01_k».proof.Proof.MmMath

@[expose] public section

set_option maxRecDepth 16384

noncomputable section

namespace Cert.MemBrDxIdeal.Mm

open Idealize.ShloMosaic Idealize.ShloMosaic.TcCoe Idealize.SL.Sem
open Cert.MemBrDxIdeal Cert.MemBrDxIdeal.Gen Cert.Mm

theorem k0_pay1_at (a : Vec Ideal S1024x1024 .bf16) (b : Vec Ideal S1024x512 .bf16) (j : S1024x512.Idx) :
    k0_pay1 (F := Ideal) a b j = nn a b (j 0) (j 1) := by
  idx_vars j
  pointwise [k0_pay1, nn]

theorem out_2 (a : Vec Ideal S1024x1024 .bf16) (b : Vec Ideal S1024x512 .bf16) : out0_2 a b = k0_pay1 (F := Ideal) a b := by
  funext y
  frame_out

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient of the branch and the weights, stored with one row for each of its columns. -/
def aA : Vec Ideal S8192x1024 .bf16 := m ((c.tc : Thread nD τ).loc main_arg1)
def aB : Vec Ideal S1024x512 .bf16 := m ((c.tc : Thread nD τ).loc main_arg0)

/-- A block's entry of the product is the product's own. -/
theorem blk_nn (t : Fin cfg0.N) (p : Fin 1024) (q : Fin 512) (hp : t.val * 1024 + p.val < 8192) :
    nn (iblk m c 0 t) (iblk m c 1 t) p q = nn (aA m c) (aB m c) ⟨t.val * 1024 + p.val, hp⟩ q := by
  refine Finset.sum_congr rfl fun l _ => congrArg₂ (· * ·) ?_ ?_
  · blk_ext [iblk, V, aA, idx t]
  · blk_ext [iblk, V, aB, idx t]

/-- The reference's result. -/
def refV (A : Vec Ideal S8192x1024 .bf16) (B : Vec Ideal S1024x512 .bf16) : Vec Ideal S8192x512 .bf16 :=
  fun j => nn A B (j 0) (j 1)

theorem final : (dats m 0 c).arrAt 2 cfg0.N = refV (aA m c) (aB m c) := by
  refine (dats m 0 c).arrAt_eq_of_covers 2 _ (by decide +kernel) fun t hf y => ?_
  have hN : t.val < 8 := lt_of_lt_of_eq t.isLt N_0
  blk_simp
  rw [after0_2]
  idx_vars y
  have hp : t.val * 1024 + y0.val < 8192 := by omega
  have hi : ((View.whole main_v0).slice (win0_2.rect t)).emb (ix2 y0 y1) = ix2 ⟨t.val * 1024 + y0.val, hp⟩ y1 := by
    blk_ext [idx t]
  refine Eq.trans ?_ (congrArg (refV (aA m c) (aB m c)) hi.symm)
  refine (congrFun (out_2 (iblk m c 0 t) (iblk m c 1 t)) (ix2 y0 y1)).trans ?_
  refine (k0_pay1_at (iblk m c 0 t) (iblk m c 1 t) (ix2 y0 y1)).trans ?_
  exact blk_nn m c t y0 y1 hp

end Cert.MemBrDxIdeal.Mm

namespace Cert.MemBrDxRefIdeal.Mm

open Idealize.ShloMosaic Idealize.ShloMosaic.TcCoe Idealize.SL.Sem
open Cert.MemBrDxRefIdeal Cert.MemBrDxRefIdeal.Gen Cert.Mm

/-- The reference's operations, read at an index. -/
theorem ref_at (A : FVec Ideal S8192x1024 .bf16) (B : FVec Ideal S1024x512 .bf16) :
    truncf .bf16 (Host.dotGeneral dot_S8192x1024_S512x1024_S8192x512_1_1_0_0_n_n none (extf .f32 A bitsLt_bf16_f32) (transpose S512x1024 [1, 0] (extf .f32 B bitsLt_bf16_f32) transposes_S1024x512_S512x1024_1_0)) bitsLt_bf16_f32 =
      Cert.MemBrDxIdeal.Mm.refV A B := by
  funext j
  idx_vars j
  pointwise [Cert.MemBrDxIdeal.Mm.refV, nn]

end Cert.MemBrDxRefIdeal.Mm

end
-- ==== Proof.Br.lean ====
/- A branch's projection: the kernel's result is the reference's. -/
module

public import proofs.«01_k».proof.Proof.Gen.BrIdeal.Value
public import proofs.«01_k».proof.Proof.Gen.BrRefIdeal.Run
public import proofs.«01_k».proof.Proof.MmMath

@[expose] public section

set_option maxRecDepth 16384

noncomputable section

namespace Cert.BrIdeal.Mm

open Idealize.ShloMosaic Idealize.ShloMosaic.TcCoe Idealize.SL.Sem
open Cert.BrIdeal Cert.BrIdeal.Gen Cert.Mm

theorem k0_pay1_at (a b : Vec Ideal S1024x512 .bf16) (j : S1024x1024.Idx) :
    k0_pay1 (F := Ideal) a b j = nt a b (j 0) (j 1) := by
  idx_vars j
  pointwise [k0_pay1, nt]

theorem out_2 (a b : Vec Ideal S1024x512 .bf16) : out0_2 a b = k0_pay1 (F := Ideal) a b := by
  funext y
  frame_out

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The activations and the weights, stored with one row for each column of the product. -/
def aA : Vec Ideal S8192x512 .bf16 := m ((c.tc : Thread nD τ).loc main_arg0)
def aB : Vec Ideal S1024x512 .bf16 := m ((c.tc : Thread nD τ).loc main_arg1)

/-- A block's entry of the product is the product's own. -/
theorem blk_nt (t : Fin cfg0.N) (p : Fin 1024) (q : Fin 1024) (hp : t.val * 1024 + p.val < 8192) :
    nt (iblk m c 0 t) (iblk m c 1 t) p q = nt (aA m c) (aB m c) ⟨t.val * 1024 + p.val, hp⟩ q := by
  refine Finset.sum_congr rfl fun l _ => congrArg₂ (· * ·) ?_ ?_
  · blk_ext [iblk, V, aA, idx t]
  · blk_ext [iblk, V, aB, idx t]

/-- The reference's result. -/
def refV (A : Vec Ideal S8192x512 .bf16) (B : Vec Ideal S1024x512 .bf16) : Vec Ideal S8192x1024 .bf16 :=
  fun j => nt A B (j 0) (j 1)

theorem final : (dats m 0 c).arrAt 2 cfg0.N = refV (aA m c) (aB m c) := by
  refine (dats m 0 c).arrAt_eq_of_covers 2 _ (by decide +kernel) fun t hf y => ?_
  have hN : t.val < 8 := lt_of_lt_of_eq t.isLt N_0
  blk_simp
  rw [after0_2]
  idx_vars y
  have hp : t.val * 1024 + y0.val < 8192 := by omega
  have hi : ((View.whole main_v0).slice (win0_2.rect t)).emb (ix2 y0 y1) = ix2 ⟨t.val * 1024 + y0.val, hp⟩ y1 := by
    blk_ext [idx t]
  refine Eq.trans ?_ (congrArg (refV (aA m c) (aB m c)) hi.symm)
  refine (congrFun (out_2 (iblk m c 0 t) (iblk m c 1 t)) (ix2 y0 y1)).trans ?_
  refine (k0_pay1_at (iblk m c 0 t) (iblk m c 1 t) (ix2 y0 y1)).trans ?_
  exact blk_nt m c t y0 y1 hp

end Cert.BrIdeal.Mm

namespace Cert.BrRefIdeal.Mm

open Idealize.ShloMosaic Idealize.ShloMosaic.TcCoe Idealize.SL.Sem
open Cert.BrRefIdeal Cert.BrRefIdeal.Gen Cert.Mm

/-- The reference's operations, read at an index. -/
theorem ref_at (A : FVec Ideal S8192x512 .bf16) (B : FVec Ideal S1024x512 .bf16) :
    truncf .bf16 (Host.dotGeneral dot_S8192x512_S512x1024_S8192x1024_1_0_0_1_n_n none (extf .f32 A bitsLt_bf16_f32) (transpose S512x1024 [1, 0] (extf .f32 B bitsLt_bf16_f32) transposes_S1024x512_S512x1024_1_0)) bitsLt_bf16_f32 =
      Cert.BrIdeal.Mm.refV A B := by
  funext j
  idx_vars j
  pointwise [Cert.BrIdeal.Mm.refV, nt]

end Cert.BrRefIdeal.Mm

end
-- ==== Proof.Gate.lean ====
/- The logistic gate's entries. -/
module

public import proofs.«01_k».proof.Proof.MmMath

@[expose] public section

noncomputable section

namespace Cert.Glu

open Idealize.ShloMosaic Cert.Mm

/-- The logistic function as both programs write it. -/
def logi (x : EReal) : EReal := Ideal.div 1 (1 + Ideal.exp (-x))

/-- An entry of the gradient of the gate's argument: the gradient of the gated value, the value it gates, and the argument. -/
def gateSlope (d y x : EReal) : EReal := d * y * logi x * (1 - logi x)

end Cert.Glu

end
-- ==== Proof.Glu.lean ====
/- The gated linear unit after the state-space scan: the kernel's two results are the reference's. -/
module

public import proofs.«01_k».proof.Proof.Gen.GluIdeal.Value
public import proofs.«01_k».proof.Proof.Gen.GluRefIdeal.Run
public import proofs.«01_k».proof.Proof.Gate

@[expose] public section

set_option maxRecDepth 16384

noncomputable section

namespace Cert.GluIdeal.Mm

open Idealize.ShloMosaic Idealize.ShloMosaic.TcCoe Idealize.SL.Sem
open Cert.GluIdeal Cert.GluIdeal.Gen Cert.Mm Cert.Glu

/-- The gate: a product's entry with its bias, and the logistic function of it times the value it gates. -/
def gate (x b y : EReal) : EReal := y * logi (x + b)

theorem pay1_at (a : Vec Ideal S1024x512 .bf16) (w : Vec Ideal S512x512 .bf16) (b : Vec Ideal S1x512 .f32) (p : Fin 1024) (q : Fin 512) :
    k0_pay1 (F := Ideal) a w b (ix2 p q) = nn a w p q + b (ix2 0 q) := by
  pointwise [k0_pay1, nn]

theorem pay2_at (a y : Vec Ideal S1024x512 .bf16) (w : Vec Ideal S512x512 .bf16) (b : Vec Ideal S1x512 .f32) (p : Fin 1024) (q : Fin 512) :
    k0_pay2 (F := Ideal) a w y b (ix2 p q) = gate (nn a w p q) (b (ix2 0 q)) (y (ix2 p q)) := by
  pointwise [k0_pay2, k0_pay1, nn, gate, logi]
  rw [zero_sub]

theorem out_4 (a y : Vec Ideal S1024x512 .bf16) (w : Vec Ideal S512x512 .bf16) (b : Vec Ideal S1x512 .f32) : out0_4 a w y b = k0_pay1 (F := Ideal) a w b := by
  funext y
  frame_out

theorem out_5 (a y : Vec Ideal S1024x512 .bf16) (w : Vec Ideal S512x512 .bf16) (b : Vec Ideal S1x512 .f32) : out0_5 a w y b = k0_pay2 (F := Ideal) a w y b := by
  funext y
  frame_out

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The values, the weights and the bias. -/
def aY : Vec Ideal S8192x512 .bf16 := m ((c.tc : Thread nD τ).loc main_arg0)
def aW : Vec Ideal S512x512 .bf16 := m ((c.tc : Thread nD τ).loc main_arg1)
def aB : Vec Ideal S1x512 .f32 := m ((c.tc : Thread nD τ).loc main_arg2)

theorem blk_nn (t : Fin cfg0.N) (p : Fin 1024) (q : Fin 512) (hp : t.val * 1024 + p.val < 8192) :
    nn (iblk m c 0 t) (iblk m c 1 t) p q = nn (aY m c) (aW m c) ⟨t.val * 1024 + p.val, hp⟩ q := by
  refine Finset.sum_congr rfl fun l _ => congrArg₂ (· * ·) ?_ ?_
  · blk_ext [iblk, V, aY, idx t]
  · blk_ext [iblk, V, aW, idx t]

theorem blk_y (t : Fin cfg0.N) (p : Fin 1024) (q : Fin 512) (hp : t.val * 1024 + p.val < 8192) :
    (iblk m c 2 t (ix2 p q) : EReal) = aY m c (ix2 ⟨t.val * 1024 + p.val, hp⟩ q) := by
  blk_ext [iblk, V, aY, idx t]

theorem blk_b (t : Fin cfg0.N) (q : Fin 512) : (iblk m c 3 t (ix2 0 q) : EReal) = aB m c (ix2 0 q) := by
  blk_ext [iblk, V, aB, idx t]

/-- The reference's two results: the gate's argument, and the gated values. -/
def refT (Y : Vec Ideal S8192x512 .bf16) (W : Vec Ideal S512x512 .bf16) (B : Vec Ideal S1x512 .f32) : Vec Ideal S8192x512 .f32 :=
  fun j => nn Y W (j 0) (j 1) + B (ix2 0 (j 1))
def refY (Y : Vec Ideal S8192x512 .bf16) (W : Vec Ideal S512x512 .bf16) (B : Vec Ideal S1x512 .f32) : Vec Ideal S8192x512 .bf16 :=
  fun j => gate (nn Y W (j 0) (j 1)) (B (ix2 0 (j 1))) (Y j)

theorem final_t : (dats m 0 c).arrAt 4 cfg0.N = refT (aY m c) (aW m c) (aB m c) := by
  refine (dats m 0 c).arrAt_eq_of_covers 4 _ (by decide +kernel) fun t hf y => ?_
  have hN : t.val < 8 := lt_of_lt_of_eq t.isLt N_0
  blk_simp
  rw [after0_4]
  idx_vars y
  have hp : t.val * 1024 + y0.val < 8192 := by omega
  have hi : ((View.whole main_v0_0).slice (win0_4.rect t)).emb (ix2 y0 y1) = ix2 ⟨t.val * 1024 + y0.val, hp⟩ y1 := by
    blk_ext [idx t]
  refine Eq.trans ?_ (congrArg (refT (aY m c) (aW m c) (aB m c)) hi.symm)
  refine (congrFun (out_4 (iblk m c 0 t) (iblk m c 2 t) (iblk m c 1 t) (iblk m c 3 t)) (ix2 y0 y1)).trans ?_
  refine (pay1_at (iblk m c 0 t) (iblk m c 1 t) (iblk m c 3 t) y0 y1).trans ?_
  exact congrArg₂ (· + ·) (blk_nn m c t y0 y1 hp) (blk_b m c t y1)

theorem final_y : (dats m 0 c).arrAt 5 cfg0.N = refY (aY m c) (aW m c) (aB m c) := by
  refine (dats m 0 c).arrAt_eq_of_covers 5 _ (by decide +kernel) fun t hf y => ?_
  have hN : t.val < 8 := lt_of_lt_of_eq t.isLt N_0
  blk_simp
  rw [after0_5]
  idx_vars y
  have hp : t.val * 1024 + y0.val < 8192 := by omega
  have hi : ((View.whole main_v0_1).slice (win0_5.rect t)).emb (ix2 y0 y1) = ix2 ⟨t.val * 1024 + y0.val, hp⟩ y1 := by
    blk_ext [idx t]
  refine Eq.trans ?_ (congrArg (refY (aY m c) (aW m c) (aB m c)) hi.symm)
  refine (congrFun (out_5 (iblk m c 0 t) (iblk m c 2 t) (iblk m c 1 t) (iblk m c 3 t)) (ix2 y0 y1)).trans ?_
  refine (pay2_at (iblk m c 0 t) (iblk m c 2 t) (iblk m c 1 t) (iblk m c 3 t) y0 y1).trans ?_
  rw [blk_nn m c t y0 y1 hp, blk_b m c t y1, blk_y m c t y0 y1 hp]
  rfl

end Cert.GluIdeal.Mm

namespace Cert.GluRefIdeal.Mm

open Idealize.ShloMosaic Idealize.ShloMosaic.TcCoe Idealize.SL.Sem
open Cert.GluRefIdeal Cert.GluRefIdeal.Gen Cert.Mm Cert.Glu

/-- The reference's operations, read at an index. -/
theorem t_at (Y : FVec Ideal S8192x512 .bf16) (W : FVec Ideal S512x512 .bf16) (B : FVec Ideal S1x512 .f32) :
    addf (Host.dotGeneral dot_S8192x512_S512x512_S8192x512_1_0_0_1_n_n none (extf .f32 Y bitsLt_bf16_f32) (extf .f32 W bitsLt_bf16_f32)) (broadcastInDim S8192x512 ![0, 1] bcast_S1x512_S8192x512_0_1 B) =
      Cert.GluIdeal.Mm.refT Y W B := by
  funext j
  idx_vars j
  pointwise [Cert.GluIdeal.Mm.refT, nn]

theorem y_at (Y : FVec Ideal S8192x512 .bf16) (W : FVec Ideal S512x512 .bf16) (B : FVec Ideal S1x512 .f32) :
    truncf .bf16 (mulf (extf .f32 Y bitsLt_bf16_f32) (Host.divf (broadcastInDim S8192x512 ![] bcast_S_S8192x512 (constant S_ .f32 0x3F800000#32)) (addf (broadcastInDim S8192x512 ![] bcast_S_S8192x512 (constant S_ .f32 0x3F800000#32)) (Host.exp (Host.negf (addf (Host.dotGeneral dot_S8192x512_S512x512_S8192x512_1_0_0_1_n_n none (extf .f32 Y bitsLt_bf16_f32) (extf .f32 W bitsLt_bf16_f32)) (broadcastInDim S8192x512 ![0, 1] bcast_S1x512_S8192x512_0_1 B))))))) bitsLt_bf16_f32 =
      Cert.GluIdeal.Mm.refY Y W B := by
  funext j
  idx_vars j
  pointwise [Cert.GluIdeal.Mm.refY, Cert.GluIdeal.Mm.gate, nn, logi]

end Cert.GluRefIdeal.Mm

end
-- ==== Proof.GluDxRun.lean ====
/- The gradient through the output projection of the gated branch: the body's run at a point, what its three results hold after each point, and the frames of the
   kernel and of its idealization. The run is written for any float operations; both programs' frames are taken from it. -/
module

public import proofs.«01_k».proof.Defs
public import proofs.«01_k».proof.Proof.Gen.GluDx.Launch
public import proofs.«01_k».proof.Proof.Gen.GluDxIdeal.Frame
public import proofs.«01_k».proof.Proof.Gen.GluDxIdeal.Skeleton
public import proofs.«01_k».proof.Proof.RowSum

@[expose] public section

set_option maxRecDepth 16384

noncomputable section

namespace Cert.GluDxIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GluDxIdeal Cert.GluDxIdeal.Gen Cert.Rows

variable {F : FTy → Type} [FloatOps F]

local notation "𝕄" => MT nD τ sig Unit (Elt F) ℕ (UR sig nD τ) ℕ

/-- A block's column sums. -/
def cols (d : FVec F S1024x512 .f32) : FVec F S1x512 .f32 :=
  shapeCast S1x512 (multiReduction .add [0] S512 d 0x00000000#32 reduces_S1024x512_S512 (.inl rfl) rfl) shapeCasts_S512_S1x512

/-- The block of the third result: the column sums of the gradient of the gate's argument, over what the block held unless the point is the first. -/
def sumOf (b : BitVec 1) (x0 : Vec F S1024x1024 .bf16) (x1 : Vec F S1024x512 .bf16) (x2 : Vec F S1024x512 .bf16) (x3 : Vec F S1024x512 .f32) (r : Vec F S1x512 .f32) : FVec F S1x512 .f32 :=
  Scalar.select b (cols (k0_pay3 x0 x1 x2 x3)) (addf (shapeCast S1x512 r shapeCasts_S1x512_S1x512) (cols (k0_pay3 x0 x1 x2 x3)))

/-- The first row block's flag. -/
abbrev isFirst (i : grid0.Coords) : BitVec 1 := Scalar.cmpi .eq (BitVec.ofNat 32 (i 0).val) 0#32

theorem pay6_eq (i : grid0.Coords) (x0 : Vec F S1024x1024 .bf16) (x1 : Vec F S1024x512 .bf16) (x2 : Vec F S1024x512 .bf16) (x3 : Vec F S1024x512 .f32) (r : Vec F S1x512 .f32) : k0_pay6 i x0 x1 x2 x3 r = sumOf (isFirst i) x0 x1 x2 x3 r := rfl

set_option maxHeartbeats 2000000 in
/-- The body's run, from whole staging buffers holding the four input blocks and the sum block at `r`. -/
theorem body_run (c : Dev nD) (i : grid0.Coords)
  (a3 : Memref sig .tc .vmem S1024x1024 .bf16) (h3 : a3.IsWhole)
  (a4 : Memref sig .tc .vmem S1024x512 .bf16) (h4 : a4.IsWhole)
  (a5 : Memref sig .tc .vmem S1024x512 .bf16) (h5 : a5.IsWhole)
  (a6 : Memref sig .tc .vmem S1024x512 .f32) (h6 : a6.IsWhole)
  (a7 : Memref sig .tc .vmem S1024x512 .bf16) (h7 : a7.IsWhole)
  (a8 : Memref sig .tc .vmem S1024x512 .f32) (h8 : a8.IsWhole)
  (a9 : Memref sig .tc .vmem S1x512 .f32) (h9 : a9.IsWhole)
  (x0 : Vec F S1024x1024 .bf16) (x1 : Vec F S1024x512 .bf16) (x2 : Vec F S1024x512 .bf16) (x3 : Vec F S1024x512 .f32) (r : Vec F S1x512 .f32) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ (∃ d, owns (c : Thread nD τ) a7 fullShare d) ∗ (∃ d, owns (c : Thread nD τ) a8 fullShare d) ∗ owns (c : Thread nD τ) a9 fullShare r
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare (k0_pay5 x0 x1 x2 x3) ∗ owns (c : Thread nD τ) a8 fullShare (k0_pay4 x0 x1 x3) ∗ owns (c : Thread nD τ) a9 fullShare (sumOf (isFirst i) x0 x1 x2 x3 r)) -∗ K ⟨⟩))
      ⊢ wp frame (wpE (defs₀ (F := F)) Variants.none c none) E (cc0_ssm_br_dx i a3 h3 a4 h4 a5 h5 a6 h6 a7 h7 a8 h8 a9 h9) K := by
  simp only [cc0_ssm_br_dx_eq_skeleton]
  unfold cc0_ssm_br_dx_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, ⟨%f6, %e6, H6⟩, Hk⟩
  obtain rfl := h3.eq_unread e0
  obtain rfl := h4.eq_unread e1
  obtain rfl := h5.eq_unread e2
  obtain rfl := h6.eq_unread e3
  obtain rfl := h9.eq_unread e6
  have l0 := load_whole (F := F) a3 h3 x0 inb_S1024x1024_S1024x1024_0_0
  have l1 := load_whole (F := F) a4 h4 x1 inb_S1024x512_S1024x512_0_0
  have l2 := load_whole (F := F) a5 h5 x2 inb_S1024x512_S1024x512_0_0
  have l3 := load_whole (F := F) a6 h6 x3 inb_S1024x512_S1024x512_0_0
  have l6 := load_whole (F := F) a9 h9 r inb_S1x512_S1x512_0_0
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _
    isplitr
    swap; · iexact H4
    ipureintro
    exact View.read_writes_full _ _ _ _ _
  isplitl [H5]
  · iexists _
    isplitr
    swap; · iexact H5
    ipureintro
    exact View.read_writes_full _ _ _ _ _
  iexists _
  isplitr
  swap; · iexact H6
  ipureintro
  exact (View.read_writes_full _ _ _ _ _).trans (pay6_eq i x0 x1 x2 x3 r)

variable (m : (ℓ : Loc nD τ sig) → Buf (Elt F) ℓ) (ρ : Dev nD → PrngReg)

/-- The third result's block after point `n`: the first point ignores what the block held. -/
def sumAt (c : Dev nD) : (n : ℕ) → n < cfg0.N → Vec F S1x512 .f32
  | 0, hn => sumOf 1#1 (iblk m c 0 ⟨0, hn⟩) (iblk m c 1 ⟨0, hn⟩) (iblk m c 2 ⟨0, hn⟩) (iblk m c 3 ⟨0, hn⟩) (blank S1x512)
  | n + 1, hn => sumOf 0#1 (iblk m c 0 ⟨n + 1, hn⟩) (iblk m c 1 ⟨n + 1, hn⟩) (iblk m c 2 ⟨n + 1, hn⟩) (iblk m c 3 ⟨n + 1, hn⟩) (sumAt c n (Nat.lt_of_succ_lt hn))

theorem isFirst_iff (t : Fin cfg0.N) : isFirst (grid0.coords t) = if t.val = 0 then 1#1 else 0#1 := by
  have ht : t.val < 8 := Nat.lt_of_lt_of_eq t.isLt N_0
  have e0 : (grid0.coords t 0).val = t.val / 1 % 8 := Pipeline.Grid.coords_val t 0 (by decide) rfl
  have e : (grid0.coords t 0).val = t.val := by omega
  simp only [isFirst, e]
  exact first_flag t.val 8 (by decide) ht

/-- The launch's proof data: each input's block stays, the results hold the gradients of the block's rows and `sumAt`. -/
def data (_ : Fin 1) (c : Dev nD) : Dat τ (Elt F) Unit ℕ (UR sig nD τ) ℕ cfg0 c where
  A w := V m c (Pipeline.arrRef spec0 w)
  after w t := match w with
    | ⟨4, _⟩ => k0_pay5 (iblk m c 0 t) (iblk m c 1 t) (iblk m c 2 t) (iblk m c 3 t)
    | ⟨5, _⟩ => k0_pay4 (iblk m c 0 t) (iblk m c 1 t) (iblk m c 3 t)
    | ⟨6, _⟩ => sumAt m c t.val t.isLt
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem data_arr (c : Dev nD) (w : Fin cfg0.W) : (data m 0 c).A w = V m c (Pipeline.arrRef spec0 w) := by
  dsimp only [data]

theorem after_t (c : Dev nD) (t : Fin cfg0.N) : (data m 0 c).after 4 t = k0_pay5 (iblk m c 0 t) (iblk m c 1 t) (iblk m c 2 t) (iblk m c 3 t) := by dsimp only [data]
theorem after_y (c : Dev nD) (t : Fin cfg0.N) : (data m 0 c).after 5 t = k0_pay4 (iblk m c 0 t) (iblk m c 1 t) (iblk m c 3 t) := by dsimp only [data]
theorem after_sum (c : Dev nD) (t : Fin cfg0.N) : (data m 0 c).after 6 t = sumAt m c t.val t.isLt := by dsimp only [data]

/-- After the body the sum block is `sumAt`, from whatever the point found in it. -/
theorem sum_step (c : Dev nD) (t : Fin cfg0.N) (d) :
    sumOf (isFirst (grid0.coords t)) (iblk m c 0 t) (iblk m c 1 t) (iblk m c 2 t) (iblk m c 3 t) ((data m 0 c).before 6 t d) = sumAt m c t.val t.isLt := by
  rw [isFirst_iff]
  obtain ⟨n, hn⟩ := t
  cases n with
  | zero => rfl
  | succ n =>
    have hb : (data m 0 c).before 6 ⟨n + 1, hn⟩ d = sumAt m c n (Nat.lt_of_succ_lt hn) := by
      rw [Dat.before_out_kept _ 6 rfl ⟨n + 1, hn⟩ (Nat.succ_ne_zero n) (Bool.eq_false_iff.mpr fun h => by
        have := (flush0_6 _).mp h; have hN : n + 1 < 8 := lt_of_lt_of_eq hn N_0; dsimp only at this; omega) (fun _ => rfl) (fun _ _ => rfl)]
      exact after_sum m c _
    rw [hb, if_neg (Nat.succ_ne_zero n)]
    rfl

/-- No window is ever idle: what the body leaves is the proof data's. -/
theorem live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact
  rw [h]

set_option maxHeartbeats 2000000 in
/-- The body at any point, in the library's form. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((data m 0 c).Φ t.castSucc ∗ (data m 0 c).owesAt () t.castSucc
        ∗ (∃ d, owns (c : Thread nD τ) (win0_0.stage (cfg0.slots t 0)) fullShare ((data m 0 c).before 0 t d))
        ∗ (∃ d, owns (c : Thread nD τ) (win0_1.stage (cfg0.slots t 1)) fullShare ((data m 0 c).before 1 t d))
        ∗ (∃ d, owns (c : Thread nD τ) (win0_2.stage (cfg0.slots t 2)) fullShare ((data m 0 c).before 2 t d))
        ∗ (∃ d, owns (c : Thread nD τ) (win0_3.stage (cfg0.slots t 3)) fullShare ((data m 0 c).before 3 t d))
        ∗ (∃ d, owns (c : Thread nD τ) (win0_4.stage (cfg0.slots t 4)) fullShare ((data m 0 c).before 4 t d))
        ∗ (∃ d, owns (c : Thread nD τ) (win0_5.stage (cfg0.slots t 5)) fullShare ((data m 0 c).before 5 t d))
        ∗ (∃ d, owns (c : Thread nD τ) (win0_6.stage (cfg0.slots t 6)) fullShare ((data m 0 c).before 6 t d))))
    (Q := fun _ => iprop((data m 0 c).Φ t.castSucc ∗ (data m 0 c).owesAt () t.castSucc
        ∗ (data m 0 c).leavesExact 0 t
        ∗ (data m 0 c).leavesExact 1 t
        ∗ (data m 0 c).leavesExact 2 t
        ∗ (data m 0 c).leavesExact 3 t
        ∗ (data m 0 c).leavesExact 4 t
        ∗ (data m 0 c).leavesExact 5 t
        ∗ (data m 0 c).leavesExact 6 t)) ?_ rfl .rfl fun _ => .rfl
  unfold bodyAt0
  rw [live m c 0 t rfl, live m c 1 t rfl, live m c 2 t rfl, live m c 3 t rfl, live m c 4 t rfl, live m c 5 t rfl, live m c 6 t rfl, after_t, after_y, after_sum]
  simp only [before0_0_of m (data m 0 c) (data_arr m c 0) (fun _ => rfl), before0_1_of m (data m 0 c) (data_arr m c 1) (fun _ => rfl), before0_2_of m (data m 0 c) (data_arr m c 2) (fun _ => rfl), before0_3_of m (data m 0 c) (data_arr m c 3) (fun _ => rfl)]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← sum_step m c t d6]
  iapply (body_run c (grid0.coords t) _ _ _ _ _ _ _ _ _ _ _ _ _ _ (iblk m c 0 t) (iblk m c 1 t) (iblk m c 2 t) (iblk m c 3 t) ((data m 0 c).before 6 t d6) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- The launch: it ends with every window's array at what the proof data give, and with all counters at zero. -/
theorem launch : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arr m) (hΦ := fun _ _ => rfl)

theorem run : θ_run defs (onTc (τ := τ) (main (F := F))) (s₀ m ρ) (Pipeline.FramePost cfgs (data m) 0 (V m)) :=
  (θ_run defs _ _).mono (fun _ h => h.1) (launch m ρ)

/-- What every run ends with: the results at what the proof data give, the arguments as they were. -/
theorem run_blocks : θ_run defs (onTc (τ := τ) (main (F := F))) ⟨m, fun _ => 0, ρ⟩ fun r => ∀ c : Dev nD,
      r.2.mem ((c.tc : Thread nD τ).loc main_v0_0) = (data m 0 c).arrAt 4 cfg0.N
      ∧ r.2.mem ((c.tc : Thread nD τ).loc main_v0_1) = (data m 0 c).arrAt 5 cfg0.N
      ∧ r.2.mem ((c.tc : Thread nD τ).loc main_v0_2) = (data m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 4, (h.1 c).1 5, (h.1 c).1 6, h.2 c⟩)
    (θ_run_and (run m ρ) (frame_of m ρ (data m) (data_arr m) (run m ρ)))

theorem idealFrame : Cert.quiescent_GluDxIdeal := fun m g _ =>
  θ_run_and (frame_of m g (data m) (data_arr m) (run m g)) ((θ_run defs _ _).mono (fun _ h => h.2) (launch m g))

/-- The kernel's and its idealization's function tables are one. -/
theorem table_eq : Cert.GluDx.defs₀ (F := F) = defs₀ (F := F) := by
  refine congrArg Defs.onTc (funext fun l => ?_)
  obtain ⟨l, hl⟩ := l
  cases l with
  | zero => rfl
  | succ n => exact absurd hl (by omega)

theorem defs_eq : Cert.GluDx.defs (F := F) = defs (F := F) := congrArg (Pipeline.defs pcfgs) table_eq

theorem kernelFrame : Cert.quiescent_GluDx := by
  intro m g _
  rw [defs_eq]
  exact θ_run_and (frame_of m g (data m) (data_arr m) (run m g)) ((θ_run defs _ _).mono (fun _ h => h.2) (launch m g))

end Cert.GluDxIdeal.Rows

end
-- ==== Proof.GluDx.lean ====
/- The gradient through the output projection of the gated branch: the kernel's three results are the reference's. -/
module

public import proofs.«01_k».proof.Proof.GluDxRun
public import proofs.«01_k».proof.Proof.Gen.GluDxRefIdeal.Run
public import proofs.«01_k».proof.Proof.Gate

@[expose] public section

set_option maxRecDepth 16384

noncomputable section

namespace Cert.GluDxRefIdeal.Rows

open Idealize.ShloMosaic Idealize.ShloMosaic.TcCoe Idealize.SL.Sem
open Cert.GluDxRefIdeal Cert.GluDxRefIdeal.Gen Cert.Mm Cert.Glu

/-- The reference's gradient of the gated values. -/
def dv (W : FVec Ideal S1024x512 .bf16) (D : FVec Ideal S8192x1024 .bf16) : FVec Ideal S8192x512 .f32 :=
  Host.dotGeneral dot_S8192x1024_S512x1024_S8192x512_1_1_0_0_n_n none (φ₁ := .f32) (φ₂ := .f32) (extf .f32 D bitsLt_bf16_f32) (transpose S512x1024 [1, 0] (extf .f32 W bitsLt_bf16_f32) transposes_S1024x512_S512x1024_1_0)

/-- A one at every entry. -/
def ones : FVec Ideal S8192x512 .f32 := broadcastInDim S8192x512 ![] bcast_S_S8192x512 (constant S_ .f32 0x3F800000#32)

/-- The reference's gate. -/
def sg (T : FVec Ideal S8192x512 .f32) : FVec Ideal S8192x512 .f32 :=
  Host.divf ones (addf ones (Host.exp (Host.negf (addf T (broadcastInDim S8192x512 ![0, 1] bcast_S1x512_S8192x512_0_1 (broadcastInDim S1x512 ![] bcast_S_S1x512 (constant S_ .f32 0x00000000#32)))))))

/-- The reference's gradient of the gate's argument, before it is rounded. -/
def dt (Y : FVec Ideal S8192x512 .bf16) (T : FVec Ideal S8192x512 .f32) (W : FVec Ideal S1024x512 .bf16) (D : FVec Ideal S8192x1024 .bf16) : FVec Ideal S8192x512 .f32 :=
  mulf (mulf (extf .f32 Y bitsLt_bf16_f32) (dv W D)) (mulf (sg T) (subf ones (sg T)))

/-- The three results. -/
def outT (Y : FVec Ideal S8192x512 .bf16) (T : FVec Ideal S8192x512 .f32) (W : FVec Ideal S1024x512 .bf16) (D : FVec Ideal S8192x1024 .bf16) : FVec Ideal S8192x512 .bf16 :=
  truncf .bf16 (dt Y T W D) bitsLt_bf16_f32
def outY (T : FVec Ideal S8192x512 .f32) (W : FVec Ideal S1024x512 .bf16) (D : FVec Ideal S8192x1024 .bf16) : FVec Ideal S8192x512 .f32 := mulf (dv W D) (sg T)
def outB (Y : FVec Ideal S8192x512 .bf16) (T : FVec Ideal S8192x512 .f32) (W : FVec Ideal S1024x512 .bf16) (D : FVec Ideal S8192x1024 .bf16) : FVec Ideal S1x512 .f32 :=
  shapeCast _ (Host.reduceAdd (dt Y T W D) (constant S_ .f32 0x00000000#32) reducesTo_S8192x512_S512_d0 h_S_) shapeCasts_S512_S1x512

theorem dv_at (W : FVec Ideal S1024x512 .bf16) (D : FVec Ideal S8192x1024 .bf16) (p : Fin 8192) (q : Fin 512) : dv W D (ix2 p q) = nn D W p q := by
  pointwise [dv, nn]

theorem ones_at (p : Fin 8192) (q : Fin 512) : ones (ix2 p q) = (1 : EReal) := by
  pointwise [ones]

theorem sg_at (T : FVec Ideal S8192x512 .f32) (p : Fin 8192) (q : Fin 512) : sg T (ix2 p q) = logi (T (ix2 p q)) := by
  pointwise [sg, ones, logi]

theorem dt_at (Y : FVec Ideal S8192x512 .bf16) (T : FVec Ideal S8192x512 .f32) (W : FVec Ideal S1024x512 .bf16) (D : FVec Ideal S8192x1024 .bf16) (p : Fin 8192) (q : Fin 512) :
    dt Y T W D (ix2 p q) = gateSlope (nn D W p q) (Y (ix2 p q)) (T (ix2 p q)) := by
  have e : dt Y T W D (ix2 p q) = (Y (ix2 p q) * dv W D (ix2 p q) * (sg T (ix2 p q) * (ones (ix2 p q) - sg T (ix2 p q))) : EReal) := by
    pointwise [dt]
  rw [e, dv_at, sg_at, ones_at, gateSlope, mul_comm (Y (ix2 p q) : EReal), mul_assoc _ (logi _)]

theorem outT_at (Y : FVec Ideal S8192x512 .bf16) (T : FVec Ideal S8192x512 .f32) (W : FVec Ideal S1024x512 .bf16) (D : FVec Ideal S8192x1024 .bf16) (p : Fin 8192) (q : Fin 512) :
    outT Y T W D (ix2 p q) = gateSlope (nn D W p q) (Y (ix2 p q)) (T (ix2 p q)) := dt_at Y T W D p q

theorem outY_at (T : FVec Ideal S8192x512 .f32) (W : FVec Ideal S1024x512 .bf16) (D : FVec Ideal S8192x1024 .bf16) (p : Fin 8192) (q : Fin 512) :
    outY T W D (ix2 p q) = nn D W p q * logi (T (ix2 p q)) := congrArg₂ (fun x y : EReal => x * y) (dv_at W D p q) (sg_at T p q)

theorem outB_at (Y : FVec Ideal S8192x512 .bf16) (T : FVec Ideal S8192x512 .f32) (W : FVec Ideal S1024x512 .bf16) (D : FVec Ideal S8192x1024 .bf16) (o : Fin 1) (q : Fin 512) :
    outB Y T W D (ix2 o q) = ∑ r : Fin 8192, dt Y T W D (ix2 r q) := by
  pointwise [outB]

/-- The reference's run with its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = outT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v20) = outY (m ((c.tc : Thread nD τ).loc main_arg1)) (m ((c.tc : Thread nD τ).loc main_arg2)) (m ((c.tc : Thread nD τ).loc main_arg3))
      ∧ r.2.mem ((c.tc : Thread nD τ).loc main_v23) = outB (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2.1, (h c).2.2.2⟩) (Cert.GluDxRefIdeal.Value.run m ρ)

end Cert.GluDxRefIdeal.Rows

namespace Cert.GluDxIdeal.Rows

open Idealize.ShloMosaic Idealize.ShloMosaic.TcCoe Idealize.SL.Sem
open Cert.GluDxIdeal Cert.GluDxIdeal.Gen Cert.Mm Cert.Glu

theorem pay1_at (x0 : Vec Ideal S1024x1024 .bf16) (x1 : Vec Ideal S1024x512 .bf16) (p : Fin 1024) (q : Fin 512) : k0_pay1 (F := Ideal) x0 x1 (ix2 p q) = nn x0 x1 p q := by
  pointwise [k0_pay1, nn]

theorem pay2_at (x3 : Vec Ideal S1024x512 .f32) (p : Fin 1024) (q : Fin 512) : k0_pay2 (F := Ideal) x3 (ix2 p q) = logi (x3 (ix2 p q)) := by
  pointwise [k0_pay2]
  rw [zero_sub]
  rfl

theorem pay3_at (x0 : Vec Ideal S1024x1024 .bf16) (x1 x2 : Vec Ideal S1024x512 .bf16) (x3 : Vec Ideal S1024x512 .f32) (p : Fin 1024) (q : Fin 512) :
    k0_pay3 (F := Ideal) x0 x1 x2 x3 (ix2 p q) = gateSlope (nn x0 x1 p q) (x2 (ix2 p q)) (x3 (ix2 p q)) := by
  have e : k0_pay3 (F := Ideal) x0 x1 x2 x3 (ix2 p q) = (k0_pay1 (F := Ideal) x0 x1 (ix2 p q) * x2 (ix2 p q) * k0_pay2 (F := Ideal) x3 (ix2 p q) * (1 - k0_pay2 (F := Ideal) x3 (ix2 p q)) : EReal) := by
    pointwise [k0_pay3]
  rw [e, pay1_at, pay2_at, gateSlope]

theorem cols_at (d : FVec Ideal S1024x512 .f32) (o : Fin 1) (q : Fin 512) : cols d (ix2 o q) = ∑ p, d (ix2 p q) := by
  pointwise [cols]

theorem sum_next_at (d : FVec Ideal S1024x512 .f32) (r : Vec Ideal S1x512 .f32) (o : Fin 1) (q : Fin 512) :
    addf (shapeCast S1x512 r shapeCasts_S1x512_S1x512) (cols d) (ix2 o q) = (r (ix2 o q) + ∑ p, d (ix2 p q) : EReal) := by
  pointwise [cols]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The gated values, the gate's argument, the projection's weights, and the gradient of the projection. -/
def aY : Vec Ideal S8192x512 .bf16 := m ((c.tc : Thread nD τ).loc main_arg0)
def aT : Vec Ideal S8192x512 .f32 := m ((c.tc : Thread nD τ).loc main_arg1)
def aW : Vec Ideal S1024x512 .bf16 := m ((c.tc : Thread nD τ).loc main_arg2)
def aD : Vec Ideal S8192x1024 .bf16 := m ((c.tc : Thread nD τ).loc main_arg3)

theorem blk_y (t : Fin cfg0.N) (p : Fin 1024) (q : Fin 512) (hp : t.val * 1024 + p.val < 8192) :
    (iblk m c 2 t (ix2 p q) : EReal) = aY m c (ix2 ⟨t.val * 1024 + p.val, hp⟩ q) := by
  blk_ext [iblk, V, aY, V_main_arg0 m c, idx t]

theorem blk_t (t : Fin cfg0.N) (p : Fin 1024) (q : Fin 512) (hp : t.val * 1024 + p.val < 8192) :
    (iblk m c 3 t (ix2 p q) : EReal) = aT m c (ix2 ⟨t.val * 1024 + p.val, hp⟩ q) := by
  blk_ext [iblk, V, aT, V_main_arg1 m c, idx t]

theorem blk_nn (t : Fin cfg0.N) (p : Fin 1024) (q : Fin 512) (hp : t.val * 1024 + p.val < 8192) :
    nn (iblk m c 0 t) (iblk m c 1 t) p q = nn (aD m c) (aW m c) ⟨t.val * 1024 + p.val, hp⟩ q := by
  refine Finset.sum_congr rfl fun l _ => congrArg₂ (· * ·) ?_ ?_
  · blk_ext [iblk, V, aD, V_main_arg3 m c, idx t]
  · blk_ext [iblk, V, aW, V_main_arg2 m c, idx t]

/-- The reference's results, of the kernel's arguments. -/
def rT : Vec Ideal S8192x512 .bf16 := Cert.GluDxRefIdeal.Rows.outT (aY m c) (aT m c) (aW m c) (aD m c)
def rY : Vec Ideal S8192x512 .f32 := Cert.GluDxRefIdeal.Rows.outY (aT m c) (aW m c) (aD m c)
def rB : Vec Ideal S1x512 .f32 := Cert.GluDxRefIdeal.Rows.outB (aY m c) (aT m c) (aW m c) (aD m c)
def rD : Vec Ideal S8192x512 .f32 := Cert.GluDxRefIdeal.Rows.dt (aY m c) (aT m c) (aW m c) (aD m c)

theorem blk_slope (t : Fin cfg0.N) (p : Fin 1024) (q : Fin 512) (hp : t.val * 1024 + p.val < 8192) :
    k0_pay3 (F := Ideal) (iblk m c 0 t) (iblk m c 1 t) (iblk m c 2 t) (iblk m c 3 t) (ix2 p q) = rD m c (ix2 ⟨t.val * 1024 + p.val, hp⟩ q) := by
  refine (pay3_at (iblk m c 0 t) (iblk m c 1 t) (iblk m c 2 t) (iblk m c 3 t) p q).trans ?_
  refine Eq.trans ?_ (Cert.GluDxRefIdeal.Rows.dt_at (aY m c) (aT m c) (aW m c) (aD m c) ⟨t.val * 1024 + p.val, hp⟩ q).symm
  rw [blk_nn m c t p q hp, blk_y m c t p q hp, blk_t m c t p q hp]

theorem final_t : (data m 0 c).arrAt 4 cfg0.N = rT m c := by
  refine (data m 0 c).arrAt_eq_of_covers 4 _ (by decide +kernel) fun t hf y => ?_
  have hN : t.val < 8 := lt_of_lt_of_eq t.isLt N_0
  blk_simp
  rw [after_t]
  idx_vars y
  have hp : t.val * 1024 + y0.val < 8192 := by omega
  have hi : ((View.whole main_v0_0).slice (win0_4.rect t)).emb (ix2 y0 y1) = ix2 ⟨t.val * 1024 + y0.val, hp⟩ y1 := by
    blk_ext [idx t]
  refine Eq.trans ?_ (congrArg (rT m c) hi.symm)
  exact blk_slope m c t y0 y1 hp

theorem final_y : (data m 0 c).arrAt 5 cfg0.N = rY m c := by
  refine (data m 0 c).arrAt_eq_of_covers 5 _ (by decide +kernel) fun t hf y => ?_
  have hN : t.val < 8 := lt_of_lt_of_eq t.isLt N_0
  blk_simp
  rw [after_y]
  idx_vars y
  have hp : t.val * 1024 + y0.val < 8192 := by omega
  have hi : ((View.whole main_v0_1).slice (win0_5.rect t)).emb (ix2 y0 y1) = ix2 ⟨t.val * 1024 + y0.val, hp⟩ y1 := by
    blk_ext [idx t]
  refine Eq.trans ?_ (congrArg (rY m c) hi.symm)
  refine Eq.trans ?_ (Cert.GluDxRefIdeal.Rows.outY_at (aT m c) (aW m c) (aD m c) ⟨t.val * 1024 + y0.val, hp⟩ y1).symm
  refine congrArg₂ (fun x y : EReal => x * y) ((pay1_at (iblk m c 0 t) (iblk m c 1 t) y0 y1).trans (blk_nn m c t y0 y1 hp)) ?_
  exact (pay2_at (iblk m c 3 t) y0 y1).trans (congrArg logi (blk_t m c t y0 y1 hp))

/-- A tile's share of the bias's gradient. -/
def tile (t : Fin cfg0.N) (j : S1x512.Idx) : EReal :=
  ∑ p : Fin 1024, k0_pay3 (F := Ideal) (iblk m c 0 t) (iblk m c 1 t) (iblk m c 2 t) (iblk m c 3 t) (ix2 p (j 1))

theorem sum_first (n : ℕ) (hn : n < cfg0.N) (h : n = 0) (j : S1x512.Idx) : sumAt m c n hn j = 0 + tile m c ⟨n, hn⟩ j := by
  subst h
  rw [zero_add, sumAt, sumOf]
  idx_vars j
  exact cols_at _ j0 j1

theorem sum_next (n : ℕ) (hn : n + 1 < cfg0.N) (j : S1x512.Idx) : sumAt m c (n + 1) hn j = sumAt m c n (Nat.lt_of_succ_lt hn) j + tile m c ⟨n + 1, hn⟩ j := by
  rw [sumAt, sumOf]
  idx_vars j
  exact sum_next_at _ _ j0 j1

theorem tile_share (n : ℕ) (hn : n < cfg0.N) (s : ℕ) (hs : s < 8) (e : n = s) (o : Fin 1) (q : Fin 512) :
    tile m c ⟨n, hn⟩ (ix2 o q) = ∑ p : Fin 1024, rD m c (ix2 ⟨s * 1024 + p.val, by omega⟩ q) := by
  subst e
  exact Finset.sum_congr rfl fun p _ => blk_slope m c ⟨n, hn⟩ p q (by have := p.isLt; show n * 1024 + p.val < 8192; omega)

theorem sum_all (hn : 7 < cfg0.N) (o : Fin 1) (q : Fin 512) : sumAt m c 7 hn (ix2 o q) = rB m c (ix2 o q) := by
  have hN : ∀ u : Fin cfg0.N, u.val < 8 := fun u => lt_of_lt_of_eq u.isLt N_0
  have h := Pipeline.eq_sum_fin_of_reset_step_apply_of_flush (fun n hn => sumAt m c n hn) 8 (fun _ => 0) (tile m c)
    (fun t h j => sum_first m c t.val t.isLt (by have := hN t; omega) j)
    (fun t h j => by
      obtain ⟨n, hn⟩ := t
      cases n with
      | zero => exact absurd rfl h
      | succ n => exact sum_next m c n hn j) ⟨7, hn⟩ rfl (ix2 o q)
  refine h.trans ?_
  rw [zero_add, Finset.sum_congr rfl fun s _ => tile_share m c _ _ s.val s.isLt (by show 8 * (7 / 8) + s.val = s.val; omega) o q]
  refine (Fin.sum_mul_add_congr (f := fun r => rD m c (ix2 r q)) (fun s k hl => rfl) rfl).trans ?_
  exact (Cert.GluDxRefIdeal.Rows.outB_at (aY m c) (aT m c) (aW m c) (aD m c) o q).symm

theorem final_sum : (data m 0 c).arrAt 6 cfg0.N = rB m c := by
  refine (data m 0 c).arrAt_eq_of_covers 6 _ (by decide +kernel) fun t hf y => ?_
  have hN : t.val < 8 := lt_of_lt_of_eq t.isLt N_0
  have ht : t.val = 7 := by have := (flush0_6 t).mp hf; omega
  blk_simp
  rw [after_sum]
  idx_vars y
  have hi : ((View.whole main_v0_2).slice (win0_6.rect t)).emb (ix2 y0 y1) = ix2 y0 y1 := by
    blk_ext [idx t]
  refine Eq.trans ?_ (congrArg (rB m c) hi.symm)
  obtain ⟨n, hn⟩ := t
  obtain rfl : n = 7 := ht
  exact sum_all m c hn y0 y1

end Cert.GluDxIdeal.Rows

end
-- ==== Proof.ODxRun.lean ====
/- The gradient through the output projection and the three gates before it: the body's run at a point, what its nine results hold after each point, and the
   frames of the kernel and of its idealization. The run is written for any float operations; both programs' frames are taken from it. -/
module

public import proofs.«01_k».proof.Defs
public import proofs.«01_k».proof.Proof.Gen.ODx.Launch
public import proofs.«01_k».proof.Proof.Gen.ODxIdeal.Frame
public import proofs.«01_k».proof.Proof.Gen.ODxIdeal.Skeleton
public import proofs.«01_k».proof.Proof.RowSum

@[expose] public section

set_option maxRecDepth 16384

noncomputable section

namespace Cert.ODxIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ODxIdeal Cert.ODxIdeal.Gen Cert.Rows

variable {F : FTy → Type} [FloatOps F]

local notation "𝕄" => MT nD τ sig Unit (Elt F) ℕ (UR sig nD τ) ℕ

section Blocks

variable (x0 : Vec F S512x1024 .f32) (x1 : Vec F S1024x1024 .bf16) (z u : Vec F S512x1024 .bf16) (b : Vec F S1x1024 .f32) (r : Vec F S1x1024 .f32) (v : BitVec 1)

/-- A gate's branch: the gradient of the branch's rows, from the rows' gradient, the projection's weights, the gate's rows and the gate's bias. -/
def branchOf : FVec F S512x1024 .bf16 := k0_pay25 (k0_pay13 x0 x1 z b)

/-- The gradient of a gate's argument, before it is rounded: of the same and of the branch's rows. -/
def gateOf : FVec F S512x1024 .f32 := k0_pay15 (k0_pay12 z b) (k0_pay14 x0 x1 u)

/-- The gradient of a gate's argument. -/
def argOf : FVec F S512x1024 .bf16 := k0_pay3 (gateOf x0 x1 z u b)

/-- A block's column sums. -/
def cols (d : FVec F S512x1024 .f32) : FVec F S1x1024 .f32 :=
  shapeCast S1x1024 (multiReduction .add [0] S1024 d 0x00000000#32 reduces_S512x1024_S1024 (.inl rfl) rfl) shapeCasts_S1024_S1x1024

/-- A sum's block: a block's column sums, over what the sum's block held unless the point is the first. -/
def sumOf (d : FVec F S512x1024 .f32) : FVec F S1x1024 .f32 := k0_pay6 v (cols d) r

theorem branch_snd : k0_pay1 (k0_pay17 (k0_pay9 x0 x1) z (k0_pay10 b)) = branchOf x0 x1 z b := rfl
theorem branch_thd : k0_pay2 (k0_pay20 (k0_pay9 x0 x1) z (k0_pay11 b)) = branchOf x0 x1 z b := rfl
theorem arg_snd : k0_pay4 (k0_pay18 (k0_pay9 x0 x1) z u (k0_pay10 b)) = argOf x0 x1 z u b := rfl
theorem arg_thd : k0_pay5 (k0_pay21 (k0_pay9 x0 x1) z u (k0_pay11 b)) = argOf x0 x1 z u b := rfl
theorem sum_fst : k0_pay6 v (k0_pay22 (k0_pay12 z b) (k0_pay14 x0 x1 u)) r = sumOf r v (gateOf x0 x1 z u b) := rfl
theorem sum_snd : k0_pay7 v (k0_pay23 (k0_pay9 x0 x1) z u (k0_pay10 b)) r = sumOf r v (gateOf x0 x1 z u b) := rfl
theorem sum_thd : k0_pay8 v (k0_pay24 (k0_pay9 x0 x1) z u (k0_pay11 b)) r = sumOf r v (gateOf x0 x1 z u b) := rfl

end Blocks

/-- The first row block's flag. -/
abbrev isFirst (i : grid0.Coords) : BitVec 1 := Scalar.cmpi .eq (BitVec.ofNat 32 (i 0).val) 0#32

set_option maxHeartbeats 4000000 in
/-- The body's run, from whole staging buffers holding the eleven input blocks and the three sums' blocks. -/
theorem body_run (c : Dev nD) (i : grid0.Coords)
  (a3 : Memref sig .tc .vmem S512x1024 .f32) (h3 : a3.IsWhole)
  (a4 : Memref sig .tc .vmem S1024x1024 .bf16) (h4 : a4.IsWhole)
  (a5 : Memref sig .tc .vmem S512x1024 .bf16) (h5 : a5.IsWhole)
  (a6 : Memref sig .tc .vmem S512x1024 .bf16) (h6 : a6.IsWhole)
  (a7 : Memref sig .tc .vmem S512x1024 .bf16) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S1x1024 .f32) (h11 : a11.IsWhole)
  (a12 : Memref sig .tc .vmem S1x1024 .f32) (h12 : a12.IsWhole)
  (a13 : Memref sig .tc .vmem S1x1024 .f32) (h13 : a13.IsWhole)
  (a14 : Memref sig .tc .vmem S512x1024 .bf16) (h14 : a14.IsWhole)
  (a15 : Memref sig .tc .vmem S512x1024 .bf16) (h15 : a15.IsWhole)
  (a16 : Memref sig .tc .vmem S512x1024 .bf16) (h16 : a16.IsWhole)
  (a17 : Memref sig .tc .vmem S512x1024 .bf16) (h17 : a17.IsWhole)
  (a18 : Memref sig .tc .vmem S512x1024 .bf16) (h18 : a18.IsWhole)
  (a19 : Memref sig .tc .vmem S512x1024 .bf16) (h19 : a19.IsWhole)
  (a20 : Memref sig .tc .vmem S1x1024 .f32) (h20 : a20.IsWhole)
  (a21 : Memref sig .tc .vmem S1x1024 .f32) (h21 : a21.IsWhole)
  (a22 : Memref sig .tc .vmem S1x1024 .f32) (h22 : a22.IsWhole)
  (x0 : Vec F S512x1024 .f32) (x1 : Vec F S1024x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S1x1024 .f32) (x9 : Vec F S1x1024 .f32) (x10 : Vec F S1x1024 .f32) (r0 r1 r2 : Vec F S1x1024 .f32) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9 ∗ owns (c : Thread nD τ) a13 fullShare x10 ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ owns (c : Thread nD τ) a20 fullShare r0 ∗ owns (c : Thread nD τ) a21 fullShare r1 ∗ owns (c : Thread nD τ) a22 fullShare r2
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare x8 ∗ owns (c : Thread nD τ) a12 fullShare x9 ∗ owns (c : Thread nD τ) a13 fullShare x10 ∗ owns (c : Thread nD τ) a14 fullShare (branchOf x0 x1 x2 x8) ∗ owns (c : Thread nD τ) a15 fullShare (branchOf x0 x1 x3 x9) ∗ owns (c : Thread nD τ) a16 fullShare (branchOf x0 x1 x4 x10) ∗ owns (c : Thread nD τ) a17 fullShare (argOf x0 x1 x2 x5 x8) ∗ owns (c : Thread nD τ) a18 fullShare (argOf x0 x1 x3 x6 x9) ∗ owns (c : Thread nD τ) a19 fullShare (argOf x0 x1 x4 x7 x10) ∗ owns (c : Thread nD τ) a20 fullShare (sumOf r0 (isFirst i) (gateOf x0 x1 x2 x5 x8)) ∗ owns (c : Thread nD τ) a21 fullShare (sumOf r1 (isFirst i) (gateOf x0 x1 x3 x6 x9)) ∗ owns (c : Thread nD τ) a22 fullShare (sumOf r2 (isFirst i) (gateOf x0 x1 x4 x7 x10))) -∗ K ⟨⟩))
      ⊢ wp frame (wpE (defs₀ (F := F)) Variants.none c none) E (cc0_o_proj_dx i a3 h3 a4 h4 a5 h5 a6 h6 a7 h7 a8 h8 a9 h9 a10 h10 a11 h11 a12 h12 a13 h13 a14 h14 a15 h15 a16 h16 a17 h17 a18 h18 a19 h19 a20 h20 a21 h21 a22 h22) K := by
  simp only [cc0_o_proj_dx_eq_skeleton]
  unfold cc0_o_proj_dx_skel
  simp only [k0_part1_eq_skeleton, k0_part2_eq_skeleton]
  unfold k0_part1_skel k0_part2_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %e17, H17⟩, ⟨%f18, %e18, H18⟩, ⟨%f19, %e19, H19⟩, Hk⟩
  obtain rfl := h3.eq_unread e0
  obtain rfl := h4.eq_unread e1
  obtain rfl := h5.eq_unread e2
  obtain rfl := h6.eq_unread e3
  obtain rfl := h7.eq_unread e4
  obtain rfl := h8.eq_unread e5
  obtain rfl := h9.eq_unread e6
  obtain rfl := h10.eq_unread e7
  obtain rfl := h11.eq_unread e8
  obtain rfl := h12.eq_unread e9
  obtain rfl := h13.eq_unread e10
  obtain rfl := h20.eq_unread e17
  obtain rfl := h21.eq_unread e18
  obtain rfl := h22.eq_unread e19
  have l0 := load_whole (F := F) a3 h3 x0 inb_S512x1024_S512x1024_0_0
  have l1 := load_whole (F := F) a4 h4 x1 inb_S1024x1024_S1024x1024_0_0
  have l2 := load_whole (F := F) a5 h5 x2 inb_S512x1024_S512x1024_0_0
  have l3 := load_whole (F := F) a6 h6 x3 inb_S512x1024_S512x1024_0_0
  have l4 := load_whole (F := F) a7 h7 x4 inb_S512x1024_S512x1024_0_0
  have l5 := load_whole (F := F) a8 h8 x5 inb_S512x1024_S512x1024_0_0
  have l6 := load_whole (F := F) a9 h9 x6 inb_S512x1024_S512x1024_0_0
  have l7 := load_whole (F := F) a10 h10 x7 inb_S512x1024_S512x1024_0_0
  have l8 := load_whole (F := F) a11 h11 x8 inb_S1x1024_S1x1024_0_0
  have l9 := load_whole (F := F) a12 h12 x9 inb_S1x1024_S1x1024_0_0
  have l10 := load_whole (F := F) a13 h13 x10 inb_S1x1024_S1x1024_0_0
  have l17 := load_whole (F := F) a20 h20 r0 inb_S1x1024_S1x1024_0_0
  have l18 := load_whole (F := F) a21 h21 r1 inb_S1x1024_S1x1024_0_0
  have l19 := load_whole (F := F) a22 h22 r2 inb_S1x1024_S1x1024_0_0
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H6]
  · iexists _; isplitr; · ipureintro; exact h9.read_unread _
    iexact H6
  isplitl [H7]
  · iexists _; isplitr; · ipureintro; exact h10.read_unread _
    iexact H7
  isplitl [H8]
  · iexists _; isplitr; · ipureintro; exact h11.read_unread _
    iexact H8
  isplitl [H9]
  · iexists _; isplitr; · ipureintro; exact h12.read_unread _
    iexact H9
  isplitl [H10]
  · iexists _; isplitr; · ipureintro; exact h13.read_unread _
    iexact H10
  isplitl [H11]
  · iexists _
    isplitr
    swap; · iexact H11
    ipureintro
    exact (View.read_writes_full _ _ _ _ _).trans rfl
  isplitl [H12]
  · iexists _
    isplitr
    swap; · iexact H12
    ipureintro
    exact (View.read_writes_full _ _ _ _ _).trans (branch_snd x0 x1 x3 x9)
  isplitl [H13]
  · iexists _
    isplitr
    swap; · iexact H13
    ipureintro
    exact (View.read_writes_full _ _ _ _ _).trans (branch_thd x0 x1 x4 x10)
  isplitl [H14]
  · iexists _
    isplitr
    swap; · iexact H14
    ipureintro
    exact (View.read_writes_full _ _ _ _ _).trans rfl
  isplitl [H15]
  · iexists _
    isplitr
    swap; · iexact H15
    ipureintro
    exact (View.read_writes_full _ _ _ _ _).trans (arg_snd x0 x1 x3 x6 x9)
  isplitl [H16]
  · iexists _
    isplitr
    swap; · iexact H16
    ipureintro
    exact (View.read_writes_full _ _ _ _ _).trans (arg_thd x0 x1 x4 x7 x10)
  isplitl [H17]
  · iexists _
    isplitr
    swap; · iexact H17
    ipureintro
    exact (View.read_writes_full _ _ _ _ _).trans (sum_fst x0 x1 x2 x5 x8 r0 _)
  isplitl [H18]
  · iexists _
    isplitr
    swap; · iexact H18
    ipureintro
    exact (View.read_writes_full _ _ _ _ _).trans (sum_snd x0 x1 x3 x6 x9 r1 _)
  · iexists _
    isplitr
    swap; · iexact H19
    ipureintro
    exact (View.read_writes_full _ _ _ _ _).trans (sum_thd x0 x1 x4 x7 x10 r2 _)

variable (m : (ℓ : Loc nD τ sig) → Buf (Elt F) ℓ) (ρ : Dev nD → PrngReg)

/-- A sum's block after point `n`, from each point's block: the first point ignores what the sum's block held. -/
def sumAt (D : Fin cfg0.N → FVec F S512x1024 .f32) : (n : ℕ) → n < cfg0.N → Vec F S1x1024 .f32
  | 0, hn => sumOf (blank S1x1024) 1#1 (D ⟨0, hn⟩)
  | n + 1, hn => sumOf (sumAt D n (Nat.lt_of_succ_lt hn)) 0#1 (D ⟨n + 1, hn⟩)

/-- The three gates' blocks at each point. -/
def gate0 (c : Dev nD) (t : Fin cfg0.N) : FVec F S512x1024 .f32 := gateOf (iblk m c 0 t) (iblk m c 1 t) (iblk m c 2 t) (iblk m c 5 t) (iblk m c 8 t)
def gate1 (c : Dev nD) (t : Fin cfg0.N) : FVec F S512x1024 .f32 := gateOf (iblk m c 0 t) (iblk m c 1 t) (iblk m c 3 t) (iblk m c 6 t) (iblk m c 9 t)
def gate2 (c : Dev nD) (t : Fin cfg0.N) : FVec F S512x1024 .f32 := gateOf (iblk m c 0 t) (iblk m c 1 t) (iblk m c 4 t) (iblk m c 7 t) (iblk m c 10 t)

theorem isFirst_iff (t : Fin cfg0.N) : isFirst (grid0.coords t) = if t.val = 0 then 1#1 else 0#1 := by
  have ht : t.val < 16 := Nat.lt_of_lt_of_eq t.isLt N_0
  have e0 : (grid0.coords t 0).val = t.val / 1 % 16 := Pipeline.Grid.coords_val t 0 (by decide) rfl
  have e : (grid0.coords t 0).val = t.val := by omega
  simp only [isFirst, e]
  exact first_flag t.val 16 (by decide) ht

/-- The launch's proof data: each input's block stays, the results hold the branches' and the gates' gradients of the block's rows, and the sums so far. -/
def data (_ : Fin 1) (c : Dev nD) : Dat τ (Elt F) Unit ℕ (UR sig nD τ) ℕ cfg0 c where
  A w := V m c (Pipeline.arrRef spec0 w)
  after w t := match w with
    | ⟨11, _⟩ => branchOf (iblk m c 0 t) (iblk m c 1 t) (iblk m c 2 t) (iblk m c 8 t)
    | ⟨12, _⟩ => branchOf (iblk m c 0 t) (iblk m c 1 t) (iblk m c 3 t) (iblk m c 9 t)
    | ⟨13, _⟩ => branchOf (iblk m c 0 t) (iblk m c 1 t) (iblk m c 4 t) (iblk m c 10 t)
    | ⟨14, _⟩ => argOf (iblk m c 0 t) (iblk m c 1 t) (iblk m c 2 t) (iblk m c 5 t) (iblk m c 8 t)
    | ⟨15, _⟩ => argOf (iblk m c 0 t) (iblk m c 1 t) (iblk m c 3 t) (iblk m c 6 t) (iblk m c 9 t)
    | ⟨16, _⟩ => argOf (iblk m c 0 t) (iblk m c 1 t) (iblk m c 4 t) (iblk m c 7 t) (iblk m c 10 t)
    | ⟨17, _⟩ => sumAt (gate0 m c) t.val t.isLt
    | ⟨18, _⟩ => sumAt (gate1 m c) t.val t.isLt
    | ⟨19, _⟩ => sumAt (gate2 m c) t.val t.isLt
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨_ + 20, h⟩ => absurd h (Nat.not_lt.2 (Nat.le_add_left _ _))
  Φ _ := Pipeline.ΦA spec0 c
  q w := Pipeline.shareOf spec0 w
  owed _ := 0

theorem data_arr (c : Dev nD) (w : Fin cfg0.W) : (data m 0 c).A w = V m c (Pipeline.arrRef spec0 w) := by
  dsimp only [data]

theorem after_11 (c : Dev nD) (t : Fin cfg0.N) : (data m 0 c).after 11 t = branchOf (iblk m c 0 t) (iblk m c 1 t) (iblk m c 2 t) (iblk m c 8 t) := by dsimp only [data]
theorem after_12 (c : Dev nD) (t : Fin cfg0.N) : (data m 0 c).after 12 t = branchOf (iblk m c 0 t) (iblk m c 1 t) (iblk m c 3 t) (iblk m c 9 t) := by dsimp only [data]
theorem after_13 (c : Dev nD) (t : Fin cfg0.N) : (data m 0 c).after 13 t = branchOf (iblk m c 0 t) (iblk m c 1 t) (iblk m c 4 t) (iblk m c 10 t) := by dsimp only [data]
theorem after_14 (c : Dev nD) (t : Fin cfg0.N) : (data m 0 c).after 14 t = argOf (iblk m c 0 t) (iblk m c 1 t) (iblk m c 2 t) (iblk m c 5 t) (iblk m c 8 t) := by dsimp only [data]
theorem after_15 (c : Dev nD) (t : Fin cfg0.N) : (data m 0 c).after 15 t = argOf (iblk m c 0 t) (iblk m c 1 t) (iblk m c 3 t) (iblk m c 6 t) (iblk m c 9 t) := by dsimp only [data]
theorem after_16 (c : Dev nD) (t : Fin cfg0.N) : (data m 0 c).after 16 t = argOf (iblk m c 0 t) (iblk m c 1 t) (iblk m c 4 t) (iblk m c 7 t) (iblk m c 10 t) := by dsimp only [data]
theorem after_17 (c : Dev nD) (t : Fin cfg0.N) : (data m 0 c).after 17 t = sumAt (gate0 m c) t.val t.isLt := by dsimp only [data]
theorem after_18 (c : Dev nD) (t : Fin cfg0.N) : (data m 0 c).after 18 t = sumAt (gate1 m c) t.val t.isLt := by dsimp only [data]
theorem after_19 (c : Dev nD) (t : Fin cfg0.N) : (data m 0 c).after 19 t = sumAt (gate2 m c) t.val t.isLt := by dsimp only [data]

/-- A sum's block after the body is `sumAt`, if the point finds in it what the point before left. -/
theorem sum_step (D : Fin cfg0.N → FVec F S512x1024 .f32) (t : Fin cfg0.N) (r : Vec F S1x1024 .f32)
    (h : ∀ n hn, t = ⟨n + 1, hn⟩ → r = sumAt D n (Nat.lt_of_succ_lt hn)) : sumOf r (isFirst (grid0.coords t)) (D t) = sumAt D t.val t.isLt := by
  rw [isFirst_iff]
  obtain ⟨n, hn⟩ := t
  cases n with
  | zero => rfl
  | succ n => rw [h n hn rfl, if_neg (Nat.succ_ne_zero n)]; rfl

theorem before_17 (c : Dev nD) (t : Fin cfg0.N) (d) (n) (hn) (h : t = ⟨n + 1, hn⟩) : (data m 0 c).before 17 t d = sumAt (gate0 m c) n (Nat.lt_of_succ_lt hn) := by
  subst h
  rw [Dat.before_out_kept _ 17 rfl ⟨n + 1, hn⟩ (Nat.succ_ne_zero n) (Bool.eq_false_iff.mpr fun h => by
    have := (flush0_17 _).mp h; have hN : n + 1 < 16 := lt_of_lt_of_eq hn N_0; dsimp only at this; omega) (fun _ => rfl) (fun _ _ => rfl)]
  exact after_17 m c _

theorem before_18 (c : Dev nD) (t : Fin cfg0.N) (d) (n) (hn) (h : t = ⟨n + 1, hn⟩) : (data m 0 c).before 18 t d = sumAt (gate1 m c) n (Nat.lt_of_succ_lt hn) := by
  subst h
  rw [Dat.before_out_kept _ 18 rfl ⟨n + 1, hn⟩ (Nat.succ_ne_zero n) (Bool.eq_false_iff.mpr fun h => by
    have := (flush0_18 _).mp h; have hN : n + 1 < 16 := lt_of_lt_of_eq hn N_0; dsimp only at this; omega) (fun _ => rfl) (fun _ _ => rfl)]
  exact after_18 m c _

theorem before_19 (c : Dev nD) (t : Fin cfg0.N) (d) (n) (hn) (h : t = ⟨n + 1, hn⟩) : (data m 0 c).before 19 t d = sumAt (gate2 m c) n (Nat.lt_of_succ_lt hn) := by
  subst h
  rw [Dat.before_out_kept _ 19 rfl ⟨n + 1, hn⟩ (Nat.succ_ne_zero n) (Bool.eq_false_iff.mpr fun h => by
    have := (flush0_19 _).mp h; have hN : n + 1 < 16 := lt_of_lt_of_eq hn N_0; dsimp only at this; omega) (fun _ => rfl) (fun _ _ => rfl)]
  exact after_19 m c _

/-- No window is ever idle: what the body leaves is the proof data's. -/
theorem live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact
  rw [h]

set_option maxHeartbeats 4000000 in
/-- The body at any point, in the library's form. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((data m 0 c).Φ t.castSucc ∗ (data m 0 c).owesAt () t.castSucc
        ∗ (∃ d, owns (c : Thread nD τ) (win0_0.stage (cfg0.slots t 0)) fullShare ((data m 0 c).before 0 t d))
        ∗ (∃ d, owns (c : Thread nD τ) (win0_1.stage (cfg0.slots t 1)) fullShare ((data m 0 c).before 1 t d))
        ∗ (∃ d, owns (c : Thread nD τ) (win0_2.stage (cfg0.slots t 2)) fullShare ((data m 0 c).before 2 t d))
        ∗ (∃ d, owns (c : Thread nD τ) (win0_3.stage (cfg0.slots t 3)) fullShare ((data m 0 c).before 3 t d))
        ∗ (∃ d, owns (c : Thread nD τ) (win0_4.stage (cfg0.slots t 4)) fullShare ((data m 0 c).before 4 t d))
        ∗ (∃ d, owns (c : Thread nD τ) (win0_5.stage (cfg0.slots t 5)) fullShare ((data m 0 c).before 5 t d))
        ∗ (∃ d, owns (c : Thread nD τ) (win0_6.stage (cfg0.slots t 6)) fullShare ((data m 0 c).before 6 t d))
        ∗ (∃ d, owns (c : Thread nD τ) (win0_7.stage (cfg0.slots t 7)) fullShare ((data m 0 c).before 7 t d))
        ∗ (∃ d, owns (c : Thread nD τ) (win0_8.stage (cfg0.slots t 8)) fullShare ((data m 0 c).before 8 t d))
        ∗ (∃ d, owns (c : Thread nD τ) (win0_9.stage (cfg0.slots t 9)) fullShare ((data m 0 c).before 9 t d))
        ∗ (∃ d, owns (c : Thread nD τ) (win0_10.stage (cfg0.slots t 10)) fullShare ((data m 0 c).before 10 t d))
        ∗ (∃ d, owns (c : Thread nD τ) (win0_11.stage (cfg0.slots t 11)) fullShare ((data m 0 c).before 11 t d))
        ∗ (∃ d, owns (c : Thread nD τ) (win0_12.stage (cfg0.slots t 12)) fullShare ((data m 0 c).before 12 t d))
        ∗ (∃ d, owns (c : Thread nD τ) (win0_13.stage (cfg0.slots t 13)) fullShare ((data m 0 c).before 13 t d))
        ∗ (∃ d, owns (c : Thread nD τ) (win0_14.stage (cfg0.slots t 14)) fullShare ((data m 0 c).before 14 t d))
        ∗ (∃ d, owns (c : Thread nD τ) (win0_15.stage (cfg0.slots t 15)) fullShare ((data m 0 c).before 15 t d))
        ∗ (∃ d, owns (c : Thread nD τ) (win0_16.stage (cfg0.slots t 16)) fullShare ((data m 0 c).before 16 t d))
        ∗ (∃ d, owns (c : Thread nD τ) (win0_17.stage (cfg0.slots t 17)) fullShare ((data m 0 c).before 17 t d))
        ∗ (∃ d, owns (c : Thread nD τ) (win0_18.stage (cfg0.slots t 18)) fullShare ((data m 0 c).before 18 t d))
        ∗ (∃ d, owns (c : Thread nD τ) (win0_19.stage (cfg0.slots t 19)) fullShare ((data m 0 c).before 19 t d))))
    (Q := fun _ => iprop((data m 0 c).Φ t.castSucc ∗ (data m 0 c).owesAt () t.castSucc
        ∗ (data m 0 c).leavesExact 0 t
        ∗ (data m 0 c).leavesExact 1 t
        ∗ (data m 0 c).leavesExact 2 t
        ∗ (data m 0 c).leavesExact 3 t
        ∗ (data m 0 c).leavesExact 4 t
        ∗ (data m 0 c).leavesExact 5 t
        ∗ (data m 0 c).leavesExact 6 t
        ∗ (data m 0 c).leavesExact 7 t
        ∗ (data m 0 c).leavesExact 8 t
        ∗ (data m 0 c).leavesExact 9 t
        ∗ (data m 0 c).leavesExact 10 t
        ∗ (data m 0 c).leavesExact 11 t
        ∗ (data m 0 c).leavesExact 12 t
        ∗ (data m 0 c).leavesExact 13 t
        ∗ (data m 0 c).leavesExact 14 t
        ∗ (data m 0 c).leavesExact 15 t
        ∗ (data m 0 c).leavesExact 16 t
        ∗ (data m 0 c).leavesExact 17 t
        ∗ (data m 0 c).leavesExact 18 t
        ∗ (data m 0 c).leavesExact 19 t)) ?_ rfl .rfl fun _ => .rfl
  unfold bodyAt0
  rw [live m c 0 t rfl, live m c 1 t rfl, live m c 2 t rfl, live m c 3 t rfl, live m c 4 t rfl, live m c 5 t rfl, live m c 6 t rfl, live m c 7 t rfl, live m c 8 t rfl, live m c 9 t rfl, live m c 10 t rfl, live m c 11 t rfl, live m c 12 t rfl, live m c 13 t rfl, live m c 14 t rfl, live m c 15 t rfl, live m c 16 t rfl, live m c 17 t rfl, live m c 18 t rfl, live m c 19 t rfl, after_11, after_12, after_13, after_14, after_15, after_16, after_17, after_18, after_19]
  simp only [before0_0_of m (data m 0 c) (data_arr m c 0) (fun _ => rfl), before0_1_of m (data m 0 c) (data_arr m c 1) (fun _ => rfl), before0_2_of m (data m 0 c) (data_arr m c 2) (fun _ => rfl), before0_3_of m (data m 0 c) (data_arr m c 3) (fun _ => rfl), before0_4_of m (data m 0 c) (data_arr m c 4) (fun _ => rfl), before0_5_of m (data m 0 c) (data_arr m c 5) (fun _ => rfl), before0_6_of m (data m 0 c) (data_arr m c 6) (fun _ => rfl), before0_7_of m (data m 0 c) (data_arr m c 7) (fun _ => rfl), before0_8_of m (data m 0 c) (data_arr m c 8) (fun _ => rfl), before0_9_of m (data m 0 c) (data_arr m c 9) (fun _ => rfl), before0_10_of m (data m 0 c) (data_arr m c 10) (fun _ => rfl)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  rw [← sum_step (gate0 m c) t _ (before_17 m c t d17), ← sum_step (gate1 m c) t _ (before_18 m c t d18), ← sum_step (gate2 m c) t _ (before_19 m c t d19)]
  iapply (body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((data m 0 c).before 17 t d17) ((data m 0 c).before 18 t d18) ((data m 0 c).before 19 t d19) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [H19]; · iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option backward.isDefEq.respectTransparency.types false in
/-- The launch: it ends with every window's array at what the proof data give, and with all counters at zero. -/
theorem launch : θ_run defs (onTc (τ := τ) (main (F := F))) (s₀ m ρ) (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_arr m) (hΦ := fun _ _ => rfl)

theorem run : θ_run defs (onTc (τ := τ) (main (F := F))) (s₀ m ρ) (Pipeline.FramePost cfgs (data m) 0 (V m)) :=
  (θ_run defs _ _).mono (fun _ h => h.1) (launch m ρ)

/-- What every run ends with: the results at what the proof data give, the arguments as they were. -/
theorem run_blocks : θ_run defs (onTc (τ := τ) (main (F := F))) ⟨m, fun _ => 0, ρ⟩ fun r => ∀ c : Dev nD,
      r.2.mem ((c.tc : Thread nD τ).loc main_v3_0) = (data m 0 c).arrAt 11 cfg0.N
      ∧ r.2.mem ((c.tc : Thread nD τ).loc main_v3_1) = (data m 0 c).arrAt 12 cfg0.N
      ∧ r.2.mem ((c.tc : Thread nD τ).loc main_v3_2) = (data m 0 c).arrAt 13 cfg0.N
      ∧ r.2.mem ((c.tc : Thread nD τ).loc main_v3_3) = (data m 0 c).arrAt 14 cfg0.N
      ∧ r.2.mem ((c.tc : Thread nD τ).loc main_v3_4) = (data m 0 c).arrAt 15 cfg0.N
      ∧ r.2.mem ((c.tc : Thread nD τ).loc main_v3_5) = (data m 0 c).arrAt 16 cfg0.N
      ∧ r.2.mem ((c.tc : Thread nD τ).loc main_v3_6) = (data m 0 c).arrAt 17 cfg0.N
      ∧ r.2.mem ((c.tc : Thread nD τ).loc main_v3_7) = (data m 0 c).arrAt 18 cfg0.N
      ∧ r.2.mem ((c.tc : Thread nD τ).loc main_v3_8) = (data m 0 c).arrAt 19 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 11, (h.1 c).1 12, (h.1 c).1 13, (h.1 c).1 14, (h.1 c).1 15, (h.1 c).1 16, (h.1 c).1 17, (h.1 c).1 18, (h.1 c).1 19, h.2 c⟩)
    (θ_run_and (run m ρ) (frame_of m ρ (data m) (data_arr m) (run m ρ)))

theorem idealFrame : Cert.quiescent_ODxIdeal := fun m g _ =>
  θ_run_and (frame_of m g (data m) (data_arr m) (run m g)) ((θ_run defs _ _).mono (fun _ h => h.2) (launch m g))

set_option maxHeartbeats 4000000 in
/-- The kernel's and its idealization's function tables are one. -/
theorem table_eq : Cert.ODx.defs₀ (F := F) = defs₀ (F := F) := by
  refine congrArg Defs.onTc (funext fun l => ?_)
  obtain ⟨l, hl⟩ := l
  cases l with
  | zero => rfl
  | succ n => exact absurd hl (by omega)

theorem defs_eq : Cert.ODx.defs (F := F) = defs (F := F) := congrArg (Pipeline.defs pcfgs) table_eq

theorem kernelFrame : Cert.quiescent_ODx := by
  intro m g _
  rw [defs_eq]
  exact θ_run_and (frame_of m g (data m) (data_arr m) (run m g)) ((θ_run defs _ _).mono (fun _ h => h.2) (launch m g))

end Cert.ODxIdeal.Rows

end
-- ==== Proof.ODx.lean ====
/- The gradient through the output projection and the three gates before it: the kernel's nine results are the reference's. -/
module

public import proofs.«01_k».proof.Proof.ODxRun
public import proofs.«01_k».proof.Proof.Gen.ODxRefIdeal.Run
public import proofs.«01_k».proof.Proof.Gate

@[expose] public section

set_option maxRecDepth 16384

noncomputable section

namespace Cert.Gates

open Idealize.ShloMosaic Cert.Mm Cert.Glu

variable (Z : Shape.Idx ⟨2, ![8192, 3072]⟩ → EReal) (U : Shape.Idx ⟨2, ![8192, 1024]⟩ → EReal) (G : Shape.Idx ⟨2, ![1, 3072]⟩ → EReal)
  (W : Shape.Idx ⟨2, ![1024, 1024]⟩ → EReal) (D : Shape.Idx ⟨2, ![8192, 1024]⟩ → EReal)

/-- The argument of gate `k`: a third of the gates' columns, with the bias's. -/
def arg (k : Fin 3) (p : Fin 8192) (q : Fin 1024) : EReal := Z (ix2 p ⟨k.val * 1024 + q.val, by omega⟩) + G (ix2 0 ⟨k.val * 1024 + q.val, by omega⟩)

/-- The gradient of branch `k`'s rows, of gate `k`'s argument, and of its bias. -/
def branch (k : Fin 3) : Shape.Idx ⟨2, ![8192, 1024]⟩ → EReal := fun j => nt D W (j 0) (j 1) * logi (arg Z G k (j 0) (j 1))
def grad (k : Fin 3) : Shape.Idx ⟨2, ![8192, 1024]⟩ → EReal := fun j => gateSlope (nt D W (j 0) (j 1)) (U j) (arg Z G k (j 0) (j 1))
def bias (k : Fin 3) : Shape.Idx ⟨2, ![1, 1024]⟩ → EReal := fun j => ∑ r : Fin 8192, grad Z U G W D k (ix2 r (j 1))

end Cert.Gates

namespace Cert.ODxRefIdeal.Rows

open Idealize.ShloMosaic Idealize.ShloMosaic.TcCoe Idealize.SL.Sem
open Cert.ODxRefIdeal Cert.ODxRefIdeal.Gen Cert.Mm Cert.Glu Cert.Gates

/-- The reference's gradient of the gated sum. -/
def dv (W : FVec Ideal S1024x1024 .bf16) (D : FVec Ideal S8192x1024 .f32) : FVec Ideal S8192x1024 .f32 :=
  Host.dotGeneral dot_S8192x1024_S1024x1024_S8192x1024_1_1_0_0_n_n none (φ₁ := .f32) (φ₂ := .f32) D (extf .f32 W bitsLt_bf16_f32)

/-- A one at every entry. -/
def ones : FVec Ideal S8192x1024 .f32 := broadcastInDim S8192x1024 ![] bcast_S_S8192x1024 (constant S_ .f32 0x3F800000#32)

/-- The reference's gate, of its argument. -/
def sg (T : FVec Ideal S8192x1024 .f32) : FVec Ideal S8192x1024 .f32 := Host.divf ones (addf ones (Host.exp (Host.negf T)))

/-- The three gates' arguments. -/
def arg0 (Z : FVec Ideal S8192x3072 .bf16) (G : FVec Ideal S1x3072 .f32) : FVec Ideal S8192x1024 .f32 :=
  addf (extractStridedSlice S8192x1024 ![0, 0] (extf .f32 Z bitsLt_bf16_f32) slices_S8192x3072_S8192x1024_0_0) (broadcastInDim S8192x1024 ![0, 1] bcast_S1x1024_S8192x1024_0_1 (extractStridedSlice S1x1024 ![0, 0] G slices_S1x3072_S1x1024_0_0))
def arg1 (Z : FVec Ideal S8192x3072 .bf16) (G : FVec Ideal S1x3072 .f32) : FVec Ideal S8192x1024 .f32 :=
  addf (extractStridedSlice S8192x1024 ![0, 1024] (extf .f32 Z bitsLt_bf16_f32) slices_S8192x3072_S8192x1024_0_1024) (broadcastInDim S8192x1024 ![0, 1] bcast_S1x1024_S8192x1024_0_1 (extractStridedSlice S1x1024 ![0, 1024] G slices_S1x3072_S1x1024_0_1024))
def arg2 (Z : FVec Ideal S8192x3072 .bf16) (G : FVec Ideal S1x3072 .f32) : FVec Ideal S8192x1024 .f32 :=
  addf (extractStridedSlice S8192x1024 ![0, 2048] (extf .f32 Z bitsLt_bf16_f32) slices_S8192x3072_S8192x1024_0_2048) (broadcastInDim S8192x1024 ![0, 1] bcast_S1x1024_S8192x1024_0_1 (extractStridedSlice S1x1024 ![0, 2048] G slices_S1x3072_S1x1024_0_2048))

section Gate

variable (T : FVec Ideal S8192x1024 .f32) (U : FVec Ideal S8192x1024 .bf16) (W : FVec Ideal S1024x1024 .bf16) (D : FVec Ideal S8192x1024 .f32)

/-- One gate's three results, of the gate's argument. -/
def outBranch : FVec Ideal S8192x1024 .bf16 := truncf .bf16 (mulf (sg T) (dv W D)) bitsLt_bf16_f32
def grad32 : FVec Ideal S8192x1024 .f32 := mulf (mulf (dv W D) (extf .f32 U bitsLt_bf16_f32)) (mulf (sg T) (subf ones (sg T)))
def outGrad : FVec Ideal S8192x1024 .bf16 := truncf .bf16 (grad32 T U W D) bitsLt_bf16_f32
def outBias : FVec Ideal S1x1024 .f32 := shapeCast _ (Host.reduceAdd (grad32 T U W D) (constant S_ .f32 0x00000000#32) reducesTo_S8192x1024_S1024_d0 h_S_) shapeCasts_S1024_S1x1024

theorem dv_at (p : Fin 8192) (q : Fin 1024) : dv W D (ix2 p q) = nt D W p q := by
  pointwise [dv, nt]

theorem ones_at (p : Fin 8192) (q : Fin 1024) : ones (ix2 p q) = (1 : EReal) := by
  pointwise [ones]

theorem sg_at (p : Fin 8192) (q : Fin 1024) : sg T (ix2 p q) = logi (T (ix2 p q)) := by
  pointwise [sg, ones, logi]

theorem branch_at (p : Fin 8192) (q : Fin 1024) : outBranch T W D (ix2 p q) = (nt D W p q * logi (T (ix2 p q)) : EReal) := by
  have e : outBranch T W D (ix2 p q) = (sg T (ix2 p q) * dv W D (ix2 p q) : EReal) := by
    pointwise [outBranch]
  rw [e, dv_at, sg_at, mul_comm]

theorem grad_at (p : Fin 8192) (q : Fin 1024) : grad32 T U W D (ix2 p q) = gateSlope (nt D W p q) (U (ix2 p q)) (T (ix2 p q)) := by
  have e : grad32 T U W D (ix2 p q) = (dv W D (ix2 p q) * U (ix2 p q) * (sg T (ix2 p q) * (ones (ix2 p q) - sg T (ix2 p q))) : EReal) := by
    pointwise [grad32]
  rw [e, dv_at, sg_at, ones_at, gateSlope, mul_assoc _ (logi _)]

theorem bias_at (o : Fin 1) (q : Fin 1024) : outBias T U W D (ix2 o q) = ∑ r : Fin 8192, grad32 T U W D (ix2 r q) := by
  pointwise [outBias]

end Gate

section Results

variable (Z : FVec Ideal S8192x3072 .bf16) (G : FVec Ideal S1x3072 .f32) (U : FVec Ideal S8192x1024 .bf16) (W : FVec Ideal S1024x1024 .bf16) (D : FVec Ideal S8192x1024 .f32)

theorem arg0_at (p : Fin 8192) (q : Fin 1024) : arg0 Z G (ix2 p q) = arg Z G 0 p q := by
  pointwise [arg0, arg]

theorem arg1_at (p : Fin 8192) (q : Fin 1024) : arg1 Z G (ix2 p q) = arg Z G 1 p q := by
  pointwise [arg1, arg]

theorem arg2_at (p : Fin 8192) (q : Fin 1024) : arg2 Z G (ix2 p q) = arg Z G 2 p q := by
  pointwise [arg2, arg]

/-- If a gate's argument is a third of the columns, its three results are those the mathematics gives. -/
theorem branch_eq (k : Fin 3) (T : FVec Ideal S8192x1024 .f32) (h : ∀ p q, T (ix2 p q) = arg Z G k p q) : outBranch T W D = branch Z G W D k := by
  funext j
  idx_vars j
  exact (branch_at T W D j0 j1).trans (congrArg (fun x : EReal => nt D W j0 j1 * logi x) (h j0 j1))

theorem grad_eq (k : Fin 3) (T : FVec Ideal S8192x1024 .f32) (h : ∀ p q, T (ix2 p q) = arg Z G k p q) : grad32 T U W D = grad Z U G W D k := by
  funext j
  idx_vars j
  exact (grad_at T U W D j0 j1).trans (congrArg (gateSlope (nt D W j0 j1) (U (ix2 j0 j1))) (h j0 j1))

theorem bias_eq (k : Fin 3) (T : FVec Ideal S8192x1024 .f32) (h : ∀ p q, T (ix2 p q) = arg Z G k p q) : outBias T U W D = bias Z U G W D k := by
  funext j
  idx_vars j
  exact (bias_at T U W D j0 j1).trans (Finset.sum_congr rfl fun r _ => congrFun (grad_eq Z G U W D k T h) (ix2 r j1))

end Results

/-- The reference's run with its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = outBranch (arg0 (m ((c.tc : Thread nD τ).loc main_arg0)) (m ((c.tc : Thread nD τ).loc main_arg4))) (m ((c.tc : Thread nD τ).loc main_arg5)) (m ((c.tc : Thread nD τ).loc main_arg6))
      ∧ r.2.mem ((c.tc : Thread nD τ).loc main_v67) = outBranch (arg1 (m ((c.tc : Thread nD τ).loc main_arg0)) (m ((c.tc : Thread nD τ).loc main_arg4))) (m ((c.tc : Thread nD τ).loc main_arg5)) (m ((c.tc : Thread nD τ).loc main_arg6))
      ∧ r.2.mem ((c.tc : Thread nD τ).loc main_v68) = outBranch (arg2 (m ((c.tc : Thread nD τ).loc main_arg0)) (m ((c.tc : Thread nD τ).loc main_arg4))) (m ((c.tc : Thread nD τ).loc main_arg5)) (m ((c.tc : Thread nD τ).loc main_arg6))
      ∧ r.2.mem ((c.tc : Thread nD τ).loc main_v69) = outGrad (arg0 (m ((c.tc : Thread nD τ).loc main_arg0)) (m ((c.tc : Thread nD τ).loc main_arg4))) (m ((c.tc : Thread nD τ).loc main_arg1)) (m ((c.tc : Thread nD τ).loc main_arg5)) (m ((c.tc : Thread nD τ).loc main_arg6))
      ∧ r.2.mem ((c.tc : Thread nD τ).loc main_v70) = outGrad (arg1 (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6))
      ∧ r.2.mem ((c.tc : Thread nD τ).loc main_v71) = outGrad (arg2 (m ((c.tc : Thread nD τ).loc main_arg0)) (m ((c.tc : Thread nD τ).loc main_arg4))) (m ((c.tc : Thread nD τ).loc main_arg3)) (m ((c.tc : Thread nD τ).loc main_arg5)) (m ((c.tc : Thread nD τ).loc main_arg6))
      ∧ r.2.mem ((c.tc : Thread nD τ).loc main_v65) = outBias (arg0 (m ((c.tc : Thread nD τ).loc main_arg0)) (m ((c.tc : Thread nD τ).loc main_arg4))) (m ((c.tc : Thread nD τ).loc main_arg1)) (m ((c.tc : Thread nD τ).loc main_arg5)) (m ((c.tc : Thread nD τ).loc main_arg6))
      ∧ r.2.mem ((c.tc : Thread nD τ).loc main_v60) = outBias (arg1 (m ((c.tc : Thread nD τ).loc main_arg0)) (m ((c.tc : Thread nD τ).loc main_arg4))) (m ((c.tc : Thread nD τ).loc main_arg2)) (m ((c.tc : Thread nD τ).loc main_arg5)) (m ((c.tc : Thread nD τ).loc main_arg6))
      ∧ r.2.mem ((c.tc : Thread nD τ).loc main_v55) = outBias (arg2 (m ((c.tc : Thread nD τ).loc main_arg0)) (m ((c.tc : Thread nD τ).loc main_arg4))) (m ((c.tc : Thread nD τ).loc main_arg3)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Cert.ODxRefIdeal.Value.run m ρ)

/-- The reference's run ends with the results the mathematics gives. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = branch (m ((c.tc : Thread nD τ).loc main_arg0)) (m ((c.tc : Thread nD τ).loc main_arg4)) (m ((c.tc : Thread nD τ).loc main_arg5)) (m ((c.tc : Thread nD τ).loc main_arg6)) 0
      ∧ r.2.mem ((c.tc : Thread nD τ).loc main_v67) = branch (m ((c.tc : Thread nD τ).loc main_arg0)) (m ((c.tc : Thread nD τ).loc main_arg4)) (m ((c.tc : Thread nD τ).loc main_arg5)) (m ((c.tc : Thread nD τ).loc main_arg6)) 1
      ∧ r.2.mem ((c.tc : Thread nD τ).loc main_v68) = branch (m ((c.tc : Thread nD τ).loc main_arg0)) (m ((c.tc : Thread nD τ).loc main_arg4)) (m ((c.tc : Thread nD τ).loc main_arg5)) (m ((c.tc : Thread nD τ).loc main_arg6)) 2
      ∧ r.2.mem ((c.tc : Thread nD τ).loc main_v69) = grad (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) 0
      ∧ r.2.mem ((c.tc : Thread nD τ).loc main_v70) = grad (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) 1
      ∧ r.2.mem ((c.tc : Thread nD τ).loc main_v71) = grad (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) 2
      ∧ r.2.mem ((c.tc : Thread nD τ).loc main_v65) = bias (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) 0
      ∧ r.2.mem ((c.tc : Thread nD τ).loc main_v60) = bias (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) 1
      ∧ r.2.mem ((c.tc : Thread nD τ).loc main_v55) = bias (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (branch_eq _ _ _ _ 0 _ (arg0_at _ _)), (h c).2.1.trans (branch_eq _ _ _ _ 1 _ (arg1_at _ _)), (h c).2.2.1.trans (branch_eq _ _ _ _ 2 _ (arg2_at _ _)), (h c).2.2.2.1.trans (grad_eq _ _ _ _ _ 0 _ (arg0_at _ _)), (h c).2.2.2.2.1.trans (grad_eq _ _ _ _ _ 1 _ (arg1_at _ _)), (h c).2.2.2.2.2.1.trans (grad_eq _ _ _ _ _ 2 _ (arg2_at _ _)), (h c).2.2.2.2.2.2.1.trans (bias_eq _ _ _ _ _ 0 _ (arg0_at _ _)), (h c).2.2.2.2.2.2.2.1.trans (bias_eq _ _ _ _ _ 1 _ (arg1_at _ _)), (h c).2.2.2.2.2.2.2.2.1.trans (bias_eq _ _ _ _ _ 2 _ (arg2_at _ _)), (h c).2.2.2.2.2.2.2.2.2⟩) (run_named m ρ)

end Cert.ODxRefIdeal.Rows

namespace Cert.ODxIdeal.Rows

open Idealize.ShloMosaic Idealize.ShloMosaic.TcCoe Idealize.SL.Sem
open Cert.ODxIdeal Cert.ODxIdeal.Gen Cert.Mm Cert.Glu Cert.Gates

section Payloads

variable (x0 : Vec Ideal S512x1024 .f32) (x1 : Vec Ideal S1024x1024 .bf16) (z u : Vec Ideal S512x1024 .bf16) (b : Vec Ideal S1x1024 .f32) (p : Fin 512) (q : Fin 1024)

theorem pay9_at : k0_pay9 (F := Ideal) x0 x1 (ix2 p q) = nt x0 x1 p q := by
  pointwise [k0_pay9, nt]

theorem pay12_at : k0_pay12 (F := Ideal) z b (ix2 p q) = logi (z (ix2 p q) + b (ix2 0 q)) := by
  pointwise [k0_pay12]
  rw [zero_sub]
  rfl

theorem branch_at : branchOf (F := Ideal) x0 x1 z b (ix2 p q) = (nt x0 x1 p q * logi (z (ix2 p q) + b (ix2 0 q)) : EReal) := by
  have e : branchOf (F := Ideal) x0 x1 z b (ix2 p q) = (k0_pay9 (F := Ideal) x0 x1 (ix2 p q) * k0_pay12 (F := Ideal) z b (ix2 p q) : EReal) := by
    pointwise [branchOf, k0_pay25, k0_pay13]
  rw [e, pay9_at, pay12_at]

theorem gate_at : gateOf (F := Ideal) x0 x1 z u b (ix2 p q) = gateSlope (nt x0 x1 p q) (u (ix2 p q)) (z (ix2 p q) + b (ix2 0 q)) := by
  have e : gateOf (F := Ideal) x0 x1 z u b (ix2 p q) = (k0_pay9 (F := Ideal) x0 x1 (ix2 p q) * u (ix2 p q) * k0_pay12 (F := Ideal) z b (ix2 p q) * (1 - k0_pay12 (F := Ideal) z b (ix2 p q)) : EReal) := by
    pointwise [gateOf, k0_pay15, k0_pay14]
  rw [e, pay9_at, pay12_at, gateSlope]

end Payloads

theorem sum_fst_at (r : Vec Ideal S1x1024 .f32) (d : FVec Ideal S512x1024 .f32) (o : Fin 1) (q : Fin 1024) : sumOf r 1#1 d (ix2 o q) = ∑ p, d (ix2 p q) := by
  pointwise [sumOf, k0_pay6, cols]

theorem sum_next_at (r : Vec Ideal S1x1024 .f32) (d : FVec Ideal S512x1024 .f32) (o : Fin 1) (q : Fin 1024) : sumOf r 0#1 d (ix2 o q) = (r (ix2 o q) + ∑ p, d (ix2 p q) : EReal) := by
  pointwise [sumOf, k0_pay6, cols]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 1] ∧ win0_4.index t = ![t.val, 2]
    ∧ win0_5.index t = ![t.val, 0] ∧ win0_6.index t = ![t.val, 0] ∧ win0_7.index t = ![t.val, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0] ∧ win0_15.index t = ![t.val, 0]
    ∧ win0_16.index t = ![t.val, 0] ∧ win0_17.index t = ![0, 0] ∧ win0_18.index t = ![0, 0] ∧ win0_19.index t = ![0, 0] :=
  (by decide +kernel : ∀ t : Fin grid0.N, _)

/-- The gates' rows, the three branches, the gates' bias, the projection's weights, and the gradient of the projection. -/
def aZ : Vec Ideal S8192x3072 .bf16 := m ((c.tc : Thread nD τ).loc main_arg0)
def aU0 : Vec Ideal S8192x1024 .bf16 := m ((c.tc : Thread nD τ).loc main_arg1)
def aU1 : Vec Ideal S8192x1024 .bf16 := m ((c.tc : Thread nD τ).loc main_arg2)
def aU2 : Vec Ideal S8192x1024 .bf16 := m ((c.tc : Thread nD τ).loc main_arg3)
def aG : Vec Ideal S1x3072 .f32 := m ((c.tc : Thread nD τ).loc main_arg4)
def aW : Vec Ideal S1024x1024 .bf16 := m ((c.tc : Thread nD τ).loc main_arg5)
def aD : Vec Ideal S8192x1024 .f32 := m ((c.tc : Thread nD τ).loc main_arg6)

theorem blk_nt (t : Fin cfg0.N) (p : Fin 512) (q : Fin 1024) (hp : t.val * 512 + p.val < 8192) :
    nt (iblk m c 0 t) (iblk m c 1 t) p q = nt (aD m c) (aW m c) ⟨t.val * 512 + p.val, hp⟩ q := by
  refine Finset.sum_congr rfl fun l _ => congrArg₂ (· * ·) ?_ ?_
  · blk_ext [iblk, V, aD, V_main_arg6 m c, idx t]
  · blk_ext [iblk, V, aW, V_main_arg5 m c, idx t]

theorem blk_u0 (t : Fin cfg0.N) (p : Fin 512) (q : Fin 1024) (hp : t.val * 512 + p.val < 8192) :
    (iblk m c 5 t (ix2 p q) : EReal) = aU0 m c (ix2 ⟨t.val * 512 + p.val, hp⟩ q) := by
  blk_ext [iblk, V, aU0, V_main_arg1 m c, idx t]

theorem blk_z0 (t : Fin cfg0.N) (p : Fin 512) (q : Fin 1024) (hp : t.val * 512 + p.val < 8192) (hq : (0 : Fin 3).val * 1024 + q.val < 3072) :
    (iblk m c 2 t (ix2 p q) : EReal) = aZ m c (ix2 ⟨t.val * 512 + p.val, hp⟩ ⟨(0 : Fin 3).val * 1024 + q.val, hq⟩) := by
  blk_ext [iblk, V, aZ, V_main_arg0 m c, idx t]

theorem blk_b0 (t : Fin cfg0.N) (q : Fin 1024) (hq : (0 : Fin 3).val * 1024 + q.val < 3072) :
    (iblk m c 8 t (ix2 0 q) : EReal) = aG m c (ix2 0 ⟨(0 : Fin 3).val * 1024 + q.val, hq⟩) := by
  blk_simp [iblk, idx t]
  entry_read
  pointwise [aG]
  refine congrArg (aG m c) ?_
  blk_ext [idx t]

theorem blk_arg0 (t : Fin cfg0.N) (p : Fin 512) (q : Fin 1024) (hp : t.val * 512 + p.val < 8192) :
    HAdd.hAdd (α := EReal) (β := EReal) (γ := EReal) (iblk m c 2 t (ix2 p q)) (iblk m c 8 t (ix2 0 q)) = arg (aZ m c) (aG m c) 0 ⟨t.val * 512 + p.val, hp⟩ q :=
  congrArg₂ (fun x y : EReal => x + y) (blk_z0 m c t p q hp _) (blk_b0 m c t q _)

theorem blk_branch0 (t : Fin cfg0.N) (p : Fin 512) (q : Fin 1024) (hp : t.val * 512 + p.val < 8192) :
    branchOf (F := Ideal) (iblk m c 0 t) (iblk m c 1 t) (iblk m c 2 t) (iblk m c 8 t) (ix2 p q) = branch (aZ m c) (aG m c) (aW m c) (aD m c) 0 (ix2 ⟨t.val * 512 + p.val, hp⟩ q) := by
  refine (branch_at (iblk m c 0 t) (iblk m c 1 t) (iblk m c 2 t) (iblk m c 8 t) p q).trans ?_
  exact congrArg₂ (fun x y : EReal => x * logi y) (blk_nt m c t p q hp) (blk_arg0 m c t p q hp)

theorem blk_gate0 (t : Fin cfg0.N) (p : Fin 512) (q : Fin 1024) (hp : t.val * 512 + p.val < 8192) :
    gate0 (F := Ideal) m c t (ix2 p q) = grad (aZ m c) (aU0 m c) (aG m c) (aW m c) (aD m c) 0 (ix2 ⟨t.val * 512 + p.val, hp⟩ q) := by
  refine (gate_at (iblk m c 0 t) (iblk m c 1 t) (iblk m c 2 t) (iblk m c 5 t) (iblk m c 8 t) p q).trans ?_
  rw [blk_nt m c t p q hp, blk_u0 m c t p q hp, blk_arg0 m c t p q hp]
  rfl

theorem blk_u1 (t : Fin cfg0.N) (p : Fin 512) (q : Fin 1024) (hp : t.val * 512 + p.val < 8192) :
    (iblk m c 6 t (ix2 p q) : EReal) = aU1 m c (ix2 ⟨t.val * 512 + p.val, hp⟩ q) := by
  blk_ext [iblk, V, aU1, V_main_arg2 m c, idx t]

theorem blk_z1 (t : Fin cfg0.N) (p : Fin 512) (q : Fin 1024) (hp : t.val * 512 + p.val < 8192) (hq : (1 : Fin 3).val * 1024 + q.val < 3072) :
    (iblk m c 3 t (ix2 p q) : EReal) = aZ m c (ix2 ⟨t.val * 512 + p.val, hp⟩ ⟨(1 : Fin 3).val * 1024 + q.val, hq⟩) := by
  blk_ext [iblk, V, aZ, V_main_arg0 m c, idx t]

theorem blk_b1 (t : Fin cfg0.N) (q : Fin 1024) (hq : (1 : Fin 3).val * 1024 + q.val < 3072) :
    (iblk m c 9 t (ix2 0 q) : EReal) = aG m c (ix2 0 ⟨(1 : Fin 3).val * 1024 + q.val, hq⟩) := by
  blk_simp [iblk, idx t]
  entry_read
  pointwise [aG]
  refine congrArg (aG m c) ?_
  blk_ext [idx t]

theorem blk_arg1 (t : Fin cfg0.N) (p : Fin 512) (q : Fin 1024) (hp : t.val * 512 + p.val < 8192) :
    HAdd.hAdd (α := EReal) (β := EReal) (γ := EReal) (iblk m c 3 t (ix2 p q)) (iblk m c 9 t (ix2 0 q)) = arg (aZ m c) (aG m c) 1 ⟨t.val * 512 + p.val, hp⟩ q :=
  congrArg₂ (fun x y : EReal => x + y) (blk_z1 m c t p q hp _) (blk_b1 m c t q _)

theorem blk_branch1 (t : Fin cfg0.N) (p : Fin 512) (q : Fin 1024) (hp : t.val * 512 + p.val < 8192) :
    branchOf (F := Ideal) (iblk m c 0 t) (iblk m c 1 t) (iblk m c 3 t) (iblk m c 9 t) (ix2 p q) = branch (aZ m c) (aG m c) (aW m c) (aD m c) 1 (ix2 ⟨t.val * 512 + p.val, hp⟩ q) := by
  refine (branch_at (iblk m c 0 t) (iblk m c 1 t) (iblk m c 3 t) (iblk m c 9 t) p q).trans ?_
  exact congrArg₂ (fun x y : EReal => x * logi y) (blk_nt m c t p q hp) (blk_arg1 m c t p q hp)

theorem blk_gate1 (t : Fin cfg0.N) (p : Fin 512) (q : Fin 1024) (hp : t.val * 512 + p.val < 8192) :
    gate1 (F := Ideal) m c t (ix2 p q) = grad (aZ m c) (aU1 m c) (aG m c) (aW m c) (aD m c) 1 (ix2 ⟨t.val * 512 + p.val, hp⟩ q) := by
  refine (gate_at (iblk m c 0 t) (iblk m c 1 t) (iblk m c 3 t) (iblk m c 6 t) (iblk m c 9 t) p q).trans ?_
  rw [blk_nt m c t p q hp, blk_u1 m c t p q hp, blk_arg1 m c t p q hp]
  rfl

theorem blk_u2 (t : Fin cfg0.N) (p : Fin 512) (q : Fin 1024) (hp : t.val * 512 + p.val < 8192) :
    (iblk m c 7 t (ix2 p q) : EReal) = aU2 m c (ix2 ⟨t.val * 512 + p.val, hp⟩ q) := by
  blk_ext [iblk, V, aU2, V_main_arg3 m c, idx t]

theorem blk_z2 (t : Fin cfg0.N) (p : Fin 512) (q : Fin 1024) (hp : t.val * 512 + p.val < 8192) (hq : (2 : Fin 3).val * 1024 + q.val < 3072) :
    (iblk m c 4 t (ix2 p q) : EReal) = aZ m c (ix2 ⟨t.val * 512 + p.val, hp⟩ ⟨(2 : Fin 3).val * 1024 + q.val, hq⟩) := by
  blk_ext [iblk, V, aZ, V_main_arg0 m c, idx t]

theorem blk_b2 (t : Fin cfg0.N) (q : Fin 1024) (hq : (2 : Fin 3).val * 1024 + q.val < 3072) :
    (iblk m c 10 t (ix2 0 q) : EReal) = aG m c (ix2 0 ⟨(2 : Fin 3).val * 1024 + q.val, hq⟩) := by
  blk_simp [iblk, idx t]
  entry_read
  pointwise [aG]
  refine congrArg (aG m c) ?_
  blk_ext [idx t]

theorem blk_arg2 (t : Fin cfg0.N) (p : Fin 512) (q : Fin 1024) (hp : t.val * 512 + p.val < 8192) :
    HAdd.hAdd (α := EReal) (β := EReal) (γ := EReal) (iblk m c 4 t (ix2 p q)) (iblk m c 10 t (ix2 0 q)) = arg (aZ m c) (aG m c) 2 ⟨t.val * 512 + p.val, hp⟩ q :=
  congrArg₂ (fun x y : EReal => x + y) (blk_z2 m c t p q hp _) (blk_b2 m c t q _)

theorem blk_branch2 (t : Fin cfg0.N) (p : Fin 512) (q : Fin 1024) (hp : t.val * 512 + p.val < 8192) :
    branchOf (F := Ideal) (iblk m c 0 t) (iblk m c 1 t) (iblk m c 4 t) (iblk m c 10 t) (ix2 p q) = branch (aZ m c) (aG m c) (aW m c) (aD m c) 2 (ix2 ⟨t.val * 512 + p.val, hp⟩ q) := by
  refine (branch_at (iblk m c 0 t) (iblk m c 1 t) (iblk m c 4 t) (iblk m c 10 t) p q).trans ?_
  exact congrArg₂ (fun x y : EReal => x * logi y) (blk_nt m c t p q hp) (blk_arg2 m c t p q hp)

theorem blk_gate2 (t : Fin cfg0.N) (p : Fin 512) (q : Fin 1024) (hp : t.val * 512 + p.val < 8192) :
    gate2 (F := Ideal) m c t (ix2 p q) = grad (aZ m c) (aU2 m c) (aG m c) (aW m c) (aD m c) 2 (ix2 ⟨t.val * 512 + p.val, hp⟩ q) := by
  refine (gate_at (iblk m c 0 t) (iblk m c 1 t) (iblk m c 4 t) (iblk m c 7 t) (iblk m c 10 t) p q).trans ?_
  rw [blk_nt m c t p q hp, blk_u2 m c t p q hp, blk_arg2 m c t p q hp]
  rfl

theorem final_branch0 : (data m 0 c).arrAt 11 cfg0.N = branch (aZ m c) (aG m c) (aW m c) (aD m c) 0 := by
  refine (data m 0 c).arrAt_eq_of_covers 11 _ (by decide +kernel) fun t hf y => ?_
  have hN : t.val < 16 := lt_of_lt_of_eq t.isLt N_0
  blk_simp
  rw [after_11]
  idx_vars y
  have hp : t.val * 512 + y0.val < 8192 := by omega
  have hi : ((View.whole main_v3_0).slice (win0_11.rect t)).emb (ix2 y0 y1) = ix2 ⟨t.val * 512 + y0.val, hp⟩ y1 := by
    blk_ext [idx t]
  exact (blk_branch0 m c t y0 y1 hp).trans (congrArg (branch (aZ m c) (aG m c) (aW m c) (aD m c) 0) hi.symm)

theorem final_branch1 : (data m 0 c).arrAt 12 cfg0.N = branch (aZ m c) (aG m c) (aW m c) (aD m c) 1 := by
  refine (data m 0 c).arrAt_eq_of_covers 12 _ (by decide +kernel) fun t hf y => ?_
  have hN : t.val < 16 := lt_of_lt_of_eq t.isLt N_0
  blk_simp
  rw [after_12]
  idx_vars y
  have hp : t.val * 512 + y0.val < 8192 := by omega
  have hi : ((View.whole main_v3_1).slice (win0_12.rect t)).emb (ix2 y0 y1) = ix2 ⟨t.val * 512 + y0.val, hp⟩ y1 := by
    blk_ext [idx t]
  exact (blk_branch1 m c t y0 y1 hp).trans (congrArg (branch (aZ m c) (aG m c) (aW m c) (aD m c) 1) hi.symm)

theorem final_branch2 : (data m 0 c).arrAt 13 cfg0.N = branch (aZ m c) (aG m c) (aW m c) (aD m c) 2 := by
  refine (data m 0 c).arrAt_eq_of_covers 13 _ (by decide +kernel) fun t hf y => ?_
  have hN : t.val < 16 := lt_of_lt_of_eq t.isLt N_0
  blk_simp
  rw [after_13]
  idx_vars y
  have hp : t.val * 512 + y0.val < 8192 := by omega
  have hi : ((View.whole main_v3_2).slice (win0_13.rect t)).emb (ix2 y0 y1) = ix2 ⟨t.val * 512 + y0.val, hp⟩ y1 := by
    blk_ext [idx t]
  exact (blk_branch2 m c t y0 y1 hp).trans (congrArg (branch (aZ m c) (aG m c) (aW m c) (aD m c) 2) hi.symm)

theorem final_grad0 : (data m 0 c).arrAt 14 cfg0.N = grad (aZ m c) (aU0 m c) (aG m c) (aW m c) (aD m c) 0 := by
  refine (data m 0 c).arrAt_eq_of_covers 14 _ (by decide +kernel) fun t hf y => ?_
  have hN : t.val < 16 := lt_of_lt_of_eq t.isLt N_0
  blk_simp
  rw [after_14]
  idx_vars y
  have hp : t.val * 512 + y0.val < 8192 := by omega
  have hi : ((View.whole main_v3_3).slice (win0_14.rect t)).emb (ix2 y0 y1) = ix2 ⟨t.val * 512 + y0.val, hp⟩ y1 := by
    blk_ext [idx t]
  exact (blk_gate0 m c t y0 y1 hp).trans (congrArg (grad (aZ m c) (aU0 m c) (aG m c) (aW m c) (aD m c) 0) hi.symm)

theorem final_grad1 : (data m 0 c).arrAt 15 cfg0.N = grad (aZ m c) (aU1 m c) (aG m c) (aW m c) (aD m c) 1 := by
  refine (data m 0 c).arrAt_eq_of_covers 15 _ (by decide +kernel) fun t hf y => ?_
  have hN : t.val < 16 := lt_of_lt_of_eq t.isLt N_0
  blk_simp
  rw [after_15]
  idx_vars y
  have hp : t.val * 512 + y0.val < 8192 := by omega
  have hi : ((View.whole main_v3_4).slice (win0_15.rect t)).emb (ix2 y0 y1) = ix2 ⟨t.val * 512 + y0.val, hp⟩ y1 := by
    blk_ext [idx t]
  exact (blk_gate1 m c t y0 y1 hp).trans (congrArg (grad (aZ m c) (aU1 m c) (aG m c) (aW m c) (aD m c) 1) hi.symm)

theorem final_grad2 : (data m 0 c).arrAt 16 cfg0.N = grad (aZ m c) (aU2 m c) (aG m c) (aW m c) (aD m c) 2 := by
  refine (data m 0 c).arrAt_eq_of_covers 16 _ (by decide +kernel) fun t hf y => ?_
  have hN : t.val < 16 := lt_of_lt_of_eq t.isLt N_0
  blk_simp
  rw [after_16]
  idx_vars y
  have hp : t.val * 512 + y0.val < 8192 := by omega
  have hi : ((View.whole main_v3_5).slice (win0_16.rect t)).emb (ix2 y0 y1) = ix2 ⟨t.val * 512 + y0.val, hp⟩ y1 := by
    blk_ext [idx t]
  exact (blk_gate2 m c t y0 y1 hp).trans (congrArg (grad (aZ m c) (aU2 m c) (aG m c) (aW m c) (aD m c) 2) hi.symm)

/-- The sum of one point's block is the sum of its rows of `H`. -/
theorem rows_share (D : Fin cfg0.N → FVec Ideal S512x1024 .f32) (H : Shape.Idx ⟨2, ![8192, 1024]⟩ → EReal)
    (hD : ∀ (t : Fin cfg0.N) (p : Fin 512) (q : Fin 1024) (hp : t.val * 512 + p.val < 8192), D t (ix2 p q) = H (ix2 ⟨t.val * 512 + p.val, hp⟩ q))
    (n : ℕ) (hn : n < cfg0.N) (s : ℕ) (hs : s < 16) (e : n = s) (q : Fin 1024) :
    (∑ p : Fin 512, (D ⟨n, hn⟩ (ix2 p q) : EReal)) = ∑ p : Fin 512, H (ix2 ⟨s * 512 + p.val, by omega⟩ q) := by
  subst e
  exact Finset.sum_congr rfl fun p _ => hD ⟨n, hn⟩ p q (by have := p.isLt; show n * 512 + p.val < 8192; omega)

/-- A sum after the last point: if the points' blocks are the blocks of the rows of `H`, it holds the columns' sums of `H`. -/
theorem sum_all (D : Fin cfg0.N → FVec Ideal S512x1024 .f32) (H : Shape.Idx ⟨2, ![8192, 1024]⟩ → EReal)
    (hD : ∀ (t : Fin cfg0.N) (p : Fin 512) (q : Fin 1024) (hp : t.val * 512 + p.val < 8192), D t (ix2 p q) = H (ix2 ⟨t.val * 512 + p.val, hp⟩ q))
    (hn : 15 < cfg0.N) (o : Fin 1) (q : Fin 1024) : sumAt (F := Ideal) D 15 hn (ix2 o q) = ∑ r : Fin 8192, H (ix2 r q) := by
  have hN : ∀ u : Fin cfg0.N, u.val < 16 := fun u => lt_of_lt_of_eq u.isLt N_0
  have h := Pipeline.eq_sum_fin_of_reset_step_apply_of_flush (fun n hn => sumAt (F := Ideal) D n hn) 16 (fun _ => (0 : EReal)) (fun t (j : S1x1024.Idx) => ∑ p : Fin 512, (D t (ix2 p (j 1)) : EReal))
    (fun t h j => by
      have h0 : t.val = 0 := by have := hN t; omega
      obtain ⟨n, hn⟩ := t
      obtain rfl : n = 0 := h0
      rw [zero_add, sumAt]
      idx_vars j
      exact sum_fst_at _ _ j0 j1)
    (fun t h j => by
      obtain ⟨n, hn⟩ := t
      cases n with
      | zero => exact absurd rfl h
      | succ n =>
        show sumAt (F := Ideal) D (n + 1) hn j = _
        rw [sumAt]
        idx_vars j
        exact sum_next_at _ _ j0 j1) ⟨15, hn⟩ rfl (ix2 o q)
  refine h.trans ?_
  rw [zero_add]
  refine (Finset.sum_congr rfl fun s _ => rows_share D H hD _ _ s.val s.isLt (by show 16 * (15 / 16) + s.val = s.val; omega) q).trans ?_
  exact Fin.sum_mul_add_congr (f := fun r : Fin 8192 => H (ix2 r q)) (fun s k hl => rfl) rfl

theorem final_bias0 : (data m 0 c).arrAt 17 cfg0.N = bias (aZ m c) (aU0 m c) (aG m c) (aW m c) (aD m c) 0 := by
  refine (data m 0 c).arrAt_eq_of_covers 17 _ (by decide +kernel) fun t hf y => ?_
  have hN : t.val < 16 := lt_of_lt_of_eq t.isLt N_0
  have ht : t.val = 15 := by have := (flush0_17 t).mp hf; omega
  blk_simp
  rw [after_17]
  idx_vars y
  have hi : ((View.whole main_v3_6).slice (win0_17.rect t)).emb (ix2 y0 y1) = ix2 y0 y1 := by
    blk_ext [idx t]
  refine Eq.trans ?_ (congrArg (bias (aZ m c) (aU0 m c) (aG m c) (aW m c) (aD m c) 0) hi.symm)
  obtain ⟨n, hn⟩ := t
  obtain rfl : n = 15 := ht
  exact sum_all (gate0 m c) (grad (aZ m c) (aU0 m c) (aG m c) (aW m c) (aD m c) 0) (blk_gate0 m c) hn y0 y1

theorem final_bias1 : (data m 0 c).arrAt 18 cfg0.N = bias (aZ m c) (aU1 m c) (aG m c) (aW m c) (aD m c) 1 := by
  refine (data m 0 c).arrAt_eq_of_covers 18 _ (by decide +kernel) fun t hf y => ?_
  have hN : t.val < 16 := lt_of_lt_of_eq t.isLt N_0
  have ht : t.val = 15 := by have := (flush0_18 t).mp hf; omega
  blk_simp
  rw [after_18]
  idx_vars y
  have hi : ((View.whole main_v3_7).slice (win0_18.rect t)).emb (ix2 y0 y1) = ix2 y0 y1 := by
    blk_ext [idx t]
  refine Eq.trans ?_ (congrArg (bias (aZ m c) (aU1 m c) (aG m c) (aW m c) (aD m c) 1) hi.symm)
  obtain ⟨n, hn⟩ := t
  obtain rfl : n = 15 := ht
  exact sum_all (gate1 m c) (grad (aZ m c) (aU1 m c) (aG m c) (aW m c) (aD m c) 1) (blk_gate1 m c) hn y0 y1

theorem final_bias2 : (data m 0 c).arrAt 19 cfg0.N = bias (aZ m c) (aU2 m c) (aG m c) (aW m c) (aD m c) 2 := by
  refine (data m 0 c).arrAt_eq_of_covers 19 _ (by decide +kernel) fun t hf y => ?_
  have hN : t.val < 16 := lt_of_lt_of_eq t.isLt N_0
  have ht : t.val = 15 := by have := (flush0_19 t).mp hf; omega
  blk_simp
  rw [after_19]
  idx_vars y
  have hi : ((View.whole main_v3_8).slice (win0_19.rect t)).emb (ix2 y0 y1) = ix2 y0 y1 := by
    blk_ext [idx t]
  refine Eq.trans ?_ (congrArg (bias (aZ m c) (aU2 m c) (aG m c) (aW m c) (aD m c) 2) hi.symm)
  obtain ⟨n, hn⟩ := t
  obtain rfl : n = 15 := ht
  exact sum_all (gate2 m c) (grad (aZ m c) (aU2 m c) (aG m c) (aW m c) (aD m c) 2) (blk_gate2 m c) hn y0 y1

end Cert.ODxIdeal.Rows

end
-- ==== Proof.lean ====
/- The claims: each is the run of one program, or of two, with what its arrays end holding. -/
module

public import proofs.«01_k».proof.Defs
public import proofs.«01_k».proof.Proof.MemPre
public import proofs.«01_k».proof.Proof.MemVal
public import proofs.«01_k».proof.Proof.Gen.Kernel.Frame
public import proofs.«01_k».proof.Proof.Gen.UpDx.Launch
public import proofs.«01_k».proof.Proof.Gen.UpDxIdeal.Frame
public import proofs.«01_k».proof.Proof.Gen.UpDxIdeal.Skeleton
public import proofs.«01_k».proof.Proof.Gen.GradXIdeal.Skeleton
public import proofs.«01_k».proof.Proof.Gen.UpDxRefIdeal.Run
public import proofs.«01_k».proof.Proof.Gen.GradX.Launch
public import proofs.«01_k».proof.Proof.Gen.GradXIdeal.Frame
public import proofs.«01_k».proof.Proof.Gen.GradXRefIdeal.Run
public import proofs.«01_k».proof.Proof.DownDx
public import proofs.«01_k».proof.Proof.Gen.DownDx.Frame
public import proofs.«01_k».proof.Proof.DownDw
public import proofs.«01_k».proof.Proof.Gen.DownDw.Frame
public import proofs.«01_k».proof.Proof.UpDw
public import proofs.«01_k».proof.Proof.Gen.UpDw.Frame
public import proofs.«01_k».proof.Proof.InADx
public import proofs.«01_k».proof.Proof.Gen.InADx.Frame
public import proofs.«01_k».proof.Proof.InADw
public import proofs.«01_k».proof.Proof.Gen.InADw.Frame
public import proofs.«01_k».proof.Proof.InGDw
public import proofs.«01_k».proof.Proof.Gen.InGDw.Frame
public import proofs.«01_k».proof.Proof.ODw
public import proofs.«01_k».proof.Proof.Gen.ODw.Frame
public import proofs.«01_k».proof.Proof.MlpUp
public import proofs.«01_k».proof.Proof.Gen.MlpUp.Frame
public import proofs.«01_k».proof.Proof.InA
public import proofs.«01_k».proof.Proof.Gen.InA.Frame
public import proofs.«01_k».proof.Proof.InG
public import proofs.«01_k».proof.Proof.Gen.InG.Frame
public import proofs.«01_k».proof.Proof.Gen.Down.Launch
public import proofs.«01_k».proof.Proof.Gen.DownIdeal.Frame
public import proofs.«01_k».proof.Proof.Gen.DownIdeal.Skeleton
public import proofs.«01_k».proof.Proof.Gen.DownRefIdeal.Run
public import proofs.«01_k».proof.Proof.UpDx
public import proofs.«01_k».proof.Proof.GradX
public import proofs.«01_k».proof.Proof.Down
public import proofs.«01_k».proof.Proof.BrDw
public import proofs.«01_k».proof.Proof.AttnDw
public import proofs.«01_k».proof.Proof.GluDw
public import proofs.«01_k».proof.Proof.MemBrDx
public import proofs.«01_k».proof.Proof.Br
public import proofs.«01_k».proof.Proof.Glu
public import proofs.«01_k».proof.Proof.GluDx
public import proofs.«01_k».proof.Proof.ODx
public import proofs.«01_k».proof.Proof.Gen.BrDwIdeal.Value
public import proofs.«01_k».proof.Proof.Gen.BrDwRefIdeal.Run
public import proofs.«01_k».proof.Proof.Gen.BrDw.Frame
public import proofs.«01_k».proof.Proof.Gen.AttnDwIdeal.Value
public import proofs.«01_k».proof.Proof.Gen.AttnDwRefIdeal.Run
public import proofs.«01_k».proof.Proof.Gen.AttnDw.Frame
public import proofs.«01_k».proof.Proof.Gen.GluDwIdeal.Value
public import proofs.«01_k».proof.Proof.Gen.GluDwRefIdeal.Run
public import proofs.«01_k».proof.Proof.Gen.GluDw.Frame
public import proofs.«01_k».proof.Proof.Gen.MemBrDxIdeal.Value
public import proofs.«01_k».proof.Proof.Gen.MemBrDxRefIdeal.Run
public import proofs.«01_k».proof.Proof.Gen.MemBrDx.Frame
public import proofs.«01_k».proof.Proof.Gen.BrIdeal.Value
public import proofs.«01_k».proof.Proof.Gen.BrRefIdeal.Run
public import proofs.«01_k».proof.Proof.Gen.Br.Frame
public import proofs.«01_k».proof.Proof.Gen.GluIdeal.Value
public import proofs.«01_k».proof.Proof.Gen.GluRefIdeal.Run
public import proofs.«01_k».proof.Proof.Gen.Glu.Frame
public import proofs.«01_k».proof.Proof.Gen.GluDxIdeal.Frame
public import proofs.«01_k».proof.Proof.Gen.GluDxIdeal.Skeleton
public import proofs.«01_k».proof.Proof.Gen.GluDxRefIdeal.Run
public import proofs.«01_k».proof.Proof.Gen.GluDx.Launch
public import proofs.«01_k».proof.Proof.Gen.ODxIdeal.Frame
public import proofs.«01_k».proof.Proof.Gen.ODxIdeal.Skeleton
public import proofs.«01_k».proof.Proof.Gen.ODxRefIdeal.Run
public import proofs.«01_k».proof.Proof.Gen.ODx.Launch
public import Idealize.ShloMosaic.Lib.Claim
public import Idealize.ShloMosaic.Lib.Quiescent

@[expose] public section

set_option maxRecDepth 16384

noncomputable section

namespace Cert.Proof

open Idealize.ShloMosaic Idealize.SL.Sem

instance : Cert.Pre_finite.Facts := Cert.Mem.preFacts

/-- The reference of the memory attention has no semaphore, so its run leaves every counter at zero. -/
theorem memRefFrame : Cert.quiescent_ReferenceIdeal := fun m g _ =>
  (θ_run (Cert.ReferenceIdeal.defs (F := Ideal)) _ _).mono
    (fun r h => ⟨fun c => (h c).2.2, sem_eq_zero_of_no_sems (by decide) r.2⟩) (Cert.ReferenceIdeal.Value.run m g)

theorem memAlgebraic : Cert.algebraic_KernelIdeal_ReferenceIdeal_pre_finite := by
  pair_intro
  · run_from Cert.KernelIdeal.Value.run_blocks m g
  · run_from Cert.ReferenceIdeal.Value.run m' g'
    all_goals have hp := Cert.Mem.finite_parts _ _ _ (hpre c)
    · refine (Cert.ReferenceIdeal.Mem.out0_eq m' c).trans (Eq.trans ?_ (Cert.KernelIdeal.Mem.final3 m c hp.1 hp.2).symm)
      rw [(hagree c).1, (hagree c).2.1, (hagree c).2.2]
      rfl
    · refine (Cert.ReferenceIdeal.Mem.out1_eq m' c).trans (Eq.trans ?_ (Cert.KernelIdeal.Mem.final4 m c hp.1 hp.2).symm)
      rw [(hagree c).1, (hagree c).2.1, (hagree c).2.2]
      rfl

/-- The run of the reference of the gradient through the down projection and the squared rectifier. -/
theorem downDxRefFrame : Cert.quiescent_DownDxRefIdeal := fun m g _ =>
  (θ_run (Cert.DownDxRefIdeal.defs (F := Ideal)) _ _).mono
    (fun r h => ⟨fun c => (h c).2, sem_eq_zero_of_no_sems (by decide) r.2⟩) (Cert.DownDxRefIdeal.Value.run m g)

theorem downDxAlgebraic : Cert.algebraic_DownDxIdeal_DownDxRefIdeal := by
  pair_intro
  · run_from Cert.DownDxIdeal.Value.run_blocks m g
  · run_from Cert.DownDxRefIdeal.Value.run m' g'
    exact (Cert.DownDxRefIdeal.Mm.ref_at _ _ _).trans (Cert.DownDxIdeal.Mm.final m c).symm

/-- The run of the reference of the gradient of the down projection's weights. -/
theorem downDwRefFrame : Cert.quiescent_DownDwRefIdeal := fun m g _ =>
  (θ_run (Cert.DownDwRefIdeal.defs (F := Ideal)) _ _).mono
    (fun r h => ⟨fun c => (h c).2, sem_eq_zero_of_no_sems (by decide) r.2⟩) (Cert.DownDwRefIdeal.Value.run m g)

theorem downDwAlgebraic : Cert.algebraic_DownDwIdeal_DownDwRefIdeal := by
  pair_intro
  · run_from Cert.DownDwIdeal.Value.run_blocks m g
  · run_from Cert.DownDwRefIdeal.Value.run m' g'
    exact (Cert.DownDwRefIdeal.Mm.ref_at _ _).trans (Cert.DownDwIdeal.Mm.final m c).symm

/-- The run of the reference of the gradient of the up projection's weights. -/
theorem upDwRefFrame : Cert.quiescent_UpDwRefIdeal := fun m g _ =>
  (θ_run (Cert.UpDwRefIdeal.defs (F := Ideal)) _ _).mono
    (fun r h => ⟨fun c => (h c).2, sem_eq_zero_of_no_sems (by decide) r.2⟩) (Cert.UpDwRefIdeal.Value.run m g)

theorem upDwAlgebraic : Cert.algebraic_UpDwIdeal_UpDwRefIdeal := by
  pair_intro
  · run_from Cert.UpDwIdeal.Value.run_blocks m g
  · run_from Cert.UpDwRefIdeal.Value.run m' g'
    exact (Cert.UpDwRefIdeal.Mm.ref_at _ _).trans (Cert.UpDwIdeal.Mm.final m c).symm

/-- The run of the reference of the gradient through the branches' columns of the input projection. -/
theorem inADxRefFrame : Cert.quiescent_InADxRefIdeal := fun m g _ =>
  (θ_run (Cert.InADxRefIdeal.defs (F := Ideal)) _ _).mono
    (fun r h => ⟨fun c => (h c).2, sem_eq_zero_of_no_sems (by decide) r.2⟩) (Cert.InADxRefIdeal.Value.run m g)

theorem inADxAlgebraic : Cert.algebraic_InADxIdeal_InADxRefIdeal := by
  pair_intro
  · run_from Cert.InADxIdeal.Value.run_blocks m g
  · run_from Cert.InADxRefIdeal.Value.run m' g'
    exact (Cert.InADxRefIdeal.Mm.ref_at _ _).trans (Cert.InADxIdeal.Mm.final m c).symm

/-- The run of the reference of the gradient of those columns' weights. -/
theorem inADwRefFrame : Cert.quiescent_InADwRefIdeal := fun m g _ =>
  (θ_run (Cert.InADwRefIdeal.defs (F := Ideal)) _ _).mono
    (fun r h => ⟨fun c => (h c).2, sem_eq_zero_of_no_sems (by decide) r.2⟩) (Cert.InADwRefIdeal.Value.run m g)

theorem inADwAlgebraic : Cert.algebraic_InADwIdeal_InADwRefIdeal := by
  pair_intro
  · run_from Cert.InADwIdeal.Value.run_blocks m g
  · run_from Cert.InADwRefIdeal.Value.run m' g'
    exact (Cert.InADwRefIdeal.Mm.ref_at _ _).trans (Cert.InADwIdeal.Mm.final m c).symm

/-- The run of the reference of the gradient of one gate's columns' weights. -/
theorem inGDwRefFrame : Cert.quiescent_InGDwRefIdeal := fun m g _ =>
  (θ_run (Cert.InGDwRefIdeal.defs (F := Ideal)) _ _).mono
    (fun r h => ⟨fun c => (h c).2, sem_eq_zero_of_no_sems (by decide) r.2⟩) (Cert.InGDwRefIdeal.Value.run m g)

theorem inGDwAlgebraic : Cert.algebraic_InGDwIdeal_InGDwRefIdeal := by
  pair_intro
  · run_from Cert.InGDwIdeal.Value.run_blocks m g
  · run_from Cert.InGDwRefIdeal.Value.run m' g'
    exact (Cert.InGDwRefIdeal.Mm.ref_at _ _).trans (Cert.InGDwIdeal.Mm.final m c).symm

/-- The run of the reference of the gradient of the output projection's weights. -/
theorem oDwRefFrame : Cert.quiescent_ODwRefIdeal := fun m g _ =>
  (θ_run (Cert.ODwRefIdeal.defs (F := Ideal)) _ _).mono
    (fun r h => ⟨fun c => (h c).2, sem_eq_zero_of_no_sems (by decide) r.2⟩) (Cert.ODwRefIdeal.Value.run m g)

theorem oDwAlgebraic : Cert.algebraic_ODwIdeal_ODwRefIdeal := by
  pair_intro
  · run_from Cert.ODwIdeal.Value.run_blocks m g
  · run_from Cert.ODwRefIdeal.Value.run m' g'
    exact (Cert.ODwRefIdeal.Mm.ref_at _ _).trans (Cert.ODwIdeal.Mm.final m c).symm

/-- The run of the reference of the up projection with its squared rectifier. -/
theorem mlpUpRefFrame : Cert.quiescent_MlpUpRefIdeal := fun m g _ =>
  (θ_run (Cert.MlpUpRefIdeal.defs (F := Ideal)) _ _).mono
    (fun r h => ⟨fun c => (h c).2.2, sem_eq_zero_of_no_sems (by decide) r.2⟩) (Cert.MlpUpRefIdeal.Value.run m g)

theorem mlpUpAlgebraic : Cert.algebraic_MlpUpIdeal_MlpUpRefIdeal := by
  pair_intro
  · run_from Cert.MlpUpIdeal.Value.run_blocks m g
  · run_from Cert.MlpUpRefIdeal.Value.run m' g'
    · exact (Cert.MlpUpRefIdeal.Mm.sq_at _ _).trans (Cert.MlpUpIdeal.Mm.final_sq m c).symm
    · exact (Cert.MlpUpRefIdeal.Mm.relu_at _ _).trans (Cert.MlpUpIdeal.Mm.final_r m c).symm

/-- The run of the reference of the branches' columns of the input projection. -/
theorem inARefFrame : Cert.quiescent_InARefIdeal := fun m g _ =>
  (θ_run (Cert.InARefIdeal.defs (F := Ideal)) _ _).mono
    (fun r h => ⟨fun c => (h c).2, sem_eq_zero_of_no_sems (by decide) r.2⟩) (Cert.InARefIdeal.Value.run m g)

theorem inAAlgebraic : Cert.algebraic_InAIdeal_InARefIdeal := by
  pair_intro
  · run_from Cert.InAIdeal.Value.run_blocks m g
  · run_from Cert.InARefIdeal.Value.run m' g'
    exact (Cert.InARefIdeal.Mm.ref_at _ _).trans (Cert.InAIdeal.Mm.final m c).symm

/-- The run of the reference of the gates' columns of the input projection. -/
theorem inGRefFrame : Cert.quiescent_InGRefIdeal := fun m g _ =>
  (θ_run (Cert.InGRefIdeal.defs (F := Ideal)) _ _).mono
    (fun r h => ⟨fun c => (h c).2, sem_eq_zero_of_no_sems (by decide) r.2⟩) (Cert.InGRefIdeal.Value.run m g)

theorem inGAlgebraic : Cert.algebraic_InGIdeal_InGRefIdeal := by
  pair_intro
  · run_from Cert.InGIdeal.Value.run_blocks m g
  · run_from Cert.InGRefIdeal.Value.run m' g'
    exact (Cert.InGRefIdeal.Mm.ref_at _ _).trans (Cert.InGIdeal.Mm.final m c).symm

/-- The run of the reference of the gradient through the up projection and its normalisation. -/
theorem upDxRefFrame : Cert.quiescent_UpDxRefIdeal := fun m g _ =>
  (θ_run (Cert.UpDxRefIdeal.defs (F := Ideal)) _ _).mono
    (fun r h => ⟨fun c => (h c).2.2, sem_eq_zero_of_no_sems (by decide) r.2⟩) (Cert.UpDxRefIdeal.Value.run m g)

theorem upDxAlgebraic : Cert.algebraic_UpDxIdeal_UpDxRefIdeal := by
  pair_intro
  · run_from Cert.UpDxIdeal.Rows.run_blocks m g
  · run_from Cert.UpDxRefIdeal.Value.run m' g'
    · obtain ⟨h0, h1, h2, h3, h4⟩ := hagree c
      refine (Cert.UpDxRefIdeal.Rows.out0_eq m' c).trans (Eq.trans ?_ (Cert.UpDxIdeal.Rows.final_rows m c).symm)
      rw [h0, h1, h2, h3, h4]
      rfl
    · exact Eq.trans rfl (Cert.UpDxIdeal.Rows.final_sum m c).symm

/-- The run of the reference of the gradient through the gates' columns of the input projection and the normalisation. -/
theorem gradXRefFrame : Cert.quiescent_GradXRefIdeal := fun m g _ =>
  (θ_run (Cert.GradXRefIdeal.defs (F := Ideal)) _ _).mono
    (fun r h => ⟨fun c => (h c).2.2, sem_eq_zero_of_no_sems (by decide) r.2⟩) (Cert.GradXRefIdeal.Value.run m g)

theorem gradXAlgebraic : Cert.algebraic_GradXIdeal_GradXRefIdeal := by
  pair_intro
  · run_from Cert.GradXIdeal.Rows.run_blocks m g
  · run_from Cert.GradXRefIdeal.Rows.run_named m' g'
    · exact (Cert.GradXIdeal.Rows.final_rows m c).symm
    · exact (Cert.GradXIdeal.Rows.final_sum m c).symm

/-- The run of the reference of the down projection with the loss. -/
theorem downRefFrame : Cert.quiescent_DownRefIdeal := fun m g _ =>
  (θ_run (Cert.DownRefIdeal.defs (F := Ideal)) _ _).mono
    (fun r h => ⟨fun c => (h c).2.2.2, sem_eq_zero_of_no_sems (by decide) r.2⟩) (Cert.DownRefIdeal.Value.run m g)

theorem downAlgebraic : Cert.algebraic_DownIdeal_DownRefIdeal := by
  pair_intro
  · run_from Cert.DownIdeal.Rows.run_blocks m g
  · refine θ_run_mono (Cert.DownRefIdeal.Rows.run_named m' g') fun r h c => ?_
    obtain ⟨h0, h1, h2, ha⟩ := h c
    obtain ⟨e0, e1, e2, e3, e4⟩ := hagree c
    rw [e0, e1, e2, e3, e4] at h0 h1
    rw [e0, e1, e2, e3, e4] at h2
    exact ⟨h0.trans (Cert.DownIdeal.Rows.final_rows m c).symm, h1.trans (Cert.DownIdeal.Rows.final_gain m c).symm,
      h2.trans (Cert.DownIdeal.Rows.final_loss m c).symm, ha⟩

/-- The run of the reference of the weight gradient of a branch projection. -/
theorem brDwRefFrame : Cert.quiescent_BrDwRefIdeal := fun m g _ =>
  (θ_run (Cert.BrDwRefIdeal.defs (F := Ideal)) _ _).mono
    (fun r h => ⟨fun c => (h c).2, sem_eq_zero_of_no_sems (by decide) r.2⟩) (Cert.BrDwRefIdeal.Value.run m g)

theorem brDwAlgebraic : Cert.algebraic_BrDwIdeal_BrDwRefIdeal := by
  pair_intro
  · run_from Cert.BrDwIdeal.Value.run_blocks m g
  · run_from Cert.BrDwRefIdeal.Value.run m' g'
    exact (Cert.BrDwRefIdeal.Mm.ref_at _ _).trans (Cert.BrDwIdeal.Mm.final m c).symm

/-- The run of the reference of the weight gradient of the attention branch projection. -/
theorem attnDwRefFrame : Cert.quiescent_AttnDwRefIdeal := fun m g _ =>
  (θ_run (Cert.AttnDwRefIdeal.defs (F := Ideal)) _ _).mono
    (fun r h => ⟨fun c => (h c).2, sem_eq_zero_of_no_sems (by decide) r.2⟩) (Cert.AttnDwRefIdeal.Value.run m g)

theorem attnDwAlgebraic : Cert.algebraic_AttnDwIdeal_AttnDwRefIdeal := by
  pair_intro
  · run_from Cert.AttnDwIdeal.Value.run_blocks m g
  · run_from Cert.AttnDwRefIdeal.Value.run m' g'
    exact (Cert.AttnDwRefIdeal.Mm.ref_at _ _).trans (Cert.AttnDwIdeal.Mm.final m c).symm

/-- The run of the reference of the weight gradient of the gate. -/
theorem gluDwRefFrame : Cert.quiescent_GluDwRefIdeal := fun m g _ =>
  (θ_run (Cert.GluDwRefIdeal.defs (F := Ideal)) _ _).mono
    (fun r h => ⟨fun c => (h c).2, sem_eq_zero_of_no_sems (by decide) r.2⟩) (Cert.GluDwRefIdeal.Value.run m g)

theorem gluDwAlgebraic : Cert.algebraic_GluDwIdeal_GluDwRefIdeal := by
  pair_intro
  · run_from Cert.GluDwIdeal.Value.run_blocks m g
  · run_from Cert.GluDwRefIdeal.Value.run m' g'
    exact (Cert.GluDwRefIdeal.Mm.ref_at _ _).trans (Cert.GluDwIdeal.Mm.final m c).symm

/-- The run of the reference of the gradient through the memory branch projection. -/
theorem memBrDxRefFrame : Cert.quiescent_MemBrDxRefIdeal := fun m g _ =>
  (θ_run (Cert.MemBrDxRefIdeal.defs (F := Ideal)) _ _).mono
    (fun r h => ⟨fun c => (h c).2, sem_eq_zero_of_no_sems (by decide) r.2⟩) (Cert.MemBrDxRefIdeal.Value.run m g)

theorem memBrDxAlgebraic : Cert.algebraic_MemBrDxIdeal_MemBrDxRefIdeal := by
  pair_intro
  · run_from Cert.MemBrDxIdeal.Value.run_blocks m g
  · run_from Cert.MemBrDxRefIdeal.Value.run m' g'
    exact (Cert.MemBrDxRefIdeal.Mm.ref_at _ _).trans (Cert.MemBrDxIdeal.Mm.final m c).symm

/-- The run of the reference of a branch projection. -/
theorem brRefFrame : Cert.quiescent_BrRefIdeal := fun m g _ =>
  (θ_run (Cert.BrRefIdeal.defs (F := Ideal)) _ _).mono
    (fun r h => ⟨fun c => (h c).2, sem_eq_zero_of_no_sems (by decide) r.2⟩) (Cert.BrRefIdeal.Value.run m g)

theorem brAlgebraic : Cert.algebraic_BrIdeal_BrRefIdeal := by
  pair_intro
  · run_from Cert.BrIdeal.Value.run_blocks m g
  · run_from Cert.BrRefIdeal.Value.run m' g'
    exact (Cert.BrRefIdeal.Mm.ref_at _ _).trans (Cert.BrIdeal.Mm.final m c).symm

/-- The run of the reference of the gated linear unit. -/
theorem gluRefFrame : Cert.quiescent_GluRefIdeal := fun m g _ =>
  (θ_run (Cert.GluRefIdeal.defs (F := Ideal)) _ _).mono
    (fun r h => ⟨fun c => (h c).2.2, sem_eq_zero_of_no_sems (by decide) r.2⟩) (Cert.GluRefIdeal.Value.run m g)

theorem gluAlgebraic : Cert.algebraic_GluIdeal_GluRefIdeal := by
  pair_intro
  · run_from Cert.GluIdeal.Value.run_blocks m g
  · run_from Cert.GluRefIdeal.Value.run m' g'
    · exact (Cert.GluRefIdeal.Mm.t_at _ _ _).trans (Cert.GluIdeal.Mm.final_t m c).symm
    · exact (Cert.GluRefIdeal.Mm.y_at _ _ _).trans (Cert.GluIdeal.Mm.final_y m c).symm

/-- The run of the reference of the gradient through the gated branch's projection. -/
theorem gluDxRefFrame : Cert.quiescent_GluDxRefIdeal := fun m g _ =>
  (θ_run (Cert.GluDxRefIdeal.defs (F := Ideal)) _ _).mono
    (fun r h => ⟨fun c => (h c).2.2.2, sem_eq_zero_of_no_sems (by decide) r.2⟩) (Cert.GluDxRefIdeal.Value.run m g)

theorem gluDxAlgebraic : Cert.algebraic_GluDxIdeal_GluDxRefIdeal := by
  pair_intro
  · run_from Cert.GluDxIdeal.Rows.run_blocks m g
  · refine θ_run_mono (Cert.GluDxRefIdeal.Rows.run_named m' g') fun r h c => ?_
    obtain ⟨h0, h1, h2, ha⟩ := h c
    obtain ⟨e0, e1, e2, e3⟩ := hagree c
    rw [e0, e1, e2, e3] at h0 h2
    rw [e1, e2, e3] at h1
    exact ⟨h0.trans (Cert.GluDxIdeal.Rows.final_t m c).symm, h1.trans (Cert.GluDxIdeal.Rows.final_y m c).symm,
      h2.trans (Cert.GluDxIdeal.Rows.final_sum m c).symm, ha⟩

/-- The run of the reference of the gradient through the output projection and the gates. -/
theorem oDxRefFrame : Cert.quiescent_ODxRefIdeal := fun m g _ =>
  (θ_run (Cert.ODxRefIdeal.defs (F := Ideal)) _ _).mono
    (fun r h => ⟨fun c => (h c).2.2.2.2.2.2.2.2.2, sem_eq_zero_of_no_sems (by decide) r.2⟩) (Cert.ODxRefIdeal.Value.run m g)

theorem oDxAlgebraic : Cert.algebraic_ODxIdeal_ODxRefIdeal := by
  pair_intro
  · run_from Cert.ODxIdeal.Rows.run_blocks m g
  · refine θ_run_mono (Cert.ODxRefIdeal.Rows.run_results m' g') fun r h c => ?_
    obtain ⟨h0, h1, h2, h3, h4, h5, h6, h7, h8, ha⟩ := h c
    obtain ⟨e0, e1, e2, e3, e4, e5, e6⟩ := hagree c
    rw [e0, e4, e5, e6] at h0 h1 h2
    rw [e0, e1, e4, e5, e6] at h3 h6
    rw [e0, e2, e4, e5, e6] at h4 h7
    rw [e0, e3, e4, e5, e6] at h5 h8
    exact ⟨h0.trans (Cert.ODxIdeal.Rows.final_branch0 m c).symm, h1.trans (Cert.ODxIdeal.Rows.final_branch1 m c).symm, h2.trans (Cert.ODxIdeal.Rows.final_branch2 m c).symm,
      h3.trans (Cert.ODxIdeal.Rows.final_grad0 m c).symm, h4.trans (Cert.ODxIdeal.Rows.final_grad1 m c).symm, h5.trans (Cert.ODxIdeal.Rows.final_grad2 m c).symm,
      h6.trans (Cert.ODxIdeal.Rows.final_bias0 m c).symm, h7.trans (Cert.ODxIdeal.Rows.final_bias1 m c).symm, h8.trans (Cert.ODxIdeal.Rows.final_bias2 m c).symm, ha⟩

theorem claim : Cert.Claim := by
  exact ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDw.Gen.facts, Cert.UpDwIdeal.Gen.facts, Cert.UpDwRefIdeal.Gen.facts,
    Cert.InADx.Gen.facts, Cert.InADxIdeal.Gen.facts, Cert.InADxRefIdeal.Gen.facts,
    Cert.InADw.Gen.facts, Cert.InADwIdeal.Gen.facts, Cert.InADwRefIdeal.Gen.facts,
    Cert.InGDw.Gen.facts, Cert.InGDwIdeal.Gen.facts, Cert.InGDwRefIdeal.Gen.facts,
    Cert.ODw.Gen.facts, Cert.ODwIdeal.Gen.facts, Cert.ODwRefIdeal.Gen.facts,
    Cert.MlpUp.Gen.facts, Cert.MlpUpIdeal.Gen.facts, Cert.MlpUpRefIdeal.Gen.facts,
    Cert.InA.Gen.facts, Cert.InAIdeal.Gen.facts, Cert.InARefIdeal.Gen.facts,
    Cert.InG.Gen.facts, Cert.InGIdeal.Gen.facts, Cert.InGRefIdeal.Gen.facts,
    Cert.UpDx.Gen.facts, Cert.UpDxIdeal.Gen.facts, Cert.UpDxRefIdeal.Gen.facts,
    Cert.GradX.Gen.facts, Cert.GradXIdeal.Gen.facts, Cert.GradXRefIdeal.Gen.facts,
    Cert.Down.Gen.facts, Cert.DownIdeal.Gen.facts, Cert.DownRefIdeal.Gen.facts,
    Cert.BrDw.Gen.facts, Cert.BrDwIdeal.Gen.facts, Cert.BrDwRefIdeal.Gen.facts,
    Cert.AttnDw.Gen.facts, Cert.AttnDwIdeal.Gen.facts, Cert.AttnDwRefIdeal.Gen.facts,
    Cert.GluDw.Gen.facts, Cert.GluDwIdeal.Gen.facts, Cert.GluDwRefIdeal.Gen.facts,
    Cert.MemBrDx.Gen.facts, Cert.MemBrDxIdeal.Gen.facts, Cert.MemBrDxRefIdeal.Gen.facts,
    Cert.Br.Gen.facts, Cert.BrIdeal.Gen.facts, Cert.BrRefIdeal.Gen.facts,
    Cert.Glu.Gen.facts, Cert.GluIdeal.Gen.facts, Cert.GluRefIdeal.Gen.facts,
    Cert.GluDx.Gen.facts, Cert.GluDxIdeal.Gen.facts, Cert.GluDxRefIdeal.Gen.facts,
    Cert.ODx.Gen.facts, Cert.ODxIdeal.Gen.facts, Cert.ODxRefIdeal.Gen.facts,
    Cert.Mem.preFacts,
    fun m g _ => Cert.Kernel.Gen.frame m g, fun m g _ => Cert.KernelIdeal.Gen.frame m g, fun m g _ => Cert.KernelIdeal.Gen.frame m g,
    memRefFrame, fun m g _ => memRefFrame m g trivial,
    fun m g _ => Cert.DownDx.Gen.frame m g, fun m g _ => Cert.DownDxIdeal.Gen.frame m g, downDxRefFrame,
    fun m g _ => Cert.DownDw.Gen.frame m g, fun m g _ => Cert.DownDwIdeal.Gen.frame m g, downDwRefFrame,
    fun m g _ => Cert.UpDw.Gen.frame m g, fun m g _ => Cert.UpDwIdeal.Gen.frame m g, upDwRefFrame,
    fun m g _ => Cert.InADx.Gen.frame m g, fun m g _ => Cert.InADxIdeal.Gen.frame m g, inADxRefFrame,
    fun m g _ => Cert.InADw.Gen.frame m g, fun m g _ => Cert.InADwIdeal.Gen.frame m g, inADwRefFrame,
    fun m g _ => Cert.InGDw.Gen.frame m g, fun m g _ => Cert.InGDwIdeal.Gen.frame m g, inGDwRefFrame,
    fun m g _ => Cert.ODw.Gen.frame m g, fun m g _ => Cert.ODwIdeal.Gen.frame m g, oDwRefFrame,
    fun m g _ => Cert.MlpUp.Gen.frame m g, fun m g _ => Cert.MlpUpIdeal.Gen.frame m g, mlpUpRefFrame,
    fun m g _ => Cert.InA.Gen.frame m g, fun m g _ => Cert.InAIdeal.Gen.frame m g, inARefFrame,
    fun m g _ => Cert.InG.Gen.frame m g, fun m g _ => Cert.InGIdeal.Gen.frame m g, inGRefFrame,
    Cert.UpDxIdeal.Rows.kernelFrame, Cert.UpDxIdeal.Rows.idealFrame, upDxRefFrame,
    Cert.GradXIdeal.Rows.kernelFrame, Cert.GradXIdeal.Rows.idealFrame, gradXRefFrame,
    Cert.DownIdeal.Rows.kernelFrame, Cert.DownIdeal.Rows.idealFrame, downRefFrame,
    fun m g _ => Cert.BrDw.Gen.frame m g, fun m g _ => Cert.BrDwIdeal.Gen.frame m g, brDwRefFrame,
    fun m g _ => Cert.AttnDw.Gen.frame m g, fun m g _ => Cert.AttnDwIdeal.Gen.frame m g, attnDwRefFrame,
    fun m g _ => Cert.GluDw.Gen.frame m g, fun m g _ => Cert.GluDwIdeal.Gen.frame m g, gluDwRefFrame,
    fun m g _ => Cert.MemBrDx.Gen.frame m g, fun m g _ => Cert.MemBrDxIdeal.Gen.frame m g, memBrDxRefFrame,
    fun m g _ => Cert.Br.Gen.frame m g, fun m g _ => Cert.BrIdeal.Gen.frame m g, brRefFrame,
    fun m g _ => Cert.Glu.Gen.frame m g, fun m g _ => Cert.GluIdeal.Gen.frame m g, gluRefFrame,
    Cert.GluDxIdeal.Rows.kernelFrame, Cert.GluDxIdeal.Rows.idealFrame, gluDxRefFrame,
    Cert.ODxIdeal.Rows.kernelFrame, Cert.ODxIdeal.Rows.idealFrame, oDxRefFrame,
    trivial, memAlgebraic,
    trivial, downDxAlgebraic,
    trivial, downDwAlgebraic,
    trivial, upDwAlgebraic,
    trivial, inADxAlgebraic,
    trivial, inADwAlgebraic,
    trivial, inGDwAlgebraic,
    trivial, oDwAlgebraic,
    trivial, mlpUpAlgebraic,
    trivial, inAAlgebraic,
    trivial, inGAlgebraic,
    trivial, upDxAlgebraic,
    trivial, gradXAlgebraic,
    trivial, downAlgebraic,
    trivial, brDwAlgebraic,
    trivial, attnDwAlgebraic,
    trivial, gluDwAlgebraic,
    trivial, memBrDxAlgebraic,
    trivial, brAlgebraic,
    trivial, gluAlgebraic,
    trivial, gluDxAlgebraic,
    trivial, oDxAlgebraic⟩

end Cert.Proof

end
